-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF1800000#32 ⊥
  ∧ IdealRules.named_const.Statement Cert.KernelIdeal.κ "ln2" .f32 0x3F317218#32 ((Real.log 2 : ℝ) : EReal)

def preserves_Reference_ReferenceIdeal : Prop :=
  IdealRules.named_const.Statement Cert.ReferenceIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v1_0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_pre : Cert.Pre_pre.Facts) (hPre_finite : Cert.Pre_finite.Facts),
    quiescent_Kernel (hKernel := hKernel) (hPre_pre := hPre_pre)
    ∧ quiescent_KernelIdeal (hKernelIdeal := hKernelIdeal) (hPre_pre := hPre_pre)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S160 : Shape := ⟨1, ![160]⟩
abbrev S160x128 : Shape := ⟨2, ![160, 128]⟩
abbrev S163840x512 : Shape := ⟨2, ![163840, 512]⟩
abbrev S163840x64 : Shape := ⟨2, ![163840, 64]⟩
abbrev S5120x640 : Shape := ⟨2, ![5120, 640]⟩
abbrev S_ : Shape := ⟨0, ![]⟩
abbrev S160x32 : Shape := ⟨2, ![160, 32]⟩
abbrev S160x1 : Shape := ⟨2, ![160, 1]⟩
abbrev S5120x512 : Shape := ⟨2, ![5120, 512]⟩

class Facts : Prop where
  bcast_S_S160 : S_.BroadcastsInDim S160 (![] : Fin 0 → Fin S160.rank)
  slices_S160x128_S160x32_0_0 : S160x128.Slices ![0, 0] S160x32
  slices_S160x32_S160x1_0_0 : S160x32.Slices ![0, 0] S160x1
  shapeCasts_S160x1_S160 : S160x1.ShapeCasts S160
  reducesTo_S160_S_d0 : S160.ReducesTo [0] S_
  h_S_ : 0 < S_.numel
  bcast_S160x1_S160x32_0_1 : S160x1.BroadcastsInDim S160x32 (![0, 1] : Fin 2 → Fin S160x32.rank)
  reducesTo_S160x32_S_d0_1 : S160x32.ReducesTo [0, 1] S_
  bcast_S_S163840x512 : S_.BroadcastsInDim S163840x512 (![] : Fin 0 → Fin S163840x512.rank)
  reducesTo_S163840x512_S_d0_1 : S163840x512.ReducesTo [0, 1] S_
  slices_S5120x640_S5120x512_0_0 : S5120x640.Slices ![0, 0] S5120x512
  bcast_S_S5120x512 : S_.BroadcastsInDim S5120x512 (![] : Fin 0 → Fin S5120x512.rank)
  reducesTo_S5120x512_S_d0_1 : S5120x512.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S160 32) (arg1 : IVec S_ 32) : IVec S160 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S160 32 := broadcastInDim S160 ![] bcast_S_S160 v2
  let v4 : IVec S160 32 := Host.remsi arg0 v3
  let c_1 : IVec S_ 32 := constantI S_ 32 0#32
  let v5 : IVec S160 32 := broadcastInDim S160 ![] bcast_S_S160 c_1
  let v6 : IVec S160 1 := cmpi .ne v4 v5
  let c_2 : IVec S_ 32 := constantI S_ 32 0#32
  let v7 : IVec S160 32 := broadcastInDim S160 ![] bcast_S_S160 c_2
  let v8 : IVec S160 1 := cmpi .slt v4 v7
  let c_3 : IVec S_ 32 := constantI S_ 32 0#32
  let v9 : IVec S_ 1 := cmpi .slt v2 c_3
  let v10 : IVec S160 1 := broadcastInDim S160 ![] bcast_S_S160 v9
  let v11 : IVec S160 1 := cmpi .ne v8 v10
  let v12 : IVec S160 1 := andi v11 v6
  let v13 : IVec S160 32 := broadcastInDim S160 ![] bcast_S_S160 v2
  let v14 : IVec S160 32 := addi v4 v13
  let v15 : IVec S160 32 := select v12 v14 v4
  v15

def fn_part2 {F : FTy → Type} [FloatOps F] (main_v31 : IVec S_ 1) (main_v35 : IVec S5120x512 1) : IVec S_ 1 :=
  let main_c_10 : IVec S_ 1 := constantI S_ 1 1#1
  let main_v36 : IVec S_ 1 := (fun x v => Host.reduce IntOp.andi x v reducesTo_S5120x512_S_d0_1 h_S_) main_v35 main_c_10
  let main_v37 : IVec S_ 1 := andi main_v31 main_v36
  main_v37

def fn_part1 {F : FTy → Type} [FloatOps F] (main_arg4 : FVec F S163840x512 .bf16) (main_arg5 : FVec F S5120x640 .bf16) (main_v4 : IVec S160x32 32) (main_v15 : IVec S_ 1) (main_v17 : IVec S160 32) : IVec S_ 1 :=
  let main_c_5 : IVec S_ 32 := constantI S_ 32 0#32
  let main_v18 : IVec S160 32 := broadcastInDim S160 ![] bcast_S_S160 main_c_5
  let main_v19 : IVec S160 1 := cmpi .sge main_v17 main_v18
  let main_c_6 : IVec S_ 1 := constantI S_ 1 1#1
  let main_v20 : IVec S_ 1 := (fun x v => Host.reduce IntOp.andi x v reducesTo_S160_S_d0 h_S_) main_v19 main_c_6
  let main_v21 : IVec S_ 1 := andi main_v15 main_v20
  let main_v22 : IVec S160x1 32 := (extractStridedSlice S160x1 ![0, 0] · slices_S160x32_S160x1_0_0) main_v4
  let main_v23 : IVec S160x32 32 := broadcastInDim S160x32 ![0, 1] bcast_S160x1_S160x32_0_1 main_v22
  let main_v24 : IVec S160x32 1 := cmpi .sge main_v4 main_v23
  let main_c_7 : IVec S_ 1 := constantI S_ 1 1#1
  let main_v25 : IVec S_ 1 := (fun x v => Host.reduce IntOp.andi x v reducesTo_S160x32_S_d0_1 h_S_) main_v24 main_c_7
  let main_v26 : IVec S_ 1 := andi main_v21 main_v25
  let main_v27 : FVec F S163840x512 .bf16 := Host.absf main_arg4
  let main_cst : FVec F S_ .bf16 := constant S_ .bf16 0x7F80#16
  let main_v28 : FVec F S163840x512 .bf16 := broadcastInDim S163840x512 ![] bcast_S_S163840x512 main_cst
  let main_v29 : IVec S163840x512 1 := cmpf .olt main_v27 main_v28
  let main_c_8 : IVec S_ 1 := constantI S_ 1 1#1
  let main_v30 : IVec S_ 1 := (fun x v => Host.reduce IntOp.andi x v reducesTo_S163840x512_S_d0_1 h_S_) main_v29 main_c_8
  let main_v31 : IVec S_ 1 := andi main_v26 main_v30
  let main_v32 : FVec F S5120x512 .bf16 := (extractStridedSlice S5120x512 ![0, 0] · slices_S5120x640_S5120x512_0_0) main_arg5
  let main_v33 : FVec F S5120x512 .bf16 := Host.absf main_v32
  let main_cst_9 : FVec F S_ .bf16 := constant S_ .bf16 0x7F80#16
  let main_v34 : FVec F S5120x512 .bf16 := broadcastInDim S5120x512 ![] bcast_S_S5120x512 main_cst_9
  let main_v35 : IVec S5120x512 1 := cmpf .olt main_v33 main_v34
  fn_part2 (F := F) main_v31 main_v35

def fn {F : FTy → Type} [FloatOps F] (main_arg0 : IVec S160 32) (main_arg1 : IVec S160x128 32) (main_arg2 : FVec F S163840x512 .bf16) (main_arg3 : FVec F S163840x64 .bf16) (main_arg4 : FVec F S163840x512 .bf16) (main_arg5 : FVec F S5120x640 .bf16) : IVec S_ 1 :=
  let main_v0 : IVec S160 32 := iotaInDim S160 32 0
  let main_c : IVec S_ 32 := constantI S_ 32 80#32
  let main_v1 : IVec S160 32 := fn_remainder (F := F) main_v0 main_c
  let main_c_0 : IVec S_ 32 := constantI S_ 32 32#32
  let main_v2 : IVec S160 32 := broadcastInDim S160 ![] bcast_S_S160 main_c_0
  let main_v3 : IVec S160 32 := muli main_v2 main_v1
  let main_v4 : IVec S160x32 32 := (extractStridedSlice S160x32 ![0, 0] · slices_S160x128_S160x32_0_0) main_arg1
  let main_c_1 : IVec S_ 32 := constantI S_ 32 32#32
  let main_v5 : IVec S160 32 := broadcastInDim S160 ![] bcast_S_S160 main_c_1
  let main_v6 : IVec S160 32 := addi main_v3 main_v5
  let main_v7 : IVec S160x1 32 := (extractStridedSlice S160x1 ![0, 0] · slices_S160x32_S160x1_0_0) main_v4
  let main_v8 : IVec S160 32 := shapeCast S160 main_v7 shapeCasts_S160x1_S160
  let main_v9 : IVec S160 32 := subi main_v6 main_v8
  let main_v10 : IVec S160 1 := cmpi .eq main_arg0 main_v9
  let main_c_2 : IVec S_ 1 := constantI S_ 1 1#1
  let main_v11 : IVec S_ 1 := (fun x v => Host.reduce IntOp.andi x v reducesTo_S160_S_d0 h_S_) main_v10 main_c_2
  let main_c_3 : IVec S_ 32 := constantI S_ 32 0#32
  let main_v12 : IVec S160 32 := broadcastInDim S160 ![] bcast_S_S160 main_c_3
  let main_v13 : IVec S160 1 := cmpi .sgt main_arg0 main_v12
  let main_c_4 : IVec S_ 1 := constantI S_ 1 1#1
  let main_v14 : IVec S_ 1 := (fun x v => Host.reduce IntOp.andi x v reducesTo_S160_S_d0 h_S_) main_v13 main_c_4
  let main_v15 : IVec S_ 1 := andi main_v11 main_v14
  let main_v16 : IVec S160x1 32 := (extractStridedSlice S160x1 ![0, 0] · slices_S160x32_S160x1_0_0) main_v4
  let main_v17 : IVec S160 32 := shapeCast S160 main_v16 shapeCasts_S160x1_S160
  fn_part1 (F := F) main_arg4 main_arg5 main_v4 main_v15 main_v17
-- ==== Pre_pre.lean ====
abbrev S160 : Shape := ⟨1, ![160]⟩
abbrev S160x128 : Shape := ⟨2, ![160, 128]⟩
abbrev S163840x512 : Shape := ⟨2, ![163840, 512]⟩
abbrev S163840x64 : Shape := ⟨2, ![163840, 64]⟩
abbrev S5120x640 : Shape := ⟨2, ![5120, 640]⟩
abbrev S_ : Shape := ⟨0, ![]⟩
abbrev S160x32 : Shape := ⟨2, ![160, 32]⟩
abbrev S160x1 : Shape := ⟨2, ![160, 1]⟩

class Facts : Prop where
  bcast_S_S160 : S_.BroadcastsInDim S160 (![] : Fin 0 → Fin S160.rank)
  slices_S160x128_S160x32_0_0 : S160x128.Slices ![0, 0] S160x32
  slices_S160x32_S160x1_0_0 : S160x32.Slices ![0, 0] S160x1
  shapeCasts_S160x1_S160 : S160x1.ShapeCasts S160
  reducesTo_S160_S_d0 : S160.ReducesTo [0] S_
  h_S_ : 0 < S_.numel
  bcast_S160x1_S160x32_0_1 : S160x1.BroadcastsInDim S160x32 (![0, 1] : Fin 2 → Fin S160x32.rank)
  reducesTo_S160x32_S_d0_1 : S160x32.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S160 32) (arg1 : IVec S_ 32) : IVec S160 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S160 32 := broadcastInDim S160 ![] bcast_S_S160 v2
  let v4 : IVec S160 32 := Host.remsi arg0 v3
  let c_1 : IVec S_ 32 := constantI S_ 32 0#32
  let v5 : IVec S160 32 := broadcastInDim S160 ![] bcast_S_S160 c_1
  let v6 : IVec S160 1 := cmpi .ne v4 v5
  let c_2 : IVec S_ 32 := constantI S_ 32 0#32
  let v7 : IVec S160 32 := broadcastInDim S160 ![] bcast_S_S160 c_2
  let v8 : IVec S160 1 := cmpi .slt v4 v7
  let c_3 : IVec S_ 32 := constantI S_ 32 0#32
  let v9 : IVec S_ 1 := cmpi .slt v2 c_3
  let v10 : IVec S160 1 := broadcastInDim S160 ![] bcast_S_S160 v9
  let v11 : IVec S160 1 := cmpi .ne v8 v10
  let v12 : IVec S160 1 := andi v11 v6
  let v13 : IVec S160 32 := broadcastInDim S160 ![] bcast_S_S160 v2
  let v14 : IVec S160 32 := addi v4 v13
  let v15 : IVec S160 32 := select v12 v14 v4
  v15

def fn_part1 {F : FTy → Type} [FloatOps F] (main_v4 : IVec S160x32 32) (main_v15 : IVec S_ 1) (main_v17 : IVec S160 32) : IVec S_ 1 :=
  let main_c_5 : IVec S_ 32 := constantI S_ 32 0#32
  let main_v18 : IVec S160 32 := broadcastInDim S160 ![] bcast_S_S160 main_c_5
  let main_v19 : IVec S160 1 := cmpi .sge main_v17 main_v18
  let main_c_6 : IVec S_ 1 := constantI S_ 1 1#1
  let main_v20 : IVec S_ 1 := (fun x v => Host.reduce IntOp.andi x v reducesTo_S160_S_d0 h_S_) main_v19 main_c_6
  let main_v21 : IVec S_ 1 := andi main_v15 main_v20
  let main_v22 : IVec S160x1 32 := (extractStridedSlice S160x1 ![0, 0] · slices_S160x32_S160x1_0_0) main_v4
  let main_v23 : IVec S160x32 32 := broadcastInDim S160x32 ![0, 1] bcast_S160x1_S160x32_0_1 main_v22
  let main_v24 : IVec S160x32 1 := cmpi .sge main_v4 main_v23
  let main_c_7 : IVec S_ 1 := constantI S_ 1 1#1
  let main_v25 : IVec S_ 1 := (fun x v => Host.reduce IntOp.andi x v reducesTo_S160x32_S_d0_1 h_S_) main_v24 main_c_7
  let main_v26 : IVec S_ 1 := andi main_v21 main_v25
  main_v26

def fn {F : FTy → Type} [FloatOps F] (main_arg0 : IVec S160 32) (main_arg1 : IVec S160x128 32) (main_arg2 : FVec F S163840x512 .bf16) (main_arg3 : FVec F S163840x64 .bf16) (main_arg4 : FVec F S163840x512 .bf16) (main_arg5 : FVec F S5120x640 .bf16) : IVec S_ 1 :=
  let main_v0 : IVec S160 32 := iotaInDim S160 32 0
  let main_c : IVec S_ 32 := constantI S_ 32 80#32
  let main_v1 : IVec S160 32 := fn_remainder (F := F) main_v0 main_c
  let main_c_0 : IVec S_ 32 := constantI S_ 32 32#32
  let main_v2 : IVec S160 32 := broadcastInDim S160 ![] bcast_S_S160 main_c_0
  let main_v3 : IVec S160 32 := muli main_v2 main_v1
  let main_v4 : IVec S160x32 32 := (extractStridedSlice S160x32 ![0, 0] · slices_S160x128_S160x32_0_0) main_arg1
  let main_c_1 : IVec S_ 32 := constantI S_ 32 32#32
  let main_v5 : IVec S160 32 := broadcastInDim S160 ![] bcast_S_S160 main_c_1
  let main_v6 : IVec S160 32 := addi main_v3 main_v5
  let main_v7 : IVec S160x1 32 := (extractStridedSlice S160x1 ![0, 0] · slices_S160x32_S160x1_0_0) main_v4
  let main_v8 : IVec S160 32 := shapeCast S160 main_v7 shapeCasts_S160x1_S160
  let main_v9 : IVec S160 32 := subi main_v6 main_v8
  let main_v10 : IVec S160 1 := cmpi .eq main_arg0 main_v9
  let main_c_2 : IVec S_ 1 := constantI S_ 1 1#1
  let main_v11 : IVec S_ 1 := (fun x v => Host.reduce IntOp.andi x v reducesTo_S160_S_d0 h_S_) main_v10 main_c_2
  let main_c_3 : IVec S_ 32 := constantI S_ 32 0#32
  let main_v12 : IVec S160 32 := broadcastInDim S160 ![] bcast_S_S160 main_c_3
  let main_v13 : IVec S160 1 := cmpi .sgt main_arg0 main_v12
  let main_c_4 : IVec S_ 1 := constantI S_ 1 1#1
  let main_v14 : IVec S_ 1 := (fun x v => Host.reduce IntOp.andi x v reducesTo_S160_S_d0 h_S_) main_v13 main_c_4
  let main_v15 : IVec S_ 1 := andi main_v11 main_v14
  let main_v16 : IVec S160x1 32 := (extractStridedSlice S160x1 ![0, 0] · slices_S160x32_S160x1_0_0) main_v4
  let main_v17 : IVec S160 32 := shapeCast S160 main_v16 shapeCasts_S160x1_S160
  fn_part1 (F := F) main_v4 main_v15 main_v17
-- ==== Kernel.lean ====
abbrev S160 : Shape := ⟨1, ![160]⟩
abbrev S160x128 : Shape := ⟨2, ![160, 128]⟩
abbrev S163840x512 : Shape := ⟨2, ![163840, 512]⟩
abbrev S163840x64 : Shape := ⟨2, ![163840, 64]⟩
abbrev S5120x640 : Shape := ⟨2, ![5120, 640]⟩
abbrev S160x4x256 : Shape := ⟨3, ![160, 4, 256]⟩
abbrev S2x32x4x2560 : Shape := ⟨4, ![2, 32, 4, 2560]⟩
abbrev S2x2560x640 : Shape := ⟨3, ![2, 2560, 640]⟩
abbrev S1024x512 : Shape := ⟨2, ![1024, 512]⟩
abbrev S1024x64 : Shape := ⟨2, ![1024, 64]⟩
abbrev S2560x640 : Shape := ⟨2, ![2560, 640]⟩
abbrev S1x4x256 : Shape := ⟨3, ![1, 4, 256]⟩
abbrev S1x32x4x128 : Shape := ⟨4, ![1, 32, 4, 128]⟩
abbrev S1x2560x640 : Shape := ⟨3, ![1, 2560, 640]⟩
abbrev S1024x768 : Shape := ⟨2, ![1024, 768]⟩
abbrev S768x1024 : Shape := ⟨2, ![768, 1024]⟩
abbrev S2560x256 : Shape := ⟨2, ![2560, 256]⟩
abbrev S1024x128 : Shape := ⟨2, ![1024, 128]⟩
abbrev S32x128 : Shape := ⟨2, ![32, 128]⟩
abbrev S1x32x1x128 : Shape := ⟨4, ![1, 32, 1, 128]⟩
abbrev S32 : Shape := ⟨1, ![32]⟩
abbrev S32x1 : Shape := ⟨2, ![32, 1]⟩
abbrev S1x128 : Shape := ⟨2, ![1, 128]⟩
abbrev S1 : Shape := ⟨1, ![1]⟩
abbrev S128x128 : Shape := ⟨2, ![128, 128]⟩
abbrev S128x256 : Shape := ⟨2, ![128, 256]⟩
abbrev S256x512 : Shape := ⟨2, ![256, 512]⟩
abbrev S128x512 : Shape := ⟨2, ![128, 512]⟩
abbrev S256x256 : Shape := ⟨2, ![256, 256]⟩
abbrev S256 : Shape := ⟨1, ![256]⟩
abbrev S1x256 : Shape := ⟨2, ![1, 256]⟩
abbrev S1x1x256 : Shape := ⟨3, ![1, 1, 256]⟩
abbrev S64x256 : Shape := ⟨2, ![64, 256]⟩
abbrev S256x128 : Shape := ⟨2, ![256, 128]⟩
abbrev S256x1 : Shape := ⟨2, ![256, 1]⟩
abbrev S128x640 : Shape := ⟨2, ![128, 640]⟩
abbrev S256x640 : Shape := ⟨2, ![256, 640]⟩
abbrev S256x64 : Shape := ⟨2, ![256, 64]⟩
abbrev S128x1024 : Shape := ⟨2, ![128, 1024]⟩
abbrev S1024x640 : Shape := ⟨2, ![1024, 640]⟩
abbrev S1x128x512 : Shape := ⟨3, ![1, 128, 512]⟩
abbrev S1x128x128 : Shape := ⟨3, ![1, 128, 128]⟩
abbrev S256x1024 : Shape := ⟨2, ![256, 1024]⟩
abbrev S1x256x512 : Shape := ⟨3, ![1, 256, 512]⟩
abbrev S1x256x128 : Shape := ⟨3, ![1, 256, 128]⟩
abbrev S384x128 : Shape := ⟨2, ![384, 128]⟩
abbrev S384x256 : Shape := ⟨2, ![384, 256]⟩
abbrev S384x512 : Shape := ⟨2, ![384, 512]⟩
abbrev S384x640 : Shape := ⟨2, ![384, 640]⟩
abbrev S384x1024 : Shape := ⟨2, ![384, 1024]⟩
abbrev S1x384x512 : Shape := ⟨3, ![1, 384, 512]⟩
abbrev S1x384x128 : Shape := ⟨3, ![1, 384, 128]⟩
abbrev S512x128 : Shape := ⟨2, ![512, 128]⟩
abbrev S512x256 : Shape := ⟨2, ![512, 256]⟩
abbrev S512x512 : Shape := ⟨2, ![512, 512]⟩
abbrev S512x640 : Shape := ⟨2, ![512, 640]⟩
abbrev S512x1024 : Shape := ⟨2, ![512, 1024]⟩
abbrev S1x512x512 : Shape := ⟨3, ![1, 512, 512]⟩
abbrev S1x512x128 : Shape := ⟨3, ![1, 512, 128]⟩
abbrev S768x128 : Shape := ⟨2, ![768, 128]⟩
abbrev S768x256 : Shape := ⟨2, ![768, 256]⟩
abbrev S768x512 : Shape := ⟨2, ![768, 512]⟩
abbrev S768x640 : Shape := ⟨2, ![768, 640]⟩
abbrev S1x768x512 : Shape := ⟨3, ![1, 768, 512]⟩
abbrev S1x768x128 : Shape := ⟨3, ![1, 768, 128]⟩

abbrev nBuf : Space → Nat
  | .hbm => 12
  | .vmem => 28
  | .smem => 1
  | _ => 0

abbrev bufTy : (tb : Table) → Fin (tcTables nBuf tb) → BufTy
  | .hbm, ⟨0, _⟩ => ⟨S160x128, .i32⟩
  | .hbm, ⟨1, _⟩ => ⟨S163840x512, .bf16⟩
  | .hbm, ⟨2, _⟩ => ⟨S163840x64, .bf16⟩
  | .hbm, ⟨3, _⟩ => ⟨S163840x512, .bf16⟩
  | .hbm, ⟨4, _⟩ => ⟨S5120x640, .bf16⟩
  | .hbm, ⟨5, _⟩ => ⟨S163840x512, .bf16⟩
  | .hbm, ⟨6, _⟩ => ⟨S160x4x256, .f32⟩
  | .hbm, ⟨7, _⟩ => ⟨S163840x512, .f32⟩
  | .hbm, ⟨8, _⟩ => ⟨S163840x64, .f32⟩
  | .hbm, ⟨9, _⟩ => ⟨S163840x512, .fp8e4m3⟩
  | .hbm, ⟨10, _⟩ => ⟨S2x32x4x2560, .f32⟩
  | .hbm, ⟨11, _⟩ => ⟨S2x2560x640, .f32⟩
  | .local _ .vmem, ⟨0, _⟩ => ⟨S160x128, .i32⟩
  | .local _ .vmem, ⟨1, _⟩ => ⟨S1024x512, .bf16⟩
  | .local _ .vmem, ⟨2, _⟩ => ⟨S1024x512, .bf16⟩
  | .local _ .vmem, ⟨3, _⟩ => ⟨S1024x64, .bf16⟩
  | .local _ .vmem, ⟨4, _⟩ => ⟨S1024x64, .bf16⟩
  | .local _ .vmem, ⟨5, _⟩ => ⟨S1024x512, .bf16⟩
  | .local _ .vmem, ⟨6, _⟩ => ⟨S1024x512, .bf16⟩
  | .local _ .vmem, ⟨7, _⟩ => ⟨S2560x640, .bf16⟩
  | .local _ .vmem, ⟨8, _⟩ => ⟨S2560x640, .bf16⟩
  | .local _ .vmem, ⟨9, _⟩ => ⟨S1024x512, .bf16⟩
  | .local _ .vmem, ⟨10, _⟩ => ⟨S1024x512, .bf16⟩
  | .local _ .vmem, ⟨11, _⟩ => ⟨S1x4x256, .f32⟩
  | .local _ .vmem, ⟨12, _⟩ => ⟨S1x4x256, .f32⟩
  | .local _ .vmem, ⟨13, _⟩ => ⟨S1024x512, .f32⟩
  | .local _ .vmem, ⟨14, _⟩ => ⟨S1024x512, .f32⟩
  | .local _ .vmem, ⟨15, _⟩ => ⟨S1024x64, .f32⟩
  | .local _ .vmem, ⟨16, _⟩ => ⟨S1024x64, .f32⟩
  | .local _ .vmem, ⟨17, _⟩ => ⟨S1024x512, .fp8e4m3⟩
  | .local _ .vmem, ⟨18, _⟩ => ⟨S1024x512, .fp8e4m3⟩
  | .local _ .vmem, ⟨19, _⟩ => ⟨S1x32x4x128, .f32⟩
  | .local _ .vmem, ⟨20, _⟩ => ⟨S1x32x4x128, .f32⟩
  | .local _ .vmem, ⟨21, _⟩ => ⟨S1x2560x640, .f32⟩
  | .local _ .vmem, ⟨22, _⟩ => ⟨S1x2560x640, .f32⟩
  | .local _ .vmem, ⟨23, _⟩ => ⟨S1024x768, .bf16⟩
  | .local _ .vmem, ⟨24, _⟩ => ⟨S768x1024, .bf16⟩
  | .local _ .vmem, ⟨25, _⟩ => ⟨S768x1024, .bf16⟩
  | .local _ .vmem, ⟨26, _⟩ => ⟨S2560x256, .f32⟩
  | .local _ .vmem, ⟨27, _⟩ => ⟨S2560x256, .f32⟩
  | .local _ .smem, ⟨0, _⟩ => ⟨S160, .i32⟩
  | _, _ => ⟨S160x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v5422 : Index := Scalar.indexCast arg0
  let c0_2028 : Index := 0#32
  ![v5422.toNat, 0]
def k0_off2 (i : grid0.Coords) : Fin 1 → Nat :=
  let arg0 : BitVec 32 := BitVec.ofNat 32 (i 0).val
  let v5428 : Index := Scalar.indexCast arg0
  ![v5428.toNat]
def k0_mult1 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  v5460
def k0_off3 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5462 : Index := Scalar.indexCast v5461
  let c512_2045 : Index := 512#32
  ![v5462.toNat, 512]
def k0_off4 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5478 : Index := Scalar.indexCast v5461
  let c0_2050 : Index := 0#32
  ![v5478.toNat, 0]
def k0_off5 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5482 : Index := Scalar.indexCast v5461
  let c0_2054 : Index := 0#32
  ![v5482.toNat, 0]
def k0_off6 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5572 : Index := Scalar.indexCast v5461
  let c0_2084 : Index := 0#32
  ![v5572.toNat, 0]
def k0_off7 (i : grid0.Coords) : Fin 3 → Nat :=
  let c0_2230 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5899 : Index := Scalar.indexCast v5461
  let c0_2231 : Index := 0#32
  ![0, v5899.toNat, 0]
def k0_off8 (i : grid0.Coords) : Fin 3 → Nat :=
  let c0_2235 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c128_i32_2043 : BitVec 32 := 128#32
  let v5459 : BitVec 32 := Scalar.subi v5458 c128_i32_2043
  let c0_i32_2044 : BitVec 32 := 0#32
  let v5460 : BitVec 32 := Scalar.maxsi v5459 c0_i32_2044
  let v5461 : BitVec 32 := v5460
  let v5911 : Index := Scalar.indexCast v5461
  let c512_2236 : Index := 512#32
  ![0, v5911.toNat, 512]
def k0_mult2 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  v5460
def k0_off9 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5462 : Index := Scalar.indexCast v5461
  let c512_2045 : Index := 512#32
  ![v5462.toNat, 512]
def k0_off10 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5478 : Index := Scalar.indexCast v5461
  let c0_2050 : Index := 0#32
  ![v5478.toNat, 0]
def k0_off11 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5482 : Index := Scalar.indexCast v5461
  let c0_2054 : Index := 0#32
  ![v5482.toNat, 0]
def k0_off12 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5572 : Index := Scalar.indexCast v5461
  let c0_2084 : Index := 0#32
  ![v5572.toNat, 0]
def k0_off13 (i : grid0.Coords) : Fin 3 → Nat :=
  let c0_2230 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5899 : Index := Scalar.indexCast v5461
  let c0_2231 : Index := 0#32
  ![0, v5899.toNat, 0]
def k0_off14 (i : grid0.Coords) : Fin 3 → Nat :=
  let c0_2235 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.subi v5458 c256_i32_2043
  let c0_i32_2044 : BitVec 32 := 0#32
  let v5460 : BitVec 32 := Scalar.maxsi v5459 c0_i32_2044
  let v5461 : BitVec 32 := v5460
  let v5911 : Index := Scalar.indexCast v5461
  let c512_2236 : Index := 512#32
  ![0, v5911.toNat, 512]
def k0_mult3 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  v5460
def k0_off15 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5462 : Index := Scalar.indexCast v5461
  let c512_2045 : Index := 512#32
  ![v5462.toNat, 512]
def k0_off16 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5478 : Index := Scalar.indexCast v5461
  let c0_2050 : Index := 0#32
  ![v5478.toNat, 0]
def k0_off17 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5482 : Index := Scalar.indexCast v5461
  let c0_2054 : Index := 0#32
  ![v5482.toNat, 0]
def k0_off18 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5572 : Index := Scalar.indexCast v5461
  let c0_2084 : Index := 0#32
  ![v5572.toNat, 0]
def k0_off19 (i : grid0.Coords) : Fin 3 → Nat :=
  let c0_2230 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5899 : Index := Scalar.indexCast v5461
  let c0_2231 : Index := 0#32
  ![0, v5899.toNat, 0]
def k0_off20 (i : grid0.Coords) : Fin 3 → Nat :=
  let c0_2235 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c384_i32_2043 : BitVec 32 := 384#32
  let v5459 : BitVec 32 := Scalar.subi v5458 c384_i32_2043
  let c0_i32_2044 : BitVec 32 := 0#32
  let v5460 : BitVec 32 := Scalar.maxsi v5459 c0_i32_2044
  let v5461 : BitVec 32 := v5460
  let v5911 : Index := Scalar.indexCast v5461
  let c512_2236 : Index := 512#32
  ![0, v5911.toNat, 512]
def k0_mult4 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  v5460
def k0_off21 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5462 : Index := Scalar.indexCast v5461
  let c512_2045 : Index := 512#32
  ![v5462.toNat, 512]
def k0_off22 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5478 : Index := Scalar.indexCast v5461
  let c0_2050 : Index := 0#32
  ![v5478.toNat, 0]
def k0_off23 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5482 : Index := Scalar.indexCast v5461
  let c0_2054 : Index := 0#32
  ![v5482.toNat, 0]
def k0_off24 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5572 : Index := Scalar.indexCast v5461
  let c0_2084 : Index := 0#32
  ![v5572.toNat, 0]
def k0_off25 (i : grid0.Coords) : Fin 3 → Nat :=
  let c0_2230 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5899 : Index := Scalar.indexCast v5461
  let c0_2231 : Index := 0#32
  ![0, v5899.toNat, 0]
def k0_off26 (i : grid0.Coords) : Fin 3 → Nat :=
  let c0_2235 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c512_i32_2043 : BitVec 32 := 512#32
  let v5459 : BitVec 32 := Scalar.subi v5458 c512_i32_2043
  let c0_i32_2044 : BitVec 32 := 0#32
  let v5460 : BitVec 32 := Scalar.maxsi v5459 c0_i32_2044
  let v5461 : BitVec 32 := v5460
  let v5911 : Index := Scalar.indexCast v5461
  let c512_2236 : Index := 512#32
  ![0, v5911.toNat, 512]
def k0_mult5 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  v5460
def k0_off27 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5462 : Index := Scalar.indexCast v5461
  let c512_2045 : Index := 512#32
  ![v5462.toNat, 512]
def k0_off28 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5478 : Index := Scalar.indexCast v5461
  let c0_2050 : Index := 0#32
  ![v5478.toNat, 0]
def k0_off29 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5482 : Index := Scalar.indexCast v5461
  let c0_2054 : Index := 0#32
  ![v5482.toNat, 0]
def k0_off30 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5572 : Index := Scalar.indexCast v5461
  let c0_2084 : Index := 0#32
  ![v5572.toNat, 0]
def k0_off31 (i : grid0.Coords) : Fin 3 → Nat :=
  let c0_2230 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5899 : Index := Scalar.indexCast v5461
  let c0_2231 : Index := 0#32
  ![0, v5899.toNat, 0]
def k0_off32 (i : grid0.Coords) : Fin 3 → Nat :=
  let c0_2235 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c768_i32_2043 : BitVec 32 := 768#32
  let v5459 : BitVec 32 := Scalar.subi v5458 c768_i32_2043
  let c0_i32_2044 : BitVec 32 := 0#32
  let v5460 : BitVec 32 := Scalar.maxsi v5459 c0_i32_2044
  let v5461 : BitVec 32 := v5460
  let v5911 : Index := Scalar.indexCast v5461
  let c512_2236 : Index := 512#32
  ![0, v5911.toNat, 512]
def k0_off33 (i : grid0.Coords) : Fin 1 → Nat :=
  let arg0 : BitVec 32 := BitVec.ofNat 32 (i 0).val
  let v5462 : Index := Scalar.indexCast arg0
  ![v5462.toNat]
@[reducible] def k0_t1_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let c1_i32_2049 : BitVec 32 := 1#32
  ⟨v5465, v5471, c1_i32_2049⟩
def k0_cond8 (v5429 : BitVec 32) : BitVec 1 :=
  let c768_i32_2040 : BitVec 32 := 768#32
  let v5455 : BitVec 1 := Scalar.cmpi .sgt v5429 c768_i32_2040
  let v5456 : BitVec 32 := Scalar.extui v5455
  let c0_i32_2041 : BitVec 32 := 0#32
  let v5457 : BitVec 1 := Scalar.cmpi .ne v5456 c0_i32_2041
  v5457

def k0_mult6 (i : grid0.Coords) (v5463 : BitVec 32) (k0_t1 : Fin (k0_t1_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2049 : BitVec 32 := 1#32
  let arg19 : BitVec 32 := Scf.iv v5465 c1_i32_2049 k0_t1
  let c256_i32_2183 : BitVec 32 := 256#32
  let v5794 : BitVec 32 := Scalar.muli arg19 c256_i32_2183
  v5794
def k0_off34 (i : grid0.Coords) (v5463 : BitVec 32) (k0_t1 : Fin (k0_t1_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2049 : BitVec 32 := 1#32
  let arg19 : BitVec 32 := Scf.iv v5465 c1_i32_2049 k0_t1
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off35 (i : grid0.Coords) (v5463 : BitVec 32) (k0_t1 : Fin (k0_t1_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2049 : BitVec 32 := 1#32
  let arg19 : BitVec 32 := Scf.iv v5465 c1_i32_2049 k0_t1
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off36 (i : grid0.Coords) (v5463 : BitVec 32) (k0_t1 : Fin (k0_t1_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2049 : BitVec 32 := 1#32
  let arg19 : BitVec 32 := Scf.iv v5465 c1_i32_2049 k0_t1
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t2_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let v5468 : BitVec 32 := Scalar.addi v5465 v5467
  let c1_i32_2050 : BitVec 32 := 1#32
  ⟨v5471, v5468, c1_i32_2050⟩
def k0_mult7 (i : grid0.Coords) (v5463 : BitVec 32) (k0_t2 : Fin (k0_t2_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let c1_i32_2050 : BitVec 32 := 1#32
  let arg19 : BitVec 32 := Scf.iv v5471 c1_i32_2050 k0_t2
  let c256_i32_2183 : BitVec 32 := 256#32
  let v5794 : BitVec 32 := Scalar.muli arg19 c256_i32_2183
  v5794
def k0_off37 (i : grid0.Coords) (v5463 : BitVec 32) (k0_t2 : Fin (k0_t2_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let c1_i32_2050 : BitVec 32 := 1#32
  let arg19 : BitVec 32 := Scf.iv v5471 c1_i32_2050 k0_t2
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off38 (i : grid0.Coords) (v5463 : BitVec 32) (k0_t2 : Fin (k0_t2_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let c1_i32_2050 : BitVec 32 := 1#32
  let arg19 : BitVec 32 := Scf.iv v5471 c1_i32_2050 k0_t2
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off39 (i : grid0.Coords) (v5463 : BitVec 32) (k0_t2 : Fin (k0_t2_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5467 : BitVec 32 := Scalar.subi v5461 v5465
  let c1_i32_2048 : BitVec 32 := 1#32
  let v5469 : BitVec 32 := Scalar.divsi v5467 c1_i32_2048
  let v5470 : BitVec 32 := Scalar.muli v5469 c1_i32_2048
  let v5471 : BitVec 32 := Scalar.addi v5465 v5470
  let c1_i32_2050 : BitVec 32 := 1#32
  let arg19 : BitVec 32 := Scf.iv v5471 c1_i32_2050 k0_t2
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t3_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5479 : BitVec 32 := Scalar.subi v5461 v5465
  let c1_i32_2054 : BitVec 32 := 1#32
  let v5481 : BitVec 32 := Scalar.divsi v5479 c1_i32_2054
  let v5482 : BitVec 32 := Scalar.muli v5481 c1_i32_2054
  let v5483 : BitVec 32 := Scalar.addi v5465 v5482
  let c1_i32_2055 : BitVec 32 := 1#32
  ⟨v5465, v5483, c1_i32_2055⟩
def k0_mult8 (i : grid0.Coords) (v5463 : BitVec 32) (k0_t3 : Fin (k0_t3_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2055 : BitVec 32 := 1#32
  let arg19 : BitVec 32 := Scf.iv v5465 c1_i32_2055 k0_t3
  let c256_i32_2183 : BitVec 32 := 256#32
  let v5794 : BitVec 32 := Scalar.muli arg19 c256_i32_2183
  v5794
def k0_off40 (i : grid0.Coords) (v5463 : BitVec 32) (k0_t3 : Fin (k0_t3_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2055 : BitVec 32 := 1#32
  let arg19 : BitVec 32 := Scf.iv v5465 c1_i32_2055 k0_t3
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off41 (i : grid0.Coords) (v5463 : BitVec 32) (k0_t3 : Fin (k0_t3_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2055 : BitVec 32 := 1#32
  let arg19 : BitVec 32 := Scf.iv v5465 c1_i32_2055 k0_t3
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
@[reducible] def k0_t4_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5479 : BitVec 32 := Scalar.subi v5461 v5465
  let c1_i32_2054 : BitVec 32 := 1#32
  let v5481 : BitVec 32 := Scalar.divsi v5479 c1_i32_2054
  let v5482 : BitVec 32 := Scalar.muli v5481 c1_i32_2054
  let v5483 : BitVec 32 := Scalar.addi v5465 v5482
  let v5480 : BitVec 32 := Scalar.addi v5465 v5479
  let c1_i32_2056 : BitVec 32 := 1#32
  ⟨v5483, v5480, c1_i32_2056⟩
def k0_mult9 (i : grid0.Coords) (v5463 : BitVec 32) (k0_t4 : Fin (k0_t4_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5479 : BitVec 32 := Scalar.subi v5461 v5465
  let c1_i32_2054 : BitVec 32 := 1#32
  let v5481 : BitVec 32 := Scalar.divsi v5479 c1_i32_2054
  let v5482 : BitVec 32 := Scalar.muli v5481 c1_i32_2054
  let v5483 : BitVec 32 := Scalar.addi v5465 v5482
  let c1_i32_2056 : BitVec 32 := 1#32
  let arg19 : BitVec 32 := Scf.iv v5483 c1_i32_2056 k0_t4
  let c256_i32_2183 : BitVec 32 := 256#32
  let v5794 : BitVec 32 := Scalar.muli arg19 c256_i32_2183
  v5794
def k0_off42 (i : grid0.Coords) (v5463 : BitVec 32) (k0_t4 : Fin (k0_t4_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5479 : BitVec 32 := Scalar.subi v5461 v5465
  let c1_i32_2054 : BitVec 32 := 1#32
  let v5481 : BitVec 32 := Scalar.divsi v5479 c1_i32_2054
  let v5482 : BitVec 32 := Scalar.muli v5481 c1_i32_2054
  let v5483 : BitVec 32 := Scalar.addi v5465 v5482
  let c1_i32_2056 : BitVec 32 := 1#32
  let arg19 : BitVec 32 := Scf.iv v5483 c1_i32_2056 k0_t4
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off43 (i : grid0.Coords) (v5463 : BitVec 32) (k0_t4 : Fin (k0_t4_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5479 : BitVec 32 := Scalar.subi v5461 v5465
  let c1_i32_2054 : BitVec 32 := 1#32
  let v5481 : BitVec 32 := Scalar.divsi v5479 c1_i32_2054
  let v5482 : BitVec 32 := Scalar.muli v5481 c1_i32_2054
  let v5483 : BitVec 32 := Scalar.addi v5465 v5482
  let c1_i32_2056 : BitVec 32 := 1#32
  let arg19 : BitVec 32 := Scf.iv v5483 c1_i32_2056 k0_t4
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
def k0_mult10 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let c1_i32_2058 : BitVec 32 := 1#32
  let v5489 : BitVec 32 := Scalar.subi v5461 c1_i32_2058
  let c256_i32_2059 : BitVec 32 := 256#32
  let v5490 : BitVec 32 := Scalar.muli v5489 c256_i32_2059
  v5490
def k0_off44 (i : grid0.Coords) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let c1_i32_2058 : BitVec 32 := 1#32
  let v5489 : BitVec 32 := Scalar.subi v5461 c1_i32_2058
  let c256_i32_2059 : BitVec 32 := 256#32
  let v5490 : BitVec 32 := Scalar.muli v5489 c256_i32_2059
  let v5491 : BitVec 32 := v5490
  let v5492 : Index := Scalar.indexCast v5491
  let c0_2060 : Index := 0#32
  ![v5492.toNat, 0]
@[reducible] def k0_t5_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2074 : BitVec 32 := 1#32
  ⟨v5465, v5539, c1_i32_2074⟩
def k0_mult11 (i : grid0.Coords) (v5463 : BitVec 32) (k0_t5 : Fin (k0_t5_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2074 : BitVec 32 := 1#32
  let arg19 : BitVec 32 := Scf.iv v5465 c1_i32_2074 k0_t5
  let c256_i32_2183 : BitVec 32 := 256#32
  let v5794 : BitVec 32 := Scalar.muli arg19 c256_i32_2183
  v5794
def k0_off45 (i : grid0.Coords) (v5463 : BitVec 32) (k0_t5 : Fin (k0_t5_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2074 : BitVec 32 := 1#32
  let arg19 : BitVec 32 := Scf.iv v5465 c1_i32_2074 k0_t5
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off46 (i : grid0.Coords) (v5463 : BitVec 32) (k0_t5 : Fin (k0_t5_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2074 : BitVec 32 := 1#32
  let arg19 : BitVec 32 := Scf.iv v5465 c1_i32_2074 k0_t5
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off47 (i : grid0.Coords) (v5463 : BitVec 32) (k0_t5 : Fin (k0_t5_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2074 : BitVec 32 := 1#32
  let arg19 : BitVec 32 := Scf.iv v5465 c1_i32_2074 k0_t5
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off48 (i : grid0.Coords) (v5463 : BitVec 32) (k0_t5 : Fin (k0_t5_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2074 : BitVec 32 := 1#32
  let arg19 : BitVec 32 := Scf.iv v5465 c1_i32_2074 k0_t5
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t6_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let v5536 : BitVec 32 := Scalar.addi v5465 v5535
  let c1_i32_2075 : BitVec 32 := 1#32
  ⟨v5539, v5536, c1_i32_2075⟩
def k0_mult12 (i : grid0.Coords) (v5463 : BitVec 32) (k0_t6 : Fin (k0_t6_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2075 : BitVec 32 := 1#32
  let arg19 : BitVec 32 := Scf.iv v5539 c1_i32_2075 k0_t6
  let c256_i32_2183 : BitVec 32 := 256#32
  let v5794 : BitVec 32 := Scalar.muli arg19 c256_i32_2183
  v5794
def k0_off49 (i : grid0.Coords) (v5463 : BitVec 32) (k0_t6 : Fin (k0_t6_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2075 : BitVec 32 := 1#32
  let arg19 : BitVec 32 := Scf.iv v5539 c1_i32_2075 k0_t6
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off50 (i : grid0.Coords) (v5463 : BitVec 32) (k0_t6 : Fin (k0_t6_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2075 : BitVec 32 := 1#32
  let arg19 : BitVec 32 := Scf.iv v5539 c1_i32_2075 k0_t6
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off51 (i : grid0.Coords) (v5463 : BitVec 32) (k0_t6 : Fin (k0_t6_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2075 : BitVec 32 := 1#32
  let arg19 : BitVec 32 := Scf.iv v5539 c1_i32_2075 k0_t6
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off52 (i : grid0.Coords) (v5463 : BitVec 32) (k0_t6 : Fin (k0_t6_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5535 : BitVec 32 := Scalar.subi v5461 v5465
  let c1_i32_2073 : BitVec 32 := 1#32
  let v5537 : BitVec 32 := Scalar.divsi v5535 c1_i32_2073
  let v5538 : BitVec 32 := Scalar.muli v5537 c1_i32_2073
  let v5539 : BitVec 32 := Scalar.addi v5465 v5538
  let c1_i32_2075 : BitVec 32 := 1#32
  let arg19 : BitVec 32 := Scf.iv v5539 c1_i32_2075 k0_t6
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t7_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let c1_i32_2083 : BitVec 32 := 1#32
  ⟨v5465, v5553, c1_i32_2083⟩
def k0_mult13 (i : grid0.Coords) (v5463 : BitVec 32) (k0_t7 : Fin (k0_t7_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2083 : BitVec 32 := 1#32
  let arg19 : BitVec 32 := Scf.iv v5465 c1_i32_2083 k0_t7
  let c256_i32_2183 : BitVec 32 := 256#32
  let v5794 : BitVec 32 := Scalar.muli arg19 c256_i32_2183
  v5794
def k0_off53 (i : grid0.Coords) (v5463 : BitVec 32) (k0_t7 : Fin (k0_t7_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2083 : BitVec 32 := 1#32
  let arg19 : BitVec 32 := Scf.iv v5465 c1_i32_2083 k0_t7
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off54 (i : grid0.Coords) (v5463 : BitVec 32) (k0_t7 : Fin (k0_t7_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2083 : BitVec 32 := 1#32
  let arg19 : BitVec 32 := Scf.iv v5465 c1_i32_2083 k0_t7
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off55 (i : grid0.Coords) (v5463 : BitVec 32) (k0_t7 : Fin (k0_t7_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2083 : BitVec 32 := 1#32
  let arg19 : BitVec 32 := Scf.iv v5465 c1_i32_2083 k0_t7
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t8_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let v5550 : BitVec 32 := Scalar.addi v5465 v5549
  let c1_i32_2084 : BitVec 32 := 1#32
  ⟨v5553, v5550, c1_i32_2084⟩
def k0_mult14 (i : grid0.Coords) (v5463 : BitVec 32) (k0_t8 : Fin (k0_t8_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let c1_i32_2084 : BitVec 32 := 1#32
  let arg19 : BitVec 32 := Scf.iv v5553 c1_i32_2084 k0_t8
  let c256_i32_2183 : BitVec 32 := 256#32
  let v5794 : BitVec 32 := Scalar.muli arg19 c256_i32_2183
  v5794
def k0_off56 (i : grid0.Coords) (v5463 : BitVec 32) (k0_t8 : Fin (k0_t8_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let c1_i32_2084 : BitVec 32 := 1#32
  let arg19 : BitVec 32 := Scf.iv v5553 c1_i32_2084 k0_t8
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off57 (i : grid0.Coords) (v5463 : BitVec 32) (k0_t8 : Fin (k0_t8_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let c1_i32_2084 : BitVec 32 := 1#32
  let arg19 : BitVec 32 := Scf.iv v5553 c1_i32_2084 k0_t8
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off58 (i : grid0.Coords) (v5463 : BitVec 32) (k0_t8 : Fin (k0_t8_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5549 : BitVec 32 := Scalar.subi v5461 v5465
  let c1_i32_2082 : BitVec 32 := 1#32
  let v5551 : BitVec 32 := Scalar.divsi v5549 c1_i32_2082
  let v5552 : BitVec 32 := Scalar.muli v5551 c1_i32_2082
  let v5553 : BitVec 32 := Scalar.addi v5465 v5552
  let c1_i32_2084 : BitVec 32 := 1#32
  let arg19 : BitVec 32 := Scf.iv v5553 c1_i32_2084 k0_t8
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t9_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5561 : BitVec 32 := Scalar.subi v5461 v5465
  let c1_i32_2088 : BitVec 32 := 1#32
  let v5563 : BitVec 32 := Scalar.divsi v5561 c1_i32_2088
  let v5564 : BitVec 32 := Scalar.muli v5563 c1_i32_2088
  let v5565 : BitVec 32 := Scalar.addi v5465 v5564
  let c1_i32_2089 : BitVec 32 := 1#32
  ⟨v5465, v5565, c1_i32_2089⟩
def k0_mult15 (i : grid0.Coords) (v5463 : BitVec 32) (k0_t9 : Fin (k0_t9_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2089 : BitVec 32 := 1#32
  let arg19 : BitVec 32 := Scf.iv v5465 c1_i32_2089 k0_t9
  let c256_i32_2183 : BitVec 32 := 256#32
  let v5794 : BitVec 32 := Scalar.muli arg19 c256_i32_2183
  v5794
def k0_off59 (i : grid0.Coords) (v5463 : BitVec 32) (k0_t9 : Fin (k0_t9_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2089 : BitVec 32 := 1#32
  let arg19 : BitVec 32 := Scf.iv v5465 c1_i32_2089 k0_t9
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off60 (i : grid0.Coords) (v5463 : BitVec 32) (k0_t9 : Fin (k0_t9_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2089 : BitVec 32 := 1#32
  let arg19 : BitVec 32 := Scf.iv v5465 c1_i32_2089 k0_t9
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
@[reducible] def k0_t10_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5561 : BitVec 32 := Scalar.subi v5461 v5465
  let c1_i32_2088 : BitVec 32 := 1#32
  let v5563 : BitVec 32 := Scalar.divsi v5561 c1_i32_2088
  let v5564 : BitVec 32 := Scalar.muli v5563 c1_i32_2088
  let v5565 : BitVec 32 := Scalar.addi v5465 v5564
  let v5562 : BitVec 32 := Scalar.addi v5465 v5561
  let c1_i32_2090 : BitVec 32 := 1#32
  ⟨v5565, v5562, c1_i32_2090⟩
def k0_mult16 (i : grid0.Coords) (v5463 : BitVec 32) (k0_t10 : Fin (k0_t10_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5561 : BitVec 32 := Scalar.subi v5461 v5465
  let c1_i32_2088 : BitVec 32 := 1#32
  let v5563 : BitVec 32 := Scalar.divsi v5561 c1_i32_2088
  let v5564 : BitVec 32 := Scalar.muli v5563 c1_i32_2088
  let v5565 : BitVec 32 := Scalar.addi v5465 v5564
  let c1_i32_2090 : BitVec 32 := 1#32
  let arg19 : BitVec 32 := Scf.iv v5565 c1_i32_2090 k0_t10
  let c256_i32_2183 : BitVec 32 := 256#32
  let v5794 : BitVec 32 := Scalar.muli arg19 c256_i32_2183
  v5794
def k0_off61 (i : grid0.Coords) (v5463 : BitVec 32) (k0_t10 : Fin (k0_t10_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5561 : BitVec 32 := Scalar.subi v5461 v5465
  let c1_i32_2088 : BitVec 32 := 1#32
  let v5563 : BitVec 32 := Scalar.divsi v5561 c1_i32_2088
  let v5564 : BitVec 32 := Scalar.muli v5563 c1_i32_2088
  let v5565 : BitVec 32 := Scalar.addi v5465 v5564
  let c1_i32_2090 : BitVec 32 := 1#32
  let arg19 : BitVec 32 := Scf.iv v5565 c1_i32_2090 k0_t10
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off62 (i : grid0.Coords) (v5463 : BitVec 32) (k0_t10 : Fin (k0_t10_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5561 : BitVec 32 := Scalar.subi v5461 v5465
  let c1_i32_2088 : BitVec 32 := 1#32
  let v5563 : BitVec 32 := Scalar.divsi v5561 c1_i32_2088
  let v5564 : BitVec 32 := Scalar.muli v5563 c1_i32_2088
  let v5565 : BitVec 32 := Scalar.addi v5465 v5564
  let c1_i32_2090 : BitVec 32 := 1#32
  let arg19 : BitVec 32 := Scf.iv v5565 c1_i32_2090 k0_t10
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
def k0_mult17 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let c1_i32_2092 : BitVec 32 := 1#32
  let v5571 : BitVec 32 := Scalar.subi v5461 c1_i32_2092
  let c256_i32_2093 : BitVec 32 := 256#32
  let v5572 : BitVec 32 := Scalar.muli v5571 c256_i32_2093
  v5572
@[reducible] def k0_t11_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2108 : BitVec 32 := 1#32
  ⟨v5465, v5621, c1_i32_2108⟩
def k0_mult18 (i : grid0.Coords) (v5463 : BitVec 32) (k0_t11 : Fin (k0_t11_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2108 : BitVec 32 := 1#32
  let arg19 : BitVec 32 := Scf.iv v5465 c1_i32_2108 k0_t11
  let c256_i32_2183 : BitVec 32 := 256#32
  let v5794 : BitVec 32 := Scalar.muli arg19 c256_i32_2183
  v5794
def k0_off63 (i : grid0.Coords) (v5463 : BitVec 32) (k0_t11 : Fin (k0_t11_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2108 : BitVec 32 := 1#32
  let arg19 : BitVec 32 := Scf.iv v5465 c1_i32_2108 k0_t11
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off64 (i : grid0.Coords) (v5463 : BitVec 32) (k0_t11 : Fin (k0_t11_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2108 : BitVec 32 := 1#32
  let arg19 : BitVec 32 := Scf.iv v5465 c1_i32_2108 k0_t11
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off65 (i : grid0.Coords) (v5463 : BitVec 32) (k0_t11 : Fin (k0_t11_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2108 : BitVec 32 := 1#32
  let arg19 : BitVec 32 := Scf.iv v5465 c1_i32_2108 k0_t11
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off66 (i : grid0.Coords) (v5463 : BitVec 32) (k0_t11 : Fin (k0_t11_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2108 : BitVec 32 := 1#32
  let arg19 : BitVec 32 := Scf.iv v5465 c1_i32_2108 k0_t11
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t12_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let v5618 : BitVec 32 := Scalar.addi v5465 v5617
  let c1_i32_2109 : BitVec 32 := 1#32
  ⟨v5621, v5618, c1_i32_2109⟩
def k0_mult19 (i : grid0.Coords) (v5463 : BitVec 32) (k0_t12 : Fin (k0_t12_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2109 : BitVec 32 := 1#32
  let arg19 : BitVec 32 := Scf.iv v5621 c1_i32_2109 k0_t12
  let c256_i32_2183 : BitVec 32 := 256#32
  let v5794 : BitVec 32 := Scalar.muli arg19 c256_i32_2183
  v5794
def k0_off67 (i : grid0.Coords) (v5463 : BitVec 32) (k0_t12 : Fin (k0_t12_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2109 : BitVec 32 := 1#32
  let arg19 : BitVec 32 := Scf.iv v5621 c1_i32_2109 k0_t12
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off68 (i : grid0.Coords) (v5463 : BitVec 32) (k0_t12 : Fin (k0_t12_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2109 : BitVec 32 := 1#32
  let arg19 : BitVec 32 := Scf.iv v5621 c1_i32_2109 k0_t12
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off69 (i : grid0.Coords) (v5463 : BitVec 32) (k0_t12 : Fin (k0_t12_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2109 : BitVec 32 := 1#32
  let arg19 : BitVec 32 := Scf.iv v5621 c1_i32_2109 k0_t12
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off70 (i : grid0.Coords) (v5463 : BitVec 32) (k0_t12 : Fin (k0_t12_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5617 : BitVec 32 := Scalar.subi v5461 v5465
  let c1_i32_2107 : BitVec 32 := 1#32
  let v5619 : BitVec 32 := Scalar.divsi v5617 c1_i32_2107
  let v5620 : BitVec 32 := Scalar.muli v5619 c1_i32_2107
  let v5621 : BitVec 32 := Scalar.addi v5465 v5620
  let c1_i32_2109 : BitVec 32 := 1#32
  let arg19 : BitVec 32 := Scf.iv v5621 c1_i32_2109 k0_t12
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t13_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let c1_i32_2117 : BitVec 32 := 1#32
  ⟨v5465, v5635, c1_i32_2117⟩
def k0_mult20 (i : grid0.Coords) (v5463 : BitVec 32) (k0_t13 : Fin (k0_t13_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2117 : BitVec 32 := 1#32
  let arg19 : BitVec 32 := Scf.iv v5465 c1_i32_2117 k0_t13
  let c256_i32_2183 : BitVec 32 := 256#32
  let v5794 : BitVec 32 := Scalar.muli arg19 c256_i32_2183
  v5794
def k0_off71 (i : grid0.Coords) (v5463 : BitVec 32) (k0_t13 : Fin (k0_t13_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2117 : BitVec 32 := 1#32
  let arg19 : BitVec 32 := Scf.iv v5465 c1_i32_2117 k0_t13
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off72 (i : grid0.Coords) (v5463 : BitVec 32) (k0_t13 : Fin (k0_t13_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2117 : BitVec 32 := 1#32
  let arg19 : BitVec 32 := Scf.iv v5465 c1_i32_2117 k0_t13
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off73 (i : grid0.Coords) (v5463 : BitVec 32) (k0_t13 : Fin (k0_t13_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2117 : BitVec 32 := 1#32
  let arg19 : BitVec 32 := Scf.iv v5465 c1_i32_2117 k0_t13
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t14_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let v5632 : BitVec 32 := Scalar.addi v5465 v5631
  let c1_i32_2118 : BitVec 32 := 1#32
  ⟨v5635, v5632, c1_i32_2118⟩
def k0_mult21 (i : grid0.Coords) (v5463 : BitVec 32) (k0_t14 : Fin (k0_t14_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let c1_i32_2118 : BitVec 32 := 1#32
  let arg19 : BitVec 32 := Scf.iv v5635 c1_i32_2118 k0_t14
  let c256_i32_2183 : BitVec 32 := 256#32
  let v5794 : BitVec 32 := Scalar.muli arg19 c256_i32_2183
  v5794
def k0_off74 (i : grid0.Coords) (v5463 : BitVec 32) (k0_t14 : Fin (k0_t14_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let c1_i32_2118 : BitVec 32 := 1#32
  let arg19 : BitVec 32 := Scf.iv v5635 c1_i32_2118 k0_t14
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off75 (i : grid0.Coords) (v5463 : BitVec 32) (k0_t14 : Fin (k0_t14_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let c1_i32_2118 : BitVec 32 := 1#32
  let arg19 : BitVec 32 := Scf.iv v5635 c1_i32_2118 k0_t14
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off76 (i : grid0.Coords) (v5463 : BitVec 32) (k0_t14 : Fin (k0_t14_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5631 : BitVec 32 := Scalar.subi v5461 v5465
  let c1_i32_2116 : BitVec 32 := 1#32
  let v5633 : BitVec 32 := Scalar.divsi v5631 c1_i32_2116
  let v5634 : BitVec 32 := Scalar.muli v5633 c1_i32_2116
  let v5635 : BitVec 32 := Scalar.addi v5465 v5634
  let c1_i32_2118 : BitVec 32 := 1#32
  let arg19 : BitVec 32 := Scf.iv v5635 c1_i32_2118 k0_t14
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t15_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5643 : BitVec 32 := Scalar.subi v5461 v5465
  let c1_i32_2122 : BitVec 32 := 1#32
  let v5645 : BitVec 32 := Scalar.divsi v5643 c1_i32_2122
  let v5646 : BitVec 32 := Scalar.muli v5645 c1_i32_2122
  let v5647 : BitVec 32 := Scalar.addi v5465 v5646
  let c1_i32_2123 : BitVec 32 := 1#32
  ⟨v5465, v5647, c1_i32_2123⟩
def k0_mult22 (i : grid0.Coords) (v5463 : BitVec 32) (k0_t15 : Fin (k0_t15_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2123 : BitVec 32 := 1#32
  let arg19 : BitVec 32 := Scf.iv v5465 c1_i32_2123 k0_t15
  let c256_i32_2183 : BitVec 32 := 256#32
  let v5794 : BitVec 32 := Scalar.muli arg19 c256_i32_2183
  v5794
def k0_off77 (i : grid0.Coords) (v5463 : BitVec 32) (k0_t15 : Fin (k0_t15_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2123 : BitVec 32 := 1#32
  let arg19 : BitVec 32 := Scf.iv v5465 c1_i32_2123 k0_t15
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off78 (i : grid0.Coords) (v5463 : BitVec 32) (k0_t15 : Fin (k0_t15_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2123 : BitVec 32 := 1#32
  let arg19 : BitVec 32 := Scf.iv v5465 c1_i32_2123 k0_t15
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
@[reducible] def k0_t16_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5643 : BitVec 32 := Scalar.subi v5461 v5465
  let c1_i32_2122 : BitVec 32 := 1#32
  let v5645 : BitVec 32 := Scalar.divsi v5643 c1_i32_2122
  let v5646 : BitVec 32 := Scalar.muli v5645 c1_i32_2122
  let v5647 : BitVec 32 := Scalar.addi v5465 v5646
  let v5644 : BitVec 32 := Scalar.addi v5465 v5643
  let c1_i32_2124 : BitVec 32 := 1#32
  ⟨v5647, v5644, c1_i32_2124⟩
def k0_mult23 (i : grid0.Coords) (v5463 : BitVec 32) (k0_t16 : Fin (k0_t16_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5643 : BitVec 32 := Scalar.subi v5461 v5465
  let c1_i32_2122 : BitVec 32 := 1#32
  let v5645 : BitVec 32 := Scalar.divsi v5643 c1_i32_2122
  let v5646 : BitVec 32 := Scalar.muli v5645 c1_i32_2122
  let v5647 : BitVec 32 := Scalar.addi v5465 v5646
  let c1_i32_2124 : BitVec 32 := 1#32
  let arg19 : BitVec 32 := Scf.iv v5647 c1_i32_2124 k0_t16
  let c256_i32_2183 : BitVec 32 := 256#32
  let v5794 : BitVec 32 := Scalar.muli arg19 c256_i32_2183
  v5794
def k0_off79 (i : grid0.Coords) (v5463 : BitVec 32) (k0_t16 : Fin (k0_t16_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5643 : BitVec 32 := Scalar.subi v5461 v5465
  let c1_i32_2122 : BitVec 32 := 1#32
  let v5645 : BitVec 32 := Scalar.divsi v5643 c1_i32_2122
  let v5646 : BitVec 32 := Scalar.muli v5645 c1_i32_2122
  let v5647 : BitVec 32 := Scalar.addi v5465 v5646
  let c1_i32_2124 : BitVec 32 := 1#32
  let arg19 : BitVec 32 := Scf.iv v5647 c1_i32_2124 k0_t16
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off80 (i : grid0.Coords) (v5463 : BitVec 32) (k0_t16 : Fin (k0_t16_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5643 : BitVec 32 := Scalar.subi v5461 v5465
  let c1_i32_2122 : BitVec 32 := 1#32
  let v5645 : BitVec 32 := Scalar.divsi v5643 c1_i32_2122
  let v5646 : BitVec 32 := Scalar.muli v5645 c1_i32_2122
  let v5647 : BitVec 32 := Scalar.addi v5465 v5646
  let c1_i32_2124 : BitVec 32 := 1#32
  let arg19 : BitVec 32 := Scf.iv v5647 c1_i32_2124 k0_t16
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
def k0_mult24 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let c1_i32_2126 : BitVec 32 := 1#32
  let v5653 : BitVec 32 := Scalar.subi v5461 c1_i32_2126
  let c256_i32_2127 : BitVec 32 := 256#32
  let v5654 : BitVec 32 := Scalar.muli v5653 c256_i32_2127
  v5654
@[reducible] def k0_t17_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2142 : BitVec 32 := 1#32
  ⟨v5465, v5703, c1_i32_2142⟩
def k0_mult25 (i : grid0.Coords) (v5463 : BitVec 32) (k0_t17 : Fin (k0_t17_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2142 : BitVec 32 := 1#32
  let arg19 : BitVec 32 := Scf.iv v5465 c1_i32_2142 k0_t17
  let c256_i32_2183 : BitVec 32 := 256#32
  let v5794 : BitVec 32 := Scalar.muli arg19 c256_i32_2183
  v5794
def k0_off81 (i : grid0.Coords) (v5463 : BitVec 32) (k0_t17 : Fin (k0_t17_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2142 : BitVec 32 := 1#32
  let arg19 : BitVec 32 := Scf.iv v5465 c1_i32_2142 k0_t17
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off82 (i : grid0.Coords) (v5463 : BitVec 32) (k0_t17 : Fin (k0_t17_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2142 : BitVec 32 := 1#32
  let arg19 : BitVec 32 := Scf.iv v5465 c1_i32_2142 k0_t17
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off83 (i : grid0.Coords) (v5463 : BitVec 32) (k0_t17 : Fin (k0_t17_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2142 : BitVec 32 := 1#32
  let arg19 : BitVec 32 := Scf.iv v5465 c1_i32_2142 k0_t17
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off84 (i : grid0.Coords) (v5463 : BitVec 32) (k0_t17 : Fin (k0_t17_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2142 : BitVec 32 := 1#32
  let arg19 : BitVec 32 := Scf.iv v5465 c1_i32_2142 k0_t17
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t18_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let v5700 : BitVec 32 := Scalar.addi v5465 v5699
  let c1_i32_2143 : BitVec 32 := 1#32
  ⟨v5703, v5700, c1_i32_2143⟩
def k0_mult26 (i : grid0.Coords) (v5463 : BitVec 32) (k0_t18 : Fin (k0_t18_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2143 : BitVec 32 := 1#32
  let arg19 : BitVec 32 := Scf.iv v5703 c1_i32_2143 k0_t18
  let c256_i32_2183 : BitVec 32 := 256#32
  let v5794 : BitVec 32 := Scalar.muli arg19 c256_i32_2183
  v5794
def k0_off85 (i : grid0.Coords) (v5463 : BitVec 32) (k0_t18 : Fin (k0_t18_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2143 : BitVec 32 := 1#32
  let arg19 : BitVec 32 := Scf.iv v5703 c1_i32_2143 k0_t18
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off86 (i : grid0.Coords) (v5463 : BitVec 32) (k0_t18 : Fin (k0_t18_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2143 : BitVec 32 := 1#32
  let arg19 : BitVec 32 := Scf.iv v5703 c1_i32_2143 k0_t18
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off87 (i : grid0.Coords) (v5463 : BitVec 32) (k0_t18 : Fin (k0_t18_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2143 : BitVec 32 := 1#32
  let arg19 : BitVec 32 := Scf.iv v5703 c1_i32_2143 k0_t18
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off88 (i : grid0.Coords) (v5463 : BitVec 32) (k0_t18 : Fin (k0_t18_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5699 : BitVec 32 := Scalar.subi v5461 v5465
  let c1_i32_2141 : BitVec 32 := 1#32
  let v5701 : BitVec 32 := Scalar.divsi v5699 c1_i32_2141
  let v5702 : BitVec 32 := Scalar.muli v5701 c1_i32_2141
  let v5703 : BitVec 32 := Scalar.addi v5465 v5702
  let c1_i32_2143 : BitVec 32 := 1#32
  let arg19 : BitVec 32 := Scf.iv v5703 c1_i32_2143 k0_t18
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t19_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let c1_i32_2151 : BitVec 32 := 1#32
  ⟨v5465, v5717, c1_i32_2151⟩
def k0_mult27 (i : grid0.Coords) (v5463 : BitVec 32) (k0_t19 : Fin (k0_t19_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2151 : BitVec 32 := 1#32
  let arg19 : BitVec 32 := Scf.iv v5465 c1_i32_2151 k0_t19
  let c256_i32_2183 : BitVec 32 := 256#32
  let v5794 : BitVec 32 := Scalar.muli arg19 c256_i32_2183
  v5794
def k0_off89 (i : grid0.Coords) (v5463 : BitVec 32) (k0_t19 : Fin (k0_t19_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2151 : BitVec 32 := 1#32
  let arg19 : BitVec 32 := Scf.iv v5465 c1_i32_2151 k0_t19
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off90 (i : grid0.Coords) (v5463 : BitVec 32) (k0_t19 : Fin (k0_t19_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2151 : BitVec 32 := 1#32
  let arg19 : BitVec 32 := Scf.iv v5465 c1_i32_2151 k0_t19
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off91 (i : grid0.Coords) (v5463 : BitVec 32) (k0_t19 : Fin (k0_t19_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2151 : BitVec 32 := 1#32
  let arg19 : BitVec 32 := Scf.iv v5465 c1_i32_2151 k0_t19
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t20_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let v5714 : BitVec 32 := Scalar.addi v5465 v5713
  let c1_i32_2152 : BitVec 32 := 1#32
  ⟨v5717, v5714, c1_i32_2152⟩
def k0_mult28 (i : grid0.Coords) (v5463 : BitVec 32) (k0_t20 : Fin (k0_t20_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let c1_i32_2152 : BitVec 32 := 1#32
  let arg19 : BitVec 32 := Scf.iv v5717 c1_i32_2152 k0_t20
  let c256_i32_2183 : BitVec 32 := 256#32
  let v5794 : BitVec 32 := Scalar.muli arg19 c256_i32_2183
  v5794
def k0_off92 (i : grid0.Coords) (v5463 : BitVec 32) (k0_t20 : Fin (k0_t20_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let c1_i32_2152 : BitVec 32 := 1#32
  let arg19 : BitVec 32 := Scf.iv v5717 c1_i32_2152 k0_t20
  let c256_i32_2183 : BitVec 32 := 256#32
  let v5794 : BitVec 32 := Scalar.muli arg19 c256_i32_2183
  let v5795 : BitVec 32 := v5794
  let v5796 : Index := Scalar.indexCast v5795
  let c512_2184 : Index := 512#32
  ![v5796.toNat, 512]
def k0_off93 (i : grid0.Coords) (v5463 : BitVec 32) (k0_t20 : Fin (k0_t20_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let c1_i32_2152 : BitVec 32 := 1#32
  let arg19 : BitVec 32 := Scf.iv v5717 c1_i32_2152 k0_t20
  let c256_i32_2183 : BitVec 32 := 256#32
  let v5794 : BitVec 32 := Scalar.muli arg19 c256_i32_2183
  let v5795 : BitVec 32 := v5794
  let v5811 : Index := Scalar.indexCast v5795
  let c0_2187 : Index := 0#32
  ![v5811.toNat, 0]
def k0_off94 (i : grid0.Coords) (v5463 : BitVec 32) (k0_t20 : Fin (k0_t20_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5713 : BitVec 32 := Scalar.subi v5461 v5465
  let c1_i32_2150 : BitVec 32 := 1#32
  let v5715 : BitVec 32 := Scalar.divsi v5713 c1_i32_2150
  let v5716 : BitVec 32 := Scalar.muli v5715 c1_i32_2150
  let v5717 : BitVec 32 := Scalar.addi v5465 v5716
  let c1_i32_2152 : BitVec 32 := 1#32
  let arg19 : BitVec 32 := Scf.iv v5717 c1_i32_2152 k0_t20
  let c256_i32_2183 : BitVec 32 := 256#32
  let v5794 : BitVec 32 := Scalar.muli arg19 c256_i32_2183
  let v5795 : BitVec 32 := v5794
  let v5815 : Index := Scalar.indexCast v5795
  let c0_2191 : Index := 0#32
  ![v5815.toNat, 0]
@[reducible] def k0_t21_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5725 : BitVec 32 := Scalar.subi v5461 v5465
  let c1_i32_2156 : BitVec 32 := 1#32
  let v5727 : BitVec 32 := Scalar.divsi v5725 c1_i32_2156
  let v5728 : BitVec 32 := Scalar.muli v5727 c1_i32_2156
  let v5729 : BitVec 32 := Scalar.addi v5465 v5728
  let c1_i32_2157 : BitVec 32 := 1#32
  ⟨v5465, v5729, c1_i32_2157⟩
def k0_mult29 (i : grid0.Coords) (v5463 : BitVec 32) (k0_t21 : Fin (k0_t21_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2157 : BitVec 32 := 1#32
  let arg19 : BitVec 32 := Scf.iv v5465 c1_i32_2157 k0_t21
  let c256_i32_2183 : BitVec 32 := 256#32
  let v5794 : BitVec 32 := Scalar.muli arg19 c256_i32_2183
  v5794
def k0_off95 (i : grid0.Coords) (v5463 : BitVec 32) (k0_t21 : Fin (k0_t21_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2157 : BitVec 32 := 1#32
  let arg19 : BitVec 32 := Scf.iv v5465 c1_i32_2157 k0_t21
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off96 (i : grid0.Coords) (v5463 : BitVec 32) (k0_t21 : Fin (k0_t21_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2157 : BitVec 32 := 1#32
  let arg19 : BitVec 32 := Scf.iv v5465 c1_i32_2157 k0_t21
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
@[reducible] def k0_t22_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5725 : BitVec 32 := Scalar.subi v5461 v5465
  let c1_i32_2156 : BitVec 32 := 1#32
  let v5727 : BitVec 32 := Scalar.divsi v5725 c1_i32_2156
  let v5728 : BitVec 32 := Scalar.muli v5727 c1_i32_2156
  let v5729 : BitVec 32 := Scalar.addi v5465 v5728
  let v5726 : BitVec 32 := Scalar.addi v5465 v5725
  let c1_i32_2158 : BitVec 32 := 1#32
  ⟨v5729, v5726, c1_i32_2158⟩
def k0_mult30 (i : grid0.Coords) (v5463 : BitVec 32) (k0_t22 : Fin (k0_t22_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5725 : BitVec 32 := Scalar.subi v5461 v5465
  let c1_i32_2156 : BitVec 32 := 1#32
  let v5727 : BitVec 32 := Scalar.divsi v5725 c1_i32_2156
  let v5728 : BitVec 32 := Scalar.muli v5727 c1_i32_2156
  let v5729 : BitVec 32 := Scalar.addi v5465 v5728
  let c1_i32_2158 : BitVec 32 := 1#32
  let arg19 : BitVec 32 := Scf.iv v5729 c1_i32_2158 k0_t22
  let c256_i32_2183 : BitVec 32 := 256#32
  let v5794 : BitVec 32 := Scalar.muli arg19 c256_i32_2183
  v5794
def k0_off97 (i : grid0.Coords) (v5463 : BitVec 32) (k0_t22 : Fin (k0_t22_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5725 : BitVec 32 := Scalar.subi v5461 v5465
  let c1_i32_2156 : BitVec 32 := 1#32
  let v5727 : BitVec 32 := Scalar.divsi v5725 c1_i32_2156
  let v5728 : BitVec 32 := Scalar.muli v5727 c1_i32_2156
  let v5729 : BitVec 32 := Scalar.addi v5465 v5728
  let c1_i32_2158 : BitVec 32 := 1#32
  let arg19 : BitVec 32 := Scf.iv v5729 c1_i32_2158 k0_t22
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off98 (i : grid0.Coords) (v5463 : BitVec 32) (k0_t22 : Fin (k0_t22_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5725 : BitVec 32 := Scalar.subi v5461 v5465
  let c1_i32_2156 : BitVec 32 := 1#32
  let v5727 : BitVec 32 := Scalar.divsi v5725 c1_i32_2156
  let v5728 : BitVec 32 := Scalar.muli v5727 c1_i32_2156
  let v5729 : BitVec 32 := Scalar.addi v5465 v5728
  let c1_i32_2158 : BitVec 32 := 1#32
  let arg19 : BitVec 32 := Scf.iv v5729 c1_i32_2158 k0_t22
  let c256_i32_2183 : BitVec 32 := 256#32
  let v5794 : BitVec 32 := Scalar.muli arg19 c256_i32_2183
  let v5795 : BitVec 32 := v5794
  let v5804 : Index := Scalar.indexCast v5795
  let c0_2186 : Index := 0#32
  ![v5804.toNat, 0]
def k0_mult31 (i : grid0.Coords) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let c1_i32_2160 : BitVec 32 := 1#32
  let v5735 : BitVec 32 := Scalar.subi v5461 c1_i32_2160
  let c256_i32_2161 : BitVec 32 := 256#32
  let v5736 : BitVec 32 := Scalar.muli v5735 c256_i32_2161
  v5736
@[reducible] def k0_t23_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2176 : BitVec 32 := 1#32
  ⟨v5465, v5785, c1_i32_2176⟩
def k0_mult32 (i : grid0.Coords) (v5463 : BitVec 32) (k0_t23 : Fin (k0_t23_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2176 : BitVec 32 := 1#32
  let arg19 : BitVec 32 := Scf.iv v5465 c1_i32_2176 k0_t23
  let c256_i32_2183 : BitVec 32 := 256#32
  let v5794 : BitVec 32 := Scalar.muli arg19 c256_i32_2183
  v5794
def k0_off99 (i : grid0.Coords) (v5463 : BitVec 32) (k0_t23 : Fin (k0_t23_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2176 : BitVec 32 := 1#32
  let arg19 : BitVec 32 := Scf.iv v5465 c1_i32_2176 k0_t23
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off100 (i : grid0.Coords) (v5463 : BitVec 32) (k0_t23 : Fin (k0_t23_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2176 : BitVec 32 := 1#32
  let arg19 : BitVec 32 := Scf.iv v5465 c1_i32_2176 k0_t23
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off101 (i : grid0.Coords) (v5463 : BitVec 32) (k0_t23 : Fin (k0_t23_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2176 : BitVec 32 := 1#32
  let arg19 : BitVec 32 := Scf.iv v5465 c1_i32_2176 k0_t23
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off102 (i : grid0.Coords) (v5463 : BitVec 32) (k0_t23 : Fin (k0_t23_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c1_i32_2176 : BitVec 32 := 1#32
  let arg19 : BitVec 32 := Scf.iv v5465 c1_i32_2176 k0_t23
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]
@[reducible] def k0_t24_loop (i : grid0.Coords) (v5463 : BitVec 32) : Scf.Loop 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let v5782 : BitVec 32 := Scalar.addi v5465 v5781
  let c1_i32_2177 : BitVec 32 := 1#32
  ⟨v5785, v5782, c1_i32_2177⟩
def k0_mult33 (i : grid0.Coords) (v5463 : BitVec 32) (k0_t24 : Fin (k0_t24_loop i v5463).trips) : BitVec 32 :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2177 : BitVec 32 := 1#32
  let arg19 : BitVec 32 := Scf.iv v5785 c1_i32_2177 k0_t24
  let c256_i32_2183 : BitVec 32 := 256#32
  let v5794 : BitVec 32 := Scalar.muli arg19 c256_i32_2183
  v5794
def k0_off103 (i : grid0.Coords) (v5463 : BitVec 32) (k0_t24 : Fin (k0_t24_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2177 : BitVec 32 := 1#32
  let arg19 : BitVec 32 := Scf.iv v5785 c1_i32_2177 k0_t24
  let c256_i32_2183 : BitVec 32 := 256#32
  let v5794 : BitVec 32 := Scalar.muli arg19 c256_i32_2183
  let v5795 : BitVec 32 := v5794
  let v5796 : Index := Scalar.indexCast v5795
  let c0_2184 : Index := 0#32
  ![v5796.toNat, 0]
def k0_off104 (i : grid0.Coords) (v5463 : BitVec 32) (k0_t24 : Fin (k0_t24_loop i v5463).trips) : Fin 3 → Nat :=
  let c0_2192 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2177 : BitVec 32 := 1#32
  let arg19 : BitVec 32 := Scf.iv v5785 c1_i32_2177 k0_t24
  let c256_i32_2183 : BitVec 32 := 256#32
  let v5794 : BitVec 32 := Scalar.muli arg19 c256_i32_2183
  let v5795 : BitVec 32 := v5794
  let v5813 : Index := Scalar.indexCast v5795
  let c0_2193 : Index := 0#32
  ![0, v5813.toNat, 0]
def k0_off105 (i : grid0.Coords) (v5463 : BitVec 32) (k0_t24 : Fin (k0_t24_loop i v5463).trips) : Fin 3 → Nat :=
  let c0_2197 : Index := 0#32
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2177 : BitVec 32 := 1#32
  let arg19 : BitVec 32 := Scf.iv v5785 c1_i32_2177 k0_t24
  let c256_i32_2183 : BitVec 32 := 256#32
  let v5794 : BitVec 32 := Scalar.muli arg19 c256_i32_2183
  let v5795 : BitVec 32 := v5794
  let v5825 : Index := Scalar.indexCast v5795
  let c512_2198 : Index := 512#32
  ![0, v5825.toNat, 512]
def k0_off106 (i : grid0.Coords) (v5463 : BitVec 32) (k0_t24 : Fin (k0_t24_loop i v5463).trips) : Fin 2 → Nat :=
  let arg0 : BitVec 32 := BitVec.ofNat 32 (i 0).val
  let c80_i32 : BitVec 32 := 80#32
  let v0 : BitVec 32 := Scalar.remsi arg0 c80_i32
  let c32_i32_2029 : BitVec 32 := 32#32
  let v5424 : BitVec 32 := Scalar.muli v0 c32_i32_2029
  let c32_i32_2042 : BitVec 32 := 32#32
  let v5458 : BitVec 32 := Scalar.addi v5424 c32_i32_2042
  let v5464 : BitVec 32 := Scalar.subi v5458 v5463
  let c256_i32_2046 : BitVec 32 := 256#32
  let v5465 : BitVec 32 := Scalar.divsi v5464 c256_i32_2046
  let c256_i32_2043 : BitVec 32 := 256#32
  let v5459 : BitVec 32 := Scalar.addi v5458 c256_i32_2043
  let c1_i32_2044 : BitVec 32 := 1#32
  let v5460 : BitVec 32 := Scalar.subi v5459 c1_i32_2044
  let c256_i32_2045 : BitVec 32 := 256#32
  let v5461 : BitVec 32 := Scalar.divsi v5460 c256_i32_2045
  let v5781 : BitVec 32 := Scalar.subi v5461 v5465
  let c1_i32_2175 : BitVec 32 := 1#32
  let v5783 : BitVec 32 := Scalar.divsi v5781 c1_i32_2175
  let v5784 : BitVec 32 := Scalar.muli v5783 c1_i32_2175
  let v5785 : BitVec 32 := Scalar.addi v5465 v5784
  let c1_i32_2177 : BitVec 32 := 1#32
  let arg19 : BitVec 32 := Scf.iv v5785 c1_i32_2177 k0_t24
  let c256_i32_2183 : BitVec 32 := 256#32
  let v5794 : BitVec 32 := Scalar.muli arg19 c256_i32_2183
  let v5795 : BitVec 32 := v5794
  let v5836 : Index := Scalar.indexCast v5795
  let c0_2202 : Index := 0#32
  ![v5836.toNat, 0]

def k0_chk1_0 (i : grid0.Coords) (v5429 : BitVec 32) (v5463 : BitVec 32) : Prop :=
  (∀ (k0_h8 : k0_cond8 v5429 = 1#1), (k0_t1_loop i v5463).OK) ∧
  (∀ k0_t1 : Fin (k0_t1_loop i v5463).trips, ∀ (k0_h8 : k0_cond8 v5429 = 1#1), 256 ∣ (k0_mult6 i v5463 k0_t1).toNat) ∧
  (∀ k0_t1 : Fin (k0_t1_loop i v5463).trips, ∀ (k0_h8 : k0_cond8 v5429 = 1#1), ∀ a, (k0_off34 i v5463 k0_t1) a + S256x128.size a ≤ S2560x640.size a) ∧
  (∀ k0_t1 : Fin (k0_t1_loop i v5463).trips, ∀ (k0_h8 : k0_cond8 v5429 = 1#1), ∀ a, (k0_off35 i v5463 k0_t1) a + S256x512.size a ≤ S2560x640.size a) ∧
  (∀ k0_t1 : Fin (k0_t1_loop i v5463).trips, ∀ (k0_h8 : k0_cond8 v5429 = 1#1), ∀ a, (k0_off36 i v5463 k0_t1) a + S256x256.size a ≤ S2560x256.size a) ∧
  (∀ (k0_h8 : k0_cond8 v5429 = 1#1), (k0_t2_loop i v5463).OK) ∧
  (∀ k0_t2 : Fin (k0_t2_loop i v5463).trips, ∀ (k0_h8 : k0_cond8 v5429 = 1#1), 256 ∣ (k0_mult7 i v5463 k0_t2).toNat) ∧
  (∀ k0_t2 : Fin (k0_t2_loop i v5463).trips, ∀ (k0_h8 : k0_cond8 v5429 = 1#1), ∀ a, (k0_off37 i v5463 k0_t2) a + S256x128.size a ≤ S2560x640.size a) ∧
  (∀ k0_t2 : Fin (k0_t2_loop i v5463).trips, ∀ (k0_h8 : k0_cond8 v5429 = 1#1), ∀ a, (k0_off38 i v5463 k0_t2) a + S256x512.size a ≤ S2560x640.size a) ∧
  (∀ k0_t2 : Fin (k0_t2_loop i v5463).trips, ∀ (k0_h8 : k0_cond8 v5429 = 1#1), ∀ a, (k0_off39 i v5463 k0_t2) a + S256x256.size a ≤ S2560x256.size a) ∧
  (∀ (k0_h8 : k0_cond8 v5429 = 1#1), (k0_t3_loop i v5463).OK) ∧
  (∀ k0_t3 : Fin (k0_t3_loop i v5463).trips, ∀ (k0_h8 : k0_cond8 v5429 = 1#1), 256 ∣ (k0_mult8 i v5463 k0_t3).toNat) ∧
  (∀ k0_t3 : Fin (k0_t3_loop i v5463).trips, ∀ (k0_h8 : k0_cond8 v5429 = 1#1), ∀ a, (k0_off40 i v5463 k0_t3) a + S256x256.size a ≤ S2560x256.size a) ∧
  (∀ k0_t3 : Fin (k0_t3_loop i v5463).trips, ∀ (k0_h8 : k0_cond8 v5429 = 1#1), ∀ a, (k0_off41 i v5463 k0_t3) a + S256x512.size a ≤ S2560x640.size a) ∧
  (∀ (k0_h8 : k0_cond8 v5429 = 1#1), (k0_t4_loop i v5463).OK) ∧
  (∀ k0_t4 : Fin (k0_t4_loop i v5463).trips, ∀ (k0_h8 : k0_cond8 v5429 = 1#1), 256 ∣ (k0_mult9 i v5463 k0_t4).toNat) ∧
  (∀ k0_t4 : Fin (k0_t4_loop i v5463).trips, ∀ (k0_h8 : k0_cond8 v5429 = 1#1), ∀ a, (k0_off42 i v5463 k0_t4) a + S256x256.size a ≤ S2560x256.size a) ∧
  (∀ k0_t4 : Fin (k0_t4_loop i v5463).trips, ∀ (k0_h8 : k0_cond8 v5429 = 1#1), ∀ a, (k0_off43 i v5463 k0_t4) a + S256x512.size a ≤ S2560x640.size a) ∧
  (∀ (k0_h8 : k0_cond8 v5429 = 1#1), (k0_t5_loop i v5463).OK) ∧
  (∀ k0_t5 : Fin (k0_t5_loop i v5463).trips, ∀ (k0_h8 : k0_cond8 v5429 = 1#1), 256 ∣ (k0_mult11 i v5463 k0_t5).toNat) ∧
  (∀ k0_t5 : Fin (k0_t5_loop i v5463).trips, ∀ (k0_h8 : k0_cond8 v5429 = 1#1), ∀ a, (k0_off45 i v5463 k0_t5) a + S256x256.size a ≤ S2560x256.size a) ∧
  (∀ k0_t5 : Fin (k0_t5_loop i v5463).trips, ∀ (k0_h8 : k0_cond8 v5429 = 1#1), ∀ a, (k0_off46 i v5463 k0_t5) a + S1x256x512.size a ≤ S1x2560x640.size a) ∧
  (∀ k0_t5 : Fin (k0_t5_loop i v5463).trips, ∀ (k0_h8 : k0_cond8 v5429 = 1#1), ∀ a, (k0_off47 i v5463 k0_t5) a + S1x256x128.size a ≤ S1x2560x640.size a) ∧
  (∀ k0_t5 : Fin (k0_t5_loop i v5463).trips, ∀ (k0_h8 : k0_cond8 v5429 = 1#1), ∀ a, (k0_off48 i v5463 k0_t5) a + S256x640.size a ≤ S2560x640.size a) ∧
  (∀ (k0_h8 : k0_cond8 v5429 = 1#1), (k0_t6_loop i v5463).OK) ∧
  (∀ k0_t6 : Fin (k0_t6_loop i v5463).trips, ∀ (k0_h8 : k0_cond8 v5429 = 1#1), 256 ∣ (k0_mult12 i v5463 k0_t6).toNat) ∧
  (∀ k0_t6 : Fin (k0_t6_loop i v5463).trips, ∀ (k0_h8 : k0_cond8 v5429 = 1#1), ∀ a, (k0_off49 i v5463 k0_t6) a + S256x256.size a ≤ S2560x256.size a) ∧
  (∀ k0_t6 : Fin (k0_t6_loop i v5463).trips, ∀ (k0_h8 : k0_cond8 v5429 = 1#1), ∀ a, (k0_off50 i v5463 k0_t6) a + S1x256x512.size a ≤ S1x2560x640.size a) ∧
  (∀ k0_t6 : Fin (k0_t6_loop i v5463).trips, ∀ (k0_h8 : k0_cond8 v5429 = 1#1), ∀ a, (k0_off51 i v5463 k0_t6) a + S1x256x128.size a ≤ S1x2560x640.size a) ∧
  (∀ k0_t6 : Fin (k0_t6_loop i v5463).trips, ∀ (k0_h8 : k0_cond8 v5429 = 1#1), ∀ a, (k0_off52 i v5463 k0_t6) a + S256x640.size a ≤ S2560x640.size a) ∧
  (∀ (k0_h8 : k0_cond8 v5429 = 1#1), (k0_t7_loop i v5463).OK) ∧
  (∀ k0_t7 : Fin (k0_t7_loop i v5463).trips, ∀ (k0_h8 : k0_cond8 v5429 = 1#1), 256 ∣ (k0_mult13 i v5463 k0_t7).toNat)
def k0_chk1_1 (i : grid0.Coords) (v5429 : BitVec 32) (v5463 : BitVec 32) : Prop :=
  (∀ k0_t7 : Fin (k0_t7_loop i v5463).trips, ∀ (k0_h8 : k0_cond8 v5429 = 1#1), ∀ a, (k0_off53 i v5463 k0_t7) a + S256x128.size a ≤ S2560x640.size a) ∧
  (∀ k0_t7 : Fin (k0_t7_loop i v5463).trips, ∀ (k0_h8 : k0_cond8 v5429 = 1#1), ∀ a, (k0_off54 i v5463 k0_t7) a + S256x512.size a ≤ S2560x640.size a) ∧
  (∀ k0_t7 : Fin (k0_t7_loop i v5463).trips, ∀ (k0_h8 : k0_cond8 v5429 = 1#1), ∀ a, (k0_off55 i v5463 k0_t7) a + S256x256.size a ≤ S2560x256.size a) ∧
  (∀ (k0_h8 : k0_cond8 v5429 = 1#1), (k0_t8_loop i v5463).OK) ∧
  (∀ k0_t8 : Fin (k0_t8_loop i v5463).trips, ∀ (k0_h8 : k0_cond8 v5429 = 1#1), 256 ∣ (k0_mult14 i v5463 k0_t8).toNat) ∧
  (∀ k0_t8 : Fin (k0_t8_loop i v5463).trips, ∀ (k0_h8 : k0_cond8 v5429 = 1#1), ∀ a, (k0_off56 i v5463 k0_t8) a + S256x128.size a ≤ S2560x640.size a) ∧
  (∀ k0_t8 : Fin (k0_t8_loop i v5463).trips, ∀ (k0_h8 : k0_cond8 v5429 = 1#1), ∀ a, (k0_off57 i v5463 k0_t8) a + S256x512.size a ≤ S2560x640.size a) ∧
  (∀ k0_t8 : Fin (k0_t8_loop i v5463).trips, ∀ (k0_h8 : k0_cond8 v5429 = 1#1), ∀ a, (k0_off58 i v5463 k0_t8) a + S256x256.size a ≤ S2560x256.size a) ∧
  (∀ (k0_h8 : k0_cond8 v5429 = 1#1), (k0_t9_loop i v5463).OK) ∧
  (∀ k0_t9 : Fin (k0_t9_loop i v5463).trips, ∀ (k0_h8 : k0_cond8 v5429 = 1#1), 256 ∣ (k0_mult15 i v5463 k0_t9).toNat) ∧
  (∀ k0_t9 : Fin (k0_t9_loop i v5463).trips, ∀ (k0_h8 : k0_cond8 v5429 = 1#1), ∀ a, (k0_off59 i v5463 k0_t9) a + S256x256.size a ≤ S2560x256.size a) ∧
  (∀ k0_t9 : Fin (k0_t9_loop i v5463).trips, ∀ (k0_h8 : k0_cond8 v5429 = 1#1), ∀ a, (k0_off60 i v5463 k0_t9) a + S256x512.size a ≤ S2560x640.size a) ∧
  (∀ (k0_h8 : k0_cond8 v5429 = 1#1), (k0_t10_loop i v5463).OK) ∧
  (∀ k0_t10 : Fin (k0_t10_loop i v5463).trips, ∀ (k0_h8 : k0_cond8 v5429 = 1#1), 256 ∣ (k0_mult16 i v5463 k0_t10).toNat) ∧
  (∀ k0_t10 : Fin (k0_t10_loop i v5463).trips, ∀ (k0_h8 : k0_cond8 v5429 = 1#1), ∀ a, (k0_off61 i v5463 k0_t10) a + S256x256.size a ≤ S2560x256.size a) ∧
  (∀ k0_t10 : Fin (k0_t10_loop i v5463).trips, ∀ (k0_h8 : k0_cond8 v5429 = 1#1), ∀ a, (k0_off62 i v5463 k0_t10) a + S256x512.size a ≤ S2560x640.size a) ∧
  (∀ (k0_h8 : k0_cond8 v5429 = 1#1), (k0_t11_loop i v5463).OK) ∧
  (∀ k0_t11 : Fin (k0_t11_loop i v5463).trips, ∀ (k0_h8 : k0_cond8 v5429 = 1#1), 256 ∣ (k0_mult18 i v5463 k0_t11).toNat) ∧
  (∀ k0_t11 : Fin (k0_t11_loop i v5463).trips, ∀ (k0_h8 : k0_cond8 v5429 = 1#1), ∀ a, (k0_off63 i v5463 k0_t11) a + S256x256.size a ≤ S2560x256.size a) ∧
  (∀ k0_t11 : Fin (k0_t11_loop i v5463).trips, ∀ (k0_h8 : k0_cond8 v5429 = 1#1), ∀ a, (k0_off64 i v5463 k0_t11) a + S1x256x512.size a ≤ S1x2560x640.size a) ∧
  (∀ k0_t11 : Fin (k0_t11_loop i v5463).trips, ∀ (k0_h8 : k0_cond8 v5429 = 1#1), ∀ a, (k0_off65 i v5463 k0_t11) a + S1x256x128.size a ≤ S1x2560x640.size a) ∧
  (∀ k0_t11 : Fin (k0_t11_loop i v5463).trips, ∀ (k0_h8 : k0_cond8 v5429 = 1#1), ∀ a, (k0_off66 i v5463 k0_t11) a + S256x640.size a ≤ S2560x640.size a) ∧
  (∀ (k0_h8 : k0_cond8 v5429 = 1#1), (k0_t12_loop i v5463).OK) ∧
  (∀ k0_t12 : Fin (k0_t12_loop i v5463).trips, ∀ (k0_h8 : k0_cond8 v5429 = 1#1), 256 ∣ (k0_mult19 i v5463 k0_t12).toNat) ∧
  (∀ k0_t12 : Fin (k0_t12_loop i v5463).trips, ∀ (k0_h8 : k0_cond8 v5429 = 1#1), ∀ a, (k0_off67 i v5463 k0_t12) a + S256x256.size a ≤ S2560x256.size a) ∧
  (∀ k0_t12 : Fin (k0_t12_loop i v5463).trips, ∀ (k0_h8 : k0_cond8 v5429 = 1#1), ∀ a, (k0_off68 i v5463 k0_t12) a + S1x256x512.size a ≤ S1x2560x640.size a) ∧
  (∀ k0_t12 : Fin (k0_t12_loop i v5463).trips, ∀ (k0_h8 : k0_cond8 v5429 = 1#1), ∀ a, (k0_off69 i v5463 k0_t12) a + S1x256x128.size a ≤ S1x2560x640.size a) ∧
  (∀ k0_t12 : Fin (k0_t12_loop i v5463).trips, ∀ (k0_h8 : k0_cond8 v5429 = 1#1), ∀ a, (k0_off70 i v5463 k0_t12) a + S256x640.size a ≤ S2560x640.size a) ∧
  (∀ (k0_h8 : k0_cond8 v5429 = 1#1), (k0_t13_loop i v5463).OK) ∧
  (∀ k0_t13 : Fin (k0_t13_loop i v5463).trips, ∀ (k0_h8 : k0_cond8 v5429 = 1#1), 256 ∣ (k0_mult20 i v5463 k0_t13).toNat) ∧
  (∀ k0_t13 : Fin (k0_t13_loop i v5463).trips, ∀ (k0_h8 : k0_cond8 v5429 = 1#1), ∀ a, (k0_off71 i v5463 k0_t13) a + S256x128.size a ≤ S2560x640.size a) ∧
  (∀ k0_t13 : Fin (k0_t13_loop i v5463).trips, ∀ (k0_h8 : k0_cond8 v5429 = 1#1), ∀ a, (k0_off72 i v5463 k0_t13) a + S256x512.size a ≤ S2560x640.size a)
def k0_chk1_2 (i : grid0.Coords) (v5429 : BitVec 32) (v5463 : BitVec 32) : Prop :=
  (∀ k0_t13 : Fin (k0_t13_loop i v5463).trips, ∀ (k0_h8 : k0_cond8 v5429 = 1#1), ∀ a, (k0_off73 i v5463 k0_t13) a + S256x256.size a ≤ S2560x256.size a) ∧
  (∀ (k0_h8 : k0_cond8 v5429 = 1#1), (k0_t14_loop i v5463).OK) ∧
  (∀ k0_t14 : Fin (k0_t14_loop i v5463).trips, ∀ (k0_h8 : k0_cond8 v5429 = 1#1), 256 ∣ (k0_mult21 i v5463 k0_t14).toNat) ∧
  (∀ k0_t14 : Fin (k0_t14_loop i v5463).trips, ∀ (k0_h8 : k0_cond8 v5429 = 1#1), ∀ a, (k0_off74 i v5463 k0_t14) a + S256x128.size a ≤ S2560x640.size a) ∧
  (∀ k0_t14 : Fin (k0_t14_loop i v5463).trips, ∀ (k0_h8 : k0_cond8 v5429 = 1#1), ∀ a, (k0_off75 i v5463 k0_t14) a + S256x512.size a ≤ S2560x640.size a) ∧
  (∀ k0_t14 : Fin (k0_t14_loop i v5463).trips, ∀ (k0_h8 : k0_cond8 v5429 = 1#1), ∀ a, (k0_off76 i v5463 k0_t14) a + S256x256.size a ≤ S2560x256.size a) ∧
  (∀ (k0_h8 : k0_cond8 v5429 = 1#1), (k0_t15_loop i v5463).OK) ∧
  (∀ k0_t15 : Fin (k0_t15_loop i v5463).trips, ∀ (k0_h8 : k0_cond8 v5429 = 1#1), 256 ∣ (k0_mult22 i v5463 k0_t15).toNat) ∧
  (∀ k0_t15 : Fin (k0_t15_loop i v5463).trips, ∀ (k0_h8 : k0_cond8 v5429 = 1#1), ∀ a, (k0_off77 i v5463 k0_t15) a + S256x256.size a ≤ S2560x256.size a) ∧
  (∀ k0_t15 : Fin (k0_t15_loop i v5463).trips, ∀ (k0_h8 : k0_cond8 v5429 = 1#1), ∀ a, (k0_off78 i v5463 k0_t15) a + S256x512.size a ≤ S2560x640.size a) ∧
  (∀ (k0_h8 : k0_cond8 v5429 = 1#1), (k0_t16_loop i v5463).OK) ∧
  (∀ k0_t16 : Fin (k0_t16_loop i v5463).trips, ∀ (k0_h8 : k0_cond8 v5429 = 1#1), 256 ∣ (k0_mult23 i v5463 k0_t16).toNat) ∧
  (∀ k0_t16 : Fin (k0_t16_loop i v5463).trips, ∀ (k0_h8 : k0_cond8 v5429 = 1#1), ∀ a, (k0_off79 i v5463 k0_t16) a + S256x256.size a ≤ S2560x256.size a) ∧
  (∀ k0_t16 : Fin (k0_t16_loop i v5463).trips, ∀ (k0_h8 : k0_cond8 v5429 = 1#1), ∀ a, (k0_off80 i v5463 k0_t16) a + S256x512.size a ≤ S2560x640.size a) ∧
  (∀ (k0_h8 : k0_cond8 v5429 = 1#1), (k0_t17_loop i v5463).OK) ∧
  (∀ k0_t17 : Fin (k0_t17_loop i v5463).trips, ∀ (k0_h8 : k0_cond8 v5429 = 1#1), 256 ∣ (k0_mult25 i v5463 k0_t17).toNat) ∧
  (∀ k0_t17 : Fin (k0_t17_loop i v5463).trips, ∀ (k0_h8 : k0_cond8 v5429 = 1#1), ∀ a, (k0_off81 i v5463 k0_t17) a + S256x256.size a ≤ S2560x256.size a) ∧
  (∀ k0_t17 : Fin (k0_t17_loop i v5463).trips, ∀ (k0_h8 : k0_cond8 v5429 = 1#1), ∀ a, (k0_off82 i v5463 k0_t17) a + S1x256x512.size a ≤ S1x2560x640.size a) ∧
  (∀ k0_t17 : Fin (k0_t17_loop i v5463).trips, ∀ (k0_h8 : k0_cond8 v5429 = 1#1), ∀ a, (k0_off83 i v5463 k0_t17) a + S1x256x128.size a ≤ S1x2560x640.size a) ∧
  (∀ k0_t17 : Fin (k0_t17_loop i v5463).trips, ∀ (k0_h8 : k0_cond8 v5429 = 1#1), ∀ a, (k0_off84 i v5463 k0_t17) a + S256x640.size a ≤ S2560x640.size a) ∧
  (∀ (k0_h8 : k0_cond8 v5429 = 1#1), (k0_t18_loop i v5463).OK) ∧
  (∀ k0_t18 : Fin (k0_t18_loop i v5463).trips, ∀ (k0_h8 : k0_cond8 v5429 = 1#1), 256 ∣ (k0_mult26 i v5463 k0_t18).toNat) ∧
  (∀ k0_t18 : Fin (k0_t18_loop i v5463).trips, ∀ (k0_h8 : k0_cond8 v5429 = 1#1), ∀ a, (k0_off85 i v5463 k0_t18) a + S256x256.size a ≤ S2560x256.size a) ∧
  (∀ k0_t18 : Fin (k0_t18_loop i v5463).trips, ∀ (k0_h8 : k0_cond8 v5429 = 1#1), ∀ a, (k0_off86 i v5463 k0_t18) a + S1x256x512.size a ≤ S1x2560x640.size a) ∧
  (∀ k0_t18 : Fin (k0_t18_loop i v5463).trips, ∀ (k0_h8 : k0_cond8 v5429 = 1#1), ∀ a, (k0_off87 i v5463 k0_t18) a + S1x256x128.size a ≤ S1x2560x640.size a) ∧
  (∀ k0_t18 : Fin (k0_t18_loop i v5463).trips, ∀ (k0_h8 : k0_cond8 v5429 = 1#1), ∀ a, (k0_off88 i v5463 k0_t18) a + S256x640.size a ≤ S2560x640.size a) ∧
  (∀ (k0_h8 : k0_cond8 v5429 = 1#1), (k0_t19_loop i v5463).OK) ∧
  (∀ k0_t19 : Fin (k0_t19_loop i v5463).trips, ∀ (k0_h8 : k0_cond8 v5429 = 1#1), 256 ∣ (k0_mult27 i v5463 k0_t19).toNat) ∧
  (∀ k0_t19 : Fin (k0_t19_loop i v5463).trips, ∀ (k0_h8 : k0_cond8 v5429 = 1#1), ∀ a, (k0_off89 i v5463 k0_t19) a + S256x128.size a ≤ S2560x640.size a) ∧
  (∀ k0_t19 : Fin (k0_t19_loop i v5463).trips, ∀ (k0_h8 : k0_cond8 v5429 = 1#1), ∀ a, (k0_off90 i v5463 k0_t19) a + S256x512.size a ≤ S2560x640.size a) ∧
  (∀ k0_t19 : Fin (k0_t19_loop i v5463).trips, ∀ (k0_h8 : k0_cond8 v5429 = 1#1), ∀ a, (k0_off91 i v5463 k0_t19) a + S256x256.size a ≤ S2560x256.size a) ∧
  (∀ (k0_h8 : k0_cond8 v5429 = 1#1), (k0_t20_loop i v5463).OK)
def k0_chk1_3 (i : grid0.Coords) (v5429 : BitVec 32) (v5463 : BitVec 32) : Prop :=
  (∀ k0_t20 : Fin (k0_t20_loop i v5463).trips, ∀ (k0_h8 : k0_cond8 v5429 = 1#1), 256 ∣ (k0_mult28 i v5463 k0_t20).toNat) ∧
  (∀ k0_t20 : Fin (k0_t20_loop i v5463).trips, ∀ (k0_h8 : k0_cond8 v5429 = 1#1), ∀ a, (k0_off92 i v5463 k0_t20) a + S256x128.size a ≤ S2560x640.size a) ∧
  (∀ k0_t20 : Fin (k0_t20_loop i v5463).trips, ∀ (k0_h8 : k0_cond8 v5429 = 1#1), ∀ a, (k0_off93 i v5463 k0_t20) a + S256x512.size a ≤ S2560x640.size a) ∧
  (∀ k0_t20 : Fin (k0_t20_loop i v5463).trips, ∀ (k0_h8 : k0_cond8 v5429 = 1#1), ∀ a, (k0_off94 i v5463 k0_t20) a + S256x256.size a ≤ S2560x256.size a) ∧
  (∀ (k0_h8 : k0_cond8 v5429 = 1#1), (k0_t21_loop i v5463).OK) ∧
  (∀ k0_t21 : Fin (k0_t21_loop i v5463).trips, ∀ (k0_h8 : k0_cond8 v5429 = 1#1), 256 ∣ (k0_mult29 i v5463 k0_t21).toNat) ∧
  (∀ k0_t21 : Fin (k0_t21_loop i v5463).trips, ∀ (k0_h8 : k0_cond8 v5429 = 1#1), ∀ a, (k0_off95 i v5463 k0_t21) a + S256x256.size a ≤ S2560x256.size a) ∧
  (∀ k0_t21 : Fin (k0_t21_loop i v5463).trips, ∀ (k0_h8 : k0_cond8 v5429 = 1#1), ∀ a, (k0_off96 i v5463 k0_t21) a + S256x512.size a ≤ S2560x640.size a) ∧
  (∀ (k0_h8 : k0_cond8 v5429 = 1#1), (k0_t22_loop i v5463).OK) ∧
  (∀ k0_t22 : Fin (k0_t22_loop i v5463).trips, ∀ (k0_h8 : k0_cond8 v5429 = 1#1), 256 ∣ (k0_mult30 i v5463 k0_t22).toNat) ∧
  (∀ k0_t22 : Fin (k0_t22_loop i v5463).trips, ∀ (k0_h8 : k0_cond8 v5429 = 1#1), ∀ a, (k0_off97 i v5463 k0_t22) a + S256x256.size a ≤ S2560x256.size a) ∧
  (∀ k0_t22 : Fin (k0_t22_loop i v5463).trips, ∀ (k0_h8 : k0_cond8 v5429 = 1#1), ∀ a, (k0_off98 i v5463 k0_t22) a + S256x512.size a ≤ S2560x640.size a) ∧
  (∀ (k0_h8 : k0_cond8 v5429 = 1#1), (k0_t23_loop i v5463).OK) ∧
  (∀ k0_t23 : Fin (k0_t23_loop i v5463).trips, ∀ (k0_h8 : k0_cond8 v5429 = 1#1), 256 ∣ (k0_mult32 i v5463 k0_t23).toNat) ∧
  (∀ k0_t23 : Fin (k0_t23_loop i v5463).trips, ∀ (k0_h8 : k0_cond8 v5429 = 1#1), ∀ a, (k0_off99 i v5463 k0_t23) a + S256x256.size a ≤ S2560x256.size a) ∧
  (∀ k0_t23 : Fin (k0_t23_loop i v5463).trips, ∀ (k0_h8 : k0_cond8 v5429 = 1#1), ∀ a, (k0_off100 i v5463 k0_t23) a + S1x256x512.size a ≤ S1x2560x640.size a) ∧
  (∀ k0_t23 : Fin (k0_t23_loop i v5463).trips, ∀ (k0_h8 : k0_cond8 v5429 = 1#1), ∀ a, (k0_off101 i v5463 k0_t23) a + S1x256x128.size a ≤ S1x2560x640.size a) ∧
  (∀ k0_t23 : Fin (k0_t23_loop i v5463).trips, ∀ (k0_h8 : k0_cond8 v5429 = 1#1), ∀ a, (k0_off102 i v5463 k0_t23) a + S256x640.size a ≤ S2560x640.size a) ∧
  (∀ (k0_h8 : k0_cond8 v5429 = 1#1), (k0_t24_loop i v5463).OK) ∧
  (∀ k0_t24 : Fin (k0_t24_loop i v5463).trips, ∀ (k0_h8 : k0_cond8 v5429 = 1#1), 256 ∣ (k0_mult33 i v5463 k0_t24).toNat) ∧
  (∀ k0_t24 : Fin (k0_t24_loop i v5463).trips, ∀ (k0_h8 : k0_cond8 v5429 = 1#1), ∀ a, (k0_off103 i v5463 k0_t24) a + S256x256.size a ≤ S2560x256.size a) ∧
  (∀ k0_t24 : Fin (k0_t24_loop i v5463).trips, ∀ (k0_h8 : k0_cond8 v5429 = 1#1), ∀ a, (k0_off104 i v5463 k0_t24) a + S1x256x512.size a ≤ S1x2560x640.size a) ∧
  (∀ k0_t24 : Fin (k0_t24_loop i v5463).trips, ∀ (k0_h8 : k0_cond8 v5429 = 1#1), ∀ a, (k0_off105 i v5463 k0_t24) a + S1x256x128.size a ≤ S1x2560x640.size a) ∧
  (∀ k0_t24 : Fin (k0_t24_loop i v5463).trips, ∀ (k0_h8 : k0_cond8 v5429 = 1#1), ∀ a, (k0_off106 i v5463 k0_t24) a + S256x640.size a ≤ S2560x640.size a)
def k0_chk1 (i : grid0.Coords) (v5429 : BitVec 32) (v5463 : BitVec 32) : Prop :=
  k0_chk1_0 i v5429 v5463 ∧
  k0_chk1_1 i v5429 v5463 ∧
  k0_chk1_2 i v5429 v5463 ∧
  k0_chk1_3 i v5429 v5463
theorem k0_t1_ok : ∀ (i : grid0.Coords) (v5429 : BitVec 32) (v5463 : BitVec 32) (k0_hw1 : k0_chk1 i v5429 v5463), ∀ (k0_h8 : k0_cond8 v5429 = 1#1), (k0_t1_loop i v5463).OK := fun i v5429 v5463 k0_hw1 k0_h8 => k0_hw1.1.1 k0_h8
theorem k0_mult6_dvd : ∀ (i : grid0.Coords) (v5429 : BitVec 32) (v5463 : BitVec 32) (k0_hw1 : k0_chk1 i v5429 v5463) (k0_t1 : Fin (k0_t1_loop i v5463).trips), ∀ (k0_h8 : k0_cond8 v5429 = 1#1), 256 ∣ (k0_mult6 i v5463 k0_t1).toNat := fun i v5429 v5463 k0_hw1 k0_t1 k0_h8 => k0_hw1.1.2.1 k0_t1 k0_h8
theorem k0_off34_inb : ∀ (i : grid0.Coords) (v5429 : BitVec 32) (v5463 : BitVec 32) (k0_hw1 : k0_chk1 i v5429 v5463) (k0_t1 : Fin (k0_t1_loop i v5463).trips), ∀ (k0_h8 : k0_cond8 v5429 = 1#1), ∀ a, (k0_off34 i v5463 k0_t1) a + S256x128.size a ≤ S2560x640.size a := fun i v5429 v5463 k0_hw1 k0_t1 k0_h8 => k0_hw1.1.2.2.1 k0_t1 k0_h8
theorem k0_off35_inb : ∀ (i : grid0.Coords) (v5429 : BitVec 32) (v5463 : BitVec 32) (k0_hw1 : k0_chk1 i v5429 v5463) (k0_t1 : Fin (k0_t1_loop i v5463).trips), ∀ (k0_h8 : k0_cond8 v5429 = 1#1), ∀ a, (k0_off35 i v5463 k0_t1) a + S256x512.size a ≤ S2560x640.size a := fun i v5429 v5463 k0_hw1 k0_t1 k0_h8 => k0_hw1.1.2.2.2.1 k0_t1 k0_h8
theorem k0_off36_inb : ∀ (i : grid0.Coords) (v5429 : BitVec 32) (v5463 : BitVec 32) (k0_hw1 : k0_chk1 i v5429 v5463) (k0_t1 : Fin (k0_t1_loop i v5463).trips), ∀ (k0_h8 : k0_cond8 v5429 = 1#1), ∀ a, (k0_off36 i v5463 k0_t1) a + S256x256.size a ≤ S2560x256.size a := fun i v5429 v5463 k0_hw1 k0_t1 k0_h8 => k0_hw1.1.2.2.2.2.1 k0_t1 k0_h8
theorem k0_t2_ok : ∀ (i : grid0.Coords) (v5429 : BitVec 32) (v5463 : BitVec 32) (k0_hw1 : k0_chk1 i v5429 v5463), ∀ (k0_h8 : k0_cond8 v5429 = 1#1), (k0_t2_loop i v5463).OK := fun i v5429 v5463 k0_hw1 k0_h8 => k0_hw1.1.2.2.2.2.2.1 k0_h8
theorem k0_mult7_dvd : ∀ (i : grid0.Coords) (v5429 : BitVec 32) (v5463 : BitVec 32) (k0_hw1 : k0_chk1 i v5429 v5463) (k0_t2 : Fin (k0_t2_loop i v5463).trips), ∀ (k0_h8 : k0_cond8 v5429 = 1#1), 256 ∣ (k0_mult7 i v5463 k0_t2).toNat := fun i v5429 v5463 k0_hw1 k0_t2 k0_h8 => k0_hw1.1.2.2.2.2.2.2.1 k0_t2 k0_h8
theorem k0_off37_inb : ∀ (i : grid0.Coords) (v5429 : BitVec 32) (v5463 : BitVec 32) (k0_hw1 : k0_chk1 i v5429 v5463) (k0_t2 : Fin (k0_t2_loop i v5463).trips), ∀ (k0_h8 : k0_cond8 v5429 = 1#1), ∀ a, (k0_off37 i v5463 k0_t2) a + S256x128.size a ≤ S2560x640.size a := fun i v5429 v5463 k0_hw1 k0_t2 k0_h8 => k0_hw1.1.2.2.2.2.2.2.2.1 k0_t2 k0_h8
theorem k0_off38_inb : ∀ (i : grid0.Coords) (v5429 : BitVec 32) (v5463 : BitVec 32) (k0_hw1 : k0_chk1 i v5429 v5463) (k0_t2 : Fin (k0_t2_loop i v5463).trips), ∀ (k0_h8 : k0_cond8 v5429 = 1#1), ∀ a, (k0_off38 i v5463 k0_t2) a + S256x512.size a ≤ S2560x640.size a := fun i v5429 v5463 k0_hw1 k0_t2 k0_h8 => k0_hw1.1.2.2.2.2.2.2.2.2.1 k0_t2 k0_h8
theorem k0_off39_inb : ∀ (i : grid0.Coords) (v5429 : BitVec 32) (v5463 : BitVec 32) (k0_hw1 : k0_chk1 i v5429 v5463) (k0_t2 : Fin (k0_t2_loop i v5463).trips), ∀ (k0_h8 : k0_cond8 v5429 = 1#1), ∀ a, (k0_off39 i v5463 k0_t2) a + S256x256.size a ≤ S2560x256.size a := fun i v5429 v5463 k0_hw1 k0_t2 k0_h8 => k0_hw1.1.2.2.2.2.2.2.2.2.2.1 k0_t2 k0_h8
theorem k0_t3_ok : ∀ (i : grid0.Coords) (v5429 : BitVec 32) (v5463 : BitVec 32) (k0_hw1 : k0_chk1 i v5429 v5463), ∀ (k0_h8 : k0_cond8 v5429 = 1#1), (k0_t3_loop i v5463).OK := fun i v5429 v5463 k0_hw1 k0_h8 => k0_hw1.1.2.2.2.2.2.2.2.2.2.2.1 k0_h8
theorem k0_mult8_dvd : ∀ (i : grid0.Coords) (v5429 : BitVec 32) (v5463 : BitVec 32) (k0_hw1 : k0_chk1 i v5429 v5463) (k0_t3 : Fin (k0_t3_loop i v5463).trips), ∀ (k0_h8 : k0_cond8 v5429 = 1#1), 256 ∣ (k0_mult8 i v5463 k0_t3).toNat := fun i v5429 v5463 k0_hw1 k0_t3 k0_h8 => k0_hw1.1.2.2.2.2.2.2.2.2.2.2.2.1 k0_t3 k0_h8
theorem k0_off40_inb : ∀ (i : grid0.Coords) (v5429 : BitVec 32) (v5463 : BitVec 32) (k0_hw1 : k0_chk1 i v5429 v5463) (k0_t3 : Fin (k0_t3_loop i v5463).trips), ∀ (k0_h8 : k0_cond8 v5429 = 1#1), ∀ a, (k0_off40 i v5463 k0_t3) a + S256x256.size a ≤ S2560x256.size a := fun i v5429 v5463 k0_hw1 k0_t3 k0_h8 => k0_hw1.1.2.2.2.2.2.2.2.2.2.2.2.2.1 k0_t3 k0_h8
theorem k0_off41_inb : ∀ (i : grid0.Coords) (v5429 : BitVec 32) (v5463 : BitVec 32) (k0_hw1 : k0_chk1 i v5429 v5463) (k0_t3 : Fin (k0_t3_loop i v5463).trips), ∀ (k0_h8 : k0_cond8 v5429 = 1#1), ∀ a, (k0_off41 i v5463 k0_t3) a + S256x512.size a ≤ S2560x640.size a := fun i v5429 v5463 k0_hw1 k0_t3 k0_h8 => k0_hw1.1.2.2.2.2.2.2.2.2.2.2.2.2.2.1 k0_t3 k0_h8
theorem k0_t4_ok : ∀ (i : grid0.Coords) (v5429 : BitVec 32) (v5463 : BitVec 32) (k0_hw1 : k0_chk1 i v5429 v5463), ∀ (k0_h8 : k0_cond8 v5429 = 1#1), (k0_t4_loop i v5463).OK := fun i v5429 v5463 k0_hw1 k0_h8 => k0_hw1.1.2.2.2.2.2.2.2.2.2.2.2.2.2.2.1 k0_h8
theorem k0_mult9_dvd : ∀ (i : grid0.Coords) (v5429 : BitVec 32) (v5463 : BitVec 32) (k0_hw1 : k0_chk1 i v5429 v5463) (k0_t4 : Fin (k0_t4_loop i v5463).trips), ∀ (k0_h8 : k0_cond8 v5429 = 1#1), 256 ∣ (k0_mult9 i v5463 k0_t4).toNat := fun i v5429 v5463 k0_hw1 k0_t4 k0_h8 => k0_hw1.1.2.2.2.2.2.2.2.2.2.2.2.2.2.2.2.1 k0_t4 k0_h8
theorem k0_off42_inb : ∀ (i : grid0.Coords) (v5429 : BitVec 32) (v5463 : BitVec 32) (k0_hw1 : k0_chk1 i v5429 v5463) (k0_t4 : Fin (k0_t4_loop i v5463).trips), ∀ (k0_h8 : k0_cond8 v5429 = 1#1), ∀ a, (k0_off42 i v5463 k0_t4) a + S256x256.size a ≤ S2560x256.size a := fun i v5429 v5463 k0_hw1 k0_t4 k0_h8 => k0_hw1.1.2.2.2.2.2.2.2.2.2.2.2.2.2.2.2.2.1 k0_t4 k0_h8
theorem k0_off43_inb : ∀ (i : grid0.Coords) (v5429 : BitVec 32) (v5463 : BitVec 32) (k0_hw1 : k0_chk1 i v5429 v5463) (k0_t4 : Fin (k0_t4_loop i v5463).trips), ∀ (k0_h8 : k0_cond8 v5429 = 1#1), ∀ a, (k0_off43 i v5463 k0_t4) a + S256x512.size a ≤ S2560x640.size a := fun i v5429 v5463 k0_hw1 k0_t4 k0_h8 => k0_hw1.1.2.2.2.2.2.2.2.2.2.2.2.2.2.2.2.2.2.1 k0_t4 k0_h8
theorem k0_t5_ok : ∀ (i : grid0.Coords) (v5429 : BitVec 32) (v5463 : BitVec 32) (k0_hw1 : k0_chk1 i v5429 v5463), ∀ (k0_h8 : k0_cond8 v5429 = 1#1), (k0_t5_loop i v5463).OK := fun i v5429 v5463 k0_hw1 k0_h8 => k0_hw1.1.2.2.2.2.2.2.2.2.2.2.2.2.2.2.2.2.2.2.1 k0_h8
theorem k0_mult11_dvd : ∀ (i : grid0.Coords) (v5429 : BitVec 32) (v5463 : BitVec 32) (k0_hw1 : k0_chk1 i v5429 v5463) (k0_t5 : Fin (k0_t5_loop i v5463).trips), ∀ (k0_h8 : k0_cond8 v5429 = 1#1), 256 ∣ (k0_mult11 i v5463 k0_t5).toNat := fun i v5429 v5463 k0_hw1 k0_t5 k0_h8 => k0_hw1.1.2.2.2.2.2.2.2.2.2.2.2.2.2.2.2.2.2.2.2.1 k0_t5 k0_h8
theorem k0_off45_inb : ∀ (i : grid0.Coords) (v5429 : BitVec 32) (v5463 : BitVec 32) (k0_hw1 : k0_chk1 i v5429 v5463) (k0_t5 : Fin (k0_t5_loop i v5463).trips), ∀ (k0_h8 : k0_cond8 v5429 = 1#1), ∀ a, (k0_off45 i v5463 k0_t5) a + S256x256.size a ≤ S2560x256.size a := fun i v5429 v5463 k0_hw1 k0_t5 k0_h8 => k0_hw1.1.2.2.2.2.2.2.2.2.2.2.2.2.2.2.2.2.2.2.2.2.1 k0_t5 k0_h8
theorem k0_off46_inb : ∀ (i : grid0.Coords) (v5429 : BitVec 32) (v5463 : BitVec 32) (k0_hw1 : k0_chk1 i v5429 v5463) (k0_t5 : Fin (k0_t5_loop i v5463).trips), ∀ (k0_h8 : k0_cond8 v5429 = 1#1), ∀ a, (k0_off46 i v5463 k0_t5) a + S1x256x512.size a ≤ S1x2560x640.size a := fun i v5429 v5463 k0_hw1 k0_t5 k0_h8 => k0_hw1.1.2.2.2.2.2.2.2.2.2.2.2.2.2.2.2.2.2.2.2.2.2.1 k0_t5 k0_h8
theorem k0_off47_inb : ∀ (i : grid0.Coords) (v5429 : BitVec 32) (v5463 : BitVec 32) (k0_hw1 : k0_chk1 i v5429 v5463) (k0_t5 : Fin (k0_t5_loop i v5463).trips), ∀ (k0_h8 : k0_cond8 v5429 = 1#1), ∀ a, (k0_off47 i v5463 k0_t5) a + S1x256x128.size a ≤ S1x2560x640.size a := fun i v5429 v5463 k0_hw1 k0_t5 k0_h8 => k0_hw1.1.2.2.2.2.2.2.2.2.2.2.2.2.2.2.2.2.2.2.2.2.2.2.1 k0_t5 k0_h8
theorem k0_off48_inb : ∀ (i : grid0.Coords) (v5429 : BitVec 32) (v5463 : BitVec 32) (k0_hw1 : k0_chk1 i v5429 v5463) (k0_t5 : Fin (k0_t5_loop i v5463).trips), ∀ (k0_h8 : k0_cond8 v5429 = 1#1), ∀ a, (k0_off48 i v5463 k0_t5) a + S256x640.size a ≤ S2560x640.size a := fun i v5429 v5463 k0_hw1 k0_t5 k0_h8 => k0_hw1.1.2.2.2.2.2.2.2.2.2.2.2.2.2.2.2.2.2.2.2.2.2.2.2.1 k0_t5 k0_h8
theorem k0_t6_ok : ∀ (i : grid0.Coords) (v5429 : BitVec 32) (v5463 : BitVec 32) (k0_hw1 : k0_chk1 i v5429 v5463), ∀ (k0_h8 : k0_cond8 v5429 = 1#1), (k0_t6_loop i v5463).OK := fun i v5429 v5463 k0_hw1 k0_h8 => k0_hw1.1.2.2.2.2.2.2.2.2.2.2.2.2.2.2.2.2.2.2.2.2.2.2.2.2.1 k0_h8
theorem k0_mult12_dvd : ∀ (i : grid0.Coords) (v5429 : BitVec 32) (v5463 : BitVec 32) (k0_hw1 : k0_chk1 i v5429 v5463) (k0_t6 : Fin (k0_t6_loop i v5463).trips), ∀ (k0_h8 : k0_cond8 v5429 = 1#1), 256 ∣ (k0_mult12 i v5463 k0_t6).toNat := fun i v5429 v5463 k0_hw1 k0_t6 k0_h8 => k0_hw1.1.2.2.2.2.2.2.2.2.2.2.2.2.2.2.2.2.2.2.2.2.2.2.2.2.2.1 k0_t6 k0_h8
theorem k0_off49_inb : ∀ (i : grid0.Coords) (v5429 : BitVec 32) (v5463 : BitVec 32) (k0_hw1 : k0_chk1 i v5429 v5463) (k0_t6 : Fin (k0_t6_loop i v5463).trips), ∀ (k0_h8 : k0_cond8 v5429 = 1#1), ∀ a, (k0_off49 i v5463 k0_t6) a + S256x256.size a ≤ S2560x256.size a := fun i v5429 v5463 k0_hw1 k0_t6 k0_h8 => k0_hw1.1.2.2.2.2.2.2.2.2.2.2.2.2.2.2.2.2.2.2.2.2.2.2.2.2.2.2.1 k0_t6 k0_h8
theorem k0_off50_inb : ∀ (i : grid0.Coords) (v5429 : BitVec 32) (v5463 : BitVec 32) (k0_hw1 : k0_chk1 i v5429 v5463) (k0_t6 : Fin (k0_t6_loop i v5463).trips), ∀ (k0_h8 : k0_cond8 v5429 = 1#1), ∀ a, (k0_off50 i v5463 k0_t6) a + S1x256x512.size a ≤ S1x2560x640.size a := fun i v5429 v5463 k0_hw1 k0_t6 k0_h8 => k0_hw1.1.2.2.2.2.2.2.2.2.2.2.2.2.2.2.2.2.2.2.2.2.2.2.2.2.2.2.2.1 k0_t6 k0_h8
theorem k0_off51_inb : ∀ (i : grid0.Coords) (v5429 : BitVec 32) (v5463 : BitVec 32) (k0_hw1 : k0_chk1 i v5429 v5463) (k0_t6 : Fin (k0_t6_loop i v5463).trips), ∀ (k0_h8 : k0_cond8 v5429 = 1#1), ∀ a, (k0_off51 i v5463 k0_t6) a + S1x256x128.size a ≤ S1x2560x640.size a := fun i v5429 v5463 k0_hw1 k0_t6 k0_h8 => k0_hw1.1.2.2.2.2.2.2.2.2.2.2.2.2.2.2.2.2.2.2.2.2.2.2.2.2.2.2.2.2.1 k0_t6 k0_h8
theorem k0_off52_inb : ∀ (i : grid0.Coords) (v5429 : BitVec 32) (v5463 : BitVec 32) (k0_hw1 : k0_chk1 i v5429 v5463) (k0_t6 : Fin (k0_t6_loop i v5463).trips), ∀ (k0_h8 : k0_cond8 v5429 = 1#1), ∀ a, (k0_off52 i v5463 k0_t6) a + S256x640.size a ≤ S2560x640.size a := fun i v5429 v5463 k0_hw1 k0_t6 k0_h8 => k0_hw1.1.2.2.2.2.2.2.2.2.2.2.2.2.2.2.2.2.2.2.2.2.2.2.2.2.2.2.2.2.2.1 k0_t6 k0_h8
theorem k0_t7_ok : ∀ (i : grid0.Coords) (v5429 : BitVec 32) (v5463 : BitVec 32) (k0_hw1 : k0_chk1 i v5429 v5463), ∀ (k0_h8 : k0_cond8 v5429 = 1#1), (k0_t7_loop i v5463).OK := fun i v5429 v5463 k0_hw1 k0_h8 => k0_hw1.1.2.2.2.2.2.2.2.2.2.2.2.2.2.2.2.2.2.2.2.2.2.2.2.2.2.2.2.2.2.2.1 k0_h8
theorem k0_mult13_dvd : ∀ (i : grid0.Coords) (v5429 : BitVec 32) (v5463 : BitVec 32) (k0_hw1 : k0_chk1 i v5429 v5463) (k0_t7 : Fin (k0_t7_loop i v5463).trips), ∀ (k0_h8 : k0_cond8 v5429 = 1#1), 256 ∣ (k0_mult13 i v5463 k0_t7).toNat := fun i v5429 v5463 k0_hw1 k0_t7 k0_h8 => k0_hw1.1.2.2.2.2.2.2.2.2.2.2.2.2.2.2.2.2.2.2.2.2.2.2.2.2.2.2.2.2.2.2.2 k0_t7 k0_h8
theorem k0_off53_inb : ∀ (i : grid0.Coords) (v5429 : BitVec 32) (v5463 : BitVec 32) (k0_hw1 : k0_chk1 i v5429 v5463) (k0_t7 : Fin (k0_t7_loop i v5463).trips), ∀ (k0_h8 : k0_cond8 v5429 = 1#1), ∀ a, (k0_off53 i v5463 k0_t7) a + S256x128.size a ≤ S2560x640.size a := fun i v5429 v5463 k0_hw1 k0_t7 k0_h8 => k0_hw1.2.1.1 k0_t7 k0_h8
theorem k0_off54_inb : ∀ (i : grid0.Coords) (v5429 : BitVec 32) (v5463 : BitVec 32) (k0_hw1 : k0_chk1 i v5429 v5463) (k0_t7 : Fin (k0_t7_loop i v5463).trips), ∀ (k0_h8 : k0_cond8 v5429 = 1#1), ∀ a, (k0_off54 i v5463 k0_t7) a + S256x512.size a ≤ S2560x640.size a := fun i v5429 v5463 k0_hw1 k0_t7 k0_h8 => k0_hw1.2.1.2.1 k0_t7 k0_h8
theorem k0_off55_inb : ∀ (i : grid0.Coords) (v5429 : BitVec 32) (v5463 : BitVec 32) (k0_hw1 : k0_chk1 i v5429 v5463) (k0_t7 : Fin (k0_t7_loop i v5463).trips), ∀ (k0_h8 : k0_cond8 v5429 = 1#1), ∀ a, (k0_off55 i v5463 k0_t7) a + S256x256.size a ≤ S2560x256.size a := fun i v5429 v5463 k0_hw1 k0_t7 k0_h8 => k0_hw1.2.1.2.2.1 k0_t7 k0_h8
theorem k0_t8_ok : ∀ (i : grid0.Coords) (v5429 : BitVec 32) (v5463 : BitVec 32) (k0_hw1 : k0_chk1 i v5429 v5463), ∀ (k0_h8 : k0_cond8 v5429 = 1#1), (k0_t8_loop i v5463).OK := fun i v5429 v5463 k0_hw1 k0_h8 => k0_hw1.2.1.2.2.2.1 k0_h8
theorem k0_mult14_dvd : ∀ (i : grid0.Coords) (v5429 : BitVec 32) (v5463 : BitVec 32) (k0_hw1 : k0_chk1 i v5429 v5463) (k0_t8 : Fin (k0_t8_loop i v5463).trips), ∀ (k0_h8 : k0_cond8 v5429 = 1#1), 256 ∣ (k0_mult14 i v5463 k0_t8).toNat := fun i v5429 v5463 k0_hw1 k0_t8 k0_h8 => k0_hw1.2.1.2.2.2.2.1 k0_t8 k0_h8
theorem k0_off56_inb : ∀ (i : grid0.Coords) (v5429 : BitVec 32) (v5463 : BitVec 32) (k0_hw1 : k0_chk1 i v5429 v5463) (k0_t8 : Fin (k0_t8_loop i v5463).trips), ∀ (k0_h8 : k0_cond8 v5429 = 1#1), ∀ a, (k0_off56 i v5463 k0_t8) a + S256x128.size a ≤ S2560x640.size a := fun i v5429 v5463 k0_hw1 k0_t8 k0_h8 => k0_hw1.2.1.2.2.2.2.2.1 k0_t8 k0_h8
theorem k0_off57_inb : ∀ (i : grid0.Coords) (v5429 : BitVec 32) (v5463 : BitVec 32) (k0_hw1 : k0_chk1 i v5429 v5463) (k0_t8 : Fin (k0_t8_loop i v5463).trips), ∀ (k0_h8 : k0_cond8 v5429 = 1#1), ∀ a, (k0_off57 i v5463 k0_t8) a + S256x512.size a ≤ S2560x640.size a := fun i v5429 v5463 k0_hw1 k0_t8 k0_h8 => k0_hw1.2.1.2.2.2.2.2.2.1 k0_t8 k0_h8
theorem k0_off58_inb : ∀ (i : grid0.Coords) (v5429 : BitVec 32) (v5463 : BitVec 32) (k0_hw1 : k0_chk1 i v5429 v5463) (k0_t8 : Fin (k0_t8_loop i v5463).trips), ∀ (k0_h8 : k0_cond8 v5429 = 1#1), ∀ a, (k0_off58 i v5463 k0_t8) a + S256x256.size a ≤ S2560x256.size a := fun i v5429 v5463 k0_hw1 k0_t8 k0_h8 => k0_hw1.2.1.2.2.2.2.2.2.2.1 k0_t8 k0_h8
theorem k0_t9_ok : ∀ (i : grid0.Coords) (v5429 : BitVec 32) (v5463 : BitVec 32) (k0_hw1 : k0_chk1 i v5429 v5463), ∀ (k0_h8 : k0_cond8 v5429 = 1#1), (k0_t9_loop i v5463).OK := fun i v5429 v5463 k0_hw1 k0_h8 => k0_hw1.2.1.2.2.2.2.2.2.2.2.1 k0_h8
theorem k0_mult15_dvd : ∀ (i : grid0.Coords) (v5429 : BitVec 32) (v5463 : BitVec 32) (k0_hw1 : k0_chk1 i v5429 v5463) (k0_t9 : Fin (k0_t9_loop i v5463).trips), ∀ (k0_h8 : k0_cond8 v5429 = 1#1), 256 ∣ (k0_mult15 i v5463 k0_t9).toNat := fun i v5429 v5463 k0_hw1 k0_t9 k0_h8 => k0_hw1.2.1.2.2.2.2.2.2.2.2.2.1 k0_t9 k0_h8
theorem k0_off59_inb : ∀ (i : grid0.Coords) (v5429 : BitVec 32) (v5463 : BitVec 32) (k0_hw1 : k0_chk1 i v5429 v5463) (k0_t9 : Fin (k0_t9_loop i v5463).trips), ∀ (k0_h8 : k0_cond8 v5429 = 1#1), ∀ a, (k0_off59 i v5463 k0_t9) a + S256x256.size a ≤ S2560x256.size a := fun i v5429 v5463 k0_hw1 k0_t9 k0_h8 => k0_hw1.2.1.2.2.2.2.2.2.2.2.2.2.1 k0_t9 k0_h8
theorem k0_off60_inb : ∀ (i : grid0.Coords) (v5429 : BitVec 32) (v5463 : BitVec 32) (k0_hw1 : k0_chk1 i v5429 v5463) (k0_t9 : Fin (k0_t9_loop i v5463).trips), ∀ (k0_h8 : k0_cond8 v5429 = 1#1), ∀ a, (k0_off60 i v5463 k0_t9) a + S256x512.size a ≤ S2560x640.size a := fun i v5429 v5463 k0_hw1 k0_t9 k0_h8 => k0_hw1.2.1.2.2.2.2.2.2.2.2.2.2.2.1 k0_t9 k0_h8
theorem k0_t10_ok : ∀ (i : grid0.Coords) (v5429 : BitVec 32) (v5463 : BitVec 32) (k0_hw1 : k0_chk1 i v5429 v5463), ∀ (k0_h8 : k0_cond8 v5429 = 1#1), (k0_t10_loop i v5463).OK := fun i v5429 v5463 k0_hw1 k0_h8 => k0_hw1.2.1.2.2.2.2.2.2.2.2.2.2.2.2.1 k0_h8
theorem k0_mult16_dvd : ∀ (i : grid0.Coords) (v5429 : BitVec 32) (v5463 : BitVec 32) (k0_hw1 : k0_chk1 i v5429 v5463) (k0_t10 : Fin (k0_t10_loop i v5463).trips), ∀ (k0_h8 : k0_cond8 v5429 = 1#1), 256 ∣ (k0_mult16 i v5463 k0_t10).toNat := fun i v5429 v5463 k0_hw1 k0_t10 k0_h8 => k0_hw1.2.1.2.2.2.2.2.2.2.2.2.2.2.2.2.1 k0_t10 k0_h8
theorem k0_off61_inb : ∀ (i : grid0.Coords) (v5429 : BitVec 32) (v5463 : BitVec 32) (k0_hw1 : k0_chk1 i v5429 v5463) (k0_t10 : Fin (k0_t10_loop i v5463).trips), ∀ (k0_h8 : k0_cond8 v5429 = 1#1), ∀ a, (k0_off61 i v5463 k0_t10) a + S256x256.size a ≤ S2560x256.size a := fun i v5429 v5463 k0_hw1 k0_t10 k0_h8 => k0_hw1.2.1.2.2.2.2.2.2.2.2.2.2.2.2.2.2.1 k0_t10 k0_h8
theorem k0_off62_inb : ∀ (i : grid0.Coords) (v5429 : BitVec 32) (v5463 : BitVec 32) (k0_hw1 : k0_chk1 i v5429 v5463) (k0_t10 : Fin (k0_t10_loop i v5463).trips), ∀ (k0_h8 : k0_cond8 v5429 = 1#1), ∀ a, (k0_off62 i v5463 k0_t10) a + S256x512.size a ≤ S2560x640.size a := fun i v5429 v5463 k0_hw1 k0_t10 k0_h8 => k0_hw1.2.1.2.2.2.2.2.2.2.2.2.2.2.2.2.2.2.1 k0_t10 k0_h8
theorem k0_t11_ok : ∀ (i : grid0.Coords) (v5429 : BitVec 32) (v5463 : BitVec 32) (k0_hw1 : k0_chk1 i v5429 v5463), ∀ (k0_h8 : k0_cond8 v5429 = 1#1), (k0_t11_loop i v5463).OK := fun i v5429 v5463 k0_hw1 k0_h8 => k0_hw1.2.1.2.2.2.2.2.2.2.2.2.2.2.2.2.2.2.2.1 k0_h8
theorem k0_mult18_dvd : ∀ (i : grid0.Coords) (v5429 : BitVec 32) (v5463 : BitVec 32) (k0_hw1 : k0_chk1 i v5429 v5463) (k0_t11 : Fin (k0_t11_loop i v5463).trips), ∀ (k0_h8 : k0_cond8 v5429 = 1#1), 256 ∣ (k0_mult18 i v5463 k0_t11).toNat := fun i v5429 v5463 k0_hw1 k0_t11 k0_h8 => k0_hw1.2.1.2.2.2.2.2.2.2.2.2.2.2.2.2.2.2.2.2.1 k0_t11 k0_h8
theorem k0_off63_inb : ∀ (i : grid0.Coords) (v5429 : BitVec 32) (v5463 : BitVec 32) (k0_hw1 : k0_chk1 i v5429 v5463) (k0_t11 : Fin (k0_t11_loop i v5463).trips), ∀ (k0_h8 : k0_cond8 v5429 = 1#1), ∀ a, (k0_off63 i v5463 k0_t11) a + S256x256.size a ≤ S2560x256.size a := fun i v5429 v5463 k0_hw1 k0_t11 k0_h8 => k0_hw1.2.1.2.2.2.2.2.2.2.2.2.2.2.2.2.2.2.2.2.2.1 k0_t11 k0_h8
theorem k0_off64_inb : ∀ (i : grid0.Coords) (v5429 : BitVec 32) (v5463 : BitVec 32) (k0_hw1 : k0_chk1 i v5429 v5463) (k0_t11 : Fin (k0_t11_loop i v5463).trips), ∀ (k0_h8 : k0_cond8 v5429 = 1#1), ∀ a, (k0_off64 i v5463 k0_t11) a + S1x256x512.size a ≤ S1x2560x640.size a := fun i v5429 v5463 k0_hw1 k0_t11 k0_h8 => k0_hw1.2.1.2.2.2.2.2.2.2.2.2.2.2.2.2.2.2.2.2.2.2.1 k0_t11 k0_h8
theorem k0_off65_inb : ∀ (i : grid0.Coords) (v5429 : BitVec 32) (v5463 : BitVec 32) (k0_hw1 : k0_chk1 i v5429 v5463) (k0_t11 : Fin (k0_t11_loop i v5463).trips), ∀ (k0_h8 : k0_cond8 v5429 = 1#1), ∀ a, (k0_off65 i v5463 k0_t11) a + S1x256x128.size a ≤ S1x2560x640.size a := fun i v5429 v5463 k0_hw1 k0_t11 k0_h8 => k0_hw1.2.1.2.2.2.2.2.2.2.2.2.2.2.2.2.2.2.2.2.2.2.2.1 k0_t11 k0_h8
theorem k0_off66_inb : ∀ (i : grid0.Coords) (v5429 : BitVec 32) (v5463 : BitVec 32) (k0_hw1 : k0_chk1 i v5429 v5463) (k0_t11 : Fin (k0_t11_loop i v5463).trips), ∀ (k0_h8 : k0_cond8 v5429 = 1#1), ∀ a, (k0_off66 i v5463 k0_t11) a + S256x640.size a ≤ S2560x640.size a := fun i v5429 v5463 k0_hw1 k0_t11 k0_h8 => k0_hw1.2.1.2.2.2.2.2.2.2.2.2.2.2.2.2.2.2.2.2.2.2.2.2.1 k0_t11 k0_h8
theorem k0_t12_ok : ∀ (i : grid0.Coords) (v5429 : BitVec 32) (v5463 : BitVec 32) (k0_hw1 : k0_chk1 i v5429 v5463), ∀ (k0_h8 : k0_cond8 v5429 = 1#1), (k0_t12_loop i v5463).OK := fun i v5429 v5463 k0_hw1 k0_h8 => k0_hw1.2.1.2.2.2.2.2.2.2.2.2.2.2.2.2.2.2.2.2.2.2.2.2.2.1 k0_h8
theorem k0_mult19_dvd : ∀ (i : grid0.Coords) (v5429 : BitVec 32) (v5463 : BitVec 32) (k0_hw1 : k0_chk1 i v5429 v5463) (k0_t12 : Fin (k0_t12_loop i v5463).trips), ∀ (k0_h8 : k0_cond8 v5429 = 1#1), 256 ∣ (k0_mult19 i v5463 k0_t12).toNat := fun i v5429 v5463 k0_hw1 k0_t12 k0_h8 => k0_hw1.2.1.2.2.2.2.2.2.2.2.2.2.2.2.2.2.2.2.2.2.2.2.2.2.2.1 k0_t12 k0_h8
theorem k0_off67_inb : ∀ (i : grid0.Coords) (v5429 : BitVec 32) (v5463 : BitVec 32) (k0_hw1 : k0_chk1 i v5429 v5463) (k0_t12 : Fin (k0_t12_loop i v5463).trips), ∀ (k0_h8 : k0_cond8 v5429 = 1#1), ∀ a, (k0_off67 i v5463 k0_t12) a + S256x256.size a ≤ S2560x256.size a := fun i v5429 v5463 k0_hw1 k0_t12 k0_h8 => k0_hw1.2.1.2.2.2.2.2.2.2.2.2.2.2.2.2.2.2.2.2.2.2.2.2.2.2.2.1 k0_t12 k0_h8
theorem k0_off68_inb : ∀ (i : grid0.Coords) (v5429 : BitVec 32) (v5463 : BitVec 32) (k0_hw1 : k0_chk1 i v5429 v5463) (k0_t12 : Fin (k0_t12_loop i v5463).trips), ∀ (k0_h8 : k0_cond8 v5429 = 1#1), ∀ a, (k0_off68 i v5463 k0_t12) a + S1x256x512.size a ≤ S1x2560x640.size a := fun i v5429 v5463 k0_hw1 k0_t12 k0_h8 => k0_hw1.2.1.2.2.2.2.2.2.2.2.2.2.2.2.2.2.2.2.2.2.2.2.2.2.2.2.2.1 k0_t12 k0_h8
theorem k0_off69_inb : ∀ (i : grid0.Coords) (v5429 : BitVec 32) (v5463 : BitVec 32) (k0_hw1 : k0_chk1 i v5429 v5463) (k0_t12 : Fin (k0_t12_loop i v5463).trips), ∀ (k0_h8 : k0_cond8 v5429 = 1#1), ∀ a, (k0_off69 i v5463 k0_t12) a + S1x256x128.size a ≤ S1x2560x640.size a := fun i v5429 v5463 k0_hw1 k0_t12 k0_h8 => k0_hw1.2.1.2.2.2.2.2.2.2.2.2.2.2.2.2.2.2.2.2.2.2.2.2.2.2.2.2.2.1 k0_t12 k0_h8
theorem k0_off70_inb : ∀ (i : grid0.Coords) (v5429 : BitVec 32) (v5463 : BitVec 32) (k0_hw1 : k0_chk1 i v5429 v5463) (k0_t12 : Fin (k0_t12_loop i v5463).trips), ∀ (k0_h8 : k0_cond8 v5429 = 1#1), ∀ a, (k0_off70 i v5463 k0_t12) a + S256x640.size a ≤ S2560x640.size a := fun i v5429 v5463 k0_hw1 k0_t12 k0_h8 => k0_hw1.2.1.2.2.2.2.2.2.2.2.2.2.2.2.2.2.2.2.2.2.2.2.2.2.2.2.2.2.2.1 k0_t12 k0_h8
theorem k0_t13_ok : ∀ (i : grid0.Coords) (v5429 : BitVec 32) (v5463 : BitVec 32) (k0_hw1 : k0_chk1 i v5429 v5463), ∀ (k0_h8 : k0_cond8 v5429 = 1#1), (k0_t13_loop i v5463).OK := fun i v5429 v5463 k0_hw1 k0_h8 => k0_hw1.2.1.2.2.2.2.2.2.2.2.2.2.2.2.2.2.2.2.2.2.2.2.2.2.2.2.2.2.2.2.1 k0_h8
theorem k0_mult20_dvd : ∀ (i : grid0.Coords) (v5429 : BitVec 32) (v5463 : BitVec 32) (k0_hw1 : k0_chk1 i v5429 v5463) (k0_t13 : Fin (k0_t13_loop i v5463).trips), ∀ (k0_h8 : k0_cond8 v5429 = 1#1), 256 ∣ (k0_mult20 i v5463 k0_t13).toNat := fun i v5429 v5463 k0_hw1 k0_t13 k0_h8 => k0_hw1.2.1.2.2.2.2.2.2.2.2.2.2.2.2.2.2.2.2.2.2.2.2.2.2.2.2.2.2.2.2.2.1 k0_t13 k0_h8
theorem k0_off71_inb : ∀ (i : grid0.Coords) (v5429 : BitVec 32) (v5463 : BitVec 32) (k0_hw1 : k0_chk1 i v5429 v5463) (k0_t13 : Fin (k0_t13_loop i v5463).trips), ∀ (k0_h8 : k0_cond8 v5429 = 1#1), ∀ a, (k0_off71 i v5463 k0_t13) a + S256x128.size a ≤ S2560x640.size a := fun i v5429 v5463 k0_hw1 k0_t13 k0_h8 => k0_hw1.2.1.2.2.2.2.2.2.2.2.2.2.2.2.2.2.2.2.2.2.2.2.2.2.2.2.2.2.2.2.2.2.1 k0_t13 k0_h8
theorem k0_off72_inb : ∀ (i : grid0.Coords) (v5429 : BitVec 32) (v5463 : BitVec 32) (k0_hw1 : k0_chk1 i v5429 v5463) (k0_t13 : Fin (k0_t13_loop i v5463).trips), ∀ (k0_h8 : k0_cond8 v5429 = 1#1), ∀ a, (k0_off72 i v5463 k0_t13) a + S256x512.size a ≤ S2560x640.size a := fun i v5429 v5463 k0_hw1 k0_t13 k0_h8 => k0_hw1.2.1.2.2.2.2.2.2.2.2.2.2.2.2.2.2.2.2.2.2.2.2.2.2.2.2.2.2.2.2.2.2.2 k0_t13 k0_h8
theorem k0_off73_inb : ∀ (i : grid0.Coords) (v5429 : BitVec 32) (v5463 : BitVec 32) (k0_hw1 : k0_chk1 i v5429 v5463) (k0_t13 : Fin (k0_t13_loop i v5463).trips), ∀ (k0_h8 : k0_cond8 v5429 = 1#1), ∀ a, (k0_off73 i v5463 k0_t13) a + S256x256.size a ≤ S2560x256.size a := fun i v5429 v5463 k0_hw1 k0_t13 k0_h8 => k0_hw1.2.2.1.1 k0_t13 k0_h8
theorem k0_t14_ok : ∀ (i : grid0.Coords) (v5429 : BitVec 32) (v5463 : BitVec 32) (k0_hw1 : k0_chk1 i v5429 v5463), ∀ (k0_h8 : k0_cond8 v5429 = 1#1), (k0_t14_loop i v5463).OK := fun i v5429 v5463 k0_hw1 k0_h8 => k0_hw1.2.2.1.2.1 k0_h8
theorem k0_mult21_dvd : ∀ (i : grid0.Coords) (v5429 : BitVec 32) (v5463 : BitVec 32) (k0_hw1 : k0_chk1 i v5429 v5463) (k0_t14 : Fin (k0_t14_loop i v5463).trips), ∀ (k0_h8 : k0_cond8 v5429 = 1#1), 256 ∣ (k0_mult21 i v5463 k0_t14).toNat := fun i v5429 v5463 k0_hw1 k0_t14 k0_h8 => k0_hw1.2.2.1.2.2.1 k0_t14 k0_h8
theorem k0_off74_inb : ∀ (i : grid0.Coords) (v5429 : BitVec 32) (v5463 : BitVec 32) (k0_hw1 : k0_chk1 i v5429 v5463) (k0_t14 : Fin (k0_t14_loop i v5463).trips), ∀ (k0_h8 : k0_cond8 v5429 = 1#1), ∀ a, (k0_off74 i v5463 k0_t14) a + S256x128.size a ≤ S2560x640.size a := fun i v5429 v5463 k0_hw1 k0_t14 k0_h8 => k0_hw1.2.2.1.2.2.2.1 k0_t14 k0_h8
theorem k0_off75_inb : ∀ (i : grid0.Coords) (v5429 : BitVec 32) (v5463 : BitVec 32) (k0_hw1 : k0_chk1 i v5429 v5463) (k0_t14 : Fin (k0_t14_loop i v5463).trips), ∀ (k0_h8 : k0_cond8 v5429 = 1#1), ∀ a, (k0_off75 i v5463 k0_t14) a + S256x512.size a ≤ S2560x640.size a := fun i v5429 v5463 k0_hw1 k0_t14 k0_h8 => k0_hw1.2.2.1.2.2.2.2.1 k0_t14 k0_h8
theorem k0_off76_inb : ∀ (i : grid0.Coords) (v5429 : BitVec 32) (v5463 : BitVec 32) (k0_hw1 : k0_chk1 i v5429 v5463) (k0_t14 : Fin (k0_t14_loop i v5463).trips), ∀ (k0_h8 : k0_cond8 v5429 = 1#1), ∀ a, (k0_off76 i v5463 k0_t14) a + S256x256.size a ≤ S2560x256.size a := fun i v5429 v5463 k0_hw1 k0_t14 k0_h8 => k0_hw1.2.2.1.2.2.2.2.2.1 k0_t14 k0_h8
theorem k0_t15_ok : ∀ (i : grid0.Coords) (v5429 : BitVec 32) (v5463 : BitVec 32) (k0_hw1 : k0_chk1 i v5429 v5463), ∀ (k0_h8 : k0_cond8 v5429 = 1#1), (k0_t15_loop i v5463).OK := fun i v5429 v5463 k0_hw1 k0_h8 => k0_hw1.2.2.1.2.2.2.2.2.2.1 k0_h8
theorem k0_mult22_dvd : ∀ (i : grid0.Coords) (v5429 : BitVec 32) (v5463 : BitVec 32) (k0_hw1 : k0_chk1 i v5429 v5463) (k0_t15 : Fin (k0_t15_loop i v5463).trips), ∀ (k0_h8 : k0_cond8 v5429 = 1#1), 256 ∣ (k0_mult22 i v5463 k0_t15).toNat := fun i v5429 v5463 k0_hw1 k0_t15 k0_h8 => k0_hw1.2.2.1.2.2.2.2.2.2.2.1 k0_t15 k0_h8
theorem k0_off77_inb : ∀ (i : grid0.Coords) (v5429 : BitVec 32) (v5463 : BitVec 32) (k0_hw1 : k0_chk1 i v5429 v5463) (k0_t15 : Fin (k0_t15_loop i v5463).trips), ∀ (k0_h8 : k0_cond8 v5429 = 1#1), ∀ a, (k0_off77 i v5463 k0_t15) a + S256x256.size a ≤ S2560x256.size a := fun i v5429 v5463 k0_hw1 k0_t15 k0_h8 => k0_hw1.2.2.1.2.2.2.2.2.2.2.2.1 k0_t15 k0_h8
theorem k0_off78_inb : ∀ (i : grid0.Coords) (v5429 : BitVec 32) (v5463 : BitVec 32) (k0_hw1 : k0_chk1 i v5429 v5463) (k0_t15 : Fin (k0_t15_loop i v5463).trips), ∀ (k0_h8 : k0_cond8 v5429 = 1#1), ∀ a, (k0_off78 i v5463 k0_t15) a + S256x512.size a ≤ S2560x640.size a := fun i v5429 v5463 k0_hw1 k0_t15 k0_h8 => k0_hw1.2.2.1.2.2.2.2.2.2.2.2.2.1 k0_t15 k0_h8
theorem k0_t16_ok : ∀ (i : grid0.Coords) (v5429 : BitVec 32) (v5463 : BitVec 32) (k0_hw1 : k0_chk1 i v5429 v5463), ∀ (k0_h8 : k0_cond8 v5429 = 1#1), (k0_t16_loop i v5463).OK := fun i v5429 v5463 k0_hw1 k0_h8 => k0_hw1.2.2.1.2.2.2.2.2.2.2.2.2.2.1 k0_h8
theorem k0_mult23_dvd : ∀ (i : grid0.Coords) (v5429 : BitVec 32) (v5463 : BitVec 32) (k0_hw1 : k0_chk1 i v5429 v5463) (k0_t16 : Fin (k0_t16_loop i v5463).trips), ∀ (k0_h8 : k0_cond8 v5429 = 1#1), 256 ∣ (k0_mult23 i v5463 k0_t16).toNat := fun i v5429 v5463 k0_hw1 k0_t16 k0_h8 => k0_hw1.2.2.1.2.2.2.2.2.2.2.2.2.2.2.1 k0_t16 k0_h8
theorem k0_off79_inb : ∀ (i : grid0.Coords) (v5429 : BitVec 32) (v5463 : BitVec 32) (k0_hw1 : k0_chk1 i v5429 v5463) (k0_t16 : Fin (k0_t16_loop i v5463).trips), ∀ (k0_h8 : k0_cond8 v5429 = 1#1), ∀ a, (k0_off79 i v5463 k0_t16) a + S256x256.size a ≤ S2560x256.size a := fun i v5429 v5463 k0_hw1 k0_t16 k0_h8 => k0_hw1.2.2.1.2.2.2.2.2.2.2.2.2.2.2.2.1 k0_t16 k0_h8
theorem k0_off80_inb : ∀ (i : grid0.Coords) (v5429 : BitVec 32) (v5463 : BitVec 32) (k0_hw1 : k0_chk1 i v5429 v5463) (k0_t16 : Fin (k0_t16_loop i v5463).trips), ∀ (k0_h8 : k0_cond8 v5429 = 1#1), ∀ a, (k0_off80 i v5463 k0_t16) a + S256x512.size a ≤ S2560x640.size a := fun i v5429 v5463 k0_hw1 k0_t16 k0_h8 => k0_hw1.2.2.1.2.2.2.2.2.2.2.2.2.2.2.2.2.1 k0_t16 k0_h8
theorem k0_t17_ok : ∀ (i : grid0.Coords) (v5429 : BitVec 32) (v5463 : BitVec 32) (k0_hw1 : k0_chk1 i v5429 v5463), ∀ (k0_h8 : k0_cond8 v5429 = 1#1), (k0_t17_loop i v5463).OK := fun i v5429 v5463 k0_hw1 k0_h8 => k0_hw1.2.2.1.2.2.2.2.2.2.2.2.2.2.2.2.2.2.1 k0_h8
theorem k0_mult25_dvd : ∀ (i : grid0.Coords) (v5429 : BitVec 32) (v5463 : BitVec 32) (k0_hw1 : k0_chk1 i v5429 v5463) (k0_t17 : Fin (k0_t17_loop i v5463).trips), ∀ (k0_h8 : k0_cond8 v5429 = 1#1), 256 ∣ (k0_mult25 i v5463 k0_t17).toNat := fun i v5429 v5463 k0_hw1 k0_t17 k0_h8 => k0_hw1.2.2.1.2.2.2.2.2.2.2.2.2.2.2.2.2.2.2.1 k0_t17 k0_h8
theorem k0_off81_inb : ∀ (i : grid0.Coords) (v5429 : BitVec 32) (v5463 : BitVec 32) (k0_hw1 : k0_chk1 i v5429 v5463) (k0_t17 : Fin (k0_t17_loop i v5463).trips), ∀ (k0_h8 : k0_cond8 v5429 = 1#1), ∀ a, (k0_off81 i v5463 k0_t17) a + S256x256.size a ≤ S2560x256.size a := fun i v5429 v5463 k0_hw1 k0_t17 k0_h8 => k0_hw1.2.2.1.2.2.2.2.2.2.2.2.2.2.2.2.2.2.2.2.1 k0_t17 k0_h8
theorem k0_off82_inb : ∀ (i : grid0.Coords) (v5429 : BitVec 32) (v5463 : BitVec 32) (k0_hw1 : k0_chk1 i v5429 v5463) (k0_t17 : Fin (k0_t17_loop i v5463).trips), ∀ (k0_h8 : k0_cond8 v5429 = 1#1), ∀ a, (k0_off82 i v5463 k0_t17) a + S1x256x512.size a ≤ S1x2560x640.size a := fun i v5429 v5463 k0_hw1 k0_t17 k0_h8 => k0_hw1.2.2.1.2.2.2.2.2.2.2.2.2.2.2.2.2.2.2.2.2.1 k0_t17 k0_h8
theorem k0_off83_inb : ∀ (i : grid0.Coords) (v5429 : BitVec 32) (v5463 : BitVec 32) (k0_hw1 : k0_chk1 i v5429 v5463) (k0_t17 : Fin (k0_t17_loop i v5463).trips), ∀ (k0_h8 : k0_cond8 v5429 = 1#1), ∀ a, (k0_off83 i v5463 k0_t17) a + S1x256x128.size a ≤ S1x2560x640.size a := fun i v5429 v5463 k0_hw1 k0_t17 k0_h8 => k0_hw1.2.2.1.2.2.2.2.2.2.2.2.2.2.2.2.2.2.2.2.2.2.1 k0_t17 k0_h8
theorem k0_off84_inb : ∀ (i : grid0.Coords) (v5429 : BitVec 32) (v5463 : BitVec 32) (k0_hw1 : k0_chk1 i v5429 v5463) (k0_t17 : Fin (k0_t17_loop i v5463).trips), ∀ (k0_h8 : k0_cond8 v5429 = 1#1), ∀ a, (k0_off84 i v5463 k0_t17) a + S256x640.size a ≤ S2560x640.size a := fun i v5429 v5463 k0_hw1 k0_t17 k0_h8 => k0_hw1.2.2.1.2.2.2.2.2.2.2.2.2.2.2.2.2.2.2.2.2.2.2.1 k0_t17 k0_h8
theorem k0_t18_ok : ∀ (i : grid0.Coords) (v5429 : BitVec 32) (v5463 : BitVec 32) (k0_hw1 : k0_chk1 i v5429 v5463), ∀ (k0_h8 : k0_cond8 v5429 = 1#1), (k0_t18_loop i v5463).OK := fun i v5429 v5463 k0_hw1 k0_h8 => k0_hw1.2.2.1.2.2.2.2.2.2.2.2.2.2.2.2.2.2.2.2.2.2.2.2.1 k0_h8
theorem k0_mult26_dvd : ∀ (i : grid0.Coords) (v5429 : BitVec 32) (v5463 : BitVec 32) (k0_hw1 : k0_chk1 i v5429 v5463) (k0_t18 : Fin (k0_t18_loop i v5463).trips), ∀ (k0_h8 : k0_cond8 v5429 = 1#1), 256 ∣ (k0_mult26 i v5463 k0_t18).toNat := fun i v5429 v5463 k0_hw1 k0_t18 k0_h8 => k0_hw1.2.2.1.2.2.2.2.2.2.2.2.2.2.2.2.2.2.2.2.2.2.2.2.2.1 k0_t18 k0_h8
theorem k0_off85_inb : ∀ (i : grid0.Coords) (v5429 : BitVec 32) (v5463 : BitVec 32) (k0_hw1 : k0_chk1 i v5429 v5463) (k0_t18 : Fin (k0_t18_loop i v5463).trips), ∀ (k0_h8 : k0_cond8 v5429 = 1#1), ∀ a, (k0_off85 i v5463 k0_t18) a + S256x256.size a ≤ S2560x256.size a := fun i v5429 v5463 k0_hw1 k0_t18 k0_h8 => k0_hw1.2.2.1.2.2.2.2.2.2.2.2.2.2.2.2.2.2.2.2.2.2.2.2.2.2.1 k0_t18 k0_h8
theorem k0_off86_inb : ∀ (i : grid0.Coords) (v5429 : BitVec 32) (v5463 : BitVec 32) (k0_hw1 : k0_chk1 i v5429 v5463) (k0_t18 : Fin (k0_t18_loop i v5463).trips), ∀ (k0_h8 : k0_cond8 v5429 = 1#1), ∀ a, (k0_off86 i v5463 k0_t18) a + S1x256x512.size a ≤ S1x2560x640.size a := fun i v5429 v5463 k0_hw1 k0_t18 k0_h8 => k0_hw1.2.2.1.2.2.2.2.2.2.2.2.2.2.2.2.2.2.2.2.2.2.2.2.2.2.2.1 k0_t18 k0_h8
theorem k0_off87_inb : ∀ (i : grid0.Coords) (v5429 : BitVec 32) (v5463 : BitVec 32) (k0_hw1 : k0_chk1 i v5429 v5463) (k0_t18 : Fin (k0_t18_loop i v5463).trips), ∀ (k0_h8 : k0_cond8 v5429 = 1#1), ∀ a, (k0_off87 i v5463 k0_t18) a + S1x256x128.size a ≤ S1x2560x640.size a := fun i v5429 v5463 k0_hw1 k0_t18 k0_h8 => k0_hw1.2.2.1.2.2.2.2.2.2.2.2.2.2.2.2.2.2.2.2.2.2.2.2.2.2.2.2.1 k0_t18 k0_h8
theorem k0_off88_inb : ∀ (i : grid0.Coords) (v5429 : BitVec 32) (v5463 : BitVec 32) (k0_hw1 : k0_chk1 i v5429 v5463) (k0_t18 : Fin (k0_t18_loop i v5463).trips), ∀ (k0_h8 : k0_cond8 v5429 = 1#1), ∀ a, (k0_off88 i v5463 k0_t18) a + S256x640.size a ≤ S2560x640.size a := fun i v5429 v5463 k0_hw1 k0_t18 k0_h8 => k0_hw1.2.2.1.2.2.2.2.2.2.2.2.2.2.2.2.2.2.2.2.2.2.2.2.2.2.2.2.2.1 k0_t18 k0_h8
theorem k0_t19_ok : ∀ (i : grid0.Coords) (v5429 : BitVec 32) (v5463 : BitVec 32) (k0_hw1 : k0_chk1 i v5429 v5463), ∀ (k0_h8 : k0_cond8 v5429 = 1#1), (k0_t19_loop i v5463).OK := fun i v5429 v5463 k0_hw1 k0_h8 => k0_hw1.2.2.1.2.2.2.2.2.2.2.2.2.2.2.2.2.2.2.2.2.2.2.2.2.2.2.2.2.2.1 k0_h8
theorem k0_mult27_dvd : ∀ (i : grid0.Coords) (v5429 : BitVec 32) (v5463 : BitVec 32) (k0_hw1 : k0_chk1 i v5429 v5463) (k0_t19 : Fin (k0_t19_loop i v5463).trips), ∀ (k0_h8 : k0_cond8 v5429 = 1#1), 256 ∣ (k0_mult27 i v5463 k0_t19).toNat := fun i v5429 v5463 k0_hw1 k0_t19 k0_h8 => k0_hw1.2.2.1.2.2.2.2.2.2.2.2.2.2.2.2.2.2.2.2.2.2.2.2.2.2.2.2.2.2.2.1 k0_t19 k0_h8
theorem k0_off89_inb : ∀ (i : grid0.Coords) (v5429 : BitVec 32) (v5463 : BitVec 32) (k0_hw1 : k0_chk1 i v5429 v5463) (k0_t19 : Fin (k0_t19_loop i v5463).trips), ∀ (k0_h8 : k0_cond8 v5429 = 1#1), ∀ a, (k0_off89 i v5463 k0_t19) a + S256x128.size a ≤ S2560x640.size a := fun i v5429 v5463 k0_hw1 k0_t19 k0_h8 => k0_hw1.2.2.1.2.2.2.2.2.2.2.2.2.2.2.2.2.2.2.2.2.2.2.2.2.2.2.2.2.2.2.2.1 k0_t19 k0_h8
theorem k0_off90_inb : ∀ (i : grid0.Coords) (v5429 : BitVec 32) (v5463 : BitVec 32) (k0_hw1 : k0_chk1 i v5429 v5463) (k0_t19 : Fin (k0_t19_loop i v5463).trips), ∀ (k0_h8 : k0_cond8 v5429 = 1#1), ∀ a, (k0_off90 i v5463 k0_t19) a + S256x512.size a ≤ S2560x640.size a := fun i v5429 v5463 k0_hw1 k0_t19 k0_h8 => k0_hw1.2.2.1.2.2.2.2.2.2.2.2.2.2.2.2.2.2.2.2.2.2.2.2.2.2.2.2.2.2.2.2.2.1 k0_t19 k0_h8
theorem k0_off91_inb : ∀ (i : grid0.Coords) (v5429 : BitVec 32) (v5463 : BitVec 32) (k0_hw1 : k0_chk1 i v5429 v5463) (k0_t19 : Fin (k0_t19_loop i v5463).trips), ∀ (k0_h8 : k0_cond8 v5429 = 1#1), ∀ a, (k0_off91 i v5463 k0_t19) a + S256x256.size a ≤ S2560x256.size a := fun i v5429 v5463 k0_hw1 k0_t19 k0_h8 => k0_hw1.2.2.1.2.2.2.2.2.2.2.2.2.2.2.2.2.2.2.2.2.2.2.2.2.2.2.2.2.2.2.2.2.2.1 k0_t19 k0_h8
theorem k0_t20_ok : ∀ (i : grid0.Coords) (v5429 : BitVec 32) (v5463 : BitVec 32) (k0_hw1 : k0_chk1 i v5429 v5463), ∀ (k0_h8 : k0_cond8 v5429 = 1#1), (k0_t20_loop i v5463).OK := fun i v5429 v5463 k0_hw1 k0_h8 => k0_hw1.2.2.1.2.2.2.2.2.2.2.2.2.2.2.2.2.2.2.2.2.2.2.2.2.2.2.2.2.2.2.2.2.2.2 k0_h8
theorem k0_mult28_dvd : ∀ (i : grid0.Coords) (v5429 : BitVec 32) (v5463 : BitVec 32) (k0_hw1 : k0_chk1 i v5429 v5463) (k0_t20 : Fin (k0_t20_loop i v5463).trips), ∀ (k0_h8 : k0_cond8 v5429 = 1#1), 256 ∣ (k0_mult28 i v5463 k0_t20).toNat := fun i v5429 v5463 k0_hw1 k0_t20 k0_h8 => k0_hw1.2.2.2.1 k0_t20 k0_h8
theorem k0_off92_inb : ∀ (i : grid0.Coords) (v5429 : BitVec 32) (v5463 : BitVec 32) (k0_hw1 : k0_chk1 i v5429 v5463) (k0_t20 : Fin (k0_t20_loop i v5463).trips), ∀ (k0_h8 : k0_cond8 v5429 = 1#1), ∀ a, (k0_off92 i v5463 k0_t20) a + S256x128.size a ≤ S2560x640.size a := fun i v5429 v5463 k0_hw1 k0_t20 k0_h8 => k0_hw1.2.2.2.2.1 k0_t20 k0_h8
theorem k0_off93_inb : ∀ (i : grid0.Coords) (v5429 : BitVec 32) (v5463 : BitVec 32) (k0_hw1 : k0_chk1 i v5429 v5463) (k0_t20 : Fin (k0_t20_loop i v5463).trips), ∀ (k0_h8 : k0_cond8 v5429 = 1#1), ∀ a, (k0_off93 i v5463 k0_t20) a + S256x512.size a ≤ S2560x640.size a := fun i v5429 v5463 k0_hw1 k0_t20 k0_h8 => k0_hw1.2.2.2.2.2.1 k0_t20 k0_h8
theorem k0_off94_inb : ∀ (i : grid0.Coords) (v5429 : BitVec 32) (v5463 : BitVec 32) (k0_hw1 : k0_chk1 i v5429 v5463) (k0_t20 : Fin (k0_t20_loop i v5463).trips), ∀ (k0_h8 : k0_cond8 v5429 = 1#1), ∀ a, (k0_off94 i v5463 k0_t20) a + S256x256.size a ≤ S2560x256.size a := fun i v5429 v5463 k0_hw1 k0_t20 k0_h8 => k0_hw1.2.2.2.2.2.2.1 k0_t20 k0_h8
theorem k0_t21_ok : ∀ (i : grid0.Coords) (v5429 : BitVec 32) (v5463 : BitVec 32) (k0_hw1 : k0_chk1 i v5429 v5463), ∀ (k0_h8 : k0_cond8 v5429 = 1#1), (k0_t21_loop i v5463).OK := fun i v5429 v5463 k0_hw1 k0_h8 => k0_hw1.2.2.2.2.2.2.2.1 k0_h8
theorem k0_mult29_dvd : ∀ (i : grid0.Coords) (v5429 : BitVec 32) (v5463 : BitVec 32) (k0_hw1 : k0_chk1 i v5429 v5463) (k0_t21 : Fin (k0_t21_loop i v5463).trips), ∀ (k0_h8 : k0_cond8 v5429 = 1#1), 256 ∣ (k0_mult29 i v5463 k0_t21).toNat := fun i v5429 v5463 k0_hw1 k0_t21 k0_h8 => k0_hw1.2.2.2.2.2.2.2.2.1 k0_t21 k0_h8
theorem k0_off95_inb : ∀ (i : grid0.Coords) (v5429 : BitVec 32) (v5463 : BitVec 32) (k0_hw1 : k0_chk1 i v5429 v5463) (k0_t21 : Fin (k0_t21_loop i v5463).trips), ∀ (k0_h8 : k0_cond8 v5429 = 1#1), ∀ a, (k0_off95 i v5463 k0_t21) a + S256x256.size a ≤ S2560x256.size a := fun i v5429 v5463 k0_hw1 k0_t21 k0_h8 => k0_hw1.2.2.2.2.2.2.2.2.2.1 k0_t21 k0_h8
theorem k0_off96_inb : ∀ (i : grid0.Coords) (v5429 : BitVec 32) (v5463 : BitVec 32) (k0_hw1 : k0_chk1 i v5429 v5463) (k0_t21 : Fin (k0_t21_loop i v5463).trips), ∀ (k0_h8 : k0_cond8 v5429 = 1#1), ∀ a, (k0_off96 i v5463 k0_t21) a + S256x512.size a ≤ S2560x640.size a := fun i v5429 v5463 k0_hw1 k0_t21 k0_h8 => k0_hw1.2.2.2.2.2.2.2.2.2.2.1 k0_t21 k0_h8
theorem k0_t22_ok : ∀ (i : grid0.Coords) (v5429 : BitVec 32) (v5463 : BitVec 32) (k0_hw1 : k0_chk1 i v5429 v5463), ∀ (k0_h8 : k0_cond8 v5429 = 1#1), (k0_t22_loop i v5463).OK := fun i v5429 v5463 k0_hw1 k0_h8 => k0_hw1.2.2.2.2.2.2.2.2.2.2.2.1 k0_h8
theorem k0_mult30_dvd : ∀ (i : grid0.Coords) (v5429 : BitVec 32) (v5463 : BitVec 32) (k0_hw1 : k0_chk1 i v5429 v5463) (k0_t22 : Fin (k0_t22_loop i v5463).trips), ∀ (k0_h8 : k0_cond8 v5429 = 1#1), 256 ∣ (k0_mult30 i v5463 k0_t22).toNat := fun i v5429 v5463 k0_hw1 k0_t22 k0_h8 => k0_hw1.2.2.2.2.2.2.2.2.2.2.2.2.1 k0_t22 k0_h8
theorem k0_off97_inb : ∀ (i : grid0.Coords) (v5429 : BitVec 32) (v5463 : BitVec 32) (k0_hw1 : k0_chk1 i v5429 v5463) (k0_t22 : Fin (k0_t22_loop i v5463).trips), ∀ (k0_h8 : k0_cond8 v5429 = 1#1), ∀ a, (k0_off97 i v5463 k0_t22) a + S256x256.size a ≤ S2560x256.size a := fun i v5429 v5463 k0_hw1 k0_t22 k0_h8 => k0_hw1.2.2.2.2.2.2.2.2.2.2.2.2.2.1 k0_t22 k0_h8
theorem k0_off98_inb : ∀ (i : grid0.Coords) (v5429 : BitVec 32) (v5463 : BitVec 32) (k0_hw1 : k0_chk1 i v5429 v5463) (k0_t22 : Fin (k0_t22_loop i v5463).trips), ∀ (k0_h8 : k0_cond8 v5429 = 1#1), ∀ a, (k0_off98 i v5463 k0_t22) a + S256x512.size a ≤ S2560x640.size a := fun i v5429 v5463 k0_hw1 k0_t22 k0_h8 => k0_hw1.2.2.2.2.2.2.2.2.2.2.2.2.2.2.1 k0_t22 k0_h8
theorem k0_t23_ok : ∀ (i : grid0.Coords) (v5429 : BitVec 32) (v5463 : BitVec 32) (k0_hw1 : k0_chk1 i v5429 v5463), ∀ (k0_h8 : k0_cond8 v5429 = 1#1), (k0_t23_loop i v5463).OK := fun i v5429 v5463 k0_hw1 k0_h8 => k0_hw1.2.2.2.2.2.2.2.2.2.2.2.2.2.2.2.1 k0_h8
theorem k0_mult32_dvd : ∀ (i : grid0.Coords) (v5429 : BitVec 32) (v5463 : BitVec 32) (k0_hw1 : k0_chk1 i v5429 v5463) (k0_t23 : Fin (k0_t23_loop i v5463).trips), ∀ (k0_h8 : k0_cond8 v5429 = 1#1), 256 ∣ (k0_mult32 i v5463 k0_t23).toNat := fun i v5429 v5463 k0_hw1 k0_t23 k0_h8 => k0_hw1.2.2.2.2.2.2.2.2.2.2.2.2.2.2.2.2.1 k0_t23 k0_h8
theorem k0_off99_inb : ∀ (i : grid0.Coords) (v5429 : BitVec 32) (v5463 : BitVec 32) (k0_hw1 : k0_chk1 i v5429 v5463) (k0_t23 : Fin (k0_t23_loop i v5463).trips), ∀ (k0_h8 : k0_cond8 v5429 = 1#1), ∀ a, (k0_off99 i v5463 k0_t23) a + S256x256.size a ≤ S2560x256.size a := fun i v5429 v5463 k0_hw1 k0_t23 k0_h8 => k0_hw1.2.2.2.2.2.2.2.2.2.2.2.2.2.2.2.2.2.1 k0_t23 k0_h8
theorem k0_off100_inb : ∀ (i : grid0.Coords) (v5429 : BitVec 32) (v5463 : BitVec 32) (k0_hw1 : k0_chk1 i v5429 v5463) (k0_t23 : Fin (k0_t23_loop i v5463).trips), ∀ (k0_h8 : k0_cond8 v5429 = 1#1), ∀ a, (k0_off100 i v5463 k0_t23) a + S1x256x512.size a ≤ S1x2560x640.size a := fun i v5429 v5463 k0_hw1 k0_t23 k0_h8 => k0_hw1.2.2.2.2.2.2.2.2.2.2.2.2.2.2.2.2.2.2.1 k0_t23 k0_h8
theorem k0_off101_inb : ∀ (i : grid0.Coords) (v5429 : BitVec 32) (v5463 : BitVec 32) (k0_hw1 : k0_chk1 i v5429 v5463) (k0_t23 : Fin (k0_t23_loop i v5463).trips), ∀ (k0_h8 : k0_cond8 v5429 = 1#1), ∀ a, (k0_off101 i v5463 k0_t23) a + S1x256x128.size a ≤ S1x2560x640.size a := fun i v5429 v5463 k0_hw1 k0_t23 k0_h8 => k0_hw1.2.2.2.2.2.2.2.2.2.2.2.2.2.2.2.2.2.2.2.1 k0_t23 k0_h8
theorem k0_off102_inb : ∀ (i : grid0.Coords) (v5429 : BitVec 32) (v5463 : BitVec 32) (k0_hw1 : k0_chk1 i v5429 v5463) (k0_t23 : Fin (k0_t23_loop i v5463).trips), ∀ (k0_h8 : k0_cond8 v5429 = 1#1), ∀ a, (k0_off102 i v5463 k0_t23) a + S256x640.size a ≤ S2560x640.size a := fun i v5429 v5463 k0_hw1 k0_t23 k0_h8 => k0_hw1.2.2.2.2.2.2.2.2.2.2.2.2.2.2.2.2.2.2.2.2.1 k0_t23 k0_h8
theorem k0_t24_ok : ∀ (i : grid0.Coords) (v5429 : BitVec 32) (v5463 : BitVec 32) (k0_hw1 : k0_chk1 i v5429 v5463), ∀ (k0_h8 : k0_cond8 v5429 = 1#1), (k0_t24_loop i v5463).OK := fun i v5429 v5463 k0_hw1 k0_h8 => k0_hw1.2.2.2.2.2.2.2.2.2.2.2.2.2.2.2.2.2.2.2.2.2.1 k0_h8
theorem k0_mult33_dvd : ∀ (i : grid0.Coords) (v5429 : BitVec 32) (v5463 : BitVec 32) (k0_hw1 : k0_chk1 i v5429 v5463) (k0_t24 : Fin (k0_t24_loop i v5463).trips), ∀ (k0_h8 : k0_cond8 v5429 = 1#1), 256 ∣ (k0_mult33 i v5463 k0_t24).toNat := fun i v5429 v5463 k0_hw1 k0_t24 k0_h8 => k0_hw1.2.2.2.2.2.2.2.2.2.2.2.2.2.2.2.2.2.2.2.2.2.2.1 k0_t24 k0_h8
theorem k0_off103_inb : ∀ (i : grid0.Coords) (v5429 : BitVec 32) (v5463 : BitVec 32) (k0_hw1 : k0_chk1 i v5429 v5463) (k0_t24 : Fin (k0_t24_loop i v5463).trips), ∀ (k0_h8 : k0_cond8 v5429 = 1#1), ∀ a, (k0_off103 i v5463 k0_t24) a + S256x256.size a ≤ S2560x256.size a := fun i v5429 v5463 k0_hw1 k0_t24 k0_h8 => k0_hw1.2.2.2.2.2.2.2.2.2.2.2.2.2.2.2.2.2.2.2.2.2.2.2.1 k0_t24 k0_h8
theorem k0_off104_inb : ∀ (i : grid0.Coords) (v5429 : BitVec 32) (v5463 : BitVec 32) (k0_hw1 : k0_chk1 i v5429 v5463) (k0_t24 : Fin (k0_t24_loop i v5463).trips), ∀ (k0_h8 : k0_cond8 v5429 = 1#1), ∀ a, (k0_off104 i v5463 k0_t24) a + S1x256x512.size a ≤ S1x2560x640.size a := fun i v5429 v5463 k0_hw1 k0_t24 k0_h8 => k0_hw1.2.2.2.2.2.2.2.2.2.2.2.2.2.2.2.2.2.2.2.2.2.2.2.2.1 k0_t24 k0_h8
theorem k0_off105_inb : ∀ (i : grid0.Coords) (v5429 : BitVec 32) (v5463 : BitVec 32) (k0_hw1 : k0_chk1 i v5429 v5463) (k0_t24 : Fin (k0_t24_loop i v5463).trips), ∀ (k0_h8 : k0_cond8 v5429 = 1#1), ∀ a, (k0_off105 i v5463 k0_t24) a + S1x256x128.size a ≤ S1x2560x640.size a := fun i v5429 v5463 k0_hw1 k0_t24 k0_h8 => k0_hw1.2.2.2.2.2.2.2.2.2.2.2.2.2.2.2.2.2.2.2.2.2.2.2.2.2.1 k0_t24 k0_h8
theorem k0_off106_inb : ∀ (i : grid0.Coords) (v5429 : BitVec 32) (v5463 : BitVec 32) (k0_hw1 : k0_chk1 i v5429 v5463) (k0_t24 : Fin (k0_t24_loop i v5463).trips), ∀ (k0_h8 : k0_cond8 v5429 = 1#1), ∀ a, (k0_off106 i v5463 k0_t24) a + S256x640.size a ≤ S2560x640.size a := fun i v5429 v5463 k0_hw1 k0_t24 k0_h8 => k0_hw1.2.2.2.2.2.2.2.2.2.2.2.2.2.2.2.2.2.2.2.2.2.2.2.2.2.2 k0_t24 k0_h8

def k0_cond3 (v5429 : BitVec 32) : BitVec 1 :=
  let c0_i32_2030 : BitVec 32 := 0#32
  let v5430 : BitVec 1 := Scalar.cmpi .sgt v5429 c0_i32_2030
  let c128_i32 : BitVec 32 := 128#32
  let v5431 : BitVec 1 := Scalar.cmpi .sle v5429 c128_i32
  let v5432 : BitVec 1 := Scalar.andi v5430 v5431
  let v5433 : BitVec 32 := Scalar.extui v5432
  let c0_i32_2031 : BitVec 32 := 0#32
  let v5434 : BitVec 1 := Scalar.cmpi .ne v5433 c0_i32_2031
  v5434

def k0_cond4 (v5429 : BitVec 32) : BitVec 1 :=
  let c128_i32_2032 : BitVec 32 := 128#32
  let v5435 : BitVec 1 := Scalar.cmpi .sgt v5429 c128_i32_2032
  let c256_i32 : BitVec 32 := 256#32
  let v5436 : BitVec 1 := Scalar.cmpi .sle v5429 c256_i32
  let v5437 : BitVec 1 := Scalar.andi v5435 v5436
  let v5438 : BitVec 32 := Scalar.extui v5437
  let c0_i32_2033 : BitVec 32 := 0#32
  let v5439 : BitVec 1 := Scalar.cmpi .ne v5438 c0_i32_2033
  v5439

def k0_cond5 (v5429 : BitVec 32) : BitVec 1 :=
  let c256_i32_2034 : BitVec 32 := 256#32
  let v5440 : BitVec 1 := Scalar.cmpi .sgt v5429 c256_i32_2034
  let c384_i32 : BitVec 32 := 384#32
  let v5441 : BitVec 1 := Scalar.cmpi .sle v5429 c384_i32
  let v5442 : BitVec 1 := Scalar.andi v5440 v5441
  let v5443 : BitVec 32 := Scalar.extui v5442
  let c0_i32_2035 : BitVec 32 := 0#32
  let v5444 : BitVec 1 := Scalar.cmpi .ne v5443 c0_i32_2035
  v5444

def k0_cond6 (v5429 : BitVec 32) : BitVec 1 :=
  let c384_i32_2036 : BitVec 32 := 384#32
  let v5445 : BitVec 1 := Scalar.cmpi .sgt v5429 c384_i32_2036
  let c512_i32 : BitVec 32 := 512#32
  let v5446 : BitVec 1 := Scalar.cmpi .sle v5429 c512_i32
  let v5447 : BitVec 1 := Scalar.andi v5445 v5446
  let v5448 : BitVec 32 := Scalar.extui v5447
  let c0_i32_2037 : BitVec 32 := 0#32
  let v5449 : BitVec 1 := Scalar.cmpi .ne v5448 c0_i32_2037
  v5449

def k0_cond7 (v5429 : BitVec 32) : BitVec 1 :=
  let c512_i32_2038 : BitVec 32 := 512#32
  let v5450 : BitVec 1 := Scalar.cmpi .sgt v5429 c512_i32_2038
  let c768_i32 : BitVec 32 := 768#32
  let v5451 : BitVec 1 := Scalar.cmpi .sle v5429 c768_i32
  let v5452 : BitVec 1 := Scalar.andi v5450 v5451
  let v5453 : BitVec 32 := Scalar.extui v5452
  let c0_i32_2039 : BitVec 32 := 0#32
  let v5454 : BitVec 1 := Scalar.cmpi .ne v5453 c0_i32_2039
  v5454

def k0_cond2 (i : grid0.Coords) : BitVec 1 :=
  let arg0 : BitVec 32 := BitVec.ofNat 32 (i 0).val
  let c80_i32 : BitVec 32 := 80#32
  let v0 : BitVec 32 := Scalar.remsi arg0 c80_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c80_i32_4 : BitVec 32 := 80#32
  let c0_i32_5 : BitVec 32 := 0#32
  let v17 : BitVec 1 := Scalar.cmpi .eq c80_i32_4 c0_i32_5
  let c1_i32_6 : BitVec 32 := 1#32
  let v18 : BitVec 32 := Scalar.select v17 c1_i32_6 c80_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  let c0_i32_18 : BitVec 32 := 0#32
  ![v16.toNat, c0_i32_16.toNat, c0_i32_17.toNat, v43.toNat]

def cc0_transform_11 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 1 → Memref sig .tc .vmem S160x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2560x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== Reference.lean ====
abbrev S160 : Shape := ⟨1, ![160]⟩
abbrev S160x128 : Shape := ⟨2, ![160, 128]⟩
abbrev S163840x512 : Shape := ⟨2, ![163840, 512]⟩
abbrev S163840x64 : Shape := ⟨2, ![163840, 64]⟩
abbrev S5120x640 : Shape := ⟨2, ![5120, 640]⟩
abbrev S655360x128 : Shape := ⟨2, ![655360, 128]⟩
abbrev S655360 : Shape := ⟨1, ![655360]⟩
abbrev S655360x1 : Shape := ⟨2, ![655360, 1]⟩
abbrev S2x2560x32x512 : Shape := ⟨4, ![2, 2560, 32, 512]⟩
abbrev S2x2560x32x64 : Shape := ⟨4, ![2, 2560, 32, 64]⟩
abbrev S2x2560x640 : Shape := ⟨3, ![2, 2560, 640]⟩
abbrev S2x2560x512 : Shape := ⟨3, ![2, 2560, 512]⟩
abbrev S2x2560x64 : Shape := ⟨3, ![2, 2560, 64]⟩
abbrev S160x32 : Shape := ⟨2, ![160, 32]⟩
abbrev S2x2560 : Shape := ⟨2, ![2, 2560]⟩
abbrev S2560 : Shape := ⟨1, ![2560]⟩
abbrev S1x1x2560 : Shape := ⟨3, ![1, 1, 2560]⟩
abbrev S1x2560x1 : Shape := ⟨3, ![1, 2560, 1]⟩
abbrev S1x2560x2560 : Shape := ⟨3, ![1, 2560, 2560]⟩
abbrev S2x2560x1 : Shape := ⟨3, ![2, 2560, 1]⟩
abbrev S2x2560x2560 : Shape := ⟨3, ![2, 2560, 2560]⟩
abbrev S2x2560x32x2560 : Shape := ⟨4, ![2, 2560, 32, 2560]⟩
abbrev S2x2560x1x2560 : Shape := ⟨4, ![2, 2560, 1, 2560]⟩
abbrev S_ : Shape := ⟨0, ![]⟩
abbrev S2x2560x32 : Shape := ⟨3, ![2, 2560, 32]⟩
abbrev S2x2560x32x1 : Shape := ⟨4, ![2, 2560, 32, 1]⟩
abbrev S160x4x256 : Shape := ⟨3, ![160, 4, 256]⟩

abbrev nBuf : Space → Nat
  | .hbm => 99
  | .vmem => 3
  | .smem => 0
  | _ => 0

abbrev bufTy : (tb : Table) → Fin (tcTables nBuf tb) → BufTy
  | .hbm, ⟨0, _⟩ => ⟨S160, .i32⟩
  | .hbm, ⟨1, _⟩ => ⟨S160x128, .i32⟩
  | .hbm, ⟨2, _⟩ => ⟨S163840x512, .bf16⟩
  | .hbm, ⟨3, _⟩ => ⟨S163840x64, .bf16⟩
  | .hbm, ⟨4, _⟩ => ⟨S163840x512, .bf16⟩
  | .hbm, ⟨5, _⟩ => ⟨S5120x640, .bf16⟩
  | .hbm, ⟨6, _⟩ => ⟨S655360x128, .bf16⟩
  | .hbm, ⟨7, _⟩ => ⟨S163840x512, .fp8e4m3⟩
  | .hbm, ⟨8, _⟩ => ⟨S655360x128, .bf16⟩
  | .hbm, ⟨9, _⟩ => ⟨S2x2560x32x512, .bf16⟩
  | .hbm, ⟨10, _⟩ => ⟨S2x2560x32x64, .bf16⟩
  | .hbm, ⟨11, _⟩ => ⟨S2x2560x32x512, .bf16⟩
  | .hbm, ⟨12, _⟩ => ⟨S2x2560x640, .bf16⟩
  | .hbm, ⟨13, _⟩ => ⟨S2x2560x512, .bf16⟩
  | .hbm, ⟨14, _⟩ => ⟨S2x2560x64, .bf16⟩
  | .hbm, ⟨15, _⟩ => ⟨S160x32, .i32⟩
  | .hbm, ⟨16, _⟩ => ⟨S2x2560, .i32⟩
  | .hbm, ⟨17, _⟩ => ⟨S2560, .i32⟩
  | .hbm, ⟨18, _⟩ => ⟨S1x1x2560, .i32⟩
  | .hbm, ⟨19, _⟩ => ⟨S1x2560x1, .i32⟩
  | .hbm, ⟨20, _⟩ => ⟨S1x2560x2560, .i32⟩
  | .hbm, ⟨21, _⟩ => ⟨S1x2560x2560, .i32⟩
  | .hbm, ⟨22, _⟩ => ⟨S1x2560x2560, .i1⟩
  | .hbm, ⟨23, _⟩ => ⟨S1x1x2560, .i32⟩
  | .hbm, ⟨24, _⟩ => ⟨S2x2560x1, .i32⟩
  | .hbm, ⟨25, _⟩ => ⟨S2x2560x2560, .i32⟩
  | .hbm, ⟨26, _⟩ => ⟨S2x2560x2560, .i32⟩
  | .hbm, ⟨27, _⟩ => ⟨S2x2560x2560, .i1⟩
  | .hbm, ⟨28, _⟩ => ⟨S2x2560x2560, .i1⟩
  | .hbm, ⟨29, _⟩ => ⟨S2x2560x2560, .i1⟩
  | .hbm, ⟨30, _⟩ => ⟨S2x2560x32x2560, .f32⟩
  | .hbm, ⟨31, _⟩ => ⟨S2x2560x32x2560, .f32⟩
  | .hbm, ⟨32, _⟩ => ⟨S2x2560x32x2560, .f32⟩
  | .hbm, ⟨33, _⟩ => ⟨S2x2560x1x2560, .i1⟩
  | .hbm, ⟨34, _⟩ => ⟨S_, .f32⟩
  | .hbm, ⟨35, _⟩ => ⟨S2x2560x32x2560, .f32⟩
  | .hbm, ⟨36, _⟩ => ⟨S2x2560x32x2560, .f32⟩
  | .hbm, ⟨37, _⟩ => ⟨S_, .f32⟩
  | .hbm, ⟨38, _⟩ => ⟨S_, .f32⟩
  | .hbm, ⟨39, _⟩ => ⟨S2x2560x32x2560, .i1⟩
  | .hbm, ⟨40, _⟩ => ⟨S2x2560x32x2560, .f32⟩
  | .hbm, ⟨41, _⟩ => ⟨S2x2560x32x2560, .f32⟩
  | .hbm, ⟨42, _⟩ => ⟨S_, .f32⟩
  | .hbm, ⟨43, _⟩ => ⟨S2x2560x32, .f32⟩
  | .hbm, ⟨44, _⟩ => ⟨S2x2560x32x1, .f32⟩
  | .hbm, ⟨45, _⟩ => ⟨S2x2560x32x1, .f32⟩
  | .hbm, ⟨46, _⟩ => ⟨S_, .f32⟩
  | .hbm, ⟨47, _⟩ => ⟨S_, .f32⟩
  | .hbm, ⟨48, _⟩ => ⟨S2x2560x32x2560, .f32⟩
  | .hbm, ⟨49, _⟩ => ⟨S2x2560x32x2560, .f32⟩
  | .hbm, ⟨50, _⟩ => ⟨S2x2560x32x2560, .f32⟩
  | .hbm, ⟨51, _⟩ => ⟨S2x2560x32x2560, .f32⟩
  | .hbm, ⟨52, _⟩ => ⟨S2x2560x32x2560, .f32⟩
  | .hbm, ⟨53, _⟩ => ⟨S_, .f32⟩
  | .hbm, ⟨54, _⟩ => ⟨S2x2560x32, .f32⟩
  | .hbm, ⟨55, _⟩ => ⟨S2x2560x32x2560, .bf16⟩
  | .hbm, ⟨56, _⟩ => ⟨S2x2560x32x512, .f32⟩
  | .hbm, ⟨57, _⟩ => ⟨S_, .f32⟩
  | .hbm, ⟨58, _⟩ => ⟨S2x2560x32, .f32⟩
  | .hbm, ⟨59, _⟩ => ⟨S2x2560x32, .f32⟩
  | .hbm, ⟨60, _⟩ => ⟨S2x2560x32x1, .f32⟩
  | .hbm, ⟨61, _⟩ => ⟨S2x2560x32x512, .f32⟩
  | .hbm, ⟨62, _⟩ => ⟨S2x2560x32x512, .f32⟩
  | .hbm, ⟨63, _⟩ => ⟨S2x2560x32, .f32⟩
  | .hbm, ⟨64, _⟩ => ⟨S2x2560x32, .f32⟩
  | .hbm, ⟨65, _⟩ => ⟨S2x2560x32, .f32⟩
  | .hbm, ⟨66, _⟩ => ⟨S2x2560x32, .f32⟩
  | .hbm, ⟨67, _⟩ => ⟨S2x2560x32, .f32⟩
  | .hbm, ⟨68, _⟩ => ⟨S2x2560x32, .f32⟩
  | .hbm, ⟨69, _⟩ => ⟨S2x2560x32, .f32⟩
  | .hbm, ⟨70, _⟩ => ⟨S_, .f32⟩
  | .hbm, ⟨71, _⟩ => ⟨S2x2560x32, .f32⟩
  | .hbm, ⟨72, _⟩ => ⟨S2x2560x32, .f32⟩
  | .hbm, ⟨73, _⟩ => ⟨S2x2560x32x1, .f32⟩
  | .hbm, ⟨74, _⟩ => ⟨S2x2560x32x2560, .f32⟩
  | .hbm, ⟨75, _⟩ => ⟨S2x2560x32x2560, .f32⟩
  | .hbm, ⟨76, _⟩ => ⟨S2x2560x32x2560, .f32⟩
  | .hbm, ⟨77, _⟩ => ⟨S2x2560x32x512, .f32⟩
  | .hbm, ⟨78, _⟩ => ⟨S2x2560x32x512, .f32⟩
  | .hbm, ⟨79, _⟩ => ⟨S_, .f32⟩
  | .hbm, ⟨80, _⟩ => ⟨S2x2560x32, .f32⟩
  | .hbm, ⟨81, _⟩ => ⟨S2x2560x32x1, .f32⟩
  | .hbm, ⟨82, _⟩ => ⟨S2x2560x32x2560, .f32⟩
  | .hbm, ⟨83, _⟩ => ⟨S2x2560x32x2560, .f32⟩
  | .hbm, ⟨84, _⟩ => ⟨S2x2560x32x2560, .f32⟩
  | .hbm, ⟨85, _⟩ => ⟨S2x2560x32x2560, .bf16⟩
  | .hbm, ⟨86, _⟩ => ⟨S2x2560x32x512, .f32⟩
  | .hbm, ⟨87, _⟩ => ⟨S_, .f32⟩
  | .hbm, ⟨88, _⟩ => ⟨S2x2560x32x512, .f32⟩
  | .hbm, ⟨89, _⟩ => ⟨S2x2560x32x512, .f32⟩
  | .hbm, ⟨90, _⟩ => ⟨S2x2560x32x64, .f32⟩
  | .hbm, ⟨91, _⟩ => ⟨S_, .f32⟩
  | .hbm, ⟨92, _⟩ => ⟨S2x2560x32x64, .f32⟩
  | .hbm, ⟨93, _⟩ => ⟨S2x2560x32x64, .f32⟩
  | .hbm, ⟨94, _⟩ => ⟨S2x2560x32x512, .bf16⟩
  | .hbm, ⟨95, _⟩ => ⟨S163840x512, .bf16⟩
  | .hbm, ⟨96, _⟩ => ⟨S160x4x256, .f32⟩
  | .hbm, ⟨97, _⟩ => ⟨S163840x512, .f32⟩
  | .hbm, ⟨98, _⟩ => ⟨S163840x64, .f32⟩
  | .local _ .vmem, ⟨0, _⟩ => ⟨S655360x128, .bf16⟩
  | .local _ .vmem, ⟨1, _⟩ => ⟨S163840x512, .fp8e4m3⟩
  | .local _ .vmem, ⟨2, _⟩ => ⟨S655360x128, .bf16⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S655360x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S163840x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S655360x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Struct.lean ====
module

public import Idealize.ShloMosaic.Lib.Tactic
public import Idealize.ShloMosaic.PureOps

@[expose] public section

noncomputable section

namespace Attn

open Idealize.ShloMosaic Idealize.SL.Sem

/-- The shape of a matrix of `n` rows and `m` lanes. -/
abbrev M (n m : Nat) : Shape := ⟨2, ![n, m]⟩

/-- The memrefs of the body, and that each is a whole buffer. -/
structure Args (sig : RefSig) where
  a1 : Memref sig .tc .smem ⟨1, ![160]⟩ .i32
  a2 : Memref sig .tc .vmem (M 160 128) .i32
  a3 : Memref sig .tc .vmem (M 1024 512) .bf16
  a4 : Memref sig .tc .vmem (M 1024 64) .bf16
  a5 : Memref sig .tc .vmem (M 1024 512) .bf16
  a6 : Memref sig .tc .vmem (M 2560 640) .bf16
  a7 : Memref sig .tc .vmem (M 1024 512) .bf16
  a8 : Memref sig .tc .vmem ⟨3, ![1, 4, 256]⟩ .f32
  a9 : Memref sig .tc .vmem (M 1024 512) .f32
  a10 : Memref sig .tc .vmem (M 1024 64) .f32
  a11 : Memref sig .tc .vmem (M 1024 512) .fp8e4m3
  a12 : Memref sig .tc .vmem ⟨4, ![1, 32, 4, 128]⟩ .f32
  a13 : Memref sig .tc .vmem ⟨3, ![1, 2560, 640]⟩ .f32
  a14 : Memref sig .tc .vmem (M 1024 768) .bf16
  a15 : Memref sig .tc .vmem (M 768 1024) .bf16
  a16 : Memref sig .tc .vmem (M 768 1024) .bf16
  a17 : Memref sig .tc .vmem (M 2560 256) .f32
  a18 : Memref sig .tc .vmem (M 2560 256) .f32
  h7 : a7.IsWhole
  h11 : a11.IsWhole
  h14 : a14.IsWhole
  h15 : a15.IsWhole
  h16 : a16.IsWhole

/-- The three constants that carry names: `log2 e`, `log 2` and the mask's bias. -/
structure Consts (F : FTy → Type) where
  lg : F .f32
  ln : F .f32
  mask : F .f32

section
variable {nD : Nat} {τ : Topo} {sig : RefSig} {Λ : Labels} {F : FTy → Type} [FloatOps F]

/-- The programs of the body. -/
abbrev Pg (nD : Nat) (τ : Topo) (sig : RefSig) (Λ : Labels) (F : FTy → Type) [FloatOps F] (α : Type) :=
  Prog (TpuEff nD τ sig (Elt F) Λ .tc) α

/-- A load of a rectangle. -/
def ld {s : Shape} {e : EltTy} (m : Memref sig .tc .vmem s e) (sz : Fin s.rank → Nat) (off : Fin s.rank → Nat)
    (inb : ∀ a, off a + sz a ≤ s.size a) (h : 0 < Shape.numel ⟨s.rank, sz⟩) : Pg nD τ sig Λ F (Vec F ⟨s.rank, sz⟩ e) :=
  Prog.lift (.load m (Rect.unit (s := s) off sz inb).toLoadRect (View.loadsAt_vmem h))

/-- A store of a rectangle. -/
def st {s : Shape} {e : EltTy} (m : Memref sig .tc .vmem s e) (sz : Fin s.rank → Nat) (off : Fin s.rank → Nat)
    (inb : ∀ a, off a + sz a ≤ s.size a) (v : Vec F ⟨s.rank, sz⟩ e) (h : (m.access (Rect.unit (s := s) off sz inb)).Stores Finset.univ) :
    Pg nD τ sig Λ F PUnit :=
  Prog.lift (.store m (Rect.unit (s := s) off sz inb) v Finset.univ h (.inl rfl))

/-- A store of a rectangle whose old contents are loaded first. -/
def ldst {s : Shape} {e : EltTy} (m : Memref sig .tc .vmem s e) (sz : Fin s.rank → Nat) (off : Fin s.rank → Nat)
    (inb : ∀ a, off a + sz a ≤ s.size a) (h0 : 0 < Shape.numel ⟨s.rank, sz⟩)
    (h : (m.access (Rect.unit (s := s) off sz inb)).Stores Finset.univ) (v : Vec F ⟨s.rank, sz⟩ e) :
    Pg nD τ sig Λ F PUnit := do
  let _ ← ld m sz off inb h0
  st m sz off inb v h

/-! ### The quantiser -/

/-- The scaled row maximum of a block. -/
def qAmax (x : Vec F (M 32 128) .bf16) : FVec F (M 32 1) .f32 :=
  mulf (shapeCast (M 32 1) (multiReduction .maximumf [1] ⟨1, ![32]⟩ (absf (extf .f32 (x : FVec F (M 32 128) .bf16) (by decide))) 0xFF800000#32 (by decide) (.inl rfl) rfl) (by decide))
    (broadcast (M 32 1) (Scalar.ofBits .f32 0x3B124925#32))

/-- The exponent of a block's row. -/
def qExp (C : Consts F) (x : Vec F (M 32 128) .bf16) : FVec F (M 32 1) .f32 :=
  select (cmpf .oeq (qAmax x) (broadcast (M 32 1) (Scalar.ofBits .f32 0x00000000#32))) (broadcast (M 32 1) (Scalar.ofBits .f32 0xBF800000#32))
    (floor (mulf (log (qAmax x)) (broadcast (M 32 1) C.lg)))

/-- The scale of a block's row. -/
def qScale (C : Consts F) (x : Vec F (M 32 128) .bf16) : FVec F (M 32 1) .f32 :=
  exp2 (addf (qExp C x) (broadcast (M 32 1) (Scalar.ofBits .f32 0x3F800000#32)))

/-- The codes of a block. -/
def qCodes (C : Consts F) (x : Vec F (M 32 128) .bf16) : FVec F (M 32 128) .fp8e4m3 :=
  truncf .fp8e4m3 (minimumf (broadcast (M 32 128) (Scalar.ofBits .f32 0x43E00000#32))
    (maximumf (broadcast (M 32 128) (Scalar.ofBits .f32 0xC3E00000#32))
      (mulf (extf .f32 (x : FVec F (M 32 128) .bf16) (by decide)) (broadcastTo (M 32 128) (exp2 (subf (broadcast (M 32 1) (Scalar.ofBits .f32 0xBF800000#32)) (qExp C x))) (by decide))))) (by decide)

/-- The codes times their scale. -/
def qDeq (C : Consts F) (x : Vec F (M 32 128) .bf16) : FVec F (M 32 128) .bf16 :=
  mulf (extf .bf16 (qCodes C x) (by decide)) (broadcastTo (M 32 128) (truncf .bf16 (qScale C x) (by decide)) (by decide))

theorem inbQ (t : Fin 32) (k : Fin 4) (w : Nat) (hw : 512 ≤ w) : ∀ a, (![32 * t.val, 128 * k.val] : Fin 2 → Nat) a + (M 32 128).size a ≤ (M 1024 w).size a := by
  intro a; fin_cases a
  · show 32 * t.val + 32 ≤ 1024; omega
  · show 128 * k.val + 128 ≤ w; omega

theorem packedQ (t : Fin 32) (k : Fin 4) (w : Nat) (hw : 512 ≤ w) (p : Nat) (hp : p ∣ 32) :
    (Rect.unit (s := M 1024 w) ![32 * t.val, 128 * k.val] (M 32 128).size (inbQ t k w hw)).PackedRows p :=
  .inr ⟨Nat.le_refl 2, rfl, .inl ⟨Dvd.dvd.mul_right hp _, hp⟩⟩

/-- One token of one lane block: its codes and its dequantised values stored, its scale put in its lane. -/
def qTok (A : Args sig) (C : Consts F) (lane : IVec (M 32 128) 32) (lane0 : BitVec 32) (k : Fin 4) (t : Fin 32)
    (packed : FVec F (M 32 128) .f32) : Pg nD τ sig Λ F (FVec F (M 32 128) .f32) := do
  let x ← ld A.a3 (M 32 128).size ![32 * t.val, 128 * k.val] (inbQ t k 512 (by omega)) (by decide)
  ldst A.a11 (M 32 128).size ![32 * t.val, 128 * k.val] (inbQ t k 512 (by omega)) (by decide)
    (View.stores_vmem (show 0 < (M 32 128).numel by decide) (A.h11.storeExact_slice rfl _ (packedQ t k 512 (by omega) _ (show EltTy.packing .fp8e4m3 ∣ 32 by decide))) (fun _ => rfl)) (qCodes C x)
  ldst A.a14 (M 32 128).size ![32 * t.val, 128 * k.val] (inbQ t k 768 (by omega)) (by decide)
    (View.stores_vmem (show 0 < (M 32 128).numel by decide) (A.h14.storeExact_slice rfl _ (packedQ t k 768 (by omega) _ (show EltTy.packing .bf16 ∣ 32 by decide))) (fun _ => rfl)) (shapeCast (M 32 128) (qDeq C x) rfl)
  pure (select (cmpi .eq lane (broadcast (M 32 128) (Scalar.addi lane0 (BitVec.ofNat 32 t.val))))
    (broadcastTo (M 32 128) (shapeCast (M 32 1) (qScale C x) rfl) (by decide)) packed)

theorem inbS (k : Fin 4) : ∀ a, (![0, 0, k.val, 0] : Fin 4 → Nat) a + (![1, 32, 1, 128] : Fin 4 → Nat) a ≤ (![1, 32, 4, 128] : Fin 4 → Nat) a := by
  intro a; fin_cases a
  · show 0 + 1 ≤ 1; omega
  · show 0 + 32 ≤ 32; omega
  · show k.val + 1 ≤ 4; omega
  · show 0 + 128 ≤ 128; omega

/-- The tokens from `t` on, in order. -/
def qToks (A : Args sig) (C : Consts F) (lane : IVec (M 32 128) 32) (lane0 : BitVec 32) (k : Fin 4) :
    List (Fin 32) → FVec F (M 32 128) .f32 → Pg nD τ sig Λ F (FVec F (M 32 128) .f32)
  | [], packed => pure packed
  | t :: l, packed => do
    let p ← qTok A C lane lane0 k t packed
    qToks A C lane lane0 k l p

/-- One lane block: every token, and the packed scales stored. -/
def qBlk (A : Args sig) (C : Consts F) (lane : IVec (M 32 128) 32) (lane0 : BitVec 32) (first : BitVec 1) (k : Fin 4) : Pg nD τ sig Λ F PUnit := do
  let v ← ld A.a12 ![1, 32, 1, 128] ![0, 0, k.val, 0] (inbS k) (by decide)
  let p ← qToks A C lane lane0 k
    [0, 1, 2, 3, 4, 5, 6, 7, 8, 9, 10, 11, 12, 13, 14, 15, 16, 17, 18, 19, 20, 21, 22, 23, 24, 25, 26, 27, 28, 29, 30, 31]
    (Scalar.select first (broadcast (M 32 128) (Scalar.ofBits .f32 0x00000000#32)) (shapeCast (M 32 128) v (by decide)))
  ldst A.a12 ![1, 32, 1, 128] ![0, 0, k.val, 0] (inbS k) (by decide) (View.stores_vmem_bits_univ (show 0 < Shape.numel ⟨4, ![1, 32, 1, 128]⟩ by decide) rfl) (shapeCast ⟨4, ![1, 32, 1, 128]⟩ p (by decide))

/-! ### Before the windows -/

/-- Row `r`'s token is `r / 32`: the one-hot rows that pick a token's mask lane. -/
def oneHot : FVec F (M 1024 128) .bf16 :=
  let v5458 : IVec (M 1024 128) 32 := iota .tc (M 1024 128) 32 [0] (by decide)
  let v5460 : IVec (M 1024 128) 32 := divsi v5458 (broadcast (M 1024 128) 32#32)
  let v5463 : IVec (M 1024 128) 32 := extui 32 (cmpi .sgt v5458 (broadcast (M 1024 128) 0#32)) (by decide)
  let v5466 : IVec (M 1024 128) 32 := extui 32 (cmpi .slt v5458 (broadcast (M 1024 128) 0#32)) (by decide)
  let v5467 : IVec (M 1024 128) 32 := subi v5463 v5466
  let v5469 : BitVec 32 := Scalar.extui (Scalar.cmpi .sgt 32#32 0#32)
  let v5471 : BitVec 32 := Scalar.extui (Scalar.cmpi .slt 32#32 0#32)
  let v5474 : IVec (M 1024 128) 1 := cmpi .ne v5467 (broadcast (M 1024 128) (Scalar.subi v5469 v5471))
  let v5478 : IVec (M 1024 128) 1 := cmpi .ne (remsi v5458 (broadcast (M 1024 128) 32#32)) (broadcast (M 1024 128) 0#32)
  let v5482 : IVec (M 1024 128) 32 := select (andi v5474 v5478) (subi v5460 (broadcast (M 1024 128) 1#32)) v5460
  truncf .bf16 (sitofp .f32 (extui 32 (cmpi .eq v5482 (iota .tc (M 1024 128) 32 [1] (by decide))) (by decide))) (by decide)

/-- The step within its batch. -/
def stepB (g : BitVec 32) : BitVec 32 := Scalar.remsi g 80#32

/-- The conditions of the first step of all, and of a batch's first. -/
def condOf (b : BitVec 1) : BitVec 1 := Scalar.cmpi .ne (Scalar.extui b : BitVec 32) 0#32

/-- The first store: the one-hot lanes. -/
def proHot (A : Args sig) (g : BitVec 32) : Pg nD τ sig Λ F PUnit :=
  if h : condOf (Scalar.cmpi .eq g 0#32) = 1#1 then do
    ldst A.a14 (M 1024 128).size ![0, 640] (by decide) (by decide)
      (View.stores_vmem (show 0 < (M 1024 128).numel by decide) (A.h14.storeExact_slice rfl _ (by decide)) (fun _ => rfl)) (shapeCast (M 1024 128) oneHot rfl)
    pure ⟨⟩
  else pure ⟨⟩

/-- The second: the accumulator cleared. -/
def proAcc (A : Args sig) (g : BitVec 32) : Pg nD τ sig Λ F PUnit :=
  if h : condOf (Scalar.cmpi .eq (stepB g) 0#32) = 1#1 then do
    ldst A.a13 ![1, 2560, 640] ![0, 0, 0] (by decide) (by decide)
      (View.stores_vmem_bits_univ (show 0 < Shape.numel ⟨3, ![1, 2560, 640]⟩ by decide) rfl) (broadcast ⟨3, ![1, 2560, 640]⟩ (Scalar.ofBits .f32 0x00000000#32))
    pure ⟨⟩
  else pure ⟨⟩

/-- The rotary part of the queries beside zeros. -/
def qrPad (x : Vec F (M 1024 64) .bf16) : FVec F (M 1024 128) .bf16 :=
  concatenate (M 1024 128) 1 [⟨M 1024 64, x⟩, ⟨M 1024 64, broadcast (M 1024 64) (Scalar.ofBits .bf16 0x0000#16)⟩] (show Shape.Concatenates [M 1024 64, M 1024 64] (M 1024 128) 1 by decide)

/-- Lane blocks, and the rotary lanes: everything stored before the windows but for the two conditional stores. -/
def pro (A : Args sig) (C : Consts F) (g : BitVec 32) : Pg nD τ sig Λ F PUnit := do
  let lane : IVec (M 32 128) 32 := iota .tc (M 32 128) 32 [1] (by decide)
  let lane0 := Scalar.muli (Scalar.remsi (stepB g) 4#32) 32#32
  let first := Scalar.cmpi .eq (Scalar.remsi (stepB g) 4#32) 0#32
  qBlk A C lane lane0 first 0
  qBlk A C lane lane0 first 1
  qBlk A C lane lane0 first 2
  qBlk A C lane lane0 first 3
  let qr ← ld A.a4 (M 1024 64).size ![0, 0] (by decide) (by decide)
  ldst A.a14 (M 1024 128).size ![0, 512] (by decide) (by decide)
    (View.stores_vmem (show 0 < (M 1024 128).numel by decide) (A.h14.storeExact_slice rfl _ (by decide)) (fun _ => rfl)) (shapeCast (M 1024 128) (qrPad qr) rfl)

/-! ### A window of `n` keys -/

/-- What the operations on a window of `n` keys ask of `n`. -/
structure WF (n : Nat) : Prop where
  p128 : 0 < (M n 128).numel
  p256 : 0 < (M n 256).numel
  p512 : 0 < (M n 512).numel
  p640 : 0 < (M n 640).numel
  p1024 : 0 < (M n 1024).numel
  q128 : 0 < Shape.numel ⟨3, ![1, n, 128]⟩
  q512 : 0 < Shape.numel ⟨3, ![1, n, 512]⟩
  iota : (M n 128).Iotas .tc 32 [0]
  bc128 : (M 1 128).Broadcasts (M n 128)
  bc256 : (M 1 256).Broadcasts (M n 256)
  cat : Shape.Concatenates [M n 128, M n 128] (M n 256) 1
  dqk : DotDims.WF (M n 512) (M 256 512) (M n 256) [1] [1] [0] [0] [] []
  dqx : DotDims.WF (M n 256) (M 256 256) (M n 256) [1] [1] [0] [0] [] []
  dpv : DotDims.WF (M n 256) (M n 512) (M 256 512) [0] [0] [1] [1] [] []
  dds : DotDims.WF (M n 256) (M n 640) (M 256 640) [0] [0] [1] [1] [] []
  dkq : DotDims.WF (M n 1024) (M 1024 640) (M n 640) [1] [0] [0] [1] [] []
  dkv : DotDims.WF (M n 1024) (M 1024 512) (M n 512) [1] [0] [0] [1] [] []
  red : (M n 256).Reduces [0] ⟨1, ![256]⟩
  sl64 : (M n 256).Slices ![0, 0] (M 64 256)
  slk : (M n 640).Slices ![0, 0] (M n 512)
  slr : (M n 640).Slices ![0, 512] (M n 128)
  sc256 : (M n 256).ShapeCasts (M n 256)
  sc512 : Shape.ShapeCasts ⟨3, ![1, n, 512]⟩ (M n 512)
  sc512' : (M n 512).ShapeCasts ⟨3, ![1, n, 512]⟩
  sc128 : Shape.ShapeCasts ⟨3, ![1, n, 128]⟩ (M n 128)
  sc128' : (M n 128).ShapeCasts ⟨3, ![1, n, 128]⟩
  le768 : n ≤ 768
  dvd : 2 ∣ n

/-- Where a window's keys stand in the arrays. -/
structure WOff (n : Nat) where
  kr : Fin 2 → Nat
  kv : Fin 2 → Nat
  ss : Fin 2 → Nat
  kx : Fin 2 → Nat
  ac : Fin 3 → Nat
  ar : Fin 3 → Nat
  ikr : ∀ a, kr a + (M n 128).size a ≤ (M 2560 640).size a
  ikv : ∀ a, kv a + (M n 512).size a ≤ (M 2560 640).size a
  iss : ∀ a, ss a + (M n 256).size a ≤ (M 2560 256).size a
  ikx : ∀ a, kx a + (M n 640).size a ≤ (M 2560 640).size a
  iac : ∀ a, ac a + (![1, n, 512] : Fin 3 → Nat) a ≤ (![1, 2560, 640] : Fin 3 → Nat) a
  iar : ∀ a, ar a + (![1, n, 128] : Fin 3 → Nat) a ≤ (![1, 2560, 640] : Fin 3 → Nat) a

theorem inbR (u : Fin 4) (w v c : Nat) (hw : c + v ≤ w) : ∀ a, (![256 * u.val, c] : Fin 2 → Nat) a + (M 256 v).size a ≤ (M 1024 w).size a := by
  intro a; fin_cases a
  · show 256 * u.val + 256 ≤ 1024; omega
  · show c + v ≤ w; exact hw

theorem inbP (n : Nat) (u : Fin 4) (h : n ≤ 768) : ∀ a, (![0, 256 * u.val] : Fin 2 → Nat) a + (M n 256).size a ≤ (M 768 1024).size a := by
  intro a; fin_cases a
  · show 0 + n ≤ 768; omega
  · show 256 * u.val + 256 ≤ 1024; omega

theorem inbW (n : Nat) (h : n ≤ 768) : ∀ a, (![0, 0] : Fin 2 → Nat) a + (M n 1024).size a ≤ (M 768 1024).size a := by
  intro a; fin_cases a
  · show 0 + n ≤ 768; omega
  · show 0 + 1024 ≤ 1024; omega

theorem inbL (u : Fin 4) : ∀ a, (![0, u.val, 0] : Fin 3 → Nat) a + (![1, 1, 256] : Fin 3 → Nat) a ≤ (![1, 4, 256] : Fin 3 → Nat) a := by
  intro a; fin_cases a
  · show 0 + 1 ≤ 1; omega
  · show u.val + 1 ≤ 4; omega
  · show 0 + 256 ≤ 256; omega

theorem packedP (n : Nat) (u : Fin 4) (h : n ≤ 768) (hd : 2 ∣ n) :
    (Rect.unit (s := M 768 1024) ![0, 256 * u.val] (M n 256).size (inbP n u h)).PackedRows (EltTy.packing .bf16) :=
  .inr ⟨Nat.le_refl 2, rfl, .inl ⟨dvd_zero _, hd⟩⟩

theorem packedO (u : Fin 4) :
    (Rect.unit (s := M 1024 512) ![256 * u.val, 0] (M 256 512).size (inbR u 512 512 0 (by decide))).PackedRows (EltTy.packing .bf16) :=
  .inr ⟨Nat.le_refl 2, rfl, .inl ⟨Dvd.dvd.mul_right (show EltTy.packing .bf16 ∣ 256 by decide) _, show EltTy.packing .bf16 ∣ 256 by decide⟩⟩

/-- The rotary keys beside the mask's bias. -/
def ropeKeys {n : Nat} (W : WF n) (C : Consts F) (starts : IVec (M 1 128) 32) (qpos : IVec (M 1 128) 32) (k0 : BitVec 32)
    (kr : Vec F (M n 128) .bf16) : FVec F (M n 256) .bf16 :=
  let kpos : IVec (M n 128) 32 := addi (broadcast (M n 128) k0) (iota .tc (M n 128) 32 [0] W.iota)
  concatenate (M n 256) 1 [⟨M n 128, kr⟩, ⟨M n 128,
    truncf .bf16 (select (andi (cmpi .sge kpos (broadcastTo (M n 128) starts W.bc128)) (cmpi .sle kpos (broadcastTo (M n 128) qpos W.bc128)))
      (broadcast (M n 128) (Scalar.ofBits .f32 0x00000000#32)) (broadcast (M n 128) C.mask)) (by decide)⟩] W.cat

/-- The scores of the first 512 lanes. -/
def qkDot {n : Nat} (W : WF n) (kv : Vec F (M n 512) .bf16) (q : Vec F (M 256 512) .bf16) : FVec F (M n 256) .f32 :=
  matmul (⟨[1], [1], [0], [0], [], [], W.dqk⟩ : DotDims (M n 512) (M 256 512) (M n 256)) none kv q (constant (M n 256) .f32 0x00000000#32)

/-- The scores of the other lanes. -/
def qxDot {n : Nat} (W : WF n) (kr : FVec F (M n 256) .bf16) (q : Vec F (M 256 256) .bf16) : FVec F (M n 256) .f32 :=
  matmul (⟨[1], [1], [0], [0], [], [], W.dqx⟩ : DotDims (M n 256) (M 256 256) (M n 256)) none kr q (constant (M n 256) .f32 0x00000000#32)

/-- The greatest of each column. -/
def colMax {n : Nat} (W : WF n) (s : FVec F (M n 256) .f32) : FVec F (M 1 256) .f32 :=
  shapeCast (M 1 256) (multiReduction .maximumf [0] ⟨1, ![256]⟩ s 0xFF800000#32 W.red (.inl rfl) rfl) (by decide)

/-- The sum of each column. -/
def colSum {n : Nat} (W : WF n) (s : FVec F (M n 256) .f32) : FVec F (M 1 256) .f32 :=
  shapeCast (M 1 256) (multiReduction .add [0] ⟨1, ![256]⟩ s 0x00000000#32 W.red (.inl rfl) rfl) (by decide)

/-- The shift of a row: the scaled greatest score, rounded up. -/
def shiftOf (smax : FVec F (M 1 256) .f32) : FVec F (M 1 256) .f32 :=
  ceil (mulf smax (broadcast (M 1 256) (Scalar.ofBits .f32 0x3DD53B94#32)))

/-- The weights. -/
def expOf {n : Nat} (W : WF n) (s : FVec F (M n 256) .f32) (m : FVec F (M 1 256) .f32) : FVec F (M n 256) .f32 :=
  exp2 (subf (mulf s (broadcast (M n 256) (Scalar.ofBits .f32 0x3DD53B94#32))) (broadcastTo (M n 256) m W.bc256))

/-- One over. -/
def recip (den : FVec F (M 1 256) .f32) : FVec F (M 1 256) .f32 :=
  divf (broadcast (M 1 256) (Scalar.ofBits .f32 0x3F800000#32)) den

/-- The logarithm of the sum of a row's exponentials. -/
def lseOf (C : Consts F) (m den : FVec F (M 1 256) .f32) : FVec F (M 1 256) .f32 :=
  mulf (addf m (mulf (log den) (broadcast (M 1 256) C.lg))) (broadcast (M 1 256) C.ln)

/-- The greatest magnitude in the first 64 rows. -/
def rowScale {n : Nat} (W : WF n) (dp : FVec F (M n 256) .f32) : FVec F (M 1 256) .f32 :=
  shapeCast (M 1 256) (multiReduction .maximumf [0] ⟨1, ![256]⟩ (absf (extractStridedSlice (M 64 256) ![0, 0] dp W.sl64)) 0xFF800000#32 (by decide) (.inl rfl) rfl) (by decide)

/-- The weight of the gradient. -/
def gradWeight (m smax den rden dt scale : FVec F (M 1 256) .f32) : FVec F (M 1 256) .f32 :=
  let pmax : FVec F (M 1 256) .f32 := exp2 (subf (mulf smax (broadcast (M 1 256) (Scalar.ofBits .f32 0x3DD53B94#32))) m)
  let resid : FVec F (M 1 256) .f32 := mulf (absf (subf (extf .f32 (truncf .bf16 pmax (by decide) : FVec F (M 1 256) .bf16) (by decide)) pmax)) (absf dt)
  let noise : FVec F (M 1 256) .f32 := mulf pmax (mulf (broadcast (M 1 256) (Scalar.ofBits .f32 0x35800000#32)) (addf (absf dt) scale))
  select (andi (cmpf .oeq pmax den) (cmpf .ole resid noise)) (broadcast (M 1 256) (Scalar.ofBits .f32 0x00000000#32)) rden

/-- A row turned into a column. -/
def column (r : FVec F (M 1 256) .f32) : FVec F (M 256 1) .f32 :=
  extractStridedSlice (M 256 1) ![0, 0] (transpose (M 256 128) [1, 0] (broadcastTo (M 128 256) (shapeCast (M 1 256) r (by decide)) (by decide)) (by decide)) (by decide)

/-- The weighted values. -/
def pvDot {n : Nat} (W : WF n) (p : FVec F (M n 256) .bf16) (kv : Vec F (M n 512) .bf16) : FVec F (M 256 512) .f32 :=
  matmul (⟨[0], [0], [1], [1], [], [], W.dpv⟩ : DotDims (M n 256) (M n 512) (M 256 512)) none p kv (constant (M 256 512) .f32 0x00000000#32)

/-- The gradient of the queries. -/
def dsDot {n : Nat} (W : WF n) (p : FVec F (M n 256) .bf16) (kv : Vec F (M n 640) .bf16) : FVec F (M 256 640) .f32 :=
  matmul (⟨[0], [0], [1], [1], [], [], W.dds⟩ : DotDims (M n 256) (M n 640) (M 256 640)) none p kv (constant (M 256 640) .f32 0x00000000#32)

/-- The weighted values over the sum of the weights. -/
def outOf (o : FVec F (M 256 512) .f32) (rden : FVec F (M 1 256) .f32) : FVec F (M 256 512) .bf16 :=
  truncf .bf16 (mulf o (broadcastTo (M 256 512) (column rden) (by decide))) (by decide)

/-- `o` stored. -/
def stO (A : Args sig) (u : Fin 4) (v : FVec F (M 256 512) .bf16) : Pg nD τ sig Λ F PUnit :=
  ldst A.a7 (M 256 512).size ![256 * u.val, 0] (inbR u 512 512 0 (by decide)) (by decide)
    (View.stores_vmem (show 0 < (M 256 512).numel by decide) (A.h7.storeExact_slice rfl _ (packedO u)) (fun _ => rfl)) v

/-- `lse` stored. -/
def stL (A : Args sig) (u : Fin 4) (v : FVec F (M 1 256) .f32) : Pg nD τ sig Λ F PUnit :=
  ldst A.a8 ![1, 1, 256] ![0, u.val, 0] (inbL u) (by decide) (View.stores_vmem_bits_univ (show 0 < Shape.numel ⟨3, ![1, 1, 256]⟩ by decide) rfl) (shapeCast ⟨3, ![1, 1, 256]⟩ v (by decide))

/-- The gradient of the queries stored. -/
def stDq (A : Args sig) (u : Fin 4) (dq : FVec F (M 256 640) .f32) : Pg nD τ sig Λ F PUnit := do
  ldst A.a9 (M 256 512).size ![256 * u.val, 0] (inbR u 512 512 0 (by decide)) (by decide)
    (View.stores_vmem_bits_univ (show 0 < (M 256 512).numel by decide) rfl) (extractStridedSlice (M 256 512) ![0, 0] dq (by decide))
  ldst A.a10 (M 256 64).size ![256 * u.val, 0] (inbR u 64 64 0 (by decide)) (by decide)
    (View.stores_vmem_bits_univ (show 0 < (M 256 64).numel by decide) rfl) (extractStridedSlice (M 256 64) ![0, 512] dq (by decide))

/-- The gradients' scale. -/
def smul {s : Shape} (x : FVec F s .f32) : FVec F s .f32 := mulf x (broadcast s (Scalar.ofBits .f32 0x3D93CD3A#32))

/-- One quarter of a window's rows. -/
def winStep {n : Nat} (W : WF n) (O : WOff n) (A : Args sig) (C : Consts F) (kx : FVec F (M n 256) .bf16) (u : Fin 4) :
    Pg nD τ sig Λ F PUnit := do
  let dO ← ld A.a5 (M 256 512).size ![256 * u.val, 0] (inbR u 512 512 0 (by decide)) (by decide)
  let kv ← ld A.a6 (M n 512).size O.kv O.ikv W.p512
  let q ← ld A.a14 (M 256 512).size ![256 * u.val, 0] (inbR u 768 512 0 (by decide)) (by decide)
  ldst A.a17 (M n 256).size O.ss O.iss W.p256 (View.stores_vmem_bits_univ W.p256 rfl) (shapeCast (M n 256) (qkDot W kv q) W.sc256)
  let s0 ← ld A.a17 (M n 256).size O.ss O.iss W.p256
  let qx ← ld A.a14 (M 256 256).size ![256 * u.val, 512] (inbR u 768 256 512 (by decide)) (by decide)
  let s : FVec F (M n 256) .f32 := addf (s0 : FVec F (M n 256) .f32) (qxDot W kx qx)
  let kv' ← ld A.a6 (M n 512).size O.kv O.ikv W.p512
  let dp : FVec F (M n 256) .f32 := qkDot W kv' dO
  let smax := colMax W s
  let m := shiftOf smax
  let p := expOf W s m
  let den := colSum W p
  let rden := recip den
  stL A u (lseOf C m den)
  let pb : FVec F (M n 256) .bf16 := truncf .bf16 p (by decide)
  let dt : FVec F (M 1 256) .f32 := mulf (colSum W (mulf (extf .f32 pb (by decide)) dp)) rden
  let wg := gradWeight m smax den rden dt (rowScale W dp)
  let ds : FVec F (M n 256) .bf16 := truncf .bf16 (mulf (mulf p (broadcastTo (M n 256) wg W.bc256)) (subf dp (broadcastTo (M n 256) dt W.bc256))) (by decide)
  ldst A.a15 (M n 256).size ![0, 256 * u.val] (inbP n u W.le768) W.p256
    (View.stores_vmem W.p256 (A.h15.storeExact_slice rfl _ (packedP n u W.le768 W.dvd)) (fun _ => rfl))
    (shapeCast (M n 256) (truncf .bf16 (mulf p (broadcastTo (M n 256) rden W.bc256)) (by decide) : FVec F (M n 256) .bf16) W.sc256)
  ldst A.a16 (M n 256).size ![0, 256 * u.val] (inbP n u W.le768) W.p256
    (View.stores_vmem W.p256 (A.h16.storeExact_slice rfl _ (packedP n u W.le768 W.dvd)) (fun _ => rfl)) (shapeCast (M n 256) ds W.sc256)
  let kv'' ← ld A.a6 (M n 512).size O.kv O.ikv W.p512
  stO A u (outOf (pvDot W pb kv'') rden)
  let kx' ← ld A.a6 (M n 640).size O.kx O.ikx W.p640
  stDq A u (smul (dsDot W ds kx'))

/-- A whole window. -/
def window {n : Nat} (W : WF n) (O : WOff n) (A : Args sig) (C : Consts F) (starts : Vec F (M 1 128) .i32) (qpos : IVec (M 1 128) 32) (t0 : BitVec 32) :
    Pg nD τ sig Λ F PUnit := do
  let k0 : BitVec 32 := Scalar.maxsi (Scalar.subi (Scalar.addi t0 32#32) (BitVec.ofNat 32 n)) 0#32
  let kr ← ld A.a6 (M n 128).size O.kr O.ikr W.p128
  let kx := ropeKeys W C starts qpos k0 kr
  winStep W O A C kx 0
  winStep W O A C kx 1
  winStep W O A C kx 2
  winStep W O A C kx 3
  let dsa ← ld A.a16 (M n 1024).size ![0, 0] (inbW n W.le768) W.p1024
  let qx ← ld A.a14 (M 1024 640).size ![0, 0] (by decide) (by decide)
  let dkq : FVec F (M n 640) .f32 := matmul (⟨[1], [0], [0], [1], [], [], W.dkq⟩ : DotDims (M n 1024) (M 1024 640) (M n 640)) none dsa qx (constant (M n 640) .f32 0x00000000#32)
  let pba ← ld A.a15 (M n 1024).size ![0, 0] (inbW n W.le768) W.p1024
  let dO ← ld A.a5 (M 1024 512).size ![0, 0] (by decide) (by decide)
  let dkv : FVec F (M n 512) .f32 := matmul (⟨[1], [0], [0], [1], [], [], W.dkv⟩ : DotDims (M n 1024) (M 1024 512) (M n 512)) none pba dO (constant (M n 512) .f32 0x00000000#32)
  let ac ← ld A.a13 ![1, n, 512] O.ac O.iac W.q512
  ldst A.a13 ![1, n, 512] O.ac O.iac W.q512 (View.stores_vmem_bits_univ W.q512 rfl)
    (shapeCast ⟨3, ![1, n, 512]⟩ (addf (shapeCast (M n 512) ac W.sc512 : FVec F (M n 512) .f32)
      (addf (mulf (broadcast (M n 512) (Scalar.ofBits .f32 0x3D93CD3A#32)) (extractStridedSlice (M n 512) ![0, 0] dkq W.slk)) dkv)) W.sc512')
  let ar ← ld A.a13 ![1, n, 128] O.ar O.iar W.q128
  ldst A.a13 ![1, n, 128] O.ar O.iar W.q128 (View.stores_vmem_bits_univ W.q128 rfl)
    (shapeCast ⟨3, ![1, n, 128]⟩ (addf (shapeCast (M n 128) ar W.sc128 : FVec F (M n 128) .f32)
      (mulf (broadcast (M n 128) (Scalar.ofBits .f32 0x3D93CD3A#32)) (extractStridedSlice (M n 128) ![0, 512] dkq W.slr))) W.sc128')
  pure ⟨⟩

end

end Attn

end
-- ==== Proof.Long.lean ====
module

public import proofs.«01_k».proof.Proof.Struct

@[expose] public section

/-! The body of the attention call for steps that need more than 768 keys, and the whole body. -/

noncomputable section

namespace Attn
open Idealize.ShloMosaic Idealize.SL.Sem

section
variable {nD : Nat} {τ : Topo} {sig : RefSig} {Λ : Labels} {F : FTy → Type} [FloatOps F]

/-- The loop that computes the scores of tiles of 256 keys: its trips and where each one's tile stands. -/
structure SLoop where
  l : Scf.Loop 32
  ok : l.OK
  kr : Fin l.trips → Fin 2 → Nat
  kv : Fin l.trips → Fin 2 → Nat
  ss : Fin l.trips → Fin 2 → Nat
  ikr : ∀ k a, kr k a + (M 256 128).size a ≤ (M 2560 640).size a
  ikv : ∀ k a, kv k a + (M 256 512).size a ≤ (M 2560 640).size a
  iss : ∀ k a, ss k a + (M 256 256).size a ≤ (M 2560 256).size a

/-- The loop that turns scores into weights. -/
structure XLoop where
  l : Scf.Loop 32
  ok : l.OK
  ss : Fin l.trips → Fin 2 → Nat
  kv : Fin l.trips → Fin 2 → Nat
  iss : ∀ k a, ss k a + (M 256 256).size a ≤ (M 2560 256).size a
  ikv : ∀ k a, kv k a + (M 256 512).size a ≤ (M 2560 640).size a

/-- The loop that computes the gradients. -/
structure GLoop where
  l : Scf.Loop 32
  ok : l.OK
  ss : Fin l.trips → Fin 2 → Nat
  ac : Fin l.trips → Fin 3 → Nat
  ar : Fin l.trips → Fin 3 → Nat
  kx : Fin l.trips → Fin 2 → Nat
  iss : ∀ k a, ss k a + (M 256 256).size a ≤ (M 2560 256).size a
  iac : ∀ k a, ac k a + (![1, 256, 512] : Fin 3 → Nat) a ≤ (![1, 2560, 640] : Fin 3 → Nat) a
  iar : ∀ k a, ar k a + (![1, 256, 128] : Fin 3 → Nat) a ≤ (![1, 2560, 640] : Fin 3 → Nat) a
  ikx : ∀ k a, kx k a + (M 256 640).size a ≤ (M 2560 640).size a

/-- The loops of one quarter of the rows. -/
structure LO where
  s1 : SLoop
  s2 : SLoop
  x1 : XLoop
  x2 : XLoop
  g1 : GLoop
  g2 : GLoop
  dp : Fin 2 → Nat
  idp : ∀ a, dp a + (M 256 256).size a ≤ (M 2560 256).size a

theorem wf256 : WF 256 := by constructor <;> decide

/-- One tile's scores. -/
def scoreBody (A : Args sig) (C : Consts F) (starts : Vec F (M 1 128) .i32) (qpos : IVec (M 1 128) 32) (u : Fin 4) (L : SLoop)
    (k : Fin L.l.trips) (acc : FVec F (M 1 256) .f32) : Pg nD τ sig Λ F (FVec F (M 1 256) .f32) := do
  let kr ← ld A.a6 (M 256 128).size (L.kr k) (L.ikr k) (by decide)
  let kx := ropeKeys wf256 C starts qpos (Scalar.muli (Scf.iv L.l.lb 1#32 k) 256#32) kr
  let kv ← ld A.a6 (M 256 512).size (L.kv k) (L.ikv k) (by decide)
  let q ← ld A.a14 (M 256 512).size ![256 * u.val, 0] (inbR u 768 512 0 (by decide)) (by decide)
  ldst A.a17 (M 256 256).size (L.ss k) (L.iss k) (by decide) (View.stores_vmem_bits_univ wf256.p256 rfl) (shapeCast (M 256 256) (qkDot wf256 kv q) wf256.sc256)
  let s0 ← ld A.a17 (M 256 256).size (L.ss k) (L.iss k) (by decide)
  let qx ← ld A.a14 (M 256 256).size ![256 * u.val, 512] (inbR u 768 256 512 (by decide)) (by decide)
  let s : FVec F (M 256 256) .f32 := addf (s0 : FVec F (M 256 256) .f32) (qxDot wf256 kx qx)
  ldst A.a17 (M 256 256).size (L.ss k) (L.iss k) (by decide) (View.stores_vmem_bits_univ wf256.p256 rfl) (shapeCast (M 256 256) s wf256.sc256)
  pure (maximumf acc (colMax wf256 s))

/-- One tile's weights, and what they add to the sums. -/
def softBody (A : Args sig) (m : FVec F (M 1 256) .f32) (u : Fin 4) (L : XLoop) (k : Fin L.l.trips)
    (acc : FVec F (M 1 256) .f32 × FVec F (M 1 256) .f32 × FVec F (M 256 512) .f32) :
    Pg nD τ sig Λ F (FVec F (M 1 256) .f32 × FVec F (M 1 256) .f32 × FVec F (M 256 512) .f32) := do
  let s ← ld A.a17 (M 256 256).size (L.ss k) (L.iss k) (by decide)
  let p := expOf wf256 (s : FVec F (M 256 256) .f32) m
  let pb : FVec F (M 256 256) .bf16 := truncf .bf16 p (by decide)
  let kv ← ld A.a6 (M 256 512).size (L.kv k) (L.ikv k) (by decide)
  let dO ← ld A.a5 (M 256 512).size ![256 * u.val, 0] (inbR u 512 512 0 (by decide)) (by decide)
  let dp : FVec F (M 256 256) .f32 := qkDot wf256 kv dO
  ldst A.a17 (M 256 256).size (L.ss k) (L.iss k) (by decide) (View.stores_vmem_bits_univ wf256.p256 rfl) (shapeCast (M 256 256) p wf256.sc256)
  ldst A.a18 (M 256 256).size (L.ss k) (L.iss k) (by decide) (View.stores_vmem_bits_univ wf256.p256 rfl) (shapeCast (M 256 256) dp wf256.sc256)
  let kv' ← ld A.a6 (M 256 512).size (L.kv k) (L.ikv k) (by decide)
  pure (addf acc.1 (colSum wf256 p), addf acc.2.1 (colSum wf256 (mulf (extf .f32 pb (by decide)) dp)), addf acc.2.2 (pvDot wf256 pb kv'))

/-- One tile's gradients. -/
def gradBody (A : Args sig) (rden dt wg : FVec F (M 1 256) .f32) (u : Fin 4) (L : GLoop) (k : Fin L.l.trips) (acc : FVec F (M 256 640) .f32) :
    Pg nD τ sig Λ F (FVec F (M 256 640) .f32) := do
  let p ← ld A.a17 (M 256 256).size (L.ss k) (L.iss k) (by decide)
  let dp ← ld A.a18 (M 256 256).size (L.ss k) (L.iss k) (by decide)
  let ds : FVec F (M 256 256) .bf16 := truncf .bf16 (mulf (mulf (p : FVec F (M 256 256) .f32) (broadcastTo (M 256 256) wg wf256.bc256))
    (subf (dp : FVec F (M 256 256) .f32) (broadcastTo (M 256 256) dt wf256.bc256))) (by decide)
  let qx ← ld A.a14 (M 256 640).size ![256 * u.val, 0] (inbR u 768 640 0 (by decide)) (by decide)
  let dkq : FVec F (M 256 640) .f32 := matmul (⟨[1], [0], [0], [1], [], [], by decide⟩ : DotDims (M 256 256) (M 256 640) (M 256 640)) none ds qx (constant (M 256 640) .f32 0x00000000#32)
  let pb : FVec F (M 256 256) .bf16 := truncf .bf16 (mulf (p : FVec F (M 256 256) .f32) (broadcastTo (M 256 256) rden wf256.bc256)) (by decide)
  let dO ← ld A.a5 (M 256 512).size ![256 * u.val, 0] (inbR u 512 512 0 (by decide)) (by decide)
  let dkv : FVec F (M 256 512) .f32 := matmul (⟨[1], [0], [0], [1], [], [], by decide⟩ : DotDims (M 256 256) (M 256 512) (M 256 512)) none pb dO (constant (M 256 512) .f32 0x00000000#32)
  let ac ← ld A.a13 ![1, 256, 512] (L.ac k) (L.iac k) (by decide)
  ldst A.a13 ![1, 256, 512] (L.ac k) (L.iac k) (by decide) (View.stores_vmem_bits_univ wf256.q512 rfl)
    (shapeCast ⟨3, ![1, 256, 512]⟩ (addf (shapeCast (M 256 512) ac wf256.sc512 : FVec F (M 256 512) .f32)
      (addf (mulf (broadcast (M 256 512) (Scalar.ofBits .f32 0x3D93CD3A#32)) (extractStridedSlice (M 256 512) ![0, 0] dkq wf256.slk)) dkv)) wf256.sc512')
  let ar ← ld A.a13 ![1, 256, 128] (L.ar k) (L.iar k) (by decide)
  ldst A.a13 ![1, 256, 128] (L.ar k) (L.iar k) (by decide) (View.stores_vmem_bits_univ wf256.q128 rfl)
    (shapeCast ⟨3, ![1, 256, 128]⟩ (addf (shapeCast (M 256 128) ar wf256.sc128 : FVec F (M 256 128) .f32)
      (mulf (broadcast (M 256 128) (Scalar.ofBits .f32 0x3D93CD3A#32)) (extractStridedSlice (M 256 128) ![0, 512] dkq wf256.slr))) wf256.sc128')
  let kx ← ld A.a6 (M 256 640).size (L.kx k) (L.ikx k) (by decide)
  pure (addf acc (dsDot wf256 ds kx))

/-- What the first loops of a quarter hand on. -/
structure Sums (F : FTy → Type) where
  smax : FVec F (M 1 256) .f32
  m : FVec F (M 1 256) .f32
  den : FVec F (M 1 256) .f32
  o : FVec F (M 256 512) .f32
  rden : FVec F (M 1 256) .f32
  dt : FVec F (M 1 256) .f32
  row : FVec F ⟨1, ![256]⟩ .f32

/-- The loops over scores and weights, then `K`. -/
def head {α : Type} (A : Args sig) (C : Consts F) (starts : Vec F (M 1 128) .i32) (qpos : IVec (M 1 128) 32) (u : Fin 4) (L : LO)
    (K : Sums F → Pg nD τ sig Λ F α) : Pg nD τ sig Λ F α := do
  let smax0 ← Scf.Loop.for L.s1.l L.s1.ok (broadcast (M 1 256) (Scalar.ofBits .f32 0xFF800000#32)) (scoreBody A C starts qpos u L.s1)
  let smax ← Scf.Loop.for L.s2.l L.s2.ok smax0 (scoreBody A C starts qpos u L.s2)
  let m := shiftOf smax
  let z : FVec F (M 1 256) .f32 := broadcast (M 1 256) (Scalar.ofBits .f32 0x00000000#32)
  let r1 ← Scf.Loop.for L.x1.l L.x1.ok (z, z, broadcast (M 256 512) (Scalar.ofBits .f32 0x00000000#32)) (softBody A m u L.x1)
  let r ← Scf.Loop.for L.x2.l L.x2.ok (r1.1, r1.2.1, r1.2.2) (softBody A m u L.x2)
  let rden := recip r.1
  let dp ← ld A.a18 (M 256 256).size L.dp L.idp (by decide)
  K ⟨smax, m, r.1, r.2.2, rden, mulf r.2.1 rden, multiReduction .maximumf [0] ⟨1, ![256]⟩ (absf (extractStridedSlice (M 64 256) ![0, 0] dp wf256.sl64)) 0xFF800000#32 (by decide) (.inl rfl) rfl⟩

/-- The first results stored, and the first loop of gradients, then `K`. -/
def mid {α : Type} (A : Args sig) (C : Consts F) (u : Fin 4) (L : LO) (r : Sums F)
    (K : FVec F (M 1 256) .f32 → FVec F (M 256 640) .f32 → Pg nD τ sig Λ F α) : Pg nD τ sig Λ F α := do
  let wg := gradWeight r.m r.smax r.den r.rden r.dt (shapeCast (M 1 256) r.row (by decide))
  stL A u (lseOf C r.m r.den)
  stO A u (outOf r.o r.rden)
  let dq ← Scf.Loop.for L.g1.l L.g1.ok (broadcast (M 256 640) (Scalar.ofBits .f32 0x00000000#32)) (gradBody A r.rden r.dt wg u L.g1)
  K wg dq

/-- The second loop of gradients, its result stored, then `K`. -/
def tail {α : Type} (A : Args sig) (u : Fin 4) (L : LO) (rden dt wg : FVec F (M 1 256) .f32) (dq : FVec F (M 256 640) .f32)
    (K : Pg nD τ sig Λ F α) : Pg nD τ sig Λ F α := do
  let dq' ← Scf.Loop.for L.g2.l L.g2.ok dq (gradBody A rden dt wg u L.g2)
  stDq A u (smul dq')
  K

theorem head_bind {α β : Type} (A : Args sig) (C : Consts F) (starts : Vec F (M 1 128) .i32) (qpos : IVec (M 1 128) 32) (u : Fin 4) (L : LO)
    (K : Sums F → Pg nD τ sig Λ F α) (g : α → Pg nD τ sig Λ F β) :
    (head A C starts qpos u L K >>= g) = head A C starts qpos u L fun r => K r >>= g := by
  simp only [head, Prog.bind_assoc]

theorem mid_bind {α β : Type} (A : Args sig) (C : Consts F) (u : Fin 4) (L : LO) (r : Sums F)
    (K : FVec F (M 1 256) .f32 → FVec F (M 256 640) .f32 → Pg nD τ sig Λ F α) (g : α → Pg nD τ sig Λ F β) :
    (mid A C u L r K >>= g) = mid A C u L r fun a b => K a b >>= g := by
  simp only [mid, Prog.bind_assoc]

theorem tail_bind {α β : Type} (A : Args sig) (u : Fin 4) (L : LO) (rden dt wg : FVec F (M 1 256) .f32) (dq : FVec F (M 256 640) .f32)
    (K : Pg nD τ sig Λ F α) (g : α → Pg nD τ sig Λ F β) :
    (tail A u L rden dt wg dq K >>= g) = tail A u L rden dt wg dq (K >>= g) := by
  simp only [tail, Prog.bind_assoc]

/-- One quarter of the rows. -/
def quarter {α : Type} (A : Args sig) (C : Consts F) (starts : Vec F (M 1 128) .i32) (qpos : IVec (M 1 128) 32) (u : Fin 4) (L : LO)
    (K : Pg nD τ sig Λ F α) : Pg nD τ sig Λ F α :=
  head A C starts qpos u L fun r => mid A C u L r fun wg dq => tail A u L r.rden r.dt wg dq K

/-- The four quarters. -/
def long (A : Args sig) (C : Consts F) (starts : Vec F (M 1 128) .i32) (qpos : IVec (M 1 128) 32) (L : Fin 4 → LO) : Pg nD τ sig Λ F PUnit :=
  quarter A C starts qpos 0 (L 0) <| quarter A C starts qpos 1 (L 1) <| quarter A C starts qpos 2 (L 2) <| quarter A C starts qpos 3 (L 3) <| pure ⟨⟩

/-- A step takes the window of `hi` keys when it needs more than `lo` and at most `hi`. -/
def condW (lo hi : BitVec 32) (need : BitVec 32) : BitVec 1 := condOf (Scalar.andi (Scalar.cmpi .sgt need lo) (Scalar.cmpi .sle need hi))

/-- A step goes by tiles when it needs more than 768 keys. -/
def condL (need : BitVec 32) : BitVec 1 := condOf (Scalar.cmpi .sgt need 768#32)

theorem wf128 : WF 128 := by constructor <;> decide
theorem wf384 : WF 384 := by constructor <;> decide
theorem wf512 : WF 512 := by constructor <;> decide
theorem wf768 : WF 768 := by constructor <;> decide

/-- Where the body finds its operands at a step. -/
structure Offs where
  st : Fin 2 → Nat
  ist : ∀ a, st a + (M 1 128).size a ≤ (M 160 128).size a
  nd : Fin 1 → Nat
  ind : ∀ a, nd a + (![1] : Fin 1 → Nat) a ≤ (![160] : Fin 1 → Nat) a
  w3 : WOff 128
  w4 : WOff 256
  w5 : WOff 384
  w6 : WOff 512
  w7 : WOff 768
  chk : BitVec 32 → BitVec 32 → Prop
  dec : ∀ v w, Decidable (chk v w)
  lo : ∀ v w, chk v w → condL v = 1#1 → Fin 4 → LO

/-- The prologue up to the windows, then `K`. -/
def start {α : Type} (A : Args sig) (C : Consts F) (g : BitVec 32) (O : Offs)
    (K : Vec F (M 1 128) .i32 → BitVec 32 → IVec (M 1 128) 32 → BitVec 32 → Pg nD τ sig Λ F α) : Pg nD τ sig Λ F α := do
  proHot A g
  proAcc A g
  pro A C g
  let starts ← ld A.a2 (M 1 128).size O.st O.ist (by decide)
  let need ← smemLoad (Val := Elt F) (e := .i32) A.a1 (Rect.unit (s := ⟨1, ![160]⟩) O.nd ![1] O.ind) (show Shape.numel ⟨1, ![1]⟩ = 1 by decide) rfl
  let t0 : BitVec 32 := Scalar.muli (stepB g) 32#32
  K starts t0 (addi (broadcast (M 1 128) t0) (iota .tc (M 1 128) 32 [1] (by decide))) need

/-- The windows and the tiles. -/
def windows (A : Args sig) (C : Consts F) (O : Offs) (starts : Vec F (M 1 128) .i32) (t0 : BitVec 32) (qpos : IVec (M 1 128) 32) (need : BitVec 32) :
    Pg nD τ sig Λ F PUnit :=
  (if h : condW 0#32 128#32 need = 1#1 then window wf128 O.w3 A C starts qpos t0 else pure ⟨⟩) >>= fun _ =>
  (if h : condW 128#32 256#32 need = 1#1 then window wf256 O.w4 A C starts qpos t0 else pure ⟨⟩) >>= fun _ =>
  (if h : condW 256#32 384#32 need = 1#1 then window wf384 O.w5 A C starts qpos t0 else pure ⟨⟩) >>= fun _ =>
  (if h : condW 384#32 512#32 need = 1#1 then window wf512 O.w6 A C starts qpos t0 else pure ⟨⟩) >>= fun _ =>
  (if h : condW 512#32 768#32 need = 1#1 then window wf768 O.w7 A C starts qpos t0 else pure ⟨⟩) >>= fun _ =>
  (if h : condL need = 1#1 then
    smemLoad (Val := Elt F) (e := .i32) A.a1 (Rect.unit (s := ⟨1, ![160]⟩) O.nd ![1] O.ind) (show Shape.numel ⟨1, ![1]⟩ = 1 by decide) rfl >>= fun need' =>
    Prog.lift (TpuEff.assume (O.chk need need') (O.dec need need')) >>= fun c =>
    long A C starts qpos (O.lo need need' c.down h)
  else pure ⟨⟩)

/-- A conditional step followed by the rest. -/
theorem dite_then {E : Type → Type} {α : Type} {c : Prop} [Decidable c] (W : c → Prog E PUnit) (K : Prog E α) :
    ((if h : c then W h else pure ⟨⟩) >>= fun _ => K) = if h : c then W h >>= fun _ => K else K := by
  split <;> rfl

/-- The whole body. -/
def body (A : Args sig) (C : Consts F) (g : BitVec 32) (O : Offs) : Pg nD τ sig Λ F PUnit :=
  start A C g O (windows A C O)

end

end Attn

end
-- ==== Proof.EqIdeal.lean ====
module
public import proofs.«01_k».proof.KernelIdeal
public import proofs.«01_k».proof.Proof.Long
@[expose] public section

/-! The printed body of `KernelIdeal` and the written one are the same program. -/

noncomputable section
namespace Cert.KernelIdeal.Eq
open Idealize.ShloMosaic Idealize.SL.Sem Attn
variable {F : FTy → Type} [FloatOps F] [Named F]
variable [Facts]
open Facts₀ Facts

/-- The constants of the mask and of the change of base. -/
def consts : Consts F := ⟨Named.named κ "log2e" 0x3FB8AA3B#32, Named.named κ "ln2" 0x3F317218#32, Named.named κ "mask" 0xF1800000#32⟩

/-- The loops of quarter 0. -/
def lo0 (i : grid0.Coords) (v w : BitVec 32) (hw : k0_chk1 i v w) (h8 : k0_cond8 v = 1#1) : LO :=
  ⟨⟨k0_t1_loop i w, k0_t1_ok i v w hw h8, k0_off34 i w, k0_off35 i w, k0_off36 i w, fun k => k0_off34_inb i v w hw k h8, fun k => k0_off35_inb i v w hw k h8, fun k => k0_off36_inb i v w hw k h8⟩,
   ⟨k0_t2_loop i w, k0_t2_ok i v w hw h8, k0_off37 i w, k0_off38 i w, k0_off39 i w, fun k => k0_off37_inb i v w hw k h8, fun k => k0_off38_inb i v w hw k h8, fun k => k0_off39_inb i v w hw k h8⟩,
   ⟨k0_t3_loop i w, k0_t3_ok i v w hw h8, k0_off40 i w, k0_off41 i w, fun k => k0_off40_inb i v w hw k h8, fun k => k0_off41_inb i v w hw k h8⟩,
   ⟨k0_t4_loop i w, k0_t4_ok i v w hw h8, k0_off42 i w, k0_off43 i w, fun k => k0_off42_inb i v w hw k h8, fun k => k0_off43_inb i v w hw k h8⟩,
   ⟨k0_t5_loop i w, k0_t5_ok i v w hw h8, k0_off45 i w, k0_off46 i w, k0_off47 i w, k0_off48 i w, fun k => k0_off45_inb i v w hw k h8, fun k => k0_off46_inb i v w hw k h8, fun k => k0_off47_inb i v w hw k h8, fun k => k0_off48_inb i v w hw k h8⟩,
   ⟨k0_t6_loop i w, k0_t6_ok i v w hw h8, k0_off49 i w, k0_off50 i w, k0_off51 i w, k0_off52 i w, fun k => k0_off49_inb i v w hw k h8, fun k => k0_off50_inb i v w hw k h8, fun k => k0_off51_inb i v w hw k h8, fun k => k0_off52_inb i v w hw k h8⟩,
   k0_off44 i, k0_off44_inb i⟩

/-- The loops of quarter 1. -/
def lo1 (i : grid0.Coords) (v w : BitVec 32) (hw : k0_chk1 i v w) (h8 : k0_cond8 v = 1#1) : LO :=
  ⟨⟨k0_t7_loop i w, k0_t7_ok i v w hw h8, k0_off53 i w, k0_off54 i w, k0_off55 i w, fun k => k0_off53_inb i v w hw k h8, fun k => k0_off54_inb i v w hw k h8, fun k => k0_off55_inb i v w hw k h8⟩,
   ⟨k0_t8_loop i w, k0_t8_ok i v w hw h8, k0_off56 i w, k0_off57 i w, k0_off58 i w, fun k => k0_off56_inb i v w hw k h8, fun k => k0_off57_inb i v w hw k h8, fun k => k0_off58_inb i v w hw k h8⟩,
   ⟨k0_t9_loop i w, k0_t9_ok i v w hw h8, k0_off59 i w, k0_off60 i w, fun k => k0_off59_inb i v w hw k h8, fun k => k0_off60_inb i v w hw k h8⟩,
   ⟨k0_t10_loop i w, k0_t10_ok i v w hw h8, k0_off61 i w, k0_off62 i w, fun k => k0_off61_inb i v w hw k h8, fun k => k0_off62_inb i v w hw k h8⟩,
   ⟨k0_t11_loop i w, k0_t11_ok i v w hw h8, k0_off63 i w, k0_off64 i w, k0_off65 i w, k0_off66 i w, fun k => k0_off63_inb i v w hw k h8, fun k => k0_off64_inb i v w hw k h8, fun k => k0_off65_inb i v w hw k h8, fun k => k0_off66_inb i v w hw k h8⟩,
   ⟨k0_t12_loop i w, k0_t12_ok i v w hw h8, k0_off67 i w, k0_off68 i w, k0_off69 i w, k0_off70 i w, fun k => k0_off67_inb i v w hw k h8, fun k => k0_off68_inb i v w hw k h8, fun k => k0_off69_inb i v w hw k h8, fun k => k0_off70_inb i v w hw k h8⟩,
   k0_off44 i, k0_off44_inb i⟩

/-- The loops of quarter 2. -/
def lo2 (i : grid0.Coords) (v w : BitVec 32) (hw : k0_chk1 i v w) (h8 : k0_cond8 v = 1#1) : LO :=
  ⟨⟨k0_t13_loop i w, k0_t13_ok i v w hw h8, k0_off71 i w, k0_off72 i w, k0_off73 i w, fun k => k0_off71_inb i v w hw k h8, fun k => k0_off72_inb i v w hw k h8, fun k => k0_off73_inb i v w hw k h8⟩,
   ⟨k0_t14_loop i w, k0_t14_ok i v w hw h8, k0_off74 i w, k0_off75 i w, k0_off76 i w, fun k => k0_off74_inb i v w hw k h8, fun k => k0_off75_inb i v w hw k h8, fun k => k0_off76_inb i v w hw k h8⟩,
   ⟨k0_t15_loop i w, k0_t15_ok i v w hw h8, k0_off77 i w, k0_off78 i w, fun k => k0_off77_inb i v w hw k h8, fun k => k0_off78_inb i v w hw k h8⟩,
   ⟨k0_t16_loop i w, k0_t16_ok i v w hw h8, k0_off79 i w, k0_off80 i w, fun k => k0_off79_inb i v w hw k h8, fun k => k0_off80_inb i v w hw k h8⟩,
   ⟨k0_t17_loop i w, k0_t17_ok i v w hw h8, k0_off81 i w, k0_off82 i w, k0_off83 i w, k0_off84 i w, fun k => k0_off81_inb i v w hw k h8, fun k => k0_off82_inb i v w hw k h8, fun k => k0_off83_inb i v w hw k h8, fun k => k0_off84_inb i v w hw k h8⟩,
   ⟨k0_t18_loop i w, k0_t18_ok i v w hw h8, k0_off85 i w, k0_off86 i w, k0_off87 i w, k0_off88 i w, fun k => k0_off85_inb i v w hw k h8, fun k => k0_off86_inb i v w hw k h8, fun k => k0_off87_inb i v w hw k h8, fun k => k0_off88_inb i v w hw k h8⟩,
   k0_off44 i, k0_off44_inb i⟩

/-- The loops of quarter 3. -/
def lo3 (i : grid0.Coords) (v w : BitVec 32) (hw : k0_chk1 i v w) (h8 : k0_cond8 v = 1#1) : LO :=
  ⟨⟨k0_t19_loop i w, k0_t19_ok i v w hw h8, k0_off89 i w, k0_off90 i w, k0_off91 i w, fun k => k0_off89_inb i v w hw k h8, fun k => k0_off90_inb i v w hw k h8, fun k => k0_off91_inb i v w hw k h8⟩,
   ⟨k0_t20_loop i w, k0_t20_ok i v w hw h8, k0_off92 i w, k0_off93 i w, k0_off94 i w, fun k => k0_off92_inb i v w hw k h8, fun k => k0_off93_inb i v w hw k h8, fun k => k0_off94_inb i v w hw k h8⟩,
   ⟨k0_t21_loop i w, k0_t21_ok i v w hw h8, k0_off95 i w, k0_off96 i w, fun k => k0_off95_inb i v w hw k h8, fun k => k0_off96_inb i v w hw k h8⟩,
   ⟨k0_t22_loop i w, k0_t22_ok i v w hw h8, k0_off97 i w, k0_off98 i w, fun k => k0_off97_inb i v w hw k h8, fun k => k0_off98_inb i v w hw k h8⟩,
   ⟨k0_t23_loop i w, k0_t23_ok i v w hw h8, k0_off99 i w, k0_off100 i w, k0_off101 i w, k0_off102 i w, fun k => k0_off99_inb i v w hw k h8, fun k => k0_off100_inb i v w hw k h8, fun k => k0_off101_inb i v w hw k h8, fun k => k0_off102_inb i v w hw k h8⟩,
   ⟨k0_t24_loop i w, k0_t24_ok i v w hw h8, k0_off103 i w, k0_off104 i w, k0_off105 i w, k0_off106 i w, fun k => k0_off103_inb i v w hw k h8, fun k => k0_off104_inb i v w hw k h8, fun k => k0_off105_inb i v w hw k h8, fun k => k0_off106_inb i v w hw k h8⟩,
   k0_off44 i, k0_off44_inb i⟩

/-- Where the body finds its operands at a step. -/
def offs (i : grid0.Coords) : Offs :=
  ⟨k0_off1 i, k0_off1_inb i, k0_off2 i, k0_off2_inb i,
   ⟨k0_off3 i, k0_off4 i, k0_off5 i, k0_off6 i, k0_off7 i, k0_off8 i, k0_off3_inb i, k0_off4_inb i, k0_off5_inb i, k0_off6_inb i, k0_off7_inb i, k0_off8_inb i⟩,
   ⟨k0_off9 i, k0_off10 i, k0_off11 i, k0_off12 i, k0_off13 i, k0_off14 i, k0_off9_inb i, k0_off10_inb i, k0_off11_inb i, k0_off12_inb i, k0_off13_inb i, k0_off14_inb i⟩,
   ⟨k0_off15 i, k0_off16 i, k0_off17 i, k0_off18 i, k0_off19 i, k0_off20 i, k0_off15_inb i, k0_off16_inb i, k0_off17_inb i, k0_off18_inb i, k0_off19_inb i, k0_off20_inb i⟩,
   ⟨k0_off21 i, k0_off22 i, k0_off23 i, k0_off24 i, k0_off25 i, k0_off26 i, k0_off21_inb i, k0_off22_inb i, k0_off23_inb i, k0_off24_inb i, k0_off25_inb i, k0_off26_inb i⟩,
   ⟨k0_off27 i, k0_off28 i, k0_off29 i, k0_off30 i, k0_off31 i, k0_off32 i, k0_off27_inb i, k0_off28_inb i, k0_off29_inb i, k0_off30_inb i, k0_off31_inb i, k0_off32_inb i⟩,
   k0_chk1 i, k0_chk1.dec i, fun v w hw h8 => ![lo0 i v w hw h8, lo1 i v w hw h8, lo2 i v w hw h8, lo3 i v w hw h8]⟩

/-- The first tile of a step. -/
def tileLo (i : grid0.Coords) (w : BitVec 32) : BitVec 32 := (k0_t1_loop i w).lb

/-- The tile after the last. -/
def tileHi (i : grid0.Coords) : BitVec 32 := Scalar.divsi (Scalar.subi (Scalar.addi (Scalar.addi (Scalar.muli (stepB (BitVec.ofNat 32 (i 0).val)) 32#32) 32#32) 256#32) 1#32) 256#32

/-- What the first part stores after its two conditional stores, and what it hands on. -/
def rest72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    Prog (TpuEff nD τ sig (Elt F) Λ₀ .tc) (Σ' (arg0 : BitVec 32) (v0 : BitVec 32) (v7 : IVec S32x128 32) (v9 : BitVec 32) (v11 : BitVec 1) (v15 : FVec F S32x128 .f32) (v17 : FVec F S32x128 .f32) (v30 : FVec F S32x1 .f32) (v33 : FVec F S32x1 .f32), F .f32) := do
  let arg0 : BitVec 32 := BitVec.ofNat 32 (i 0).val
  let c80_i32 : BitVec 32 := 80#32
  let v0 : BitVec 32 := Scalar.remsi arg0 c80_i32
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  have v7 : IVec S32x128 32 := iota .tc S32x128 32 [1] iota_S32x128_d1_w32
  let c4_i32 : BitVec 32 := 4#32
  let v8 : BitVec 32 := Scalar.remsi v0 c4_i32
  let c32_i32 : BitVec 32 := 32#32
  let v9 : BitVec 32 := Scalar.muli v8 c32_i32
  let c4_i32_3 : BitVec 32 := 4#32
  let v10 : BitVec 32 := Scalar.remsi v0 c4_i32_3
  let c0_i32_4 : BitVec 32 := 0#32
  let v11 : BitVec 1 := Scalar.cmpi .eq v10 c0_i32_4
  let c0 : Index := 0#32
  let c0_5 : Index := 0#32
  let c0_6 : Index := 0#32
  let c0_7 : Index := 0#32
  let v12 : Vec F S1x32x1x128 .f32 ← Prog.lift (.load arg12 (Rect.unit (s := S1x32x4x128) ![0, 0, 0, 0] S1x32x1x128.size inb_S1x32x4x128_S1x32x1x128_0_0_0_0).toLoadRect (View.loadsAt_vmem h_S1x32x1x128))
  have v13 : FVec F S32x128 .f32 := shapeCast S32x128 v12 shapeCasts_S1x32x1x128_S32x128
  have cst : F .f32 := Scalar.ofBits .f32 0x00000000#32
  have v14 : FVec F S32x128 .f32 := broadcast S32x128 cst
  have v15 : FVec F S32x128 .f32 := Scalar.select v11 v14 v13
  let c0_8 : Index := 0#32
  let c0_9 : Index := 0#32
  let v16 : Vec F S32x128 .bf16 ← Prog.lift (.load arg3 (Rect.unit (s := S1024x512) ![0, 0] S32x128.size inb_S1024x512_S32x128_0_0).toLoadRect (View.loadsAt_vmem h_S32x128))
  have v17 : FVec F S32x128 .f32 := extf .f32 v16 bitsLt_bf16_f32
  have v18 : FVec F S32x128 .f32 := absf v17
  have cst_10 : FVec F S32 .f32 := constant S32 .f32 0xFF800000#32
  have v19 : FVec F S32 .f32 := multiReduction .maximumf [1] S32 v18 0xFF800000#32 reduces_S32x128_S32 (.inl rfl) rfl
  have v20 : FVec F S32x1 .f32 := shapeCast S32x1 v19 shapeCasts_S32_S32x1
  have cst_11 : F .f32 := Scalar.ofBits .f32 0x3B124925#32
  have v21 : FVec F S32x1 .f32 := broadcast S32x1 cst_11
  have v22 : FVec F S32x1 .f32 := mulf v20 v21
  have v23 : FVec F S32x1 .f32 := log v22
  have cst_12 : F .f32 := Named.named κ "log2e" 0x3FB8AA3B#32
  have v24 : FVec F S32x1 .f32 := broadcast S32x1 cst_12
  have v25 : FVec F S32x1 .f32 := mulf v23 v24
  have v26 : FVec F S32x1 .f32 := floor v25
  have cst_13 : F .f32 := Scalar.ofBits .f32 0x00000000#32
  have v27 : FVec F S32x1 .f32 := broadcast S32x1 cst_13
  have v28 : IVec S32x1 1 := cmpf .oeq v22 v27
  have cst_14 : F .f32 := Scalar.ofBits .f32 0xBF800000#32
  have v29 : FVec F S32x1 .f32 := broadcast S32x1 cst_14
  have v30 : FVec F S32x1 .f32 := select v28 v29 v26
  have cst_15 : F .f32 := Scalar.ofBits .f32 0x3F800000#32
  have v31 : FVec F S32x1 .f32 := broadcast S32x1 cst_15
  have v32 : FVec F S32x1 .f32 := addf v30 v31
  have v33 : FVec F S32x1 .f32 := exp2 v32
  have cst_16 : F .f32 := Scalar.ofBits .f32 0xBF800000#32
  pure ⟨arg0, v0, v7, v9, v11, v15, v17, v30, v33, cst_16⟩

/-- The second conditional store and the rest. -/
def acc72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    Prog (TpuEff nD τ sig (Elt F) Λ₀ .tc) (Σ' (arg0 : BitVec 32) (v0 : BitVec 32) (v7 : IVec S32x128 32) (v9 : BitVec 32) (v11 : BitVec 1) (v15 : FVec F S32x128 .f32) (v17 : FVec F S32x128 .f32) (v30 : FVec F S32x1 .f32) (v33 : FVec F S32x1 .f32), F .f32) :=
  if h : condOf (Scalar.cmpi .eq (stepB (BitVec.ofNat 32 (i 0).val)) 0#32) = 1#1 then
    (ldst arg13 ![1, 2560, 640] ![0, 0, 0] (by decide) (by decide)
      (View.stores_vmem_bits_univ (show 0 < Shape.numel ⟨3, ![1, 2560, 640]⟩ by decide) rfl) (broadcast ⟨3, ![1, 2560, 640]⟩ (Scalar.ofBits .f32 0x00000000#32))) >>= fun _ => rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  else rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

/-- The tiles as printed. -/
def tiles (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5424 : BitVec 32) (v5427 : IVec S1x128 32) (v5429 : BitVec 32) (k0_h8 : k0_cond8 v5429 = 1#1) :
    Prog (TpuEff nD τ sig (Elt F) Λ₀ .tc) PUnit := do
  let arg0 : BitVec 32 := BitVec.ofNat 32 (i 0).val
  let ⟨v5461, v5463, k0_hw1, v5465, v5473, v5476, v5485_0, v5485_2, v5487, v5488, v5496⟩ : Σ' (v5461 : BitVec 32) (v5463 : Elt F .i32) (k0_hw1 : k0_chk1 i v5429 v5463) (v5465 : BitVec 32) (v5473 : FVec F S1x256 .f32) (v5476 : FVec F S1x256 .f32) (v5485_0 : FVec F S1x256 .f32) (v5485_2 : FVec F S256x512 .f32) (v5487 : FVec F S1x256 .f32) (v5488 : FVec F S1x256 .f32), FVec F S256 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v5423 v5424 v5427 v5429 k0_h8
  let ⟨v5516, v5539, v5540, c1_i32_2075⟩ : Σ' (v5516 : FVec F S1x256 .f32) (v5539 : BitVec 32) (v5540 : FVec F S256x640 .f32), BitVec 32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5473 v5476 v5485_0 v5485_2 v5487 v5488 v5496
  let ⟨v5555, v5558, v5567_0, v5567_2, v5569, v5570, v5578⟩ : Σ' (v5555 : FVec F S1x256 .f32) (v5558 : FVec F S1x256 .f32) (v5567_0 : FVec F S1x256 .f32) (v5567_2 : FVec F S256x512 .f32) (v5569 : FVec F S1x256 .f32) (v5570 : FVec F S1x256 .f32), FVec F S256 .f32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5487 v5488 v5516 v5539 v5540 c1_i32_2075
  let ⟨v5598, v5621, v5622, c1_i32_2109⟩ : Σ' (v5598 : FVec F S1x256 .f32) (v5621 : BitVec 32) (v5622 : FVec F S256x640 .f32), BitVec 32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5555 v5558 v5567_0 v5567_2 v5569 v5570 v5578
  let ⟨v5637, v5640, v5649_0, v5649_2, v5651, v5652, v5660⟩ : Σ' (v5637 : FVec F S1x256 .f32) (v5640 : FVec F S1x256 .f32) (v5649_0 : FVec F S1x256 .f32) (v5649_2 : FVec F S256x512 .f32) (v5651 : FVec F S1x256 .f32) (v5652 : FVec F S1x256 .f32), FVec F S256 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5569 v5570 v5598 v5621 v5622 c1_i32_2109
  let ⟨v5680, v5703, v5704, c1_i32_2143⟩ : Σ' (v5680 : FVec F S1x256 .f32) (v5703 : BitVec 32) (v5704 : FVec F S256x640 .f32), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5637 v5640 v5649_0 v5649_2 v5651 v5652 v5660
  let ⟨v5719, v5722, v5731_0, v5731_2, v5733, v5734, v5742⟩ : Σ' (v5719 : FVec F S1x256 .f32) (v5722 : FVec F S1x256 .f32) (v5731_0 : FVec F S1x256 .f32) (v5731_2 : FVec F S256x512 .f32) (v5733 : FVec F S1x256 .f32) (v5734 : FVec F S1x256 .f32), FVec F S256 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5651 v5652 v5680 v5703 v5704 c1_i32_2143
  let ⟨v5762, v5785, v5786, c1_i32_2177⟩ : Σ' (v5762 : FVec F S1x256 .f32) (v5785 : BitVec 32) (v5786 : FVec F S256x640 .f32), BitVec 32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5719 v5722 v5731_0 v5731_2 v5733 v5734 v5742
  let v5787 : FVec F S256x640 .f32 ← Scf.Loop.for (k0_t24_loop i v5463) (k0_t24_ok i v5429 v5463 k0_hw1 k0_h8) v5786 fun k0_t24 arg20 => do
    let ⟨v5795, v5805, v5831⟩ : Σ' (v5795 : BitVec 32) (v5805 : FVec F S256x256 .bf16), FVec F S256x128 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5463 k0_hw1 v5733 v5734 v5762 v5785 c1_i32_2177 k0_t24
    let v5833 : Vec F S1x256x128 .f32 ← Prog.lift (.load arg13 (Rect.unit (s := S1x2560x640) (k0_off105 i v5463 k0_t24) S1x256x128.size (k0_off105_inb i v5429 v5463 k0_hw1 k0_t24 k0_h8)).toLoadRect (View.loadsAt_vmem h_S1x256x128))
    have v5834 : FVec F S256x128 .f32 := shapeCast S256x128 v5833 shapeCasts_S1x256x128_S256x128
    have v5835 : FVec F S1x256x128 .f32 := shapeCast S1x256x128 v5831 shapeCasts_S256x128_S1x256x128
    Prog.lift (.store arg13 (Rect.unit (s := S1x2560x640) (k0_off105 i v5463 k0_t24) S1x256x128.size (k0_off105_inb i v5429 v5463 k0_hw1 k0_t24 k0_h8)) v5835 Finset.univ (View.stores_vmem_bits_univ h_S1x256x128 rfl) (.inl rfl))
    let v5836 : Index := Scalar.indexCast v5795
    let c0_2202 : Index := 0#32
    let v5837 : Vec F S256x640 .bf16 ← Prog.lift (.load arg6 (Rect.unit (s := S2560x640) (k0_off106 i v5463 k0_t24) S256x640.size (k0_off106_inb i v5429 v5463 k0_hw1 k0_t24 k0_h8)).toLoadRect (View.loadsAt_vmem h_S256x640))
    have cst_2203 : FVec F S256x640 .f32 := constant S256x640 .f32 0x00000000#32
    have v5838 : FVec F S256x640 .f32 := matmul dot_S256x256_S256x640_S256x640_0_0_1_1_n_n none v5805 v5837 cst_2203
    have v5839 : FVec F S256x640 .f32 := addf arg20 v5838
    pure v5839
  have cst_2178 : F .f32 := Scalar.ofBits .f32 0x3D93CD3A#32
  have v5788 : FVec F S256x640 .f32 := broadcast S256x640 cst_2178
  have v5789 : FVec F S256x640 .f32 := mulf v5787 v5788
  have v5790 : FVec F S256x512 .f32 := extractStridedSlice S256x512 ![0, 0] v5789 slices_S256x640_o0_0_S256x512
  let c768_2179 : Index := 768#32
  let c0_2180 : Index := 0#32
  let v5791 : Vec F S256x512 .f32 ← Prog.lift (.load arg9 (Rect.unit (s := S1024x512) ![768, 0] S256x512.size inb_S1024x512_S256x512_768_0).toLoadRect (View.loadsAt_vmem h_S256x512))
  Prog.lift (.store arg9 (Rect.unit (s := S1024x512) ![768, 0] S256x512.size inb_S1024x512_S256x512_768_0) v5790 Finset.univ (View.stores_vmem_bits_univ h_S256x512 rfl) (.inl rfl))
  have v5792 : FVec F S256x64 .f32 := extractStridedSlice S256x64 ![0, 512] v5789 slices_S256x640_o0_512_S256x64
  let c768_2181 : Index := 768#32
  let c0_2182 : Index := 0#32
  let v5793 : Vec F S256x64 .f32 ← Prog.lift (.load arg10 (Rect.unit (s := S1024x64) ![768, 0] S256x64.size inb_S1024x64_S256x64_768_0).toLoadRect (View.loadsAt_vmem h_S256x64))
  Prog.lift (.store arg10 (Rect.unit (s := S1024x64) ![768, 0] S256x64.size inb_S1024x64_S256x64_768_0) v5792 Finset.univ (View.stores_vmem_bits_univ h_S256x64 rfl) (.inl rfl))
  pure ⟨⟩

set_option maxRecDepth 65536 in
theorem h72' (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    if h : condOf (Scalar.cmpi .eq (BitVec.ofNat 32 (i 0).val) 0#32) = 1#1 then
      (ldst arg14 (M 1024 128).size ![0, 640] (by decide) (by decide)
        (View.stores_vmem (show 0 < (M 1024 128).numel by decide) (harg14.storeExact_slice rfl _ (by decide)) (fun _ => rfl)) (shapeCast (M 1024 128) oneHot rfl)) >>= fun _ => acc72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    else acc72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  sl_kernel_rfl

set_option maxRecDepth 65536 in
theorem h72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (proHot ⟨arg1, arg2, arg3, arg4, arg5, arg6, arg7, arg8, arg9, arg10, arg11, arg12, arg13, arg14, arg15, arg16, arg17, arg18, harg7, harg11, harg14, harg15, harg16⟩ (BitVec.ofNat 32 (i 0).val) >>= fun _ => proAcc ⟨arg1, arg2, arg3, arg4, arg5, arg6, arg7, arg8, arg9, arg10, arg11, arg12, arg13, arg14, arg15, arg16, arg17, arg18, harg7, harg11, harg14, harg15, harg16⟩ (BitVec.ofNat 32 (i 0).val) >>= fun _ => rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  refine (h72' i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18).trans ?_
  unfold proHot proAcc acc72
  simp only [dite_then]
  rfl

set_option maxRecDepth 65536 in
theorem h64 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) :
    k0_part64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v5423 (Scalar.muli (stepB (BitVec.ofNat 32 (i 0).val)) 32#32) v5427 v h8 =
    (smemLoad (Val := Elt F) (e := .i32) arg1 (Rect.unit (s := ⟨1, ![160]⟩) (k0_off2 i) ![1] (k0_off2_inb i)) (show Shape.numel ⟨1, ![1]⟩ = 1 by decide) rfl >>= fun w =>
      Prog.lift (TpuEff.assume (k0_chk1 i v w) (k0_chk1.dec i v w)) >>= fun c =>
      head ⟨arg1, arg2, arg3, arg4, arg5, arg6, arg7, arg8, arg9, arg10, arg11, arg12, arg13, arg14, arg15, arg16, arg17, arg18, harg7, harg11, harg14, harg15, harg16⟩ consts v5423 v5427 0 (lo0 i v w c.down h8) fun r => pure ⟨tileHi i, w, c.down, tileLo i w, r.smax, r.m, r.den, r.o, r.rden, r.dt, r.row⟩) := by
  sl_kernel_rfl

set_option maxRecDepth 65536 in
theorem h65 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 0 (lo0 i v w hw h8) r fun wg dq => pure ⟨wg, (k0_t6_loop i w).lb, dq, 1#32⟩ := by
  sl_kernel_rfl

set_option maxRecDepth 65536 in
theorem h66 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 0 (lo0 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 1 (lo1 i v w hw h8) fun r => pure ⟨r.smax, r.m, r.den, r.o, r.rden, r.dt, r.row⟩) := by
  sl_kernel_rfl

set_option maxRecDepth 65536 in
theorem h67 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 1 (lo1 i v w hw h8) r fun wg dq => pure ⟨wg, (k0_t6_loop i w).lb, dq, 1#32⟩ := by
  sl_kernel_rfl

set_option maxRecDepth 65536 in
theorem h68 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 1 (lo1 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 2 (lo2 i v w hw h8) fun r => pure ⟨r.smax, r.m, r.den, r.o, r.rden, r.dt, r.row⟩) := by
  sl_kernel_rfl

set_option maxRecDepth 65536 in
theorem h69 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 2 (lo2 i v w hw h8) r fun wg dq => pure ⟨wg, (k0_t6_loop i w).lb, dq, 1#32⟩ := by
  sl_kernel_rfl

set_option maxRecDepth 65536 in
theorem h70 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 2 (lo2 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 3 (lo3 i v w hw h8) fun r => pure ⟨r.smax, r.m, r.den, r.o, r.rden, r.dt, r.row⟩) := by
  sl_kernel_rfl

set_option maxRecDepth 65536 in
theorem h71 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 3 (lo3 i v w hw h8) r fun wg dq => pure ⟨wg, (k0_t6_loop i w).lb, dq, 1#32⟩ := by
  sl_kernel_rfl

set_option maxRecDepth 65536 in
theorem tiles_eq (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) :
    tiles (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 (Scalar.muli (stepB (BitVec.ofNat 32 (i 0).val)) 32#32) v5427 v h8 =
    (smemLoad (Val := Elt F) (e := .i32) arg1 (Rect.unit (s := ⟨1, ![160]⟩) (k0_off2 i) ![1] (k0_off2_inb i)) (show Shape.numel ⟨1, ![1]⟩ = 1 by decide) rfl >>= fun w =>
      Prog.lift (TpuEff.assume (k0_chk1 i v w) (k0_chk1.dec i v w)) >>= fun c =>
      long ⟨arg1, arg2, arg3, arg4, arg5, arg6, arg7, arg8, arg9, arg10, arg11, arg12, arg13, arg14, arg15, arg16, arg17, arg18, harg7, harg11, harg14, harg15, harg16⟩ consts v5423 v5427 ((offs i).lo v w c.down h8)) := by
  unfold tiles long quarter
  refine (congrArg (fun p => p >>= _) (h64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8)).trans ?_
  refine (Prog.bind_assoc _ _ _).trans ?_
  refine congrArg (Bind.bind _) (funext fun w => ?_)
  refine (Prog.bind_assoc _ _ _).trans ?_
  refine congrArg (Bind.bind _) (funext fun c => ?_)
  refine (head_bind _ _ _ _ _ _ _ _).trans ?_
  refine congrArg (head (F := F) _ _ _ _ 0 (lo0 i v w c.down h8)) (funext fun r0 => ?_)
  refine (congrArg (fun p => p >>= _) (h65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r0)).trans ?_
  refine (mid_bind _ _ _ _ _ _ _).trans ?_
  refine congrArg (mid (F := F) _ _ 0 (lo0 i v w c.down h8) _) (funext fun wg => funext fun dq => ?_)
  refine (congrArg (fun p => p >>= _) (h66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r0 wg dq)).trans ?_
  refine (tail_bind _ _ _ _ _ _ _ _ _).trans ?_
  refine congrArg (tail (F := F) _ 0 (lo0 i v w c.down h8) _ _ _ _) ?_
  refine (head_bind _ _ _ _ _ _ _ _).trans ?_
  refine congrArg (head (F := F) _ _ _ _ 1 (lo1 i v w c.down h8)) (funext fun r1 => ?_)
  refine (congrArg (fun p => p >>= _) (h67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r1)).trans ?_
  refine (mid_bind _ _ _ _ _ _ _).trans ?_
  refine congrArg (mid (F := F) _ _ 1 (lo1 i v w c.down h8) _) (funext fun wg => funext fun dq => ?_)
  refine (congrArg (fun p => p >>= _) (h68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r1 wg dq)).trans ?_
  refine (tail_bind _ _ _ _ _ _ _ _ _).trans ?_
  refine congrArg (tail (F := F) _ 1 (lo1 i v w c.down h8) _ _ _ _) ?_
  refine (head_bind _ _ _ _ _ _ _ _).trans ?_
  refine congrArg (head (F := F) _ _ _ _ 2 (lo2 i v w c.down h8)) (funext fun r2 => ?_)
  refine (congrArg (fun p => p >>= _) (h69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r2)).trans ?_
  refine (mid_bind _ _ _ _ _ _ _).trans ?_
  refine congrArg (mid (F := F) _ _ 2 (lo2 i v w c.down h8) _) (funext fun wg => funext fun dq => ?_)
  refine (congrArg (fun p => p >>= _) (h70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r2 wg dq)).trans ?_
  refine (tail_bind _ _ _ _ _ _ _ _ _).trans ?_
  refine congrArg (tail (F := F) _ 2 (lo2 i v w c.down h8) _ _ _ _) ?_
  refine (head_bind _ _ _ _ _ _ _ _).trans ?_
  refine congrArg (head (F := F) _ _ _ _ 3 (lo3 i v w c.down h8)) (funext fun r3 => ?_)
  refine (congrArg (fun p => p >>= _) (h71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r3)).trans ?_
  refine (mid_bind _ _ _ _ _ _ _).trans ?_
  refine congrArg (mid (F := F) _ _ 3 (lo3 i v w c.down h8) _) (funext fun wg => funext fun dq => ?_)
  sl_kernel_rfl

theorem rot {E : Type → Type} {α β γ : Type} (a b : Prog E PUnit) (c : Prog E α) (f : α → Prog E β) (g : β → Prog E γ) :
    (((a >>= fun _ => b >>= fun _ => c) >>= f) >>= g) = (a >>= fun _ => b >>= fun _ => (c >>= f) >>= g) := by
  simp only [Prog.bind_assoc]

set_option maxRecDepth 65536 in
/-- The printed body is the written one. -/
theorem body_eq (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    cc0_mla_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = body ⟨arg1, arg2, arg3, arg4, arg5, arg6, arg7, arg8, arg9, arg10, arg11, arg12, arg13, arg14, arg15, arg16, arg17, arg18, harg7, harg11, harg14, harg15, harg16⟩ consts (BitVec.ofNat 32 (i 0).val) (offs i) := by
  refine (congrArg (fun p => (p >>= _) >>= _) (h72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)).trans ?_
  refine (rot _ _ _ _ _).trans ?_
  refine congrArg (Bind.bind _) (funext fun _ => ?_)
  refine congrArg (Bind.bind _) (funext fun _ => ?_)
  refine Eq.trans (b := (pro ⟨arg1, arg2, arg3, arg4, arg5, arg6, arg7, arg8, arg9, arg10, arg11, arg12, arg13, arg14, arg15, arg16, arg17, arg18, harg7, harg11, harg14, harg15, harg16⟩ consts (BitVec.ofNat 32 (i 0).val) >>= fun _ => do
    let starts ← ld arg2 (M 1 128).size (offs i).st (offs i).ist (by decide)
    let need ← smemLoad (Val := Elt F) (e := .i32) arg1 (Rect.unit (s := ⟨1, ![160]⟩) (offs i).nd ![1] (offs i).ind) (show Shape.numel ⟨1, ![1]⟩ = 1 by decide) rfl
    let t0 : BitVec 32 := (Scalar.muli (stepB (BitVec.ofNat 32 (i 0).val)) 32#32)
    let qpos : IVec (M 1 128) 32 := addi (broadcast (M 1 128) t0) (iota .tc (M 1 128) 32 [1] (by decide))
    if h : condW 0#32 128#32 need = 1#1 then window wf128 (offs i).w3 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 128#32 256#32 need = 1#1 then window wf256 (offs i).w4 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 256#32 384#32 need = 1#1 then window wf384 (offs i).w5 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 384#32 512#32 need = 1#1 then window wf512 (offs i).w6 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 512#32 768#32 need = 1#1 then window wf768 (offs i).w7 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : k0_cond8 need = 1#1 then tiles i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 starts t0 qpos need h else pure ⟨⟩)) (by sl_kernel_rfl) ?_
  simp only [tiles_eq, windows, dite_then]
  rfl

end Cert.KernelIdeal.Eq
end
-- ==== Proof.Hoare.lean ====
module

public import proofs.«01_k».proof.Proof.Long
public import Idealize.ShloMosaic.Lib.Memref
public import Idealize.ShloMosaic.Lib.VecWindow
public import Idealize.ShloMosaic.Lib.Scf
public import Idealize.ShloMosaic.Rules.Step

@[expose] public section

/-! Triples of the body: from known contents of its eighteen buffers to contents that satisfy a post. -/

noncomputable section

namespace Attn
open Idealize.ShloMosaic Idealize.SL Idealize.SL.Sem
open Idealize.SL.BI (sProp)
open scoped Idealize.SL.BI
open Idealize.SL.BI.BIBase Idealize.SL.BI.Laws Idealize.SL.ProofMode
open Idealize.SL.RA

/-- The one index of a one-element vector. -/
def zix : (⟨1, ![1]⟩ : Shape).Idx := fun a => ⟨0, by revert a; decide⟩

/-- The contents of the buffers. -/
@[ext]
structure St (F : FTy → Type) where
  x1 : Vec F ⟨1, ![160]⟩ .i32
  x2 : Vec F (M 160 128) .i32
  x3 : Vec F (M 1024 512) .bf16
  x4 : Vec F (M 1024 64) .bf16
  x5 : Vec F (M 1024 512) .bf16
  x6 : Vec F (M 2560 640) .bf16
  x7 : Vec F (M 1024 512) .bf16
  x8 : Vec F ⟨3, ![1, 4, 256]⟩ .f32
  x9 : Vec F (M 1024 512) .f32
  x10 : Vec F (M 1024 64) .f32
  x11 : Vec F (M 1024 512) .fp8e4m3
  x12 : Vec F ⟨4, ![1, 32, 4, 128]⟩ .f32
  x13 : Vec F ⟨3, ![1, 2560, 640]⟩ .f32
  x14 : Vec F (M 1024 768) .bf16
  x15 : Vec F (M 768 1024) .bf16
  x16 : Vec F (M 768 1024) .bf16
  x17 : Vec F (M 2560 256) .f32
  x18 : Vec F (M 2560 256) .f32

section
variable {nD : Nat} {τ : Topo} {sig : RefSig} {Λ : Labels} {F : FTy → Type} [FloatOps F]
variable {Ix : Type} [DecidableEq Ix] {Name : Type} [DecidableEq Name] {U : Type} [URA U] {Lvl : Type}

local notation "𝕄" => MT nD τ sig Ix (Elt F) Name U Lvl

/-- The eighteen buffers owned at contents. -/
def Own (d : Dev nD) (q : PosShare TreeShare) (A : Args sig) (s : St F) : sProp 𝕄 :=
  iprop(owns (d.tc : Thread nD τ) A.a1 q s.x1 ∗ owns (d.tc : Thread nD τ) A.a2 fullShare s.x2 ∗ owns (d.tc : Thread nD τ) A.a3 fullShare s.x3 ∗ owns (d.tc : Thread nD τ) A.a4 fullShare s.x4 ∗ owns (d.tc : Thread nD τ) A.a5 fullShare s.x5 ∗ owns (d.tc : Thread nD τ) A.a6 fullShare s.x6 ∗ owns (d.tc : Thread nD τ) A.a7 fullShare s.x7 ∗ owns (d.tc : Thread nD τ) A.a8 fullShare s.x8 ∗ owns (d.tc : Thread nD τ) A.a9 fullShare s.x9 ∗ owns (d.tc : Thread nD τ) A.a10 fullShare s.x10 ∗ owns (d.tc : Thread nD τ) A.a11 fullShare s.x11 ∗ owns (d.tc : Thread nD τ) A.a12 fullShare s.x12 ∗ owns (d.tc : Thread nD τ) A.a13 fullShare s.x13 ∗ owns (d.tc : Thread nD τ) A.a14 fullShare s.x14 ∗ owns (d.tc : Thread nD τ) A.a15 fullShare s.x15 ∗ owns (d.tc : Thread nD τ) A.a16 fullShare s.x16 ∗ owns (d.tc : Thread nD τ) A.a17 fullShare s.x17 ∗ owns (d.tc : Thread nD τ) A.a18 fullShare s.x18)

theorem own_x1 (d : Dev nD) (q : PosShare TreeShare) (A : Args sig) (s : St F) :
    (Own d q A s : sProp 𝕄) ⊢ iprop(owns (d.tc : Thread nD τ) A.a1 q s.x1 ∗ ∀ X, owns (d.tc : Thread nD τ) A.a1 q X -∗ Own d q A {s with x1 := X}) := by
  unfold Own
  iintro ⟨H1, H2, H3, H4, H5, H6, H7, H8, H9, H10, H11, H12, H13, H14, H15, H16, H17, H18⟩
  isplitl [H1]
  · iexact H1
  · iintro %X H
    isplitl [H]; · iexact H
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x2 (d : Dev nD) (q : PosShare TreeShare) (A : Args sig) (s : St F) :
    (Own d q A s : sProp 𝕄) ⊢ iprop(owns (d.tc : Thread nD τ) A.a2 fullShare s.x2 ∗ ∀ X, owns (d.tc : Thread nD τ) A.a2 fullShare X -∗ Own d q A {s with x2 := X}) := by
  unfold Own
  iintro ⟨H1, H2, H3, H4, H5, H6, H7, H8, H9, H10, H11, H12, H13, H14, H15, H16, H17, H18⟩
  isplitl [H2]
  · iexact H2
  · iintro %X H
    isplitl [H1]; · iexact H1
    isplitl [H]; · iexact H
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x3 (d : Dev nD) (q : PosShare TreeShare) (A : Args sig) (s : St F) :
    (Own d q A s : sProp 𝕄) ⊢ iprop(owns (d.tc : Thread nD τ) A.a3 fullShare s.x3 ∗ ∀ X, owns (d.tc : Thread nD τ) A.a3 fullShare X -∗ Own d q A {s with x3 := X}) := by
  unfold Own
  iintro ⟨H1, H2, H3, H4, H5, H6, H7, H8, H9, H10, H11, H12, H13, H14, H15, H16, H17, H18⟩
  isplitl [H3]
  · iexact H3
  · iintro %X H
    isplitl [H1]; · iexact H1
    isplitl [H2]; · iexact H2
    isplitl [H]; · iexact H
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x4 (d : Dev nD) (q : PosShare TreeShare) (A : Args sig) (s : St F) :
    (Own d q A s : sProp 𝕄) ⊢ iprop(owns (d.tc : Thread nD τ) A.a4 fullShare s.x4 ∗ ∀ X, owns (d.tc : Thread nD τ) A.a4 fullShare X -∗ Own d q A {s with x4 := X}) := by
  unfold Own
  iintro ⟨H1, H2, H3, H4, H5, H6, H7, H8, H9, H10, H11, H12, H13, H14, H15, H16, H17, H18⟩
  isplitl [H4]
  · iexact H4
  · iintro %X H
    isplitl [H1]; · iexact H1
    isplitl [H2]; · iexact H2
    isplitl [H3]; · iexact H3
    isplitl [H]; · iexact H
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x5 (d : Dev nD) (q : PosShare TreeShare) (A : Args sig) (s : St F) :
    (Own d q A s : sProp 𝕄) ⊢ iprop(owns (d.tc : Thread nD τ) A.a5 fullShare s.x5 ∗ ∀ X, owns (d.tc : Thread nD τ) A.a5 fullShare X -∗ Own d q A {s with x5 := X}) := by
  unfold Own
  iintro ⟨H1, H2, H3, H4, H5, H6, H7, H8, H9, H10, H11, H12, H13, H14, H15, H16, H17, H18⟩
  isplitl [H5]
  · iexact H5
  · iintro %X H
    isplitl [H1]; · iexact H1
    isplitl [H2]; · iexact H2
    isplitl [H3]; · iexact H3
    isplitl [H4]; · iexact H4
    isplitl [H]; · iexact H
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x6 (d : Dev nD) (q : PosShare TreeShare) (A : Args sig) (s : St F) :
    (Own d q A s : sProp 𝕄) ⊢ iprop(owns (d.tc : Thread nD τ) A.a6 fullShare s.x6 ∗ ∀ X, owns (d.tc : Thread nD τ) A.a6 fullShare X -∗ Own d q A {s with x6 := X}) := by
  unfold Own
  iintro ⟨H1, H2, H3, H4, H5, H6, H7, H8, H9, H10, H11, H12, H13, H14, H15, H16, H17, H18⟩
  isplitl [H6]
  · iexact H6
  · iintro %X H
    isplitl [H1]; · iexact H1
    isplitl [H2]; · iexact H2
    isplitl [H3]; · iexact H3
    isplitl [H4]; · iexact H4
    isplitl [H5]; · iexact H5
    isplitl [H]; · iexact H
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x7 (d : Dev nD) (q : PosShare TreeShare) (A : Args sig) (s : St F) :
    (Own d q A s : sProp 𝕄) ⊢ iprop(owns (d.tc : Thread nD τ) A.a7 fullShare s.x7 ∗ ∀ X, owns (d.tc : Thread nD τ) A.a7 fullShare X -∗ Own d q A {s with x7 := X}) := by
  unfold Own
  iintro ⟨H1, H2, H3, H4, H5, H6, H7, H8, H9, H10, H11, H12, H13, H14, H15, H16, H17, H18⟩
  isplitl [H7]
  · iexact H7
  · iintro %X H
    isplitl [H1]; · iexact H1
    isplitl [H2]; · iexact H2
    isplitl [H3]; · iexact H3
    isplitl [H4]; · iexact H4
    isplitl [H5]; · iexact H5
    isplitl [H6]; · iexact H6
    isplitl [H]; · iexact H
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x8 (d : Dev nD) (q : PosShare TreeShare) (A : Args sig) (s : St F) :
    (Own d q A s : sProp 𝕄) ⊢ iprop(owns (d.tc : Thread nD τ) A.a8 fullShare s.x8 ∗ ∀ X, owns (d.tc : Thread nD τ) A.a8 fullShare X -∗ Own d q A {s with x8 := X}) := by
  unfold Own
  iintro ⟨H1, H2, H3, H4, H5, H6, H7, H8, H9, H10, H11, H12, H13, H14, H15, H16, H17, H18⟩
  isplitl [H8]
  · iexact H8
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H]; · iexact H
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x9 (d : Dev nD) (q : PosShare TreeShare) (A : Args sig) (s : St F) :
    (Own d q A s : sProp 𝕄) ⊢ iprop(owns (d.tc : Thread nD τ) A.a9 fullShare s.x9 ∗ ∀ X, owns (d.tc : Thread nD τ) A.a9 fullShare X -∗ Own d q A {s with x9 := X}) := by
  unfold Own
  iintro ⟨H1, H2, H3, H4, H5, H6, H7, H8, H9, H10, H11, H12, H13, H14, H15, H16, H17, H18⟩
  isplitl [H9]
  · iexact H9
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H]; · iexact H
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x10 (d : Dev nD) (q : PosShare TreeShare) (A : Args sig) (s : St F) :
    (Own d q A s : sProp 𝕄) ⊢ iprop(owns (d.tc : Thread nD τ) A.a10 fullShare s.x10 ∗ ∀ X, owns (d.tc : Thread nD τ) A.a10 fullShare X -∗ Own d q A {s with x10 := X}) := by
  unfold Own
  iintro ⟨H1, H2, H3, H4, H5, H6, H7, H8, H9, H10, H11, H12, H13, H14, H15, H16, H17, H18⟩
  isplitl [H10]
  · iexact H10
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H]; · iexact H
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem own_x11 (d : Dev nD) (q : PosShare TreeShare) (A : Args sig) (s : St F) :
    (Own d q A s : sProp 𝕄) ⊢ iprop(owns (d.tc : Thread nD τ) A.a11 fullShare s.x11 ∗ ∀ X, owns (d.tc : Thread nD τ) A.a11 fullShare X -∗ Own d q A {s with x11 := X}) := by
  unfold Own
  iintro ⟨H1, H2, H3, H4, H5, H6, H7, H8, H9, H10, H11, H12, H13, H14, H15, H16, H17, H18⟩
  isplitl [H11]
  · iexact H11
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H]; · iexact H
    isplitl [H12]; · iexact H12
    isplitl [H13]; · iexact H13
    isplitl [H14]; · iexact H14
    isplitl [H15]; · iexact H15
    isplitl [H16]; · iexact H16
    isplitl [H17]; · iexact H17
    iexact H18

theorem own_x12 (d : Dev nD) (q : PosShare TreeShare) (A : Args sig) (s : St F) :
    (Own d q A s : sProp 𝕄) ⊢ iprop(owns (d.tc : Thread nD τ) A.a12 fullShare s.x12 ∗ ∀ X, owns (d.tc : Thread nD τ) A.a12 fullShare X -∗ Own d q A {s with x12 := X}) := by
  unfold Own
  iintro ⟨H1, H2, H3, H4, H5, H6, H7, H8, H9, H10, H11, H12, H13, H14, H15, H16, H17, H18⟩
  isplitl [H12]
  · iexact H12
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H]; · iexact H
    isplitl [H13]; · iexact H13
    isplitl [H14]; · iexact H14
    isplitl [H15]; · iexact H15
    isplitl [H16]; · iexact H16
    isplitl [H17]; · iexact H17
    iexact H18

theorem own_x13 (d : Dev nD) (q : PosShare TreeShare) (A : Args sig) (s : St F) :
    (Own d q A s : sProp 𝕄) ⊢ iprop(owns (d.tc : Thread nD τ) A.a13 fullShare s.x13 ∗ ∀ X, owns (d.tc : Thread nD τ) A.a13 fullShare X -∗ Own d q A {s with x13 := X}) := by
  unfold Own
  iintro ⟨H1, H2, H3, H4, H5, H6, H7, H8, H9, H10, H11, H12, H13, H14, H15, H16, H17, H18⟩
  isplitl [H13]
  · iexact H13
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H]; · iexact H
    isplitl [H14]; · iexact H14
    isplitl [H15]; · iexact H15
    isplitl [H16]; · iexact H16
    isplitl [H17]; · iexact H17
    iexact H18

theorem own_x14 (d : Dev nD) (q : PosShare TreeShare) (A : Args sig) (s : St F) :
    (Own d q A s : sProp 𝕄) ⊢ iprop(owns (d.tc : Thread nD τ) A.a14 fullShare s.x14 ∗ ∀ X, owns (d.tc : Thread nD τ) A.a14 fullShare X -∗ Own d q A {s with x14 := X}) := by
  unfold Own
  iintro ⟨H1, H2, H3, H4, H5, H6, H7, H8, H9, H10, H11, H12, H13, H14, H15, H16, H17, H18⟩
  isplitl [H14]
  · iexact H14
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H]; · iexact H
    isplitl [H15]; · iexact H15
    isplitl [H16]; · iexact H16
    isplitl [H17]; · iexact H17
    iexact H18

theorem own_x15 (d : Dev nD) (q : PosShare TreeShare) (A : Args sig) (s : St F) :
    (Own d q A s : sProp 𝕄) ⊢ iprop(owns (d.tc : Thread nD τ) A.a15 fullShare s.x15 ∗ ∀ X, owns (d.tc : Thread nD τ) A.a15 fullShare X -∗ Own d q A {s with x15 := X}) := by
  unfold Own
  iintro ⟨H1, H2, H3, H4, H5, H6, H7, H8, H9, H10, H11, H12, H13, H14, H15, H16, H17, H18⟩
  isplitl [H15]
  · iexact H15
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H]; · iexact H
    isplitl [H16]; · iexact H16
    isplitl [H17]; · iexact H17
    iexact H18

theorem own_x16 (d : Dev nD) (q : PosShare TreeShare) (A : Args sig) (s : St F) :
    (Own d q A s : sProp 𝕄) ⊢ iprop(owns (d.tc : Thread nD τ) A.a16 fullShare s.x16 ∗ ∀ X, owns (d.tc : Thread nD τ) A.a16 fullShare X -∗ Own d q A {s with x16 := X}) := by
  unfold Own
  iintro ⟨H1, H2, H3, H4, H5, H6, H7, H8, H9, H10, H11, H12, H13, H14, H15, H16, H17, H18⟩
  isplitl [H16]
  · iexact H16
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H]; · iexact H
    isplitl [H17]; · iexact H17
    iexact H18

theorem own_x17 (d : Dev nD) (q : PosShare TreeShare) (A : Args sig) (s : St F) :
    (Own d q A s : sProp 𝕄) ⊢ iprop(owns (d.tc : Thread nD τ) A.a17 fullShare s.x17 ∗ ∀ X, owns (d.tc : Thread nD τ) A.a17 fullShare X -∗ Own d q A {s with x17 := X}) := by
  unfold Own
  iintro ⟨H1, H2, H3, H4, H5, H6, H7, H8, H9, H10, H11, H12, H13, H14, H15, H16, H17, H18⟩
  isplitl [H17]
  · iexact H17
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H]; · iexact H
    iexact H18

theorem own_x18 (d : Dev nD) (q : PosShare TreeShare) (A : Args sig) (s : St F) :
    (Own d q A s : sProp 𝕄) ⊢ iprop(owns (d.tc : Thread nD τ) A.a18 fullShare s.x18 ∗ ∀ X, owns (d.tc : Thread nD τ) A.a18 fullShare X -∗ Own d q A {s with x18 := X}) := by
  unfold Own
  iintro ⟨H1, H2, H3, H4, H5, H6, H7, H8, H9, H10, H11, H12, H13, H14, H15, H16, H17, H18⟩
  isplitl [H18]
  · iexact H18
  · iintro %X H
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H

variable [Preorder Lvl] (defs : Defs nD τ sig (Elt F) Λ) (𝒱 : Variants) (d : Dev nD) (bd : Option 𝒱.V) (E : Set Name) (q : PosShare TreeShare) (A : Args sig)

/-- Run from contents `s`, the program ends with a result and contents that satisfy `Q`. -/
def Tr {α : Type} (p : Pg nD τ sig Λ F α) (s : St F) (Q : α → St F → Prop) : Prop :=
  (Own d q A s : sProp 𝕄) ⊢ wp frame (wpE defs 𝒱 (d.tc : Thread nD τ) bd) E p (fun a => iprop(∃ s', ⌜Q a s'⌝ ∗ Own d q A s'))

variable {defs 𝒱 d bd E q A}
local notation "TR" => Tr (Ix := Ix) (Name := Name) (U := U) (Lvl := Lvl) defs 𝒱 d bd E q A

theorem Tr.out {α : Type} {p : Pg nD τ sig Λ F α} {s : St F} {Q : α → St F → Prop} (h : TR p s Q) :
    (Own d q A s : sProp 𝕄) ⊢ wp frame (wpE defs 𝒱 (d.tc : Thread nD τ) bd) E p (fun a => iprop(∃ s', ⌜Q a s'⌝ ∗ Own d q A s')) := h

theorem Tr.ret {α : Type} {a : α} {s : St F} {Q : α → St F → Prop} (h : Q a s) : TR (pure a) s Q := by
  show _ ⊢ wp frame _ E (.ret a) _
  rw [wp_ret]
  iintro H
  imodintro
  iexists s
  isplitr; · ipureintro; exact h
  iexact H

theorem Tr.mono {α : Type} {p : Pg nD τ sig Λ F α} {s : St F} {Q Q' : α → St F → Prop} (h : TR p s Q) (hQ : ∀ a s', Q a s' → Q' a s') : TR p s Q' := by
  refine BI.Entails.trans h (wp_mono _ _ _ fun a => ?_)
  iintro ⟨%s', %h', H⟩
  iexists s'
  isplitr; · ipureintro; exact hQ _ _ h'
  iexact H

theorem Tr.bind {α β : Type} {p : Pg nD τ sig Λ F α} {k : α → Pg nD τ sig Λ F β} {s : St F} {R : α → St F → Prop} {Q : β → St F → Prop}
    (h : TR p s R) (hk : ∀ a s', R a s' → TR (k a) s' Q) : TR (p >>= k) s Q := by
  unfold Tr
  rw [wp_bind]
  refine BI.Entails.trans h (wp_mono _ _ _ fun a => ?_)
  iintro ⟨%s', %h', H⟩
  iapply (hk a s' h').out
  iexact H

theorem Tr.dite {α : Type} {c : Prop} [Decidable c] {p : c → Pg nD τ sig Λ F α} {p' : ¬c → Pg nD τ sig Λ F α} {s : St F} {Q : α → St F → Prop}
    (h : ∀ hc, TR (p hc) s Q) (h' : ∀ hc, TR (p' hc) s Q) : TR (if hc : c then p hc else p' hc) s Q := by
  split
  · exact h _
  · exact h' _

/-- A buffer of the eighteen: its contents, and how to change them. -/
structure Lens (d : Dev nD) (q : PosShare TreeShare) (A : Args sig) {sh : Shape} {e : EltTy} (m : Memref sig .tc .vmem sh e)
    (get : St F → Vec F sh e) (set : St F → Vec F sh e → St F) : Prop where
  self : ∀ s, set s (get s) = s
  own : ∀ s, (Own d q A s : sProp 𝕄) ⊢ iprop(owns (d.tc : Thread nD τ) m fullShare (get s) ∗ ∀ X, owns (d.tc : Thread nD τ) m fullShare X -∗ Own d q A (set s X))

theorem Tr.ld {sh : Shape} {e : EltTy} {m : Memref sig .tc .vmem sh e} {get : St F → Vec F sh e} {set : St F → Vec F sh e → St F}
    (L : Lens (τ := τ) (Ix := Ix) (Name := Name) (U := U) (Lvl := Lvl) d q A m get set) {sz off : Fin sh.rank → Nat} {inb : ∀ a, off a + sz a ≤ sh.size a} {h0 : 0 < Shape.numel ⟨sh.rank, sz⟩} {s : St F}
    {Q : Vec F ⟨sh.rank, sz⟩ e → St F → Prop} (h : Q (VecWindow.window (get s) off sz inb) s) : TR (ld m sz off inb h0) s Q := by
  unfold Tr
  iintro H
  ihave H' := (L.own s) $$ H
  icases H' with ⟨Hm, Hback⟩
  unfold owns
  icases Hm with ⟨%f, %hf, Hm⟩
  iapply (wp_load 𝒱 (d.tc : Thread nD τ) bd E (View.setOn_subset_set _ _)) $$ Hm
  iintro Hm
  rw [wp_ret]
  imodintro
  iexists s
  isplitr
  · ipureintro
    have : m.view.readAt (Elt F) (Rect.unit (s := sh) off sz inb).toLoadRect f = VecWindow.window (get s) off sz inb := by rw [← hf]; rfl
    rw [this]; exact h
  · ihave H := Hback $$ %(get s) [Hm]
    · iexists f; isplitr; · ipureintro; exact hf
      iexact Hm
    rw [L.self]; iexact H

theorem Tr.st {sh : Shape} {e : EltTy} {m : Memref sig .tc .vmem sh e} {get : St F → Vec F sh e} {set : St F → Vec F sh e → St F}
    (L : Lens (τ := τ) (Ix := Ix) (Name := Name) (U := U) (Lvl := Lvl) d q A m get set) {sz off : Fin sh.rank → Nat} {inb : ∀ a, off a + sz a ≤ sh.size a} {v : Vec F ⟨sh.rank, sz⟩ e}
    {h1 : (m.access (Rect.unit (s := sh) off sz inb)).Stores Finset.univ} {s : St F}
    {Q : PUnit → St F → Prop} (h : Q ⟨⟩ (set s (VecWindow.put (get s) off sz v))) : TR (st m sz off inb v h1) s Q := by
  unfold Tr
  iintro H
  ihave H' := (L.own s) $$ H
  icases H' with ⟨Hm, Hback⟩
  unfold owns
  icases Hm with ⟨%f, %hf, Hm⟩
  iapply (wp_store 𝒱 (d.tc : Thread nD τ) bd E (S := m.view.set) (m := m) (r := Rect.unit (s := sh) off sz inb) (View.set_slice_subset _ _)) $$ Hm
  iintro Hm
  rw [wp_ret]
  imodintro
  iexists (set s (VecWindow.put (get s) off sz v))
  isplitr
  · ipureintro; exact h
  · iapply Hback
    iexists _
    isplitr
    rotate_left
    · iexact Hm
    · ipureintro
      have := View.read_writes_cons_put (Val := Elt F) m.view f inb v [] rfl
      rw [View.writes_nil, hf] at this
      exact this

theorem Tr.ldst {sh : Shape} {e : EltTy} {m : Memref sig .tc .vmem sh e} {get : St F → Vec F sh e} {set : St F → Vec F sh e → St F}
    (L : Lens (τ := τ) (Ix := Ix) (Name := Name) (U := U) (Lvl := Lvl) d q A m get set) {sz off : Fin sh.rank → Nat} {inb : ∀ a, off a + sz a ≤ sh.size a} {h0 : 0 < Shape.numel ⟨sh.rank, sz⟩} {v : Vec F ⟨sh.rank, sz⟩ e}
    {h1 : (m.access (Rect.unit (s := sh) off sz inb)).Stores Finset.univ} {s : St F}
    {Q : PUnit → St F → Prop} (h : Q ⟨⟩ (set s (VecWindow.put (get s) off sz v))) : TR (ldst m sz off inb h0 h1 v) s Q :=
  Tr.bind (R := fun _ s' => s' = s) (Tr.ld L rfl) fun _ s' hs => hs ▸ Tr.st L h

theorem Tr.assume {P : Prop} {dP : Decidable P} {s : St F} {Q : PLift P → St F → Prop} (hP : P) (h : Q ⟨hP⟩ s) :
    TR (Prog.lift (TpuEff.assume P dP)) s Q := by
  unfold Tr
  refine BI.Entails.trans ?_ (wp_assume 𝒱 (d.tc : Thread nD τ) bd E hP)
  exact Tr.ret h

theorem Tr.smem {off : Fin 1 → Nat} {inb : ∀ a, off a + (![1] : Fin 1 → Nat) a ≤ (![160] : Fin 1 → Nat) a} {h1 : Shape.numel ⟨1, ![1]⟩ = 1} {s : St F} {Q : BitVec 32 → St F → Prop}
    (h : Q (VecWindow.window (s := ⟨1, ![160]⟩) s.x1 off ![1] inb zix) s) :
    TR (smemLoad (Val := Elt F) (e := .i32) A.a1 (Rect.unit (s := ⟨1, ![160]⟩) off ![1] inb) h1 rfl) s Q := by
  unfold Tr
  iintro H
  ihave H' := (own_x1 d q A s) $$ H
  icases H' with ⟨Hm, Hback⟩
  unfold owns
  icases Hm with ⟨%f, %hf, Hm⟩
  iapply (wp_load 𝒱 (d.tc : Thread nD τ) bd E (View.setOn_subset_set _ _)) $$ Hm
  iintro Hm
  rw [wp_ret]
  imodintro
  iexists s
  isplitr
  · ipureintro
    have : ∀ x, A.a1.view.readAt (Elt F) (Rect.unit (s := ⟨1, ![160]⟩) off ![1] inb).toLoadRect f x = VecWindow.window (s := ⟨1, ![160]⟩) s.x1 off ![1] inb zix := by
      intro x
      have hx : x = zix := by
        funext a
        have : a = 0 := Fin.fin_one_eq_zero a
        subst this
        exact Fin.ext (Nat.lt_one_iff.mp (x 0).isLt)
      subst hx; rw [← hf]; rfl
    rw [this]; exact h
  · ihave H := Hback $$ %(s.x1) [Hm]
    · iexists f; isplitr; · ipureintro; exact hf
      iexact Hm
    iexact H

theorem Tr.for {σ : Type} {l : Scf.Loop 32} {hok : l.OK} {init : σ} {body : Fin l.trips → σ → Pg nD τ sig Λ F σ} {s : St F} {Q : σ → St F → Prop}
    (I : Nat → σ → St F → Prop) (h0 : I 0 init s) (hb : ∀ (k : Fin l.trips) a s, I k.val a s → TR (body k a) s (I (k.val + 1)))
    (hQ : ∀ a s, I l.trips a s → Q a s) : TR (Scf.Loop.for l hok init body) s Q := by
  unfold Tr
  iintro H
  iapply (Scf.wp_for frame (wpE defs 𝒱 (d.tc : Thread nD τ) bd) E l.lb l.ub l.st hok init body (fun k a => iprop(∃ s', ⌜I k a s'⌝ ∗ Own d q A s')))
  · intro k a
    iintro ⟨%s', %h', H⟩
    iapply (hb k a s' h').out
    iexact H
  · isplitl [H]
    · iexists s; isplitr; · ipureintro; exact h0
      iexact H
    · iintro %a ⟨%s', %h', H⟩
      iexists s'; isplitr; · ipureintro; exact hQ _ _ h'
      iexact H

theorem lens2 : Lens (τ := τ) (Ix := Ix) (Name := Name) (U := U) (Lvl := Lvl) d q A A.a2 (fun s : St F => s.x2) (fun s X => {s with x2 := X}) := ⟨fun _ => rfl, own_x2 d q A⟩
theorem lens3 : Lens (τ := τ) (Ix := Ix) (Name := Name) (U := U) (Lvl := Lvl) d q A A.a3 (fun s : St F => s.x3) (fun s X => {s with x3 := X}) := ⟨fun _ => rfl, own_x3 d q A⟩
theorem lens4 : Lens (τ := τ) (Ix := Ix) (Name := Name) (U := U) (Lvl := Lvl) d q A A.a4 (fun s : St F => s.x4) (fun s X => {s with x4 := X}) := ⟨fun _ => rfl, own_x4 d q A⟩
theorem lens5 : Lens (τ := τ) (Ix := Ix) (Name := Name) (U := U) (Lvl := Lvl) d q A A.a5 (fun s : St F => s.x5) (fun s X => {s with x5 := X}) := ⟨fun _ => rfl, own_x5 d q A⟩
theorem lens6 : Lens (τ := τ) (Ix := Ix) (Name := Name) (U := U) (Lvl := Lvl) d q A A.a6 (fun s : St F => s.x6) (fun s X => {s with x6 := X}) := ⟨fun _ => rfl, own_x6 d q A⟩
theorem lens7 : Lens (τ := τ) (Ix := Ix) (Name := Name) (U := U) (Lvl := Lvl) d q A A.a7 (fun s : St F => s.x7) (fun s X => {s with x7 := X}) := ⟨fun _ => rfl, own_x7 d q A⟩
theorem lens8 : Lens (τ := τ) (Ix := Ix) (Name := Name) (U := U) (Lvl := Lvl) d q A A.a8 (fun s : St F => s.x8) (fun s X => {s with x8 := X}) := ⟨fun _ => rfl, own_x8 d q A⟩
theorem lens9 : Lens (τ := τ) (Ix := Ix) (Name := Name) (U := U) (Lvl := Lvl) d q A A.a9 (fun s : St F => s.x9) (fun s X => {s with x9 := X}) := ⟨fun _ => rfl, own_x9 d q A⟩
theorem lens10 : Lens (τ := τ) (Ix := Ix) (Name := Name) (U := U) (Lvl := Lvl) d q A A.a10 (fun s : St F => s.x10) (fun s X => {s with x10 := X}) := ⟨fun _ => rfl, own_x10 d q A⟩
theorem lens11 : Lens (τ := τ) (Ix := Ix) (Name := Name) (U := U) (Lvl := Lvl) d q A A.a11 (fun s : St F => s.x11) (fun s X => {s with x11 := X}) := ⟨fun _ => rfl, own_x11 d q A⟩
theorem lens12 : Lens (τ := τ) (Ix := Ix) (Name := Name) (U := U) (Lvl := Lvl) d q A A.a12 (fun s : St F => s.x12) (fun s X => {s with x12 := X}) := ⟨fun _ => rfl, own_x12 d q A⟩
theorem lens13 : Lens (τ := τ) (Ix := Ix) (Name := Name) (U := U) (Lvl := Lvl) d q A A.a13 (fun s : St F => s.x13) (fun s X => {s with x13 := X}) := ⟨fun _ => rfl, own_x13 d q A⟩
theorem lens14 : Lens (τ := τ) (Ix := Ix) (Name := Name) (U := U) (Lvl := Lvl) d q A A.a14 (fun s : St F => s.x14) (fun s X => {s with x14 := X}) := ⟨fun _ => rfl, own_x14 d q A⟩
theorem lens15 : Lens (τ := τ) (Ix := Ix) (Name := Name) (U := U) (Lvl := Lvl) d q A A.a15 (fun s : St F => s.x15) (fun s X => {s with x15 := X}) := ⟨fun _ => rfl, own_x15 d q A⟩
theorem lens16 : Lens (τ := τ) (Ix := Ix) (Name := Name) (U := U) (Lvl := Lvl) d q A A.a16 (fun s : St F => s.x16) (fun s X => {s with x16 := X}) := ⟨fun _ => rfl, own_x16 d q A⟩
theorem lens17 : Lens (τ := τ) (Ix := Ix) (Name := Name) (U := U) (Lvl := Lvl) d q A A.a17 (fun s : St F => s.x17) (fun s X => {s with x17 := X}) := ⟨fun _ => rfl, own_x17 d q A⟩
theorem lens18 : Lens (τ := τ) (Ix := Ix) (Name := Name) (U := U) (Lvl := Lvl) d q A A.a18 (fun s : St F => s.x18) (fun s X => {s with x18 := X}) := ⟨fun _ => rfl, own_x18 d q A⟩

end

end Attn

end
-- ==== Proof.Safe.lean ====
module

public import proofs.«01_k».proof.Proof.Hoare

@[expose] public section

/-! What the windows and the tiles leave alone: the arguments, the codes and the packed queries. -/

noncomputable section

namespace Attn
open Idealize.ShloMosaic Idealize.SL Idealize.SL.Sem
open Idealize.SL.BI (sProp)
open Idealize.SL.RA

/-- The arguments are as they were. -/
structure KI {F : FTy → Type} (s s' : St F) : Prop where
  e1 : s'.x1 = s.x1
  e2 : s'.x2 = s.x2
  e3 : s'.x3 = s.x3
  e4 : s'.x4 = s.x4
  e5 : s'.x5 = s.x5
  e6 : s'.x6 = s.x6

/-- So are the codes and the packed queries. -/
structure KW {F : FTy → Type} (s s' : St F) : Prop extends KI s s' where
  e11 : s'.x11 = s.x11
  e14 : s'.x14 = s.x14

theorem KI.rfl {F : FTy → Type} {s : St F} : KI s s := ⟨.refl _, .refl _, .refl _, .refl _, .refl _, .refl _⟩
theorem KI.trans {F : FTy → Type} {a b c : St F} (h : KI a b) (g : KI b c) : KI a c :=
  ⟨g.e1.trans h.e1, g.e2.trans h.e2, g.e3.trans h.e3, g.e4.trans h.e4, g.e5.trans h.e5, g.e6.trans h.e6⟩
theorem KW.rfl {F : FTy → Type} {s : St F} : KW s s := ⟨KI.rfl, .refl _, .refl _⟩
theorem KW.trans {F : FTy → Type} {a b c : St F} (h : KW a b) (g : KW b c) : KW a c :=
  ⟨h.toKI.trans g.toKI, g.e11.trans h.e11, g.e14.trans h.e14⟩

section
variable {nD : Nat} {τ : Topo} {sig : RefSig} {Λ : Labels} {F : FTy → Type} [FloatOps F]
variable {Ix : Type} [DecidableEq Ix] {Name : Type} [DecidableEq Name] {U : Type} [URA U] {Lvl : Type}
variable [Preorder Lvl] (defs : Defs nD τ sig (Elt F) Λ) (𝒱 : Variants) (d : Dev nD) (bd : Option 𝒱.V) (E : Set Name) (q : PosShare TreeShare) (A : Args sig)

/-- From any contents the program ends, and leaves `KW`. -/
def Sf {α : Type} (p : Pg nD τ sig Λ F α) : Prop :=
  ∀ s, Tr (Ix := Ix) (Name := Name) (U := U) (Lvl := Lvl) defs 𝒱 d bd E q A p s fun _ s' => KW s s'

variable {defs 𝒱 d bd E q A}
local notation "SF" => Sf (Ix := Ix) (Name := Name) (U := U) (Lvl := Lvl) defs 𝒱 d bd E q A

theorem Sf.ret {α : Type} {a : α} : SF (pure a) := fun _ => Tr.ret KW.rfl

theorem Sf.bind {α β : Type} {p : Pg nD τ sig Λ F α} {k : α → Pg nD τ sig Λ F β} (h : SF p) (hk : ∀ a, SF (k a)) : SF (p >>= k) :=
  fun s => Tr.bind (h s) fun a s' hs => Tr.mono (hk a s') fun _ _ h' => hs.trans h'

theorem Sf.dite {α : Type} {c : Prop} [Decidable c] {p : c → Pg nD τ sig Λ F α} {p' : ¬c → Pg nD τ sig Λ F α}
    (h : ∀ hc, SF (p hc)) (h' : ∀ hc, SF (p' hc)) : SF (if hc : c then p hc else p' hc) := by
  split
  · exact h _
  · exact h' _

theorem Sf.for {σ : Type} {l : Scf.Loop 32} {hok : l.OK} {init : σ} {body : Fin l.trips → σ → Pg nD τ sig Λ F σ}
    (hb : ∀ k a, SF (body k a)) : SF (Scf.Loop.for l hok init body) :=
  fun s => Tr.for (fun _ _ s' => KW s s') KW.rfl (fun k a s' h => Tr.mono (hb k a s') fun _ _ h' => h.trans h') fun _ _ h => h

theorem Sf.assume {P : Prop} {dP : Decidable P} (hP : P) : SF (Prog.lift (TpuEff.assume P dP)) :=
  fun _ => Tr.assume hP KW.rfl

theorem Sf.smem {off : Fin 1 → Nat} {inb : ∀ a, off a + (![1] : Fin 1 → Nat) a ≤ (![160] : Fin 1 → Nat) a} {h1 : Shape.numel ⟨1, ![1]⟩ = 1} :
    SF (smemLoad (Val := Elt F) (e := .i32) A.a1 (Rect.unit (s := ⟨1, ![160]⟩) off ![1] inb) h1 rfl) := fun _ => Tr.smem KW.rfl

theorem sf_ld2 {sz off : Fin 2 → Nat} {inb : ∀ a, off a + sz a ≤ (M 160 128 : Shape).size a} {h0 : 0 < Shape.numel ⟨2, sz⟩} :
    SF (ld A.a2 sz off inb h0) := fun _ => Tr.ld lens2 KW.rfl
theorem sf_ld5 {sz off : Fin 2 → Nat} {inb : ∀ a, off a + sz a ≤ (M 1024 512 : Shape).size a} {h0 : 0 < Shape.numel ⟨2, sz⟩} :
    SF (ld A.a5 sz off inb h0) := fun _ => Tr.ld lens5 KW.rfl
theorem sf_ld6 {sz off : Fin 2 → Nat} {inb : ∀ a, off a + sz a ≤ (M 2560 640 : Shape).size a} {h0 : 0 < Shape.numel ⟨2, sz⟩} :
    SF (ld A.a6 sz off inb h0) := fun _ => Tr.ld lens6 KW.rfl
theorem sf_ld7 {sz off : Fin 2 → Nat} {inb : ∀ a, off a + sz a ≤ (M 1024 512 : Shape).size a} {h0 : 0 < Shape.numel ⟨2, sz⟩} :
    SF (ld A.a7 sz off inb h0) := fun _ => Tr.ld lens7 KW.rfl
theorem sf_st7 {sz off : Fin 2 → Nat} {inb : ∀ a, off a + sz a ≤ (M 1024 512 : Shape).size a} {h0 : 0 < Shape.numel ⟨2, sz⟩} {v : Vec F ⟨2, sz⟩ .bf16}
    {h1 : (A.a7.access (Rect.unit (s := (M 1024 512 : Shape)) off sz inb)).Stores Finset.univ} :
    SF (ldst A.a7 sz off inb h0 h1 v) := fun s => Tr.ldst lens7 ⟨⟨.refl _, .refl _, .refl _, .refl _, .refl _, .refl _⟩, .refl _, .refl _⟩
theorem sf_ld8 {sz off : Fin 3 → Nat} {inb : ∀ a, off a + sz a ≤ ((⟨3, ![1, 4, 256]⟩ : Shape)).size a} {h0 : 0 < Shape.numel ⟨3, sz⟩} :
    SF (ld A.a8 sz off inb h0) := fun _ => Tr.ld lens8 KW.rfl
theorem sf_st8 {sz off : Fin 3 → Nat} {inb : ∀ a, off a + sz a ≤ ((⟨3, ![1, 4, 256]⟩ : Shape)).size a} {h0 : 0 < Shape.numel ⟨3, sz⟩} {v : Vec F ⟨3, sz⟩ .f32}
    {h1 : (A.a8.access (Rect.unit (s := ((⟨3, ![1, 4, 256]⟩ : Shape))) off sz inb)).Stores Finset.univ} :
    SF (ldst A.a8 sz off inb h0 h1 v) := fun s => Tr.ldst lens8 ⟨⟨.refl _, .refl _, .refl _, .refl _, .refl _, .refl _⟩, .refl _, .refl _⟩
theorem sf_ld9 {sz off : Fin 2 → Nat} {inb : ∀ a, off a + sz a ≤ (M 1024 512 : Shape).size a} {h0 : 0 < Shape.numel ⟨2, sz⟩} :
    SF (ld A.a9 sz off inb h0) := fun _ => Tr.ld lens9 KW.rfl
theorem sf_st9 {sz off : Fin 2 → Nat} {inb : ∀ a, off a + sz a ≤ (M 1024 512 : Shape).size a} {h0 : 0 < Shape.numel ⟨2, sz⟩} {v : Vec F ⟨2, sz⟩ .f32}
    {h1 : (A.a9.access (Rect.unit (s := (M 1024 512 : Shape)) off sz inb)).Stores Finset.univ} :
    SF (ldst A.a9 sz off inb h0 h1 v) := fun s => Tr.ldst lens9 ⟨⟨.refl _, .refl _, .refl _, .refl _, .refl _, .refl _⟩, .refl _, .refl _⟩
theorem sf_ld10 {sz off : Fin 2 → Nat} {inb : ∀ a, off a + sz a ≤ (M 1024 64 : Shape).size a} {h0 : 0 < Shape.numel ⟨2, sz⟩} :
    SF (ld A.a10 sz off inb h0) := fun _ => Tr.ld lens10 KW.rfl
theorem sf_st10 {sz off : Fin 2 → Nat} {inb : ∀ a, off a + sz a ≤ (M 1024 64 : Shape).size a} {h0 : 0 < Shape.numel ⟨2, sz⟩} {v : Vec F ⟨2, sz⟩ .f32}
    {h1 : (A.a10.access (Rect.unit (s := (M 1024 64 : Shape)) off sz inb)).Stores Finset.univ} :
    SF (ldst A.a10 sz off inb h0 h1 v) := fun s => Tr.ldst lens10 ⟨⟨.refl _, .refl _, .refl _, .refl _, .refl _, .refl _⟩, .refl _, .refl _⟩
theorem sf_ld13 {sz off : Fin 3 → Nat} {inb : ∀ a, off a + sz a ≤ ((⟨3, ![1, 2560, 640]⟩ : Shape)).size a} {h0 : 0 < Shape.numel ⟨3, sz⟩} :
    SF (ld A.a13 sz off inb h0) := fun _ => Tr.ld lens13 KW.rfl
theorem sf_st13 {sz off : Fin 3 → Nat} {inb : ∀ a, off a + sz a ≤ ((⟨3, ![1, 2560, 640]⟩ : Shape)).size a} {h0 : 0 < Shape.numel ⟨3, sz⟩} {v : Vec F ⟨3, sz⟩ .f32}
    {h1 : (A.a13.access (Rect.unit (s := ((⟨3, ![1, 2560, 640]⟩ : Shape))) off sz inb)).Stores Finset.univ} :
    SF (ldst A.a13 sz off inb h0 h1 v) := fun s => Tr.ldst lens13 ⟨⟨.refl _, .refl _, .refl _, .refl _, .refl _, .refl _⟩, .refl _, .refl _⟩
theorem sf_ld14 {sz off : Fin 2 → Nat} {inb : ∀ a, off a + sz a ≤ (M 1024 768 : Shape).size a} {h0 : 0 < Shape.numel ⟨2, sz⟩} :
    SF (ld A.a14 sz off inb h0) := fun _ => Tr.ld lens14 KW.rfl
theorem sf_ld15 {sz off : Fin 2 → Nat} {inb : ∀ a, off a + sz a ≤ (M 768 1024 : Shape).size a} {h0 : 0 < Shape.numel ⟨2, sz⟩} :
    SF (ld A.a15 sz off inb h0) := fun _ => Tr.ld lens15 KW.rfl
theorem sf_st15 {sz off : Fin 2 → Nat} {inb : ∀ a, off a + sz a ≤ (M 768 1024 : Shape).size a} {h0 : 0 < Shape.numel ⟨2, sz⟩} {v : Vec F ⟨2, sz⟩ .bf16}
    {h1 : (A.a15.access (Rect.unit (s := (M 768 1024 : Shape)) off sz inb)).Stores Finset.univ} :
    SF (ldst A.a15 sz off inb h0 h1 v) := fun s => Tr.ldst lens15 ⟨⟨.refl _, .refl _, .refl _, .refl _, .refl _, .refl _⟩, .refl _, .refl _⟩
theorem sf_ld16 {sz off : Fin 2 → Nat} {inb : ∀ a, off a + sz a ≤ (M 768 1024 : Shape).size a} {h0 : 0 < Shape.numel ⟨2, sz⟩} :
    SF (ld A.a16 sz off inb h0) := fun _ => Tr.ld lens16 KW.rfl
theorem sf_st16 {sz off : Fin 2 → Nat} {inb : ∀ a, off a + sz a ≤ (M 768 1024 : Shape).size a} {h0 : 0 < Shape.numel ⟨2, sz⟩} {v : Vec F ⟨2, sz⟩ .bf16}
    {h1 : (A.a16.access (Rect.unit (s := (M 768 1024 : Shape)) off sz inb)).Stores Finset.univ} :
    SF (ldst A.a16 sz off inb h0 h1 v) := fun s => Tr.ldst lens16 ⟨⟨.refl _, .refl _, .refl _, .refl _, .refl _, .refl _⟩, .refl _, .refl _⟩
theorem sf_ld17 {sz off : Fin 2 → Nat} {inb : ∀ a, off a + sz a ≤ (M 2560 256 : Shape).size a} {h0 : 0 < Shape.numel ⟨2, sz⟩} :
    SF (ld A.a17 sz off inb h0) := fun _ => Tr.ld lens17 KW.rfl
theorem sf_st17 {sz off : Fin 2 → Nat} {inb : ∀ a, off a + sz a ≤ (M 2560 256 : Shape).size a} {h0 : 0 < Shape.numel ⟨2, sz⟩} {v : Vec F ⟨2, sz⟩ .f32}
    {h1 : (A.a17.access (Rect.unit (s := (M 2560 256 : Shape)) off sz inb)).Stores Finset.univ} :
    SF (ldst A.a17 sz off inb h0 h1 v) := fun s => Tr.ldst lens17 ⟨⟨.refl _, .refl _, .refl _, .refl _, .refl _, .refl _⟩, .refl _, .refl _⟩
theorem sf_ld18 {sz off : Fin 2 → Nat} {inb : ∀ a, off a + sz a ≤ (M 2560 256 : Shape).size a} {h0 : 0 < Shape.numel ⟨2, sz⟩} :
    SF (ld A.a18 sz off inb h0) := fun _ => Tr.ld lens18 KW.rfl
theorem sf_st18 {sz off : Fin 2 → Nat} {inb : ∀ a, off a + sz a ≤ (M 2560 256 : Shape).size a} {h0 : 0 < Shape.numel ⟨2, sz⟩} {v : Vec F ⟨2, sz⟩ .f32}
    {h1 : (A.a18.access (Rect.unit (s := (M 2560 256 : Shape)) off sz inb)).Stores Finset.univ} :
    SF (ldst A.a18 sz off inb h0 h1 v) := fun s => Tr.ldst lens18 ⟨⟨.refl _, .refl _, .refl _, .refl _, .refl _, .refl _⟩, .refl _, .refl _⟩

theorem sf_stO {u : Fin 4} {v : FVec F (M 256 512) .bf16} : SF (stO A u v) := sf_st7
theorem sf_stL {u : Fin 4} {v : FVec F (M 1 256) .f32} : SF (stL A u v) := sf_st8
theorem sf_stDq {u : Fin 4} {v : FVec F (M 256 640) .f32} : SF (stDq A u v) := Sf.bind sf_st9 fun _ => sf_st10

theorem sf_winStep {n : Nat} (W : WF n) (O : WOff n) (C : Consts F) (kx : FVec F (M n 256) .bf16) (u : Fin 4) : SF (winStep W O A C kx u) :=
  Sf.bind sf_ld5 fun _ => Sf.bind sf_ld6 fun _ => Sf.bind sf_ld14 fun _ => Sf.bind sf_st17 fun _ => Sf.bind sf_ld17 fun _ =>
  Sf.bind sf_ld14 fun _ => Sf.bind sf_ld6 fun _ => Sf.bind sf_stL fun _ => Sf.bind sf_st15 fun _ => Sf.bind sf_st16 fun _ =>
  Sf.bind sf_ld6 fun _ => Sf.bind sf_stO fun _ => Sf.bind sf_ld6 fun _ => sf_stDq

/-- What a window does after `o` and `lse` stand. -/
theorem sf_window {n : Nat} (W : WF n) (O : WOff n) (C : Consts F) (starts : Vec F (M 1 128) .i32) (qpos : IVec (M 1 128) 32) (t0 : BitVec 32) :
    SF (window W O A C starts qpos t0) :=
  Sf.bind sf_ld6 fun _ => Sf.bind (sf_winStep W O C _ 0) fun _ => Sf.bind (sf_winStep W O C _ 1) fun _ => Sf.bind (sf_winStep W O C _ 2) fun _ =>
  Sf.bind (sf_winStep W O C _ 3) fun _ => Sf.bind sf_ld16 fun _ => Sf.bind sf_ld14 fun _ => Sf.bind sf_ld15 fun _ => Sf.bind sf_ld5 fun _ =>
  Sf.bind sf_ld13 fun _ => Sf.bind sf_st13 fun _ => Sf.bind sf_ld13 fun _ => Sf.bind sf_st13 fun _ => Sf.ret

theorem sf_scoreBody (C : Consts F) (starts : Vec F (M 1 128) .i32) (qpos : IVec (M 1 128) 32) (u : Fin 4) (L : SLoop)
    (k : Fin L.l.trips) (acc : FVec F (M 1 256) .f32) : SF (scoreBody A C starts qpos u L k acc) :=
  Sf.bind sf_ld6 fun _ => Sf.bind sf_ld6 fun _ => Sf.bind sf_ld14 fun _ => Sf.bind sf_st17 fun _ => Sf.bind sf_ld17 fun _ =>
  Sf.bind sf_ld14 fun _ => Sf.bind sf_st17 fun _ => Sf.ret

theorem sf_softBody (m : FVec F (M 1 256) .f32) (u : Fin 4) (L : XLoop) (k : Fin L.l.trips)
    (acc : FVec F (M 1 256) .f32 × FVec F (M 1 256) .f32 × FVec F (M 256 512) .f32) : SF (softBody A m u L k acc) :=
  Sf.bind sf_ld17 fun _ => Sf.bind sf_ld6 fun _ => Sf.bind sf_ld5 fun _ => Sf.bind sf_st17 fun _ => Sf.bind sf_st18 fun _ =>
  Sf.bind sf_ld6 fun _ => Sf.ret

theorem sf_gradBody (rden dt wg : FVec F (M 1 256) .f32) (u : Fin 4) (L : GLoop) (k : Fin L.l.trips) (acc : FVec F (M 256 640) .f32) :
    SF (gradBody A rden dt wg u L k acc) :=
  Sf.bind sf_ld17 fun _ => Sf.bind sf_ld18 fun _ => Sf.bind sf_ld14 fun _ => Sf.bind sf_ld5 fun _ => Sf.bind sf_ld13 fun _ => Sf.bind sf_st13 fun _ =>
  Sf.bind sf_ld13 fun _ => Sf.bind sf_st13 fun _ => Sf.bind sf_ld6 fun _ => Sf.ret

theorem sf_quarter {α : Type} (C : Consts F) (starts : Vec F (M 1 128) .i32) (qpos : IVec (M 1 128) 32) (u : Fin 4) (L : LO)
    (K : Pg nD τ sig Λ F α) (hK : SF K) : SF (quarter A C starts qpos u L K) :=
  Sf.bind (Sf.for fun k a => sf_scoreBody C starts qpos u L.s1 k a) fun _ => Sf.bind (Sf.for fun k a => sf_scoreBody C starts qpos u L.s2 k a) fun _ =>
  Sf.bind (Sf.for fun k a => sf_softBody _ u L.x1 k a) fun _ => Sf.bind (Sf.for fun k a => sf_softBody _ u L.x2 k a) fun _ =>
  Sf.bind sf_ld18 fun _ => Sf.bind sf_stL fun _ => Sf.bind sf_stO fun _ => Sf.bind (Sf.for fun k a => sf_gradBody _ _ _ u L.g1 k a) fun _ =>
  Sf.bind (Sf.for fun k a => sf_gradBody _ _ _ u L.g2 k a) fun _ => Sf.bind sf_stDq fun _ => hK

theorem sf_long (C : Consts F) (starts : Vec F (M 1 128) .i32) (qpos : IVec (M 1 128) 32) (L : Fin 4 → LO) : SF (long A C starts qpos L) :=
  sf_quarter C starts qpos 0 (L 0) _ <| sf_quarter C starts qpos 1 (L 1) _ <| sf_quarter C starts qpos 2 (L 2) _ <| sf_quarter C starts qpos 3 (L 3) _ Sf.ret

end

end Attn

end
-- ==== Proof.Pro.lean ====
module

public import proofs.«01_k».proof.Proof.Safe
public import Idealize.ShloMosaic.Lib.KernelVsHost

@[expose] public section

/-! What the steps before the windows leave: the codes, and the packed queries (dequantised queries, rotary part, zeros, one-hot lanes). -/

noncomputable section

namespace Attn
open Idealize.ShloMosaic Idealize.SL Idealize.SL.Sem ValueIdx
open Idealize.SL.BI (sProp)
open Idealize.SL.RA

section
variable {F : FTy → Type} [FloatOps F]

/-- The block of 32 rows and 128 lanes around an index. -/
def qWin (x3 : Vec F (M 1024 512) .bf16) (t : Fin 32) (k : Fin 4) : Vec F (M 32 128) .bf16 :=
  VecWindow.window (s := M 1024 512) x3 ![32 * t.val, 128 * k.val] (M 32 128).size (inbQ t k 512 (by omega))

/-- The codes of a step. -/
def T11 (C : Consts F) (x3 : Vec F (M 1024 512) .bf16) : Vec F (M 1024 512) .fp8e4m3 := fun i =>
  qCodes C (qWin x3 ⟨(i 0).val / 32, by have : (i 0).val < 1024 := (i 0).isLt; omega⟩ ⟨(i 1).val / 128, by have : (i 1).val < 512 := (i 1).isLt; omega⟩)
    (ix2 (⟨(i 0).val % 32, by omega⟩ : Fin 32) (⟨(i 1).val % 128, by omega⟩ : Fin 128))

/-- The packed queries of a step. -/
def T14 (C : Consts F) (x3 : Vec F (M 1024 512) .bf16) (x4 : Vec F (M 1024 64) .bf16) : Vec F (M 1024 768) .bf16 := fun i =>
  if h : (i 1).val < 512 then
    qDeq C (qWin x3 ⟨(i 0).val / 32, by have : (i 0).val < 1024 := (i 0).isLt; omega⟩ ⟨(i 1).val / 128, by omega⟩)
      (ix2 (⟨(i 0).val % 32, by omega⟩ : Fin 32) (⟨(i 1).val % 128, by omega⟩ : Fin 128))
  else if h' : (i 1).val < 640 then qrPad x4 (ix2 (i 0 : Fin 1024) (⟨(i 1).val - 512, by omega⟩ : Fin 128))
  else oneHot (ix2 (i 0 : Fin 1024) (⟨(i 1).val - 640, by have : (i 1).val < 768 := (i 1).isLt; omega⟩ : Fin 128))

/-- `x'` has the target's values in the rectangle, and wherever `x` had them. -/
structure Agr {α : Type} {s : Shape} (T x x' : s.Idx → α) (S : s.Idx → Prop) : Prop where
  keep : ∀ i, x i = T i → x' i = T i
  new : ∀ i, S i → x' i = T i

theorem Agr.rfl {α : Type} {s : Shape} {T x : s.Idx → α} : Agr T x x fun _ => False := ⟨fun _ h => h, fun _ h => h.elim⟩

theorem Agr.trans {α : Type} {s : Shape} {T x y z : s.Idx → α} {S S' R : s.Idx → Prop} (h : Agr T x y S) (g : Agr T y z S') (hR : ∀ i, R i → S i ∨ S' i) :
    Agr T x z R :=
  ⟨fun i hi => g.keep i (h.keep i hi), fun i hi => (hR i hi).elim (fun a => g.keep i (h.new i a)) fun a => g.new i a⟩

theorem agr_put {α : Type} {s : Shape} (T x : s.Idx → α) (off sz : Fin s.rank → Nat) (w : ((a : Fin s.rank) → Fin (sz a)) → α)
    (hw : ∀ (i : s.Idx) (h : ∀ a, off a ≤ (i a).val ∧ (i a).val < off a + sz a), w (Rect.unitLocal (s := s) (off := off) (size := sz) i h) = T i) :
    Agr T x (VecWindow.put x off sz w) (fun i => ∀ a, off a ≤ (i a).val ∧ (i a).val < off a + sz a) := by
  constructor
  · intro i hi
    unfold VecWindow.put
    split
    · exact hw i _
    · exact hi
  · intro i h
    unfold VecWindow.put
    rw [dif_pos h]; exact hw i h

theorem in2 {a b c d : Nat} {R Cn : Nat} (i : (M R Cn).Idx) (h : ∀ x : Fin 2, (![a, b] : Fin 2 → Nat) x ≤ (i x).val ∧ (i x).val < (![a, b] : Fin 2 → Nat) x + (![c, d] : Fin 2 → Nat) x) :
    (a ≤ (i 0).val ∧ (i 0).val < a + c) ∧ b ≤ (i 1).val ∧ (i 1).val < b + d := ⟨h 0, h 1⟩

theorem tile11 (C : Consts F) (x3 : Vec F (M 1024 512) .bf16) (t : Fin 32) (k : Fin 4) (i : (M 1024 512).Idx)
    (h : ∀ a, (![32 * t.val, 128 * k.val] : Fin 2 → Nat) a ≤ (i a).val ∧ (i a).val < (![32 * t.val, 128 * k.val] : Fin 2 → Nat) a + (M 32 128).size a) :
    qCodes C (qWin x3 t k) (Rect.unitLocal (s := M 1024 512) (off := ![32 * t.val, 128 * k.val]) (size := (M 32 128).size) i h) = T11 C x3 i := by
  have h2 := in2 i h
  unfold T11
  have e1 : (⟨(i 0).val / 32, by have : (i 0).val < 1024 := (i 0).isLt; omega⟩ : Fin 32) = t := Fin.ext (by show (i 0).val / 32 = t.val; omega)
  have e2 : (⟨(i 1).val / 128, by have : (i 1).val < 512 := (i 1).isLt; omega⟩ : Fin 4) = k := Fin.ext (by show (i 1).val / 128 = k.val; omega)
  rw [e1, e2]
  congr 1
  funext a
  match a with
  | 0 => exact Fin.ext (by show (i 0).val - 32 * t.val = (i 0).val % 32; omega)
  | 1 => exact Fin.ext (by show (i 1).val - 128 * k.val = (i 1).val % 128; omega)

theorem tile14 (C : Consts F) (x3 : Vec F (M 1024 512) .bf16) (x4 : Vec F (M 1024 64) .bf16) (t : Fin 32) (k : Fin 4) (i : (M 1024 768).Idx)
    (h : ∀ a, (![32 * t.val, 128 * k.val] : Fin 2 → Nat) a ≤ (i a).val ∧ (i a).val < (![32 * t.val, 128 * k.val] : Fin 2 → Nat) a + (M 32 128).size a) :
    shapeCast (M 32 128) (qDeq C (qWin x3 t k)) rfl (Rect.unitLocal (s := M 1024 768) (off := ![32 * t.val, 128 * k.val]) (size := (M 32 128).size) i h) = T14 C x3 x4 i := by
  rw [shapeCast_self]
  have h2 := in2 i h
  have hk := k.isLt
  unfold T14
  rw [dif_pos (by omega)]
  have e1 : (⟨(i 0).val / 32, by have : (i 0).val < 1024 := (i 0).isLt; omega⟩ : Fin 32) = t := Fin.ext (by show (i 0).val / 32 = t.val; omega)
  have e2 : (⟨(i 1).val / 128, by omega⟩ : Fin 4) = k := Fin.ext (by show (i 1).val / 128 = k.val; omega)
  rw [e1, e2]
  congr 1
  funext a
  match a with
  | 0 => exact Fin.ext (by show (i 0).val - 32 * t.val = (i 0).val % 32; omega)
  | 1 => exact Fin.ext (by show (i 1).val - 128 * k.val = (i 1).val % 128; omega)

theorem rope14 (C : Consts F) (x3 : Vec F (M 1024 512) .bf16) (x4 : Vec F (M 1024 64) .bf16) (i : (M 1024 768).Idx)
    (h : ∀ a, (![0, 512] : Fin 2 → Nat) a ≤ (i a).val ∧ (i a).val < (![0, 512] : Fin 2 → Nat) a + (M 1024 128).size a) :
    shapeCast (M 1024 128) (qrPad x4) rfl (Rect.unitLocal (s := M 1024 768) (off := ![0, 512]) (size := (M 1024 128).size) i h) = T14 C x3 x4 i := by
  rw [shapeCast_self]
  have h2 := in2 i h
  unfold T14
  rw [dif_neg (by omega), dif_pos (by omega)]
  congr 1
  funext a
  match a with
  | 0 => rfl
  | 1 => rfl

theorem hot14 (C : Consts F) (x3 : Vec F (M 1024 512) .bf16) (x4 : Vec F (M 1024 64) .bf16) (i : (M 1024 768).Idx)
    (h : ∀ a, (![0, 640] : Fin 2 → Nat) a ≤ (i a).val ∧ (i a).val < (![0, 640] : Fin 2 → Nat) a + (M 1024 128).size a) :
    shapeCast (M 1024 128) (oneHot (F := F)) rfl (Rect.unitLocal (s := M 1024 768) (off := ![0, 640]) (size := (M 1024 128).size) i h) = T14 C x3 x4 i := by
  rw [shapeCast_self]
  have h2 := in2 i h
  unfold T14
  rw [dif_neg (by omega), dif_neg (by omega)]
  congr 1
  funext a
  match a with
  | 0 => rfl
  | 1 => rfl

end

section
variable {nD : Nat} {τ : Topo} {sig : RefSig} {Λ : Labels} {F : FTy → Type} [FloatOps F]
variable {Ix : Type} [DecidableEq Ix] {Name : Type} [DecidableEq Name] {U : Type} [URA U] {Lvl : Type}
variable [Preorder Lvl] {defs : Defs nD τ sig (Elt F) Λ} {𝒱 : Variants} {d : Dev nD} {bd : Option 𝒱.V} {E : Set Name} {q : PosShare TreeShare} {A : Args sig}
local notation "TR" => Tr (Ix := Ix) (Name := Name) (U := U) (Lvl := Lvl) defs 𝒱 d bd E q A

/-- After a stretch of the prologue: the arguments kept, the two targets met on a set. -/
structure KP (C : Consts F) (S11 : (M 1024 512).Idx → Prop) (S14 : (M 1024 768).Idx → Prop) (s s' : St F) : Prop extends KI s s' where
  g11 : Agr (T11 C s.x3) s.x11 s'.x11 S11
  g14 : Agr (T14 C s.x3 s.x4) s.x14 s'.x14 S14

theorem KP.rfl {C : Consts F} {s : St F} : KP C (fun _ => False) (fun _ => False) s s := ⟨KI.rfl, Agr.rfl, Agr.rfl⟩

theorem KP.trans {C : Consts F} {S11 S11' R11 : (M 1024 512).Idx → Prop} {S14 S14' R14 : (M 1024 768).Idx → Prop} {a b c : St F}
    (h : KP C S11 S14 a b) (g : KP C S11' S14' b c) (h11 : ∀ i, R11 i → S11 i ∨ S11' i) (h14 : ∀ i, R14 i → S14 i ∨ S14' i) : KP C R11 R14 a c := by
  obtain ⟨gk, g11, g14⟩ := g
  rw [h.e3] at g11 g14
  rw [h.e4] at g14
  exact ⟨h.toKI.trans gk, h.g11.trans g11 h11, h.g14.trans g14 h14⟩

/-- The lanes of block `k`, rows of token `t`. -/
def inTile {w : Nat} (t : Fin 32) (k : Fin 4) (i : (M 1024 w).Idx) : Prop := (i 0).val / 32 = t.val ∧ (i 1).val / 128 = k.val

theorem tr_qTok (C : Consts F) (lane : IVec (M 32 128) 32) (lane0 : BitVec 32) (k : Fin 4) (t : Fin 32) (packed : FVec F (M 32 128) .f32) (s : St F) :
    TR (qTok A C lane lane0 k t packed) s fun _ s' => KP C (inTile t k) (inTile t k) s s' := by
  refine Tr.bind (R := fun x s' => x = qWin s.x3 t k ∧ s' = s) (Tr.ld lens3 ⟨rfl, rfl⟩) ?_
  rintro x s1 ⟨rfl, rfl⟩
  refine Tr.bind (Tr.ldst (Q := fun _ s'' => s'' = _) lens11 rfl) ?_
  rintro _ s' rfl
  refine Tr.bind (Tr.ldst (Q := fun _ s'' => s'' = _) lens14 rfl) ?_
  rintro _ s' rfl
  refine Tr.ret ⟨⟨rfl, rfl, rfl, rfl, rfl, rfl⟩, ?_, ?_⟩
  · have := agr_put (T11 C s1.x3) s1.x11 ![32 * t.val, 128 * k.val] (M 32 128).size _ (tile11 C s1.x3 t k)
    refine ⟨this.keep, fun i hi => this.new i ?_⟩
    have h1 : (i 0).val / 32 = t.val := hi.1
    have h2 : (i 1).val / 128 = k.val := hi.2
    intro a
    match a with
    | 0 => show 32 * t.val ≤ (i 0).val ∧ (i 0).val < 32 * t.val + 32; omega
    | 1 => show 128 * k.val ≤ (i 1).val ∧ (i 1).val < 128 * k.val + 128; omega
  · have := agr_put (T14 C s1.x3 s1.x4) s1.x14 ![32 * t.val, 128 * k.val] (M 32 128).size _ (tile14 C s1.x3 s1.x4 t k)
    refine ⟨this.keep, fun i hi => this.new i ?_⟩
    have h1 : (i 0).val / 32 = t.val := hi.1
    have h2 : (i 1).val / 128 = k.val := hi.2
    intro a
    match a with
    | 0 => show 32 * t.val ≤ (i 0).val ∧ (i 0).val < 32 * t.val + 32; omega
    | 1 => show 128 * k.val ≤ (i 1).val ∧ (i 1).val < 128 * k.val + 128; omega

theorem tr_qToks (C : Consts F) (lane : IVec (M 32 128) 32) (lane0 : BitVec 32) (k : Fin 4) (l : List (Fin 32)) :
    ∀ (packed : FVec F (M 32 128) .f32) (s : St F), TR (qToks A C lane lane0 k l packed) s
      fun _ s' => KP C (fun i => ∃ t ∈ l, inTile t k i) (fun i => ∃ t ∈ l, inTile t k i) s s' := by
  induction l with
  | nil => exact fun _ _ => Tr.ret (KP.rfl.trans KP.rfl (by simp) (by simp))
  | cons t l ih =>
    intro packed s
    refine Tr.bind (tr_qTok C lane lane0 k t packed s) fun p s' h => Tr.mono (ih p s') fun _ _ h' => h.trans h' ?_ ?_
    all_goals
      rintro i ⟨t', ht, hi⟩
      rcases List.mem_cons.mp ht with rfl | ht
      · exact .inl hi
      · exact .inr ⟨t', ht, hi⟩

theorem allToks (t : Fin 32) : t ∈ ([0, 1, 2, 3, 4, 5, 6, 7, 8, 9, 10, 11, 12, 13, 14, 15, 16, 17, 18, 19, 20, 21, 22, 23, 24, 25, 26, 27, 28, 29, 30, 31] : List (Fin 32)) := by
  revert t; decide

theorem tr_qBlk (C : Consts F) (lane : IVec (M 32 128) 32) (lane0 : BitVec 32) (first : BitVec 1) (k : Fin 4) (s : St F) :
    TR (qBlk A C lane lane0 first k) s fun _ s' => KP C (fun i => (i 1).val / 128 = k.val) (fun i => (i 1).val / 128 = k.val) s s' := by
  refine Tr.bind (R := fun x s' => s' = s) (Tr.ld lens12 rfl) ?_
  rintro x s' rfl
  refine Tr.bind (tr_qToks C lane lane0 k _ _ s') fun p s1 h => Tr.ldst lens12 ?_
  have h' := h.trans (KP.rfl (C := C)) (R11 := fun i => (i 1).val / 128 = k.val) (R14 := fun i => (i 1).val / 128 = k.val)
    (fun i hi => .inl ⟨⟨(i 0).val / 32, by have : (i 0).val < 1024 := (i 0).isLt; omega⟩, allToks _, rfl, hi⟩)
    (fun i hi => .inl ⟨⟨(i 0).val / 32, by have : (i 0).val < 1024 := (i 0).isLt; omega⟩, allToks _, rfl, hi⟩)
  exact ⟨⟨h'.e1, h'.e2, h'.e3, h'.e4, h'.e5, h'.e6⟩, h'.g11, h'.g14⟩

theorem tr_pro (C : Consts F) (g : BitVec 32) (s : St F) :
    TR (pro A C g) s fun _ s' => KP C (fun _ => True) (fun i => (i 1).val < 640) s s' := by
  refine Tr.bind (tr_qBlk C _ _ _ 0 s) fun _ s1 h1 => ?_
  refine Tr.bind (tr_qBlk C _ _ _ 1 s1) fun _ s2 h2 => ?_
  refine Tr.bind (tr_qBlk C _ _ _ 2 s2) fun _ s3 h3 => ?_
  refine Tr.bind (tr_qBlk C _ _ _ 3 s3) fun _ s4 h4 => ?_
  refine Tr.bind (R := fun x s' => x = VecWindow.window (s := M 1024 64) s4.x4 ![0, 0] (M 1024 64).size (by decide) ∧ s' = s4) (Tr.ld lens4 ⟨rfl, rfl⟩) ?_
  rintro x s' ⟨rfl, rfl⟩
  refine Tr.ldst lens14 ?_
  have hw : VecWindow.window (s := M 1024 64) s'.x4 ![0, 0] (M 1024 64).size (by decide) = s'.x4 := by
    funext i
    refine congrArg s'.x4 (funext fun a => Fin.ext ?_)
    match a with
    | 0 => show 0 + 1 * (i 0).val = _; omega
    | 1 => show 0 + 1 * (i 1).val = _; omega
  have h12 := h1.trans h2 (R11 := fun i => (i 1).val / 128 < 2) (R14 := fun i => (i 1).val / 128 < 2)
    (fun i hi => by show (i 1).val / 128 = 0 ∨ (i 1).val / 128 = 1; omega) (fun i hi => by show (i 1).val / 128 = 0 ∨ (i 1).val / 128 = 1; omega)
  have h13 := h12.trans h3 (R11 := fun i => (i 1).val / 128 < 3) (R14 := fun i => (i 1).val / 128 < 3)
    (fun i hi => by show (i 1).val / 128 < 2 ∨ (i 1).val / 128 = 2; omega) (fun i hi => by show (i 1).val / 128 < 2 ∨ (i 1).val / 128 = 2; omega)
  have h14 := h13.trans h4 (R11 := fun i => True) (R14 := fun i => (i 1).val / 128 < 4)
    (fun i hi => by show (i 1).val / 128 < 3 ∨ (i 1).val / 128 = 3; have : (i 1).val < 512 := (i 1).isLt; omega) (fun i hi => by show (i 1).val / 128 < 3 ∨ (i 1).val / 128 = 3; omega)
  refine h14.trans (S11' := fun _ => False) (S14' := fun i => 512 ≤ (i 1).val ∧ (i 1).val < 640) ?_ (fun i _ => .inl trivial) (fun i hi => ?_)
  · rw [hw]
    have := agr_put (T14 C s'.x3 s'.x4) s'.x14 ![0, 512] (M 1024 128).size _ (rope14 C s'.x3 s'.x4)
    refine ⟨⟨rfl, rfl, rfl, rfl, rfl, rfl⟩, Agr.rfl, this.keep, fun i hi => this.new i fun a => ?_⟩
    match a with
    | 0 => show 0 ≤ (i 0).val ∧ (i 0).val < 0 + 1024; have : (i 0).val < 1024 := (i 0).isLt; omega
    | 1 => show 512 ≤ (i 1).val ∧ (i 1).val < 512 + 128; exact hi
  · show (i 1).val / 128 < 4 ∨ 512 ≤ (i 1).val ∧ (i 1).val < 640
    have : (i 1).val < 640 := hi
    omega

/-- The one-hot lanes are in place. -/
def Hot (x : Vec F (M 1024 768) .bf16) : Prop :=
  ∀ i : (M 1024 768).Idx, 640 ≤ (i 1).val → x i = oneHot (F := F) (ix2 (i 0 : Fin 1024) (⟨(i 1).val - 640, by have : (i 1).val < 768 := (i 1).isLt; omega⟩ : Fin 128))

theorem T14_hot (C : Consts F) (x3 : Vec F (M 1024 512) .bf16) (x4 : Vec F (M 1024 64) .bf16) : Hot (T14 C x3 x4) := by
  intro i hi
  unfold T14
  rw [dif_neg (by omega), dif_neg (by omega)]

/-- After the prologue, before the windows. -/
structure KS (C : Consts F) (s s' : St F) : Prop extends KI s s' where
  t11 : s'.x11 = T11 C s.x3
  t14 : s'.x14 = T14 C s.x3 s.x4

theorem tr_proHot (C : Consts F) (g : BitVec 32) (s : St F) (h : condOf (Scalar.cmpi .eq g 0#32) = 1#1 ∨ Hot s.x14) :
    TR (proHot A g) s fun _ s' => KI s s' ∧ Hot s'.x14 := by
  refine Tr.dite (fun hc => ?_) fun hc => Tr.ret ⟨KI.rfl, h.resolve_left hc⟩
  refine Tr.bind (R := fun _ s' => KI s s' ∧ Hot s'.x14) (Tr.ldst lens14 ⟨⟨rfl, rfl, rfl, rfl, rfl, rfl⟩, ?_⟩) fun _ _ h => Tr.ret h
  intro i hi
  have := (agr_put (T14 C s.x3 s.x4) s.x14 ![0, 640] (M 1024 128).size _ (hot14 C s.x3 s.x4)).new i fun a => by
    match a with
    | 0 => show 0 ≤ (i 0).val ∧ (i 0).val < 0 + 1024; have : (i 0).val < 1024 := (i 0).isLt; omega
    | 1 => show 640 ≤ (i 1).val ∧ (i 1).val < 640 + 128; have : (i 1).val < 768 := (i 1).isLt; omega
  exact this.trans (T14_hot C s.x3 s.x4 i hi)

theorem tr_proAcc (g : BitVec 32) (s : St F) : TR (proAcc A g) s fun _ s' => KW s s' :=
  (Sf.dite (fun hc => Sf.bind sf_st13 fun _ => Sf.ret) fun hc => Sf.ret) s

/-- Everything before the windows. -/
theorem tr_start {α : Type} (C : Consts F) (g : BitVec 32) (O : Offs) (s : St F) (h : condOf (Scalar.cmpi .eq g 0#32) = 1#1 ∨ Hot s.x14)
    {K : Vec F (M 1 128) .i32 → BitVec 32 → IVec (M 1 128) 32 → BitVec 32 → Pg nD τ sig Λ F α} {Q : α → St F → Prop}
    (hK : ∀ s', KS C s s' → TR (K (VecWindow.window (s := M 160 128) s.x2 O.st (M 1 128).size O.ist) (Scalar.muli (stepB g) 32#32)
      (addi (broadcast (M 1 128) (Scalar.muli (stepB g) 32#32)) (iota .tc (M 1 128) 32 [1] (by decide)))
      (VecWindow.window (s := ⟨1, ![160]⟩) s.x1 O.nd ![1] O.ind zix)) s' Q) :
    TR (start A C g O K) s Q := by
  refine Tr.bind (tr_proHot C g s h) fun _ s1 ⟨k1, hot⟩ => ?_
  refine Tr.bind (tr_proAcc g s1) fun _ s2 k2 => ?_
  refine Tr.bind (tr_pro C g s2) fun _ s3 k3 => ?_
  have k12 := k1.trans k2.toKI
  have k := k12.trans k3.toKI
  have ks : KS C s s3 := by
    refine ⟨k, ?_, ?_⟩
    · funext i; have := k3.g11.new i trivial; rw [k12.e3] at this; exact this
    · have hn := k3.g14
      rw [k12.e3, k12.e4] at hn
      funext i
      by_cases hi : (i 1).val < 640
      · exact hn.new i hi
      · refine hn.keep i ?_
        rw [k2.e14, hot i (by omega), T14_hot C s.x3 s.x4 i (by omega)]
  refine Tr.bind (R := fun x s' => x = VecWindow.window (s := M 160 128) s.x2 O.st (M 1 128).size O.ist ∧ s' = s3) (Tr.ld lens2 ⟨by rw [k.e2], rfl⟩) ?_
  rintro _ _ ⟨rfl, rfl⟩
  refine Tr.bind (R := fun x s' => x = VecWindow.window (s := ⟨1, ![160]⟩) s.x1 O.nd ![1] O.ind zix ∧ s' = _) (Tr.smem ⟨by rw [k.e1], rfl⟩) ?_
  rintro _ _ ⟨rfl, rfl⟩
  exact hK _ ks

/-- The windows and the tiles end, whatever they find. -/
theorem tr_windows (C : Consts F) (O : Offs) (starts : Vec F (M 1 128) .i32) (t0 : BitVec 32) (qpos : IVec (M 1 128) 32) (s : St F)
    (hchk : condL (VecWindow.window (s := ⟨1, ![160]⟩) s.x1 O.nd ![1] O.ind zix) = 1#1 →
      O.chk (VecWindow.window (s := ⟨1, ![160]⟩) s.x1 O.nd ![1] O.ind zix) (VecWindow.window (s := ⟨1, ![160]⟩) s.x1 O.nd ![1] O.ind zix)) :
    TR (windows A C O starts t0 qpos (VecWindow.window (s := ⟨1, ![160]⟩) s.x1 O.nd ![1] O.ind zix)) s fun _ s' => KW s s' := by
  have hw : ∀ {n : Nat} (W : WF n) (O' : WOff n) (c : Prop) [Decidable c], Sf (Ix := Ix) (Name := Name) (U := U) (Lvl := Lvl) defs 𝒱 d bd E q A
      (if h : c then window W O' A C starts qpos t0 else pure ⟨⟩) := fun W O' c _ => Sf.dite (fun _ => sf_window W O' C starts qpos t0) fun _ => Sf.ret
  unfold windows
  refine Tr.bind (hw _ _ _ s) fun _ s1 h1 => Tr.bind (hw _ _ _ s1) fun _ s2 h2 => Tr.bind (hw _ _ _ s2) fun _ s3 h3 =>
    Tr.bind (hw _ _ _ s3) fun _ s4 h4 => Tr.bind (hw _ _ _ s4) fun _ s5 h5 => ?_
  have h := (((h1.trans h2).trans h3).trans h4).trans h5
  refine Tr.dite (fun hc => ?_) fun _ => Tr.ret h
  refine Tr.bind (R := fun x s' => x = VecWindow.window (s := ⟨1, ![160]⟩) s.x1 O.nd ![1] O.ind zix ∧ s' = s5) (Tr.smem ⟨by rw [h.e1], rfl⟩) ?_
  rintro _ _ ⟨rfl, rfl⟩
  refine Tr.bind (R := fun _ s' => s' = _) (Tr.assume (hchk hc) rfl) ?_
  rintro c _ rfl
  exact Tr.mono (sf_long C starts qpos _ _) fun _ _ h' => h.trans h'

/-- The whole body ends, and leaves the arguments, the codes and the packed queries as told. -/
theorem tr_body (C : Consts F) (g : BitVec 32) (O : Offs) (s : St F) (h : condOf (Scalar.cmpi .eq g 0#32) = 1#1 ∨ Hot s.x14)
    (hchk : condL (VecWindow.window (s := ⟨1, ![160]⟩) s.x1 O.nd ![1] O.ind zix) = 1#1 →
      O.chk (VecWindow.window (s := ⟨1, ![160]⟩) s.x1 O.nd ![1] O.ind zix) (VecWindow.window (s := ⟨1, ![160]⟩) s.x1 O.nd ![1] O.ind zix)) :
    TR (body A C g O) s fun _ s' => KS C s s' := by
  refine tr_start C g O s h fun s' ks => ?_
  have e := ks.e1
  rw [← e] at hchk ⊢
  exact Tr.mono (tr_windows C O _ _ _ s' hchk) fun _ s'' k => ⟨ks.toKI.trans k.toKI, k.e11.trans ks.t11, k.e14.trans ks.t14⟩

end

end Attn

end
-- ==== Proof.Tiles.lean ====
module

public import proofs.«01_k».proof.Proof.Long
public import Idealize.ShloMosaic.Lib.Affine
public import Idealize.ShloMosaic.Lib.LoopRemainder

@[expose] public section

/-! The tiles of a step that needs more than 768 keys: the first tile, the last, and that the loops stay inside the arrays. -/

noncomputable section

namespace Attn
open Idealize.ShloMosaic Idealize.SL.Sem

/-- The first tile. -/
@[reducible] def tlo (g w : BitVec 32) : BitVec 32 := Scalar.divsi (Scalar.subi (Scalar.addi (Scalar.muli (Scalar.remsi g 80#32) 32#32) 32#32) w) 256#32

/-- One past the last tile. -/
@[reducible] def thi (g : BitVec 32) : BitVec 32 :=
  Scalar.divsi (Scalar.subi (Scalar.addi (Scalar.addi (Scalar.muli (Scalar.remsi g 80#32) 32#32) 32#32) 256#32) 1#32) 256#32

/-- The loop over the tiles. -/
@[reducible] def LA (g w : BitVec 32) : Scf.Loop 32 :=
  ⟨tlo g w, Scalar.addi (tlo g w) (Scalar.muli (Scalar.divsi (Scalar.subi (thi g) (tlo g w)) 1#32) 1#32), 1#32⟩

/-- The loop over what is left: nothing. -/
@[reducible] def LB (g w : BitVec 32) : Scf.Loop 32 :=
  ⟨Scalar.addi (tlo g w) (Scalar.muli (Scalar.divsi (Scalar.subi (thi g) (tlo g w)) 1#32) 1#32), Scalar.addi (tlo g w) (Scalar.subi (thi g) (tlo g w)), 1#32⟩

theorem okB (g w : BitVec 32) : (LB g w).OK := Scf.rem_ok _ _

theorem noB (g w : BitVec 32) (k : Fin (LB g w).trips) : False := Scf.rem_no_trip _ _ k

/-- What is known of a step: its number in the batch and how many keys it needs. -/
structure Step (g w : BitVec 32) (b n : Nat) : Prop where
  hb : b < 80
  hg : Affine.IsInt (Scalar.remsi g 80#32) b
  hw : Affine.IsInt w n
  hn : n ≤ 32 * b + 32

section
variable {g w : BitVec 32} {b n : Nat}
open Affine

theorem isInt_tlo (h : Step g w b n) : IsInt (tlo g w) (((32 * b + 32 - n) / 256 : Nat) : Int) := by
  obtain ⟨hb, hg, hw, hn⟩ := h
  refine Affine.divsi (ea := ((32 * b + 32 - n : Nat) : Int)) (eb := 256) (Affine.subi (ea := ((32 * b + 32 : Nat) : Int)) (Affine.addi (ea := ((32 * b : Nat) : Int)) (Affine.muli hg (Affine.ofNat 32 ⟨rfl, by decide⟩) ?_) (Affine.ofNat 32 ⟨rfl, by decide⟩) ?_) hw ?_) (Affine.ofNat 256 ⟨rfl, by decide⟩) ?_
  all_goals (refine ⟨by push_cast; omega, by omega, by omega⟩)

theorem isInt_thi (h : Step g w b n) : IsInt (thi g) (((32 * b + 287) / 256 : Nat) : Int) := by
  obtain ⟨hb, hg, hw, hn⟩ := h
  refine Affine.divsi (ea := ((32 * b + 287 : Nat) : Int)) (eb := 256) (Affine.subi (ea := ((32 * b + 288 : Nat) : Int)) (Affine.addi (ea := ((32 * b + 32 : Nat) : Int)) (Affine.addi (ea := ((32 * b : Nat) : Int)) (Affine.muli hg (Affine.ofNat 32 ⟨rfl, by decide⟩) ?_) (Affine.ofNat 32 ⟨rfl, by decide⟩) ?_) (Affine.ofNat 256 ⟨rfl, by decide⟩) ?_) (Affine.ofNat 1 ⟨rfl, by decide⟩) ?_) (Affine.ofNat 256 ⟨rfl, by decide⟩) ?_
  all_goals (refine ⟨by push_cast; omega, by omega, by omega⟩)

theorem isInt_mid (h : Step g w b n) : IsInt (LA g w).ub (((32 * b + 287) / 256 : Nat) : Int) := by
  have hl := isInt_tlo h
  have hh := isInt_thi h
  have := h.hn; have := h.hb
  show IsInt (Scalar.addi (tlo g w) (Scalar.muli (Scalar.divsi (Scalar.subi (thi g) (tlo g w)) 1#32) 1#32)) _
  rw [Scalar.muli_divsi_one]
  refine Affine.addi hl (Affine.subi (e := (((32 * b + 287) / 256 : Nat) : Int) - (((32 * b + 32 - n) / 256 : Nat) : Int)) hh hl ?_) ?_
  all_goals omega

theorem okA (h : Step g w b n) : (LA g w).OK := by
  have := h.hn; have := h.hb
  refine Affine.ok (isInt_tlo h) (isInt_mid h) (Affine.ofNat 1 ⟨rfl, by decide⟩) ⟨by decide, ?_⟩
  omega

theorem trips_A (h : Step g w b n) : (LA g w).trips = (32 * b + 287) / 256 - (32 * b + 32 - n) / 256 := by
  have := h.hn; have := h.hb
  refine Affine.trips_eq (isInt_tlo h) (isInt_mid h) (Affine.ofNat 1 ⟨rfl, by decide⟩) _ ⟨by decide, ?_⟩
  omega

theorem isInt_iv (h : Step g w b n) (k : Nat) (hk : k < (LA g w).trips) : IsInt (Scf.iv (tlo g w) 1#32 k) (((32 * b + 32 - n) / 256 + k : Nat) : Int) := by
  have := h.hn; have := h.hb
  rw [trips_A h] at hk
  refine Affine.iv (isInt_tlo h) (Affine.ofNat 1 ⟨rfl, by decide⟩) k ?_
  refine ⟨by push_cast; omega, by omega, by omega⟩

theorem isInt_tile' (h : Step g w b n) (k : Nat) (hk : k < (LA g w).trips) : IsInt (Scalar.muli (Scf.iv (tlo g w) 1#32 k) 256#32) ((256 * ((32 * b + 32 - n) / 256 + k) : Nat) : Int) := by
  have := h.hn; have := h.hb
  have hi := isInt_iv h k hk
  rw [trips_A h] at hk
  refine Affine.muli hi (Affine.ofNat 256 ⟨rfl, by decide⟩) ?_
  refine ⟨by push_cast; omega, by omega, by omega⟩

theorem isInt_tile (h : Step g w b n) (k : Fin (LA g w).trips) : IsInt (Scalar.muli (Scf.iv (tlo g w) 1#32 k) 256#32) ((256 * ((32 * b + 32 - n) / 256 + k.val) : Nat) : Int) :=
  isInt_tile' h k.val k.isLt

theorem dvdA (h : Step g w b n) (k : Fin (LA g w).trips) : 256 ∣ (Scalar.muli (Scf.iv (tlo g w) 1#32 k) 256#32).toNat :=
  Affine.dvd_of (isInt_tile h k) 256 ⟨Int.natCast_dvd_natCast.mpr (Dvd.intro _ rfl), Int.natCast_nonneg _⟩

/-- Where a tile begins. -/
theorem tileA (h : Step g w b n) (k : Fin (LA g w).trips) :
    (Scalar.indexCast (Scalar.muli (Scf.iv (tlo g w) 1#32 k) 256#32) : Index).toNat = 256 * ((32 * b + 32 - n) / 256 + k.val) := by
  have := Affine.toNat_of (Affine.indexCast (isInt_tile h k)) (Int.natCast_nonneg _)
  exact_mod_cast this

theorem tileA_le (h : Step g w b n) (k : Fin (LA g w).trips) :
    (Scalar.indexCast (Scalar.muli (Scf.iv (tlo g w) 1#32 k) 256#32) : Index).toNat ≤ 2304 := by
  rw [tileA h k]
  have hk : k.val < (32 * b + 287) / 256 - (32 * b + 32 - n) / 256 := lt_of_lt_of_eq k.isLt (trips_A h)
  have := h.hb
  generalize k.val = m at hk ⊢
  clear k
  omega

theorem inb2 {x c v m : Nat} (hx : x ≤ 2304) (hc : c + v ≤ m) : ∀ a, (![x, c] : Fin 2 → Nat) a + (M 256 v).size a ≤ (M 2560 m).size a := by
  intro a; fin_cases a
  · show x + 256 ≤ 2560; omega
  · exact hc

theorem inb3 {x c v : Nat} (hx : x ≤ 2304) (hc : c + v ≤ 640) : ∀ a, (![0, x, c] : Fin 3 → Nat) a + (![1, 256, v] : Fin 3 → Nat) a ≤ (![1, 2560, 640] : Fin 3 → Nat) a := by
  intro a; fin_cases a
  · show 0 + 1 ≤ 1; omega
  · show x + 256 ≤ 2560; omega
  · exact hc

end

end Attn

end
-- ==== Proof.ChkIdeal.lean ====
module
public import proofs.«01_k».proof.KernelIdeal
public import proofs.«01_k».proof.Proof.Tiles
@[expose] public section

/-! What `KernelIdeal`'s tiles assume of a step holds of a step that needs no more keys than there are. -/

noncomputable section
namespace Cert.KernelIdeal.Eq
open Idealize.ShloMosaic Idealize.SL.Sem Attn

theorem k0_chk1_0_of (i : grid0.Coords) (v w : BitVec 32) (b n : Nat) (h : Step (BitVec.ofNat 32 (i 0).val) w b n) : k0_chk1_0 i v w :=
  ⟨fun _ => okA h,
   fun k _ => dvdA h k,
   fun k _ => inb2 (tileA_le h k) (by decide),
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k⟩

theorem k0_chk1_1_of (i : grid0.Coords) (v w : BitVec 32) (b n : Nat) (h : Step (BitVec.ofNat 32 (i 0).val) w b n) : k0_chk1_1 i v w :=
  ⟨fun k _ => inb2 (tileA_le h k) (by decide),
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide)⟩

theorem k0_chk1_2_of (i : grid0.Coords) (v w : BitVec 32) (b n : Nat) (h : Step (BitVec.ofNat 32 (i 0).val) w b n) : k0_chk1_2 i v w :=
  ⟨fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun k _ => inb2 (tileA_le h k) (by decide),
   fun _ => okB _ _⟩

theorem k0_chk1_3_of (i : grid0.Coords) (v w : BitVec 32) (b n : Nat) (h : Step (BitVec.ofNat 32 (i 0).val) w b n) : k0_chk1_3 i v w :=
  ⟨fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim⟩

/-- The whole assumption. -/
theorem chk_of (i : grid0.Coords) (v w : BitVec 32) (b n : Nat) (h : Step (BitVec.ofNat 32 (i 0).val) w b n) : k0_chk1 i v w :=
  ⟨k0_chk1_0_of i v w b n h, k0_chk1_1_of i v w b n h, k0_chk1_2_of i v w b n h, k0_chk1_3_of i v w b n h⟩

end Cert.KernelIdeal.Eq
end
-- ==== Proof.RunIdeal.lean ====
module
public import proofs.«01_k».proof.Proof.Gen.KernelIdeal.Launch
public import proofs.«01_k».proof.Proof.EqIdeal
public import proofs.«01_k».proof.Proof.Pro
public import proofs.«01_k».proof.Proof.ChkIdeal
public import Idealize.ShloMosaic.Lib.Pipeline.FrameBody
public import Idealize.ShloMosaic.Lib.Pipeline.ArrRel
@[expose] public section

/-! The run of `KernelIdeal`: from a proof that the body does its work at each point of the grid to what the arrays hold at the end. -/

noncomputable section
namespace Cert.KernelIdeal.Run
open Cert.KernelIdeal Cert.KernelIdeal.Gen
open Idealize.ShloMosaic Idealize.ShloMosaic.TcCoe Idealize.SL Idealize.SL.Sem Attn ValueIdx
open Idealize.SL.BI (sProp)
open scoped Idealize.SL.BI
open Idealize.SL.BI.BIBase Idealize.SL.BI.Laws Idealize.SL.ProofMode
open Idealize.SL.RA
open Idealize.ShloMosaic.Pipeline (RDat)
open Idealize.ShloMosaic

variable {F : FTy → Type} [FloatOps F] [Named F] [∀ e, Nonempty (Elt F e)]
local notation "𝕄" => MT nD τ sig Unit (Elt F) ℕ (UR sig nD τ) ℕ
variable (m : (ℓ : Loc nD τ sig) → Buf (Elt F) ℓ) (ρ : Dev nD → PrngReg)

/-- What the region finds in the arrays. -/
abbrev V (c : Dev nD) (b : Ref sig .tc) : Buf (Elt F) ((c.tc : Thread nD τ).loc b) := m ((c.tc : Thread nD τ).loc b)

/-- The table of the steps' key counts, as the pipeline is pinned at it. -/
def adm : (p : Fin 1) → (pcfgs (F := F) p).Adm := fun _ => ⟨fun k => m (((0 : Dev nD).tc : Thread nD τ).loc (pre0.ref k)), trivial⟩

abbrev cfgA : Pipeline.Cfg sig Λ₀ := cfg0 (adm m 0)

/-- The table on core `c`. -/
def tab (c : Dev nD) : Vec F ⟨1, ![160]⟩ .i32 := m ((c.tc : Thread nD τ).loc main_arg0)

/-- The buffers at staging slots `s`. -/
def argsAt (s : (w : Fin 12) → Fin (spec0 w).nbuf) : Args sig :=
  ⟨Memref.whole main_arg0, spec0_0.stage (s 0), spec0_1.stage (s 1), spec0_2.stage (s 2), spec0_3.stage (s 3), spec0_4.stage (s 4), spec0_5.stage (s 5), spec0_6.stage (s 6), spec0_7.stage (s 7), spec0_8.stage (s 8), spec0_9.stage (s 9), spec0_10.stage (s 10), spec0_11.stage (s 11), Memref.whole cc0_scratch0, Memref.whole cc0_scratch1, Memref.whole cc0_scratch2, Memref.whole cc0_scratch3, Memref.whole cc0_scratch4,
   hstage0_5 ((s 5).cast nbuf0_5), hstage0_9 ((s 9).cast nbuf0_9), Memref.isWhole_whole _, Memref.isWhole_whole _, Memref.isWhole_whole _⟩

/-- The body's row of the table is the written body. -/
theorem row (t : Fin (cfgA m).N) : defs₀ (F := F) .tc (cfgA m).body ((cfgA m).bodyArgs t ((cfgA m).slots t))
    = body (argsAt ((cfgA m).slots t)) Eq.consts (BitVec.ofNat 32 (grid0.coords t 0).val) (Eq.offs (grid0.coords t)) := by
  unfold defs₀; rw [Defs.onTc_tc]
  exact Eq.body_eq _ _ _ _ _ _ _ _ _ _ _ _ _ _ _ _ _ _ _ _ _ _ _ _ _ _ _ _ _ _ _ _ _ _ _ _ _

/-- What a fetch puts in an input's buffer that held `d`. -/
def fetched (c : Dev nD) (w : Fin (cfgA m).W) (t : Fin (cfgA m).N) (d : ((cfgA m).win w).block.Idx → Elt F ((cfgA m).win w).elt) :
    ((cfgA m).win w).block.Idx → Elt F ((cfgA m).win w).elt :=
  ((cfgA m).win w).fill ((cfgA m).grid.coords t) d ((((cfgA m).win w).blk t).view.read (Elt F) (V m c (Pipeline.arrRef spec0 w)))

/-- The state holds the table and the inputs' blocks of point `t`. -/
structure Inp (c : Dev nD) (t : Fin (cfgA m).N) (s : St F) : Prop where
  h1 : s.x1 = tab m c
  h2 : ∃ d, s.x2 = fetched m c (0 : Fin 12) t d
  h3 : ∃ d, s.x3 = fetched m c (1 : Fin 12) t d
  h4 : ∃ d, s.x4 = fetched m c (2 : Fin 12) t d
  h5 : ∃ d, s.x5 = fetched m c (3 : Fin 12) t d
  h6 : ∃ d, s.x6 = fetched m c (4 : Fin 12) t d
  hot : condOf (Scalar.cmpi .eq (BitVec.ofNat 32 (grid0.coords t 0).val) 0#32) = 1#1 ∨ Hot s.x14

/-- What the blocks of five of the outputs are to hold. -/
structure Rs where
  ro : Dev nD → Fin (cfgA m).N → Vec F (M 1024 512) .bf16 → Prop
  rl : Dev nD → Fin (cfgA m).N → Vec F ⟨3, ![1, 4, 256]⟩ .f32 → Prop
  rn : Dev nD → Fin (cfgA m).N → Vec F (M 1024 512) .f32 → Prop
  rr : Dev nD → Fin (cfgA m).N → Vec F (M 1024 64) .f32 → Prop
  rc : Dev nD → Fin (cfgA m).N → Vec F (M 1024 512) .fp8e4m3 → Prop

variable (R : Rs m)

/-- What the body leaves: its inputs, and in the outputs what `R` says. -/
structure Out (c : Dev nD) (t : Fin (cfgA m).N) (s s' : St F) : Prop where
  ki : KI s s'
  ro : R.ro c t s'.x7
  rl : R.rl c t s'.x8
  rn : R.rn c t s'.x9
  rr : R.rr c t s'.x10
  rc : R.rc c t s'.x11
  hot : Hot s'.x14

/-- The body does its work at every point. -/
def Works : Prop := ∀ (c : Dev nD) (t : Fin (cfgA m).N) (s : St F), Inp m c t s →
  Tr (Ix := Unit) (Name := ℕ) (U := UR sig nD τ) (Lvl := ℕ) (defs₀ (F := F)) Variants.none c none Set.univ fullShare.right (argsAt ((cfgA m).slots t))
    (body (argsAt ((cfgA m).slots t)) Eq.consts (BitVec.ofNat 32 (grid0.coords t 0).val) (Eq.offs (grid0.coords t))) s
    fun _ s' => Out m R c t s s'

/-- What is held between two points: the table, and the scratch at some contents. -/
def Φ (c : Dev nD) (t : Nat) : sProp 𝕄 :=
  iprop((∃ d, ⌜0 < t → Hot d⌝ ∗ owns (c.tc : Thread nD τ) (Memref.whole cc0_scratch0) fullShare d)
    ∗ (∃ d, owns (c.tc : Thread nD τ) (Memref.whole cc0_scratch1) fullShare d) ∗ (∃ d, owns (c.tc : Thread nD τ) (Memref.whole cc0_scratch2) fullShare d)
    ∗ (∃ d, owns (c.tc : Thread nD τ) (Memref.whole cc0_scratch3) fullShare d) ∗ (∃ d, owns (c.tc : Thread nD τ) (Memref.whole cc0_scratch4) fullShare d)
    ∗ owns (c.tc : Thread nD τ) (Memref.whole main_arg0) fullShare.right (tab m c) ∗ ∃ r, prngReg c r)

/-- The data of the run. -/
def rdat (c : Dev nD) : RDat τ (Elt F) Unit ℕ (UR sig nD τ) ℕ (cfgA m) c where
  A w := V m c (Pipeline.arrRef spec0 w)
  after w t Y X := (w.val < 5 → X = Y) ∧ (∀ Z, w = (5 : Fin 12) → HEq X Z → R.ro c t Z) ∧ (∀ Z, w = (6 : Fin 12) → HEq X Z → R.rl c t Z)
    ∧ (∀ Z, w = (7 : Fin 12) → HEq X Z → R.rn c t Z) ∧ (∀ Z, w = (8 : Fin 12) → HEq X Z → R.rr c t Z) ∧ (∀ Z, w = (9 : Fin 12) → HEq X Z → R.rc c t Z)
  Φ t := Φ m c t.val
  q _ := fullShare
  owed _ := 0

theorem finds_in (c : Dev nD) (w : Fin 12) (hw : w.val < 5) (hout : ((cfgA m).win w).isOut = false) (t : Fin (cfgA m).N) (Y) (h : (rdat m R c).Finds w t Y) :
    ∃ d, Y = fetched m c w t d :=
  RDat.finds_in_eq_fetched (rdat m R c) w hout (fun _ _ _ => rfl) (fun t Y X h => h.1 hw) t Y h

theorem coord_val (t : Fin (cfgA m).N) : (grid0.coords t 0).val = t.val := by
  rw [Pipeline.Grid.coords_val (G := grid0) t 0 (S := 1) (B := 160) (by decide) rfl, Nat.div_one]
  exact Nat.mod_eq_of_lt (by have := t.isLt; have h : (cfgA m).N = 160 := N_0; omega)

theorem first (t : Fin (cfgA m).N) (h : t.val = 0) : condOf (Scalar.cmpi .eq (BitVec.ofNat 32 (grid0.coords t 0).val) 0#32) = 1#1 := by
  rw [coord_val, h]; decide

theorem obligation (hW : Works m R) (c : Dev nD) :
    (rdat m R c).BodyObligation (defs₀ (F := F)) Variants.none () Set.univ := by
  intro t Y hY
  rw [row]
  rw [bigSep_W0]
  show iprop(Φ m c t.val ∗ (rdat m R c).owesAt () t.castSucc ∗ _) ⊢ _
  unfold Φ
  iintro ⟨⟨⟨%d0, %h0, S0⟩, ⟨%d1, S1⟩, ⟨%d2, S2⟩, ⟨%d3, S3⟩, ⟨%d4, S4⟩, HT, Hg⟩, HO, W0, W1, W2, W3, W4, W5, W6, W7, W8, W9, W10, W11⟩
  have hw := hW c t ⟨tab m c, Y ((0 : Fin 12)), Y ((1 : Fin 12)), Y ((2 : Fin 12)), Y ((3 : Fin 12)), Y ((4 : Fin 12)), Y ((5 : Fin 12)), Y ((6 : Fin 12)), Y ((7 : Fin 12)), Y ((8 : Fin 12)), Y ((9 : Fin 12)), Y ((10 : Fin 12)), Y ((11 : Fin 12)), d0, d1, d2, d3, d4⟩
    ⟨rfl, finds_in m R c 0 (by decide) rfl t _ (hY _), finds_in m R c 1 (by decide) rfl t _ (hY _), finds_in m R c 2 (by decide) rfl t _ (hY _),
     finds_in m R c 3 (by decide) rfl t _ (hY _), finds_in m R c 4 (by decide) rfl t _ (hY _),
     (Nat.eq_zero_or_pos t.val).imp (first m t) h0⟩
  iapply (wp_wand_r _ _ _ (Q := fun a => iprop(∃ s', ⌜Out m R c t _ s'⌝ ∗ Own c fullShare.right (argsAt ((cfgA m).slots t)) s')))
  isplitl [HT W0 W1 W2 W3 W4 W5 W6 W7 W8 W9 W10 W11 S0 S1 S2 S3 S4]
  · iapply hw.out
    unfold Own
    isplitl [HT]; · iexact HT
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [S0]; · iexact S0
    isplitl [S1]; · iexact S1
    isplitl [S2]; · iexact S2
    isplitl [S3]; · iexact S3
    iexact S4
  iintro %a ⟨%s', %hs, H⟩
  unfold Own
  icases H with ⟨T', W0', W1', W2', W3', W4', W5', W6', W7', W8', W9', W10', W11', S0', S1', S2', S3', S4'⟩
  obtain ⟨ki, ro, rl, rn, rr, rc, hot⟩ := hs
  isplitl [T' S0' S1' S2' S3' S4' Hg]
  · rw [show (rdat m R c).Φ t.succ = Φ m c (t.val + 1) from rfl]
    unfold Φ
    isplitl [S0']
    · iexists _; isplitr; swap; · iexact S0'
      ipureintro; exact fun _ => hot
    isplitl [S1']; · iexists _; iexact S1'
    isplitl [S2']; · iexists _; iexact S2'
    isplitl [S3']; · iexists _; iexact S3'
    isplitl [S4']; · iexists _; iexact S4'
    isplitl [T']
    · rw [show s'.x1 = tab m c from ki.e1]; iexact T'
    iexact Hg
  isplitl [HO]; · iexact HO
  rw [bigSep_W0]
  isplitl [W0']
  · iexists _; isplitr; swap; · iexact W0'
    ipureintro; exact ⟨fun _ => ki.e2, fun _ h => absurd (show (0 : Fin 12) = 5 from h) (by decide), fun _ h => absurd (show (0 : Fin 12) = 6 from h) (by decide), fun _ h => absurd (show (0 : Fin 12) = 7 from h) (by decide), fun _ h => absurd (show (0 : Fin 12) = 8 from h) (by decide), fun _ h => absurd (show (0 : Fin 12) = 9 from h) (by decide)⟩
  isplitl [W1']
  · iexists _; isplitr; swap; · iexact W1'
    ipureintro; exact ⟨fun _ => ki.e3, fun _ h => absurd (show (1 : Fin 12) = 5 from h) (by decide), fun _ h => absurd (show (1 : Fin 12) = 6 from h) (by decide), fun _ h => absurd (show (1 : Fin 12) = 7 from h) (by decide), fun _ h => absurd (show (1 : Fin 12) = 8 from h) (by decide), fun _ h => absurd (show (1 : Fin 12) = 9 from h) (by decide)⟩
  isplitl [W2']
  · iexists _; isplitr; swap; · iexact W2'
    ipureintro; exact ⟨fun _ => ki.e4, fun _ h => absurd (show (2 : Fin 12) = 5 from h) (by decide), fun _ h => absurd (show (2 : Fin 12) = 6 from h) (by decide), fun _ h => absurd (show (2 : Fin 12) = 7 from h) (by decide), fun _ h => absurd (show (2 : Fin 12) = 8 from h) (by decide), fun _ h => absurd (show (2 : Fin 12) = 9 from h) (by decide)⟩
  isplitl [W3']
  · iexists _; isplitr; swap; · iexact W3'
    ipureintro; exact ⟨fun _ => ki.e5, fun _ h => absurd (show (3 : Fin 12) = 5 from h) (by decide), fun _ h => absurd (show (3 : Fin 12) = 6 from h) (by decide), fun _ h => absurd (show (3 : Fin 12) = 7 from h) (by decide), fun _ h => absurd (show (3 : Fin 12) = 8 from h) (by decide), fun _ h => absurd (show (3 : Fin 12) = 9 from h) (by decide)⟩
  isplitl [W4']
  · iexists _; isplitr; swap; · iexact W4'
    ipureintro; exact ⟨fun _ => ki.e6, fun _ h => absurd (show (4 : Fin 12) = 5 from h) (by decide), fun _ h => absurd (show (4 : Fin 12) = 6 from h) (by decide), fun _ h => absurd (show (4 : Fin 12) = 7 from h) (by decide), fun _ h => absurd (show (4 : Fin 12) = 8 from h) (by decide), fun _ h => absurd (show (4 : Fin 12) = 9 from h) (by decide)⟩
  isplitl [W5']
  · iexists _; isplitr; swap; · iexact W5'
    ipureintro; exact ⟨fun h => absurd (show (5 : Nat) < 5 from h) (by decide), fun _ _ hz => eq_of_heq hz ▸ ro, fun _ h => absurd (show (5 : Fin 12) = 6 from h) (by decide), fun _ h => absurd (show (5 : Fin 12) = 7 from h) (by decide), fun _ h => absurd (show (5 : Fin 12) = 8 from h) (by decide), fun _ h => absurd (show (5 : Fin 12) = 9 from h) (by decide)⟩
  isplitl [W6']
  · iexists _; isplitr; swap; · iexact W6'
    ipureintro; exact ⟨fun h => absurd (show (6 : Nat) < 5 from h) (by decide), fun _ h => absurd (show (6 : Fin 12) = 5 from h) (by decide), fun _ _ hz => eq_of_heq hz ▸ rl, fun _ h => absurd (show (6 : Fin 12) = 7 from h) (by decide), fun _ h => absurd (show (6 : Fin 12) = 8 from h) (by decide), fun _ h => absurd (show (6 : Fin 12) = 9 from h) (by decide)⟩
  isplitl [W7']
  · iexists _; isplitr; swap; · iexact W7'
    ipureintro; exact ⟨fun h => absurd (show (7 : Nat) < 5 from h) (by decide), fun _ h => absurd (show (7 : Fin 12) = 5 from h) (by decide), fun _ h => absurd (show (7 : Fin 12) = 6 from h) (by decide), fun _ _ hz => eq_of_heq hz ▸ rn, fun _ h => absurd (show (7 : Fin 12) = 8 from h) (by decide), fun _ h => absurd (show (7 : Fin 12) = 9 from h) (by decide)⟩
  isplitl [W8']
  · iexists _; isplitr; swap; · iexact W8'
    ipureintro; exact ⟨fun h => absurd (show (8 : Nat) < 5 from h) (by decide), fun _ h => absurd (show (8 : Fin 12) = 5 from h) (by decide), fun _ h => absurd (show (8 : Fin 12) = 6 from h) (by decide), fun _ h => absurd (show (8 : Fin 12) = 7 from h) (by decide), fun _ _ hz => eq_of_heq hz ▸ rr, fun _ h => absurd (show (8 : Fin 12) = 9 from h) (by decide)⟩
  isplitl [W9']
  · iexists _; isplitr; swap; · iexact W9'
    ipureintro; exact ⟨fun h => absurd (show (9 : Nat) < 5 from h) (by decide), fun _ h => absurd (show (9 : Fin 12) = 5 from h) (by decide), fun _ h => absurd (show (9 : Fin 12) = 6 from h) (by decide), fun _ h => absurd (show (9 : Fin 12) = 7 from h) (by decide), fun _ h => absurd (show (9 : Fin 12) = 8 from h) (by decide), fun _ _ hz => eq_of_heq hz ▸ rc⟩
  isplitl [W10']
  · iexists _; isplitr; swap; · iexact W10'
    ipureintro; exact ⟨fun h => absurd (show (10 : Nat) < 5 from h) (by decide), fun _ h => absurd (show (10 : Fin 12) = 5 from h) (by decide), fun _ h => absurd (show (10 : Fin 12) = 6 from h) (by decide), fun _ h => absurd (show (10 : Fin 12) = 7 from h) (by decide), fun _ h => absurd (show (10 : Fin 12) = 8 from h) (by decide), fun _ h => absurd (show (10 : Fin 12) = 9 from h) (by decide)⟩
  iexists _; isplitr; swap; · iexact W11'
  ipureintro; exact ⟨fun h => absurd (show (11 : Nat) < 5 from h) (by decide), fun _ h => absurd (show (11 : Fin 12) = 5 from h) (by decide), fun _ h => absurd (show (11 : Fin 12) = 6 from h) (by decide), fun _ h => absurd (show (11 : Fin 12) = 7 from h) (by decide), fun _ h => absurd (show (11 : Fin 12) = 8 from h) (by decide), fun _ h => absurd (show (11 : Fin 12) = 9 from h) (by decide)⟩

theorem hin (c : Dev nD) : iprop(Pipeline.ΦA (cfgA m).spec c ∗ Pipeline.ΦT pre0 (adm m 0).1 c) ⊢ (rdat m R c).Φ 0 := by
  show _ ⊢ Φ m c 0
  have hc : c = 0 := Subsingleton.elim _ _
  subst hc
  unfold Pipeline.ΦA Pipeline.ΦT Pipeline.prefHeld Φ
  rw [show ((cfgA m).spec) = spec0 from rfl, scopedRest0_eq, BI.bigSep_univ_eq_bigSepL [(0 : Fin 1)] (by decide) (by decide), BI.bigSepL_singleton]
  show iprop(_ ∗ (((0 : Dev nD).tc : Thread nD τ).loc main_arg0 ↦{fullShare.right} tab m 0)) ⊢ _
  simp only [owns_whole]
  iintro ⟨⟨⟨⟨%d0, S0⟩, S1, S2, S3, S4⟩, Hg⟩, HT⟩
  isplitl [S0]
  · iexists d0; isplitr; swap; · iexact S0
    ipureintro; exact fun h => absurd h (by decide)
  isplitl [S1]; · iexact S1
  isplitl [S2]; · iexact S2
  isplitl [S3]; · iexact S3
  isplitl [S4]; · iexact S4
  isplitl [HT]; · iexact HT
  iexact Hg

theorem hout (c : Dev nD) : (rdat m R c).Φ (Fin.last (cfgA m).N) ⊢ Pipeline.ΦA (cfgA m).spec c := by
  show Φ m c (cfgA m).N ⊢ _
  unfold Pipeline.ΦA Φ
  rw [show ((cfgA m).spec) = spec0 from rfl, scopedRest0_eq]
  simp only [owns_whole]
  iintro ⟨⟨%d0, -, S0⟩, S1, S2, S3, S4, -, Hg⟩
  isplitr [Hg]; swap; · iexact Hg
  isplitl [S0]; · iexists _; iexact S0
  isplitl [S1]; · iexact S1
  isplitl [S2]; · iexact S2
  isplitl [S3]; · iexact S3
  iexact S4

set_option backward.isDefEq.respectTransparency.types false in
/-- The program runs to what the data say, and its semaphores end at zero. -/
theorem run (hW : Works m R) : θ_run defs (onTc (τ := τ) (main (F := F))) (s₀ m ρ)
    (fun r => RDat.FramePost (cfgA m) (rdat m R) (V m) r ∧ r.2.sem = fun _ => 0) :=
  RDat.θ_run_frameP_track (Q' := _) pcfgs (adm m) (0 : Fin 1) launch0 defs₀ Variants.none (rdat m R) m ρ main
    (hbody := obligation m R hW) (hshare := fun c => (rdat m R c).share_full fun _ => rfl) (howed := fun _ _ => rfl) (V := V m)
    (hmain := Pipeline.hmainP_region pcfgs (0 : Fin 1) defs₀ Variants.none m main fun c => (main_chain c).trans rfl)
    (hA := fun _ _ => rfl) (hpf := fun c k => by have hc : c = 0 := Subsingleton.elim _ _; subst hc; rfl)
    (hin := hin m R) (hout := hout m R)

variable {m R}

/-- An input window's array ends as it began. -/
theorem arr_in {r : PUnit × MemSt nD τ sig (Elt F)} (h : RDat.FramePost (cfgA m) (rdat m R) (V m) r) (c : Dev nD) (w : Fin 12)
    (hw : ((cfgA m).win w).isOut = false) :
    r.2.mem (((cfgA m).spec w).arr.view.loc (c.tc : Thread nD τ)) = V m c (Pipeline.arrRef spec0 w) := by
  exact (congrFun (RDat.ArrAt_in (rdat m R c) w hw (cfgA m).N) _).mp ((h c).1 w)

/-- The arguments end as they began. -/
theorem args_kept {r : PUnit × MemSt nD τ sig (Elt F)} (h : RDat.FramePost (cfgA m) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (Pipeline.mem_restRefs_of (win := spec0) main_arg0 (by decide) (by decide)),
   arr_in h c 0 rfl, arr_in h c 1 rfl, arr_in h c 2 rfl, arr_in h c 3 rfl, arr_in h c 4 rfl⟩

/-- The word that the body reads of the table is its point's. -/
theorem need_at (x : Vec F ⟨1, ![160]⟩ .i32) (i : grid0.Coords) :
    VecWindow.window (s := ⟨1, ![160]⟩) x (Eq.offs i).nd ![1] (Eq.offs i).ind zix = x (ix1 (i 0 : Fin 160)) := by
  refine congrArg x (funext fun a => Fin.ext ?_)
  have h : (i 0).val < 160 := (i 0).isLt
  fin_cases a
  show (BitVec.ofNat 32 (i 0).val).toNat + 1 * 0 = (i 0).val
  simp only [BitVec.toNat_ofNat]; omega

/-- The body keeps its inputs at every point of which the tables say what they should. -/
theorem works_any (h : ∀ (c : Dev nD) (i : Fin 160), ∃ b n, Step (BitVec.ofNat 32 i.val) (tab m c (ix1 i)) b n) :
    Works m ⟨fun _ _ _ => True, fun _ _ _ => True, fun _ _ _ => True, fun _ _ _ => True, fun _ _ _ => True⟩ := by
  intro c t s hs
  obtain ⟨b, n, hst⟩ := h c (grid0.coords t 0)
  refine Tr.mono (tr_body Eq.consts _ (Eq.offs (grid0.coords t)) s hs.hot fun _ => ?_) fun _ s' k => ⟨k.toKI, trivial, trivial, trivial, trivial, trivial, ?_⟩
  · rw [need_at, hs.h1]
    exact Eq.chk_of _ _ _ b n hst
  · rw [k.t14]; exact T14_hot _ _ _

end Cert.KernelIdeal.Run
end
-- ==== Proof.Math.lean ====
module

public import proofs.«01_k».proof.Proof.Long
public import Idealize.ShloMosaic.Lib.ValueIdx
public import Idealize.ShloMosaic.Lib.MatmulPlain
public import Idealize.ShloMosaic.Lib.IdealHost
public import Idealize.ShloMosaic.Lib.VecWindow
public import Idealize.ShloMosaic.Lib.KernelVsHost

@[expose] public section

/-! The mathematics of a step over the extended reals: its scores, weights, sums and results, and what the vector operations of the body compute at an index. -/

noncomputable section

namespace Attn
open Idealize.ShloMosaic Idealize.SL.Sem ValueIdx
open scoped BigOperators

/-- The factor that turns a score into an exponent of two. -/
def cF : EReal := Ideal.ofBits .f32 0x3DD53B94#32

/-- The product of query row `r` and key `s`: 512 latent lanes and 64 rotary lanes. -/
def dotA (X : Vec Ideal (M 2560 640) .bf16) (Q : Vec Ideal (M 1024 768) .bf16) (r : Fin 1024) (s : Fin 2560) : EReal :=
  (∑ d : Fin 512, X (ix2 s (⟨d.val, by omega⟩ : Fin 640)) * Q (ix2 r (⟨d.val, by omega⟩ : Fin 768)))
    + ∑ e : Fin 64, X (ix2 s (⟨512 + e.val, by omega⟩ : Fin 640)) * Q (ix2 r (⟨512 + e.val, by omega⟩ : Fin 768))

/-- Key `s` is seen by row `r` of step `b`: not before the row's document, not after the row's token. -/
def Vis (b : Nat) (own : Fin 32 → Int) (r : Fin 1024) (s : Fin 2560) : Prop :=
  own ⟨r.val / 32, by omega⟩ ≤ (s.val : Int) ∧ s.val ≤ 32 * b + r.val / 32

instance (b : Nat) (own : Fin 32 → Int) (r : Fin 1024) (s : Fin 2560) : Decidable (Vis b own r s) := by unfold Vis; infer_instance

/-- A score, `-∞` where the key is not seen. -/
def sc (X : Vec Ideal (M 2560 640) .bf16) (Q : Vec Ideal (M 1024 768) .bf16) (b : Nat) (own : Fin 32 → Int) (r : Fin 1024) (s : Fin 2560) : EReal :=
  if Vis b own r s then dotA X Q r s else ⊥

/-- The shift that goes with a row's greatest score. -/
def shift (x : EReal) : EReal := Ideal.liftRound Int.ceil (x * cF)

/-- The greatest score of a row. -/
def mx (f : Fin 2560 → EReal) : EReal := Finset.univ.sup f

/-- A weight. -/
def wt (f : Fin 2560 → EReal) (s : Fin 2560) : EReal := Ideal.exp2 (f s * cF - shift (mx f))

/-- The sum of a row's weights. -/
def dn (f : Fin 2560 → EReal) : EReal := ∑ s, wt f s

/-- A row's result at a lane. -/
def oo (X : Vec Ideal (M 2560 640) .bf16) (f : Fin 2560 → EReal) (d : Fin 512) : EReal :=
  (∑ s : Fin 2560, wt f s * X (ix2 s (⟨d.val, by omega⟩ : Fin 640))) * Ideal.div (Ideal.ofBits .f32 0x3F800000#32) (dn f)

/-- A row's logarithm of the sum of its exponentials. -/
def ll (C : Consts Ideal) (f : Fin 2560 → EReal) : EReal := (shift (mx f) + Ideal.log (dn f) * C.lg) * C.ln

theorem zero32 (s : Shape) (i : s.Idx) : constant (F := Ideal) s .f32 0x00000000#32 i = 0 := Ideal.ofBits_zero_f32

/-- The scores of the latent lanes at an index. -/
theorem qkDot_apply {n : Nat} (W : WF n) (kv : Vec Ideal (M n 512) .bf16) (q : Vec Ideal (M 256 512) .bf16) (y : Fin n) (j : Fin 256) :
    qkDot W kv q (ix2 y j) = ∑ d : Fin 512, kv (ix2 y d) * q (ix2 j d) := by
  refine (Ideal.matmul_transposedRhs_apply (M := n) (K := 512) (N := 256) none kv q _ y j).trans ?_
  rw [zero32, zero_add]

/-- The scores of the other lanes at an index. -/
theorem qxDot_apply {n : Nat} (W : WF n) (kr : FVec Ideal (M n 256) .bf16) (q : Vec Ideal (M 256 256) .bf16) (y : Fin n) (j : Fin 256) :
    qxDot W kr q (ix2 y j) = ∑ d : Fin 256, kr (ix2 y d) * q (ix2 j d) := by
  refine (Ideal.matmul_transposedRhs_apply (M := n) (K := 256) (N := 256) none kr q _ y j).trans ?_
  rw [zero32, zero_add]

/-- The weighted values at an index. -/
theorem pvDot_apply {n : Nat} (W : WF n) (p : FVec Ideal (M n 256) .bf16) (kv : Vec Ideal (M n 512) .bf16) (j : Fin 256) (d : Fin 512) :
    pvDot W p kv (ix2 j d) = ∑ y : Fin n, p (ix2 y j) * kv (ix2 y d) := by
  unfold pvDot
  set D : DotDims (M n 256) (M n 512) (M 256 512) := ⟨[0], [0], [1], [1], [], [], W.dpv⟩
  have hr : D.contr.rank = 1 := rfl
  have hs : D.contr.size ⟨0, by rw [hr]; exact Nat.one_pos⟩ = n := rfl
  show Ideal.matmul D p kv _ (ix2 j d) = _
  unfold Ideal.matmul
  rw [zero32, zero_add, ← Equiv.sum_comp (contrEquiv1 D n hr hs).symm]
  refine Finset.sum_congr rfl fun k _ => ?_
  have hk := contrEquiv1_symm_val D n hr hs k
  have el : D.lhsIdx (ix2 j d) ((contrEquiv1 D n hr hs).symm k) = ix2 k j := by
    funext a; apply Fin.ext
    match a with
    | ⟨0, _⟩ => exact hk
    | ⟨1, _⟩ => rfl
  have er : D.rhsIdx (ix2 j d) ((contrEquiv1 D n hr hs).symm k) = ix2 k d := by
    funext a; apply Fin.ext
    match a with
    | ⟨0, _⟩ => exact hk
    | ⟨1, _⟩ => rfl
  rw [el, er]

theorem row1 {α : Type} (x : (⟨1, ![256]⟩ : Shape).Idx → α) (h : Shape.ShapeCasts ⟨1, ![256]⟩ (M 1 256)) (j : Fin 256) :
    shapeCast (M 1 256) x h (ix2 (0 : Fin 1) j) = x (ix1 j) := by
  refine shapeCast_apply x h _ _ ?_
  rw [Shape.rowMajor_val_two, Shape.rowMajor_val_one]
  show j.val = 0 * 256 + j.val
  omega

theorem lift0 {n : Nat} (h : (M n 256).Reduces [0] ⟨1, ![256]⟩) (j : Fin 256) (k : Fin n) : h.lift (ix1 j) k = ix2 k j := by
  funext a
  apply Fin.ext
  match a with
  | ⟨0, _⟩ => rfl
  | ⟨1, _⟩ => rfl

/-- The greatest of each column at an index. -/
theorem colMax_apply {n : Nat} (W : WF n) (s : FVec Ideal (M n 256) .f32) (j : Fin 256) :
    colMax W s (ix2 (0 : Fin 1) j) = Finset.univ.sup fun y : Fin n => s (ix2 y j) := by
  unfold colMax
  rw [row1]
  refine (Ideal.multiReduction_maximumf_single s _ W.red _ _ (ix1 j)).trans ?_
  have : (s ∘ W.red.lift (ix1 j)) = fun y : Fin n => s (ix2 y j) := funext fun y => congrArg s (lift0 W.red j y)
  rw [this]
  have hb : (FloatOps.ofBits .f32 0xFF800000#32 : Ideal .f32) = (⊥ : EReal) := by
    simp [Ideal.ofBits_def, Ideal.ofBits, Ideal.ieee]
  rw [hb]
  rfl

/-- The sum of each column at an index. -/
theorem colSum_apply {n : Nat} (W : WF n) (s : FVec Ideal (M n 256) .f32) (j : Fin 256) :
    colSum W s (ix2 (0 : Fin 1) j) = ∑ y : Fin n, s (ix2 y j) := by
  unfold colSum
  rw [row1]
  refine (Ideal.multiReduction_add_single s _ W.red _ _ (ix1 j)).trans ?_
  exact Finset.sum_congr rfl fun y _ => congrArg s (lift0 W.red j y)

theorem shiftOf_apply (x : FVec Ideal (M 1 256) .f32) (j : Fin 256) : shiftOf x (ix2 (0 : Fin 1) j) = shift (x (ix2 (0 : Fin 1) j)) := rfl

theorem bcRow {α : Type} {n : Nat} (x : (M 1 256).Idx → α) (h : (M 1 256).Broadcasts (M n 256)) (y : Fin n) (j : Fin 256) :
    broadcastTo (M n 256) x h (ix2 y j) = x (ix2 (0 : Fin 1) j) := by
  refine broadcastTo_apply x h _ _ ?_
  intro a
  match a with
  | ⟨0, _⟩ => rfl
  | ⟨1, _⟩ => rfl

/-- The weights at an index. -/
theorem expOf_apply {n : Nat} (W : WF n) (s : FVec Ideal (M n 256) .f32) (m : FVec Ideal (M 1 256) .f32) (y : Fin n) (j : Fin 256) :
    expOf W s m (ix2 y j) = Ideal.exp2 (s (ix2 y j) * cF - m (ix2 (0 : Fin 1) j)) := by
  show Ideal.exp2 (s (ix2 y j) * cF - broadcastTo (M n 256) m W.bc256 (ix2 y j)) = _
  rw [bcRow]

theorem lseOf_apply (C : Consts Ideal) (m den : FVec Ideal (M 1 256) .f32) (j : Fin 256) :
    lseOf C m den (ix2 (0 : Fin 1) j) = (m (ix2 (0 : Fin 1) j) + Ideal.log (den (ix2 (0 : Fin 1) j)) * C.lg) * C.ln := rfl

end Attn

end
-- ==== Proof.Math2.lean ====
module

public import proofs.«01_k».proof.Proof.Math
public import Idealize.ShloMosaic.Lib.Pointwise.SelectCore
public import Idealize.ShloMosaic.Lib.ReduceAll

@[expose] public section

/-! A window of keys gives every row's results: the keys outside it are seen by no row. -/

noncomputable section

namespace Attn
open Idealize.ShloMosaic Idealize.SL.Sem
open Idealize.ShloMosaic.ValueIdx (eq_ix2)
open scoped BigOperators

local notation "jx" => Idealize.ShloMosaic.ValueIdx.ix2

/-- A window read at an index. -/
theorem window2 {α : Type} {R Cn a b : Nat} (x : (M R Cn).Idx → α) (off : Fin 2 → Nat) (o0 o1 : Nat) (ho : off = ![o0, o1])
    (inb : ∀ i, off i + (M a b).size i ≤ (M R Cn).size i) (y : Fin a) (d : Fin b) (h0 : o0 + y.val < R) (h1 : o1 + d.val < Cn) :
    VecWindow.window (s := M R Cn) x off (M a b).size inb (jx y d) = x (jx (⟨o0 + y.val, h0⟩ : Fin R) (⟨o1 + d.val, h1⟩ : Fin Cn)) := by
  subst ho
  refine congrArg x (funext fun i => Fin.ext ?_)
  match i with
  | ⟨0, _⟩ => show o0 + 1 * y.val = o0 + y.val; omega
  | ⟨1, _⟩ => show o1 + 1 * d.val = o1 + d.val; omega

/-- A sum in two parts. -/
theorem sum_split {n : Nat} (a b : Nat) (h : a + b = n) (f : Fin n → EReal) :
    ∑ i, f i = (∑ i : Fin a, f ⟨i.val, by omega⟩) + ∑ i : Fin b, f ⟨a + i.val, by omega⟩ := by
  subst h; exact Fin.sum_univ_add f

/-- A sum over all keys is the sum over a window outside which the terms vanish. -/
theorem sum_win {n k0 : Nat} (h : k0 + n ≤ 2560) (g : Fin 2560 → EReal) (hz : ∀ s : Fin 2560, s.val < k0 ∨ k0 + n ≤ s.val → g s = 0) :
    ∑ y : Fin n, g ⟨k0 + y.val, by omega⟩ = ∑ s, g s := by
  refine Fintype.sum_of_injective (fun y : Fin n => (⟨k0 + y.val, by omega⟩ : Fin 2560)) (fun a b hab => Fin.ext ?_) _ _ (fun s hs => ?_) fun _ => rfl
  · have := congrArg Fin.val hab
    simp only at this
    omega
  · refine hz s ?_
    by_contra hc
    exact hs ⟨⟨s.val - k0, by omega⟩, Fin.ext (by simp only; omega)⟩

/-- The greatest over all keys is the greatest over a window outside which the terms are `-∞`. -/
theorem sup_win {n k0 : Nat} (h : k0 + n ≤ 2560) (g : Fin 2560 → EReal) (hz : ∀ s : Fin 2560, s.val < k0 ∨ k0 + n ≤ s.val → g s = ⊥) :
    (Finset.univ.sup fun y : Fin n => g ⟨k0 + y.val, by omega⟩) = Finset.univ.sup g := by
  apply le_antisymm
  · exact Finset.sup_le fun y _ => Finset.le_sup (f := g) (Finset.mem_univ _)
  · refine Finset.sup_le fun s _ => ?_
    by_cases hc : s.val < k0 ∨ k0 + n ≤ s.val
    · rw [hz s hc]; exact bot_le
    · have := Finset.le_sup (f := fun y : Fin n => g ⟨k0 + y.val, by omega⟩) (Finset.mem_univ (⟨s.val - k0, by omega⟩ : Fin n))
      have e : (⟨k0 + (s.val - k0), by omega⟩ : Fin 2560) = s := Fin.ext (by simp only; omega)
      simp only [e] at this
      exact this

/-- The scale is a positive number. -/
theorem cF_pos : ∃ c : ℝ, 0 < c ∧ cF = (c : EReal) := by
  refine ⟨_, ?_, by unfold cF; simp [Ideal.ofBits, Ideal.ieee]; rfl⟩
  norm_num

theorem bot_cF : (⊥ : EReal) * cF = ⊥ := by
  obtain ⟨c, hc, e⟩ := cF_pos
  rw [e, EReal.bot_mul_coe_of_pos hc]

theorem wt_bot {f : Fin 2560 → EReal} {s : Fin 2560} (h : f s = ⊥) : wt f s = 0 := by
  unfold wt
  rw [h, bot_cF, EReal.bot_sub]; rfl

/-- What the packed queries hold beside the queries: zeros, and one-hot lanes that pick a row's token. -/
structure Packed (Q : Vec Ideal (M 1024 768) .bf16) : Prop where
  zero : ∀ (r : Fin 1024) (e : Fin 64), Q (jx r (⟨576 + e.val, by omega⟩ : Fin 768)) = (0 : EReal)
  hot : ∀ (r : Fin 1024) (l : Fin 128), Q (jx r (⟨640 + l.val, by omega⟩ : Fin 768)) = if l.val = r.val / 32 then (1 : EReal) else 0

/-- The mask's words: a token's first key and its own position. -/
structure MaskW (b : Nat) (own : Fin 32 → Int) (st qp : IVec (M 1 128) 32) : Prop where
  st : ∀ l : Fin 32, (st (jx (0 : Fin 1) (⟨l.val, by omega⟩ : Fin 128))).toInt = own l
  qp : ∀ l : Fin 32, (qp (jx (0 : Fin 1) (⟨l.val, by omega⟩ : Fin 128))).toInt = (32 * b + l.val : Nat)

theorem bcRow128 {α : Type} {n : Nat} (x : (M 1 128).Idx → α) (h : (M 1 128).Broadcasts (M n 128)) (y : Fin n) (j : Fin 128) :
    broadcastTo (M n 128) x h (jx y j) = x (jx (0 : Fin 1) j) := by
  refine broadcastTo_apply x h _ _ ?_
  intro a
  match a with
  | ⟨0, _⟩ => rfl
  | ⟨1, _⟩ => rfl

theorem cat_lo {α : Type} {n a b c : Nat} (x : (M n a).Idx → α) (z : (M n b).Idx → α) (h : Shape.Concatenates [M n a, M n b] (M n c) 1)
    (y : Fin n) (e : Fin c) (he : e.val < a) : concatenate (M n c) 1 [⟨M n a, x⟩, ⟨M n b, z⟩] h (jx y e) = x (jx y (⟨e.val, he⟩ : Fin a)) := by
  refine (concatenate_pair_apply _ _ _ _ _).trans ?_
  refine (dif_pos (show e.val < a from he)).trans ?_
  refine congrArg x (funext fun i => Fin.ext ?_)
  match i with
  | ⟨0, _⟩ => rfl
  | ⟨1, _⟩ => rfl

theorem cat_hi {α : Type} {n a b c : Nat} (x : (M n a).Idx → α) (z : (M n b).Idx → α) (h : Shape.Concatenates [M n a, M n b] (M n c) 1)
    (y : Fin n) (e : Fin c) (he : ¬ e.val < a) (hb : e.val - a < b) :
    concatenate (M n c) 1 [⟨M n a, x⟩, ⟨M n b, z⟩] h (jx y e) = z (jx y (⟨e.val - a, hb⟩ : Fin b)) := by
  refine (concatenate_pair_apply _ _ _ _ _).trans ?_
  refine (dif_neg (show ¬ e.val < a from he)).trans ?_
  refine congrArg z (funext fun i => Fin.ext ?_)
  match i with
  | ⟨0, _⟩ => rfl
  | ⟨1, _⟩ => rfl

theorem ropeKeys_lo {n : Nat} (W : WF n) (C : Consts Ideal) (st qp : IVec (M 1 128) 32) (k0 : BitVec 32) (kr : Vec Ideal (M n 128) .bf16) (y : Fin n) (e : Fin 128) :
    ropeKeys W C st qp k0 kr (jx y (⟨e.val, by omega⟩ : Fin 256)) = kr (jx y e) :=
  cat_lo kr _ W.cat y ⟨e.val, by omega⟩ e.isLt

theorem ropeKeys_hi {n : Nat} (W : WF n) (C : Consts Ideal) (hm : C.mask = (⊥ : EReal)) (st qp : IVec (M 1 128) 32) (k0 : BitVec 32) (kr : Vec Ideal (M n 128) .bf16) (y : Fin n) (l : Fin 128) :
    ropeKeys W C st qp k0 kr (jx y (⟨128 + l.val, by omega⟩ : Fin 256))
      = if (st (jx (0 : Fin 1) l)).toInt ≤ (k0 + BitVec.ofNat 32 y.val).toInt ∧ (k0 + BitVec.ofNat 32 y.val).toInt ≤ (qp (jx (0 : Fin 1) l)).toInt then (0 : EReal) else ⊥ := by
  unfold ropeKeys
  refine (cat_hi kr _ W.cat y ⟨128 + l.val, by omega⟩ (by simp only; omega) (by simp only; omega)).trans ?_
  have el : (⟨128 + l.val - 128, by omega⟩ : Fin 128) = l := Fin.ext (by simp only; omega)
  simp only [el]
  show Scalar.select (IntOp.andi (IntOp.cmpi .sge (k0 + iota .tc (M n 128) 32 [0] W.iota (jx y l)) (broadcastTo (M n 128) st W.bc128 (jx y l)))
      (IntOp.cmpi .sle (k0 + iota .tc (M n 128) 32 [0] W.iota (jx y l)) (broadcastTo (M n 128) qp W.bc128 (jx y l)))) (Ideal.ofBits .f32 0x00000000#32) C.mask = _
  rw [bcRow128, bcRow128, hm, Ideal.ofBits_zero_f32]
  have ei : iota .tc (M n 128) 32 [0] W.iota (jx y l) = BitVec.ofNat 32 y.val := by
    simp [iota]; rfl
  rw [ei]
  by_cases hc : (st (jx (0 : Fin 1) l)).toInt ≤ (k0 + BitVec.ofNat 32 y.val).toInt ∧ (k0 + BitVec.ofNat 32 y.val).toInt ≤ (qp (jx (0 : Fin 1) l)).toInt
  · rw [if_pos hc, IntOp.andi_eq_one.mpr ⟨IntOp.cmpi_sge.mpr hc.1, IntOp.cmpi_sle.mpr hc.2⟩]; rfl
  · rw [if_neg hc, ValueIdx.eq_zero_of_ne_one (fun h => hc ⟨IntOp.cmpi_sge.mp (IntOp.andi_eq_one.mp h).1, IntOp.cmpi_sle.mp (IntOp.andi_eq_one.mp h).2⟩)]; rfl

theorem lt_key {n k0 : Nat} (h : k0 + n ≤ 2560) (y : Fin n) : k0 + y.val < 2560 := by omega
theorem lt_row (u : Fin 4) (j : Fin 256) : 256 * u.val + j.val < 1024 := by omega
theorem lt_kr (e : Fin 128) : 512 + e.val < 640 := by omega
theorem lt_kv (e : Fin 512) : e.val < 640 := by omega
theorem lt_q (e : Fin 512) : e.val < 768 := by omega
theorem lt_qx (e : Fin 256) : 512 + e.val < 768 := by omega
theorem lt_e1 (e : Fin 64) : 512 + e.val < 640 := by omega
theorem lt_e2 (e : Fin 64) : 512 + e.val < 768 := by omega

section Win
variable {n k0 b : Nat} (W : WF n) (C : Consts Ideal) (hm : C.mask = (⊥ : EReal)) (X : Vec Ideal (M 2560 640) .bf16) (Q : Vec Ideal (M 1024 768) .bf16)
  (hQ : Packed Q) (own : Fin 32 → Int) (st qp : IVec (M 1 128) 32) (hS : MaskW b own st qp) (kw : BitVec 32)
  (hk : ∀ y : Fin n, (kw + BitVec.ofNat 32 y.val).toInt = (k0 + y.val : Nat)) (hle : k0 + n ≤ 2560) (u : Fin 4)
  (kr : Vec Ideal (M n 128) .bf16) (hkr : ∀ (y : Fin n) (e : Fin 128), kr (jx y e) = X (jx (⟨k0 + y.val, lt_key hle y⟩ : Fin 2560) (⟨512 + e.val, lt_kr e⟩ : Fin 640)))
  (kv : Vec Ideal (M n 512) .bf16) (hkv : ∀ (y : Fin n) (d : Fin 512), kv (jx y d) = X (jx (⟨k0 + y.val, lt_key hle y⟩ : Fin 2560) (⟨d.val, lt_kv d⟩ : Fin 640)))
  (q : Vec Ideal (M 256 512) .bf16) (hq : ∀ (j : Fin 256) (d : Fin 512), q (jx j d) = Q (jx (⟨256 * u.val + j.val, lt_row u j⟩ : Fin 1024) (⟨d.val, lt_q d⟩ : Fin 768)))
  (qx : Vec Ideal (M 256 256) .bf16) (hqx : ∀ (j : Fin 256) (e : Fin 256), qx (jx j e) = Q (jx (⟨256 * u.val + j.val, lt_row u j⟩ : Fin 1024) (⟨512 + e.val, lt_qx e⟩ : Fin 768)))

include hm hQ hS hk hkr hqx in
/-- The other lanes' product: the rotary part, and the mask's bias. -/
theorem qx_apply (y : Fin n) (j : Fin 256) :
    qxDot W (ropeKeys W C st qp kw kr) qx (jx y j)
      = (∑ e : Fin 64, X (jx (⟨k0 + y.val, lt_key hle y⟩ : Fin 2560) (⟨512 + e.val, lt_e1 e⟩ : Fin 640)) * Q (jx (⟨256 * u.val + j.val, lt_row u j⟩ : Fin 1024) (⟨512 + e.val, lt_e2 e⟩ : Fin 768)))
        + if Vis b own ⟨256 * u.val + j.val, lt_row u j⟩ ⟨k0 + y.val, lt_key hle y⟩ then (0 : EReal) else ⊥ := by
  refine (qxDot_apply W _ _ y j).trans ?_
  rw [sum_split 128 128 rfl, sum_split 64 64 rfl (fun i : Fin 128 => _)]
  have h1 : (∑ i : Fin 64, ropeKeys W C st qp kw kr (jx y (⟨(⟨64 + i.val, by omega⟩ : Fin 128).val, by omega⟩ : Fin 256)) * qx (jx j (⟨(⟨64 + i.val, by omega⟩ : Fin 128).val, by omega⟩ : Fin 256))) = (0 : EReal) := by
    refine Finset.sum_eq_zero fun i _ => ?_
    rw [hqx]
    have := hQ.zero ⟨256 * u.val + j.val, lt_row u j⟩ i
    have e : (⟨512 + (64 + i.val), by omega⟩ : Fin 768) = ⟨576 + i.val, by omega⟩ := Fin.ext (by simp only; omega)
    simp only [e]
    rw [this, mul_zero]
  have h0 : (∑ i : Fin 64, ropeKeys W C st qp kw kr (jx y (⟨(⟨i.val, by omega⟩ : Fin 128).val, by omega⟩ : Fin 256)) * qx (jx j (⟨(⟨i.val, by omega⟩ : Fin 128).val, by omega⟩ : Fin 256)))
      = ∑ e : Fin 64, X (jx (⟨k0 + y.val, lt_key hle y⟩ : Fin 2560) (⟨512 + e.val, lt_e1 e⟩ : Fin 640)) * Q (jx (⟨256 * u.val + j.val, lt_row u j⟩ : Fin 1024) (⟨512 + e.val, lt_e2 e⟩ : Fin 768)) := by
    refine Finset.sum_congr rfl fun i _ => ?_
    rw [hqx, ropeKeys_lo W C st qp kw kr y ⟨i.val, by omega⟩, hkr]
  have h2 : (∑ i : Fin 128, ropeKeys W C st qp kw kr (jx y (⟨128 + i.val, by omega⟩ : Fin 256)) * qx (jx j (⟨128 + i.val, by omega⟩ : Fin 256)))
      = if Vis b own ⟨256 * u.val + j.val, lt_row u j⟩ ⟨k0 + y.val, lt_key hle y⟩ then (0 : EReal) else ⊥ := by
    rw [Finset.sum_eq_single (⟨(256 * u.val + j.val) / 32, by omega⟩ : Fin 128)]
    · rw [hqx, ropeKeys_hi W C hm]
      have := hQ.hot ⟨256 * u.val + j.val, lt_row u j⟩ ⟨(256 * u.val + j.val) / 32, by omega⟩
      have e : (⟨512 + (128 + (256 * u.val + j.val) / 32), by omega⟩ : Fin 768) = ⟨640 + (256 * u.val + j.val) / 32, by omega⟩ := Fin.ext (by simp only; omega)
      simp only [e]
      rw [this, if_pos rfl, mul_one]
      have a1 := hS.st ⟨(256 * u.val + j.val) / 32, by omega⟩
      have a2 := hS.qp ⟨(256 * u.val + j.val) / 32, by omega⟩
      simp only at a1 a2
      rw [a1, a2, hk]
      unfold Vis
      simp only [Nat.cast_le]
    · intro l _ hl
      rw [hqx]
      have := hQ.hot ⟨256 * u.val + j.val, lt_row u j⟩ l
      have e : (⟨512 + (128 + l.val), by omega⟩ : Fin 768) = ⟨640 + l.val, by omega⟩ := Fin.ext (by simp only; omega)
      simp only [e]
      rw [this, if_neg (fun h => hl (Fin.ext h)), mul_zero]
    · intro h; exact absurd (Finset.mem_univ _) h
  rw [h0, h1, h2, add_zero]

include hm hQ hS hk hkr hqx hkv hq in
/-- A window's scores. -/
theorem score_apply (y : Fin n) (j : Fin 256) :
    (addf (qkDot W kv q : FVec Ideal (M n 256) .f32) (qxDot W (ropeKeys W C st qp kw kr) qx) : FVec Ideal (M n 256) .f32) (jx y j)
      = sc X Q b own ⟨256 * u.val + j.val, lt_row u j⟩ ⟨k0 + y.val, lt_key hle y⟩ := by
  show qkDot W kv q (jx y j) + qxDot W (ropeKeys W C st qp kw kr) qx (jx y j) = _
  rw [qx_apply W C hm X Q hQ own st qp hS kw hk hle u kr hkr qx hqx]
  have : qkDot W kv q (jx y j) = _ := qkDot_apply W kv q y j
  rw [this]
  simp only [hkv, hq]
  unfold sc dotA
  by_cases hv : Vis b own ⟨256 * u.val + j.val, lt_row u j⟩ ⟨k0 + y.val, lt_key hle y⟩
  · rw [if_pos hv, if_pos hv, add_zero]
  · rw [if_neg hv, if_neg hv, EReal.add_bot, EReal.add_bot]

end Win

/-- No key outside the window is seen. -/
theorem sc_out {n k0 b : Nat} {X : Vec Ideal (M 2560 640) .bf16} {Q : Vec Ideal (M 1024 768) .bf16} {own : Fin 32 → Int}
    (hlo : ∀ l, (k0 : Int) ≤ own l) (hhi : 32 * b + 32 ≤ k0 + n) (r : Fin 1024) (s : Fin 2560) (hs : s.val < k0 ∨ k0 + n ≤ s.val) : sc X Q b own r s = ⊥ := by
  unfold sc
  refine if_neg fun hv => ?_
  obtain ⟨h1, h2⟩ := hv
  have := hlo ⟨r.val / 32, by omega⟩
  omega

theorem column_apply (x : FVec Ideal (M 1 256) .f32) (j : Fin 256) : column x (jx j (0 : Fin 1)) = x (jx (0 : Fin 1) j) := by
  unfold column
  refine (extractStridedSlice_apply _ _ _ _ (jx j (0 : Fin 128)) ?_).trans ?_
  · intro a
    match a with
    | ⟨0, _⟩ => show j.val = 0 + j.val; omega
    | ⟨1, _⟩ => rfl
  refine (transpose_apply _ _ _ _ (jx (0 : Fin 128) j) ?_).trans ?_
  · intro a
    match a with
    | ⟨0, _⟩ => rfl
    | ⟨1, _⟩ => rfl
  rw [bcRow, shapeCast_self]

theorem outOf_apply (o : FVec Ideal (M 256 512) .f32) (rd : FVec Ideal (M 1 256) .f32) (j : Fin 256) (d : Fin 512) :
    outOf o rd (jx j d) = o (jx j d) * rd (jx (0 : Fin 1) j) := by
  unfold outOf
  show o (jx j d) * broadcastTo (M 256 512) (column rd) _ (jx j d) = _
  congr 1
  refine (broadcastTo_apply _ _ _ (jx j (0 : Fin 1)) ?_).trans (column_apply rd j)
  intro a
  match a with
  | ⟨0, _⟩ => rfl
  | ⟨1, _⟩ => rfl

theorem recip_apply (x : FVec Ideal (M 1 256) .f32) (j : Fin 256) : recip x (jx (0 : Fin 1) j) = Ideal.div (Ideal.ofBits .f32 0x3F800000#32) (x (jx (0 : Fin 1) j)) := rfl

section Res
variable {n k0 : Nat} (W : WF n) (C : Consts Ideal) (X : Vec Ideal (M 2560 640) .bf16) (hle : k0 + n ≤ 2560)
  (f : Fin 2560 → EReal) (hf : ∀ s : Fin 2560, s.val < k0 ∨ k0 + n ≤ s.val → f s = ⊥) (S : FVec Ideal (M n 256) .f32) (j : Fin 256)
  (hS : ∀ y : Fin n, S (jx y j) = f ⟨k0 + y.val, lt_key hle y⟩)

include hf hS in
theorem win_mx : colMax W S (jx (0 : Fin 1) j) = mx f := by
  refine (colMax_apply W S j).trans ?_
  simp only [hS]
  exact sup_win hle f hf

include hf hS in
theorem win_wt (y : Fin n) : expOf W S (shiftOf (colMax W S)) (jx y j) = wt f ⟨k0 + y.val, lt_key hle y⟩ := by
  refine (expOf_apply W S _ y j).trans ?_
  have := (shiftOf_apply (colMax W S) j).trans (congrArg shift (win_mx W hle f hf S j hS))
  rw [this, hS]
  rfl

include hf hS in
theorem win_dn : colSum W (expOf W S (shiftOf (colMax W S))) (jx (0 : Fin 1) j) = dn f := by
  refine (colSum_apply W _ j).trans ?_
  simp only [win_wt W hle f hf S j hS]
  exact sum_win hle (wt f) fun s hs => wt_bot (hf s hs)

include hf hS in
/-- A window's `lse`. -/
theorem win_l : lseOf C (shiftOf (colMax W S)) (colSum W (expOf W S (shiftOf (colMax W S)))) (jx (0 : Fin 1) j) = ll C f := by
  refine (lseOf_apply C _ _ j).trans ?_
  have := (shiftOf_apply (colMax W S) j).trans (congrArg shift (win_mx W hle f hf S j hS))
  rw [this, win_dn W hle f hf S j hS]
  rfl

include hf hS in
/-- A window's `o`. -/
theorem win_o (kv : Vec Ideal (M n 512) .bf16) (hkv : ∀ (y : Fin n) (d : Fin 512), kv (jx y d) = X (jx (⟨k0 + y.val, lt_key hle y⟩ : Fin 2560) (⟨d.val, lt_kv d⟩ : Fin 640))) (d : Fin 512) :
    outOf (pvDot W (truncf .bf16 (expOf W S (shiftOf (colMax W S))) (by decide)) kv) (recip (colSum W (expOf W S (shiftOf (colMax W S))))) (jx j d) = oo X f d := by
  refine (outOf_apply _ _ j d).trans ?_
  have h1 : pvDot W (truncf .bf16 (expOf W S (shiftOf (colMax W S))) (by decide)) kv (jx j d) = ∑ s : Fin 2560, wt f s * X (jx s (⟨d.val, lt_kv d⟩ : Fin 640)) := by
    refine (pvDot_apply W _ kv j d).trans ?_
    refine Eq.trans ?_ (sum_win hle (fun s => wt f s * X (jx s (⟨d.val, lt_kv d⟩ : Fin 640))) fun s hs => by rw [wt_bot (hf s hs), zero_mul])
    refine Finset.sum_congr rfl fun y _ => ?_
    have := win_wt W hle f hf S j hS y
    rw [hkv]
    exact congrArg (· * _) this
  rw [h1, recip_apply, win_dn W hle f hf S j hS]
  rfl

end Res

end Attn

end
-- ==== Proof.Grad.lean ====
module

public import proofs.«01_k».proof.Proof.Math2

@[expose] public section

/-! The gradient by the queries over the extended reals: what it is of a row, and what the vector operations of the body compute of it at an index. -/

noncomputable section

namespace Attn
open Idealize.ShloMosaic Idealize.SL.Sem ValueIdx
open scoped BigOperators
local notation "jx" => Idealize.ShloMosaic.ValueIdx.ix2
local notation "jx1" => Idealize.ShloMosaic.ValueIdx.ix1

/-- The gradients' scale. -/
def smF : EReal := Ideal.ofBits .f32 0x3D93CD3A#32

/-- The products of a row's incoming gradient with the keys' values. -/
def gv (X : Vec Ideal (M 2560 640) .bf16) (D : Vec Ideal (M 1024 512) .bf16) (r : Fin 1024) (s : Fin 2560) : EReal :=
  ∑ d : Fin 512, X (jx s (⟨d.val, lt_kv d⟩ : Fin 640)) * D (jx r d)

/-- A row's mean of those products. -/
def dtv (f g : Fin 2560 → EReal) : EReal := (∑ s, wt f s * g s) * Ideal.div (Ideal.ofBits .f32 0x3F800000#32) (dn f)

/-- The weight of a row's greatest score. -/
def pmx (f : Fin 2560 → EReal) : EReal := Ideal.exp2 (mx f * cF - shift (mx f))

/-- The factor of a row's gradients: zero where one key has all the weight. -/
def wgv (f : Fin 2560 → EReal) : EReal := if pmx f = dn f then 0 else Ideal.div (Ideal.ofBits .f32 0x3F800000#32) (dn f)

/-- The gradient by a score. -/
def dsv (f g : Fin 2560 → EReal) (s : Fin 2560) : EReal := wt f s * wgv f * (g s - dtv f g)

/-- The gradient by a query's lane. -/
def dqv (X : Vec Ideal (M 2560 640) .bf16) (f g : Fin 2560 → EReal) (l : Fin 640) : EReal := (∑ s, dsv f g s * X (jx s l)) * smF

theorem dsv_bot {f g : Fin 2560 → EReal} {s : Fin 2560} (h : f s = ⊥) : dsv f g s = 0 := by
  unfold dsv
  rw [wt_bot h, zero_mul, zero_mul]

/-- The gradient's product at an index. -/
theorem dsDot_apply {n : Nat} (W : WF n) (p : FVec Ideal (M n 256) .bf16) (kv : Vec Ideal (M n 640) .bf16) (j : Fin 256) (d : Fin 640) :
    dsDot W p kv (jx j d) = ∑ y : Fin n, p (jx y j) * kv (jx y d) := by
  unfold dsDot
  set D : DotDims (M n 256) (M n 640) (M 256 640) := ⟨[0], [0], [1], [1], [], [], W.dds⟩
  have hr : D.contr.rank = 1 := rfl
  have hs : D.contr.size ⟨0, by rw [hr]; exact Nat.one_pos⟩ = n := rfl
  show Ideal.matmul D p kv _ (jx j d) = _
  unfold Ideal.matmul
  rw [zero32, zero_add, ← Equiv.sum_comp (contrEquiv1 D n hr hs).symm]
  refine Finset.sum_congr rfl fun k _ => ?_
  have hk := contrEquiv1_symm_val D n hr hs k
  have el : D.lhsIdx (jx j d) ((contrEquiv1 D n hr hs).symm k) = jx k j := by
    funext a; apply Fin.ext
    match a with
    | ⟨0, _⟩ => exact hk
    | ⟨1, _⟩ => rfl
  have er : D.rhsIdx (jx j d) ((contrEquiv1 D n hr hs).symm k) = jx k d := by
    funext a; apply Fin.ext
    match a with
    | ⟨0, _⟩ => exact hk
    | ⟨1, _⟩ => rfl
  rw [el, er]

/-- A shift makes any score's weight a number. -/
theorem exp_real (x y : EReal) (h : x ≤ y) : ∃ w : ℝ, 0 ≤ w ∧ Ideal.exp2 (x * cF - shift y) = (w : EReal) := by
  obtain ⟨c, hc, e⟩ := cF_pos
  have hz : ∃ w : ℝ, 0 ≤ w ∧ Ideal.exp2 ⊥ = (w : EReal) := ⟨0, le_refl _, rfl⟩
  unfold shift
  rw [e]
  induction y using EReal.rec with
  | bot =>
    rw [le_bot_iff.1 h, EReal.bot_mul_coe_of_pos hc, EReal.bot_sub]; exact hz
  | top =>
    rw [EReal.top_mul_coe_of_pos hc]
    show ∃ w : ℝ, 0 ≤ w ∧ Ideal.exp2 (x * (c : EReal) - ⊤) = (w : EReal)
    rw [EReal.sub_top]; exact hz
  | coe b =>
    rw [← EReal.coe_mul]
    show ∃ w : ℝ, 0 ≤ w ∧ Ideal.exp2 (x * (c : EReal) - ((⌈b * c⌉ : ℝ) : EReal)) = (w : EReal)
    induction x using EReal.rec with
    | bot => rw [EReal.bot_mul_coe_of_pos hc, EReal.bot_sub]; exact hz
    | top => exact absurd h (by simp)
    | coe a =>
      rw [← EReal.coe_mul, ← EReal.coe_sub]
      exact ⟨Real.rpow 2 _, Real.rpow_nonneg (by norm_num) _, rfl⟩

theorem wt_real (f : Fin 2560 → EReal) (s : Fin 2560) : ∃ w : ℝ, 0 ≤ w ∧ wt f s = (w : EReal) := exp_real _ _ (Finset.le_sup (f := f) (Finset.mem_univ s))
theorem pmx_real (f : Fin 2560 → EReal) : ∃ w : ℝ, 0 ≤ w ∧ pmx f = (w : EReal) := exp_real _ _ (le_refl _)

theorem abs_nonneg' (x : EReal) : 0 ≤ max x (-x) := by
  rcases le_total 0 x with h | h
  · exact le_max_of_le_left h
  · exact le_max_of_le_right (by rw [← EReal.neg_le_neg_iff, neg_neg, neg_zero]; exact h)

/-- The gradient's weight at an index. -/
theorem gradWeight_apply (m smax den rden dt scale : FVec Ideal (M 1 256) .f32) (j : Fin 256) (x : EReal) (hx : smax (jx (0 : Fin 1) j) = x)
    (hm : m (jx (0 : Fin 1) j) = shift x) (hs : (0 : EReal) ≤ scale (jx (0 : Fin 1) j)) :
    gradWeight m smax den rden dt scale (jx (0 : Fin 1) j) = if Ideal.exp2 (x * cF - shift x) = den (jx (0 : Fin 1) j) then 0 else rden (jx (0 : Fin 1) j) := by
  unfold gradWeight
  show Scalar.select (IntOp.andi (Ideal.cmp .oeq (Ideal.exp2 (smax (jx (0 : Fin 1) j) * cF - m (jx (0 : Fin 1) j))) (den (jx (0 : Fin 1) j)))
    (Ideal.cmp .ole (max (Ideal.exp2 (smax (jx (0 : Fin 1) j) * cF - m (jx (0 : Fin 1) j)) - Ideal.exp2 (smax (jx (0 : Fin 1) j) * cF - m (jx (0 : Fin 1) j)))
        (-(Ideal.exp2 (smax (jx (0 : Fin 1) j) * cF - m (jx (0 : Fin 1) j)) - Ideal.exp2 (smax (jx (0 : Fin 1) j) * cF - m (jx (0 : Fin 1) j)))) * max (dt (jx (0 : Fin 1) j)) (-(dt (jx (0 : Fin 1) j))))
      (Ideal.exp2 (smax (jx (0 : Fin 1) j) * cF - m (jx (0 : Fin 1) j)) * (Ideal.ofBits .f32 0x35800000#32 * (max (dt (jx (0 : Fin 1) j)) (-(dt (jx (0 : Fin 1) j))) + scale (jx (0 : Fin 1) j))))))
    (Ideal.ofBits .f32 0x00000000#32) (rden (jx (0 : Fin 1) j)) = _
  rw [hx, hm, Ideal.ofBits_zero_f32]
  generalize den (jx (0 : Fin 1) j) = dd
  generalize rden (jx (0 : Fin 1) j) = rr
  generalize scale (jx (0 : Fin 1) j) = sc at hs ⊢
  generalize dt (jx (0 : Fin 1) j) = tt
  obtain ⟨w, hw, ew⟩ := exp_real x x (le_refl _)
  rw [ew]
  have hc : (0 : EReal) ≤ Ideal.ofBits .f32 0x35800000#32 := by
    simp [Ideal.ofBits, Ideal.ieee, -EReal.coe_mul]
  have h0 : ((w : EReal) - (w : EReal)) = 0 := by rw [← EReal.coe_sub, sub_self]; rfl
  have hn : (0 : EReal) ≤ (w : EReal) * (Ideal.ofBits .f32 0x35800000#32 * (max tt (-tt) + sc)) :=
    mul_nonneg (by exact_mod_cast hw) (mul_nonneg hc (add_nonneg (abs_nonneg' tt) hs))
  rw [h0, neg_zero, max_self, zero_mul]
  have hle : Ideal.cmp .ole (0 : EReal) ((w : EReal) * (Ideal.ofBits .f32 0x35800000#32 * (max tt (-tt) + sc))) = 1#1 := by
    simp [Ideal.cmp, hn]
  rw [hle]
  by_cases h : (w : EReal) = dd
  · rw [if_pos h]; simp [Scalar.select, Ideal.cmp, h, IntOp.andi]
  · rw [if_neg h]; simp [Scalar.select, Ideal.cmp, h, IntOp.andi]

/-- The greatest magnitude of 64 rows is not negative. -/
theorem scale_nonneg {x : FVec Ideal (M 64 256) .f32} (h : (M 64 256).Reduces [0] ⟨1, ![256]⟩) (hf : FKind.Formats .f32)
    (ha : (0xFF800000#32 : BitVec FTy.f32.bits) = FKind.maximumf.neutral .f32 hf) (hc : Shape.ShapeCasts ⟨1, ![256]⟩ (M 1 256)) (j : Fin 256) :
    (0 : EReal) ≤ shapeCast (M 1 256) (multiReduction (F := Ideal) .maximumf [0] ⟨1, ![256]⟩ (absf x) 0xFF800000#32 h hf ha) hc (jx (0 : Fin 1) j) := by
  rw [row1]
  have e := Ideal.multiReduction_maximumf_single (absf x) 0xFF800000#32 h hf ha (jx1 j)
  have : (absf x ∘ h.lift (jx1 j)) = fun y : Fin 64 => max (x (jx y j)) (-(x (jx y j))) := funext fun y => congrArg (absf x) (lift0 h j y)
  rw [this] at e
  have hb : (FloatOps.ofBits .f32 0xFF800000#32 : Ideal .f32) = (⊥ : EReal) := by
    simp [Ideal.ofBits_def, Ideal.ofBits, Ideal.ieee]
  rw [hb] at e
  refine le_of_le_of_eq ?_ e.symm
  show (0 : EReal) ≤ Finset.univ.sup fun y : Fin 64 => max (x (jx y j)) (-(x (jx y j)))
  exact le_trans (abs_nonneg' (x (jx (0 : Fin 64) j))) (Finset.le_sup (f := fun y : Fin 64 => max (x (jx y j)) (-(x (jx y j)))) (Finset.mem_univ (0 : Fin 64)))

section Res
variable {n k0 : Nat} (W : WF n) (X : Vec Ideal (M 2560 640) .bf16) (hle : k0 + n ≤ 2560)
  (f g : Fin 2560 → EReal) (hf : ∀ s : Fin 2560, s.val < k0 ∨ k0 + n ≤ s.val → f s = ⊥) (S dp : FVec Ideal (M n 256) .f32) (j : Fin 256)
  (hS : ∀ y : Fin n, S (jx y j) = f ⟨k0 + y.val, lt_key hle y⟩) (hg : ∀ y : Fin n, dp (jx y j) = g ⟨k0 + y.val, lt_key hle y⟩)

include hf hS hg in
theorem win_dt : (mulf (colSum W (mulf (extf .f32 (truncf .bf16 (expOf W S (shiftOf (colMax W S))) (by decide) : FVec Ideal (M n 256) .bf16) (by decide)) dp)) (recip (colSum W (expOf W S (shiftOf (colMax W S))))) : FVec Ideal (M 1 256) .f32) (jx (0 : Fin 1) j) = dtv f g := by
  show colSum W _ (jx (0 : Fin 1) j) * recip _ (jx (0 : Fin 1) j) = _
  rw [recip_apply, win_dn W hle f hf S j hS, colSum_apply]
  unfold dtv
  congr 1
  refine Eq.trans ?_ (sum_win hle (fun s => wt f s * g s) fun s hs => by rw [wt_bot (hf s hs), zero_mul])
  refine Finset.sum_congr rfl fun y _ => ?_
  exact congrArg₂ (fun a b : EReal => a * b) (win_wt W hle f hf S j hS y) (hg y)

include hf hS hg in
/-- A window's gradient by the queries. -/
theorem win_dq (dt wg : FVec Ideal (M 1 256) .f32) (hdt : dt (jx (0 : Fin 1) j) = dtv f g) (hwg : wg (jx (0 : Fin 1) j) = wgv f)
    (kx : Vec Ideal (M n 640) .bf16) (hkx : ∀ (y : Fin n) (l : Fin 640), kx (jx y l) = X (jx (⟨k0 + y.val, lt_key hle y⟩ : Fin 2560) l)) (l : Fin 640) :
    smul (dsDot W (truncf .bf16 (mulf (mulf (expOf W S (shiftOf (colMax W S))) (broadcastTo (M n 256) wg W.bc256)) (subf dp (broadcastTo (M n 256) dt W.bc256))) (by decide)) kx) (jx j l) = dqv X f g l := by
  show dsDot W _ kx (jx j l) * smF = _
  rw [dsDot_apply]
  unfold dqv
  congr 1
  refine Eq.trans ?_ (sum_win hle (fun s => dsv f g s * X (jx s l)) fun s hs => by rw [dsv_bot (hf s hs), zero_mul])
  refine Finset.sum_congr rfl fun y _ => ?_
  rw [hkx]
  refine congrArg (· * _) ?_
  show expOf W S (shiftOf (colMax W S)) (jx y j) * broadcastTo (M n 256) wg W.bc256 (jx y j) * (dp (jx y j) - broadcastTo (M n 256) dt W.bc256 (jx y j)) = _
  rw [bcRow, bcRow, hg, hdt, hwg, win_wt W hle f hf S j hS]
  rfl

include hf hS in
theorem win_wg (dt : FVec Ideal (M 1 256) .f32) : gradWeight (shiftOf (colMax W S)) (colMax W S) (colSum W (expOf W S (shiftOf (colMax W S)))) (recip (colSum W (expOf W S (shiftOf (colMax W S))))) dt (rowScale W dp) (jx (0 : Fin 1) j) = wgv f := by
  refine (gradWeight_apply _ _ _ _ _ _ j (mx f) (win_mx W hle f hf S j hS) ((shiftOf_apply (colMax W S) j).trans (congrArg shift (win_mx W hle f hf S j hS))) (scale_nonneg _ _ _ _ j)).trans ?_
  rw [recip_apply, win_dn W hle f hf S j hS]
  rfl

end Res

/-! ### Finite operands -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reference's way of writing the gradient by a score is the kernel's, where the keys and the incoming gradient are numbers. -/
theorem dsv_fin (X : Vec Ideal (M 2560 640) .bf16) (D : Vec Ideal (M 1024 512) .bf16) (r : Fin 1024) (f : Fin 2560 → EReal)
    (hX : ∀ (s : Fin 2560) (d : Fin 512), ∃ x : ℝ, X (jx s (⟨d.val, lt_kv d⟩ : Fin 640)) = (x : EReal)) (hD : ∀ d : Fin 512, ∃ x : ℝ, D (jx r d) = (x : EReal)) (s : Fin 2560) :
    wt f s * Ideal.div (Ideal.ofBits .f32 0x3F800000#32) (dn f) * (gv X D r s - ∑ d : Fin 512, D (jx r d) * oo X f d) = dsv f (gv X D r) s := by
  choose x hx using hX
  choose e he using hD
  choose w hw0 hw using wt_real f
  have hdn : dn f = ((∑ s, w s : ℝ) : EReal) := by
    unfold dn; rw [coe_sum]; exact Finset.sum_congr rfl fun s _ => hw s
  have hg : ∀ s, gv X D r s = ((∑ d, x s d * e d : ℝ) : EReal) := fun s => by
    unfold gv; rw [coe_sum]; exact Finset.sum_congr rfl fun d _ => by rw [hx, he, EReal.coe_mul]
  by_cases hz : (∑ s, w s) = 0
  · have h0 : wt f s = 0 := by
      rw [hw, (Finset.sum_eq_zero_iff_of_nonneg fun s _ => hw0 s).1 hz s (Finset.mem_univ _)]; rfl
    unfold dsv
    rw [h0, zero_mul, zero_mul, zero_mul, zero_mul]
  · have hr : Ideal.div (Ideal.ofBits .f32 0x3F800000#32) (dn f) = ((1 / ∑ s, w s : ℝ) : EReal) := by
      rw [hdn, Ideal.ofBits_one_f32]
      unfold Ideal.div
      rw [if_neg (by intro h; exact hz (EReal.coe_eq_zero.1 h)), ← EReal.coe_inv, one_mul, one_div]
    have ho : ∀ d, oo X f d = (((∑ s, w s * x s d) * (1 / ∑ s, w s) : ℝ) : EReal) := fun d => by
      unfold oo
      rw [hr, EReal.coe_mul, coe_sum]
      refine congrArg (· * _) ?_
      exact Finset.sum_congr rfl fun s _ => by rw [hw, hx, EReal.coe_mul]
    have hDt : (∑ d : Fin 512, D (jx r d) * oo X f d) = (((∑ s, w s * ∑ d, x s d * e d) * (1 / ∑ s, w s) : ℝ) : EReal) := by
      have : (∑ s, w s * ∑ d, x s d * e d) * (1 / ∑ s, w s) = ∑ d, e d * ((∑ s, w s * x s d) * (1 / ∑ s, w s)) := by
        simp only [Finset.mul_sum, Finset.sum_mul]
        rw [Finset.sum_comm]
        refine Finset.sum_congr rfl fun d _ => Finset.sum_congr rfl fun s _ => ?_
        ring
      rw [this, coe_sum]
      exact Finset.sum_congr rfl fun d _ => by rw [he, ho, ← EReal.coe_mul]
    have hdt : dtv f (gv X D r) = (((∑ s, w s * ∑ d, x s d * e d) * (1 / ∑ s, w s) : ℝ) : EReal) := by
      unfold dtv
      rw [hr, EReal.coe_mul, coe_sum]
      refine congrArg (· * _) ?_
      exact Finset.sum_congr rfl fun s _ => by rw [hw, hg, EReal.coe_mul]
    unfold dsv
    rw [hDt, hdt]
    unfold wgv
    by_cases hp : pmx f = dn f
    · rw [if_pos hp, mul_zero, zero_mul, hw, hr, hg, ← EReal.coe_sub, ← EReal.coe_mul, ← EReal.coe_mul]
      obtain ⟨s', -, hs'⟩ := Finset.exists_mem_eq_sup (Finset.univ : Finset (Fin 2560)) ⟨0, Finset.mem_univ _⟩ f
      have hws : w s' = ∑ s, w s := by
        have : wt f s' = pmx f := by unfold wt pmx mx; rw [← hs']
        rw [hw, hp, hdn] at this
        exact EReal.coe_injective this
      have hother : ∀ k, k ≠ s' → w k = 0 := fun k hk => by
        have h1 := Finset.sum_erase_add Finset.univ w (Finset.mem_univ s')
        have h2 : ∑ i ∈ Finset.univ.erase s', w i = 0 := by linarith
        exact (Finset.sum_eq_zero_iff_of_nonneg fun s _ => hw0 s).1 h2 k (Finset.mem_erase.2 ⟨hk, Finset.mem_univ _⟩)
      rw [show (0 : EReal) = ((0 : ℝ) : EReal) from rfl]
      congr 1
      by_cases hs : s = s'
      · subst hs
        have : (∑ k, w k * ∑ d, x k d * e d) = w s * ∑ d, x s d * e d :=
          Finset.sum_eq_single s (fun k _ hk => by rw [hother k hk, zero_mul]) fun h => absurd (Finset.mem_univ _) h
        rw [this, ← hws]
        rw [← hws] at hz
        field_simp
        ring
      · rw [hother s hs, zero_mul, zero_mul]
    · rw [if_neg hp]

end Attn

end
-- ==== Proof.Val.lean ====
module

public import proofs.«01_k».proof.Proof.Grad
public import proofs.«01_k».proof.Proof.Safe

@[expose] public section

/-! What a window leaves in the blocks of `o` and `lse`: every row's results. -/

noncomputable section

namespace Attn
open Idealize.ShloMosaic Idealize.SL Idealize.SL.Sem
open Idealize.SL.BI (sProp)
open Idealize.SL.RA

local notation "jx" => Idealize.ShloMosaic.ValueIdx.ix2
local notation "jx3" => Idealize.ShloMosaic.ValueIdx.ix3

theorem put_hit2 {α : Type} {R Cn a b : Nat} (x : (M R Cn).Idx → α) (o0 o1 : Nat) (w : (M a b).Idx → α) (y : Fin a) (d : Fin b) (i : Fin R) (l : Fin Cn)
    (h0 : i.val = o0 + y.val) (h1 : l.val = o1 + d.val) : VecWindow.put (s := M R Cn) x ![o0, o1] (M a b).size w (jx i l) = w (jx y d) := by
  unfold VecWindow.put
  have hh : ∀ c : Fin 2, (![o0, o1] : Fin 2 → Nat) c ≤ ((jx i l : (M R Cn).Idx) c).val ∧ ((jx i l : (M R Cn).Idx) c).val < (![o0, o1] : Fin 2 → Nat) c + (M a b).size c := by
    intro c
    match c with
    | ⟨0, _⟩ => show o0 ≤ i.val ∧ i.val < o0 + a; omega
    | ⟨1, _⟩ => show o1 ≤ l.val ∧ l.val < o1 + b; omega
  rw [dif_pos hh]
  refine congrArg w (funext fun c => Fin.ext ?_)
  match c with
  | ⟨0, _⟩ => show i.val - o0 = y.val; omega
  | ⟨1, _⟩ => show l.val - o1 = d.val; omega

theorem put_miss2 {α : Type} {R Cn a b : Nat} (x : (M R Cn).Idx → α) (o0 o1 : Nat) (w : (M a b).Idx → α) (i : Fin R) (l : Fin Cn)
    (h0 : i.val < o0 ∨ o0 + a ≤ i.val) : VecWindow.put (s := M R Cn) x ![o0, o1] (M a b).size w (jx i l) = x (jx i l) := by
  unfold VecWindow.put
  refine dif_neg fun hh => ?_
  have : o0 ≤ i.val ∧ i.val < o0 + a := hh 0
  omega

theorem put_hit3 {α : Type} (x : (⟨3, ![1, 4, 256]⟩ : Shape).Idx → α) (u : Fin 4) (w : (⟨3, ![1, 1, 256]⟩ : Shape).Idx → α) (j : Fin 256) :
    VecWindow.put (s := ⟨3, ![1, 4, 256]⟩) x ![0, u.val, 0] ![1, 1, 256] w (jx3 (0 : Fin 1) u j) = w (jx3 (0 : Fin 1) (0 : Fin 1) j) := by
  unfold VecWindow.put
  have hh : ∀ c : Fin 3, (![0, u.val, 0] : Fin 3 → Nat) c ≤ ((jx3 (0 : Fin 1) u j : (⟨3, ![1, 4, 256]⟩ : Shape).Idx) c).val ∧
      ((jx3 (0 : Fin 1) u j : (⟨3, ![1, 4, 256]⟩ : Shape).Idx) c).val < (![0, u.val, 0] : Fin 3 → Nat) c + (![1, 1, 256] : Fin 3 → Nat) c := by
    intro c
    match c with
    | ⟨0, _⟩ => show 0 ≤ 0 ∧ 0 < 0 + 1; omega
    | ⟨1, _⟩ => show u.val ≤ u.val ∧ u.val < u.val + 1; omega
    | ⟨2, _⟩ => show 0 ≤ j.val ∧ j.val < 0 + 256; omega
  rw [dif_pos hh]
  refine congrArg w (funext fun c => Fin.ext ?_)
  match c with
  | ⟨0, _⟩ => rfl
  | ⟨1, _⟩ => show u.val - u.val = 0; omega
  | ⟨2, _⟩ => rfl

theorem put_miss3 {α : Type} (x : (⟨3, ![1, 4, 256]⟩ : Shape).Idx → α) (u v : Fin 4) (hv : v ≠ u) (w : (⟨3, ![1, 1, 256]⟩ : Shape).Idx → α) (j : Fin 256) :
    VecWindow.put (s := ⟨3, ![1, 4, 256]⟩) x ![0, u.val, 0] ![1, 1, 256] w (jx3 (0 : Fin 1) v j) = x (jx3 (0 : Fin 1) v j) := by
  unfold VecWindow.put
  refine dif_neg fun hh => hv (Fin.ext ?_)
  have : u.val ≤ v.val ∧ v.val < u.val + 1 := hh 1
  omega

theorem row3 {α : Type} (x : (M 1 256).Idx → α) (h : Shape.ShapeCasts (M 1 256) ⟨3, ![1, 1, 256]⟩) (j : Fin 256) :
    shapeCast ⟨3, ![1, 1, 256]⟩ x h (jx3 (0 : Fin 1) (0 : Fin 1) j) = x (jx (0 : Fin 1) j) := by
  refine shapeCast_apply x h _ _ ?_
  rw [Shape.rowMajor_val_two, Shape.rowMajor_val_three]
  rfl

/-- The gradient by a lane of row `j` of quarter `u`. -/
def dqR (X : Vec Ideal (M 2560 640) .bf16) (Q : Vec Ideal (M 1024 768) .bf16) (D : Vec Ideal (M 1024 512) .bf16) (b : Nat) (own : Fin 32 → Int) (u : Fin 4) (j : Fin 256) (l : Fin 640) : EReal :=
  dqv X (sc X Q b own ⟨256 * u.val + j.val, lt_row u j⟩) (gv X D ⟨256 * u.val + j.val, lt_row u j⟩) l

/-- Quarter `u` of the blocks of `o`, `lse` and the gradients by the queries holds its rows' results. -/
structure Good (C : Consts Ideal) (b : Nat) (own : Fin 32 → Int) (X : Vec Ideal (M 2560 640) .bf16) (Q : Vec Ideal (M 1024 768) .bf16) (D : Vec Ideal (M 1024 512) .bf16) (u : Fin 4)
    (x7 : Vec Ideal (M 1024 512) .bf16) (x8 : Vec Ideal ⟨3, ![1, 4, 256]⟩ .f32) (x9 : Vec Ideal (M 1024 512) .f32) (x10 : Vec Ideal (M 1024 64) .f32) : Prop where
  o : ∀ (j : Fin 256) (d : Fin 512), x7 (jx (⟨256 * u.val + j.val, lt_row u j⟩ : Fin 1024) d) = oo X (sc X Q b own ⟨256 * u.val + j.val, lt_row u j⟩) d
  l : ∀ j : Fin 256, x8 (jx3 (0 : Fin 1) u j) = ll C (sc X Q b own ⟨256 * u.val + j.val, lt_row u j⟩)
  n : ∀ (j : Fin 256) (d : Fin 512), x9 (jx (⟨256 * u.val + j.val, lt_row u j⟩ : Fin 1024) d) = dqR X Q D b own u j ⟨d.val, lt_kv d⟩
  r : ∀ (j : Fin 256) (e : Fin 64), x10 (jx (⟨256 * u.val + j.val, lt_row u j⟩ : Fin 1024) e) = dqR X Q D b own u j ⟨512 + e.val, lt_e1 e⟩

/-- Quarter `u` is made good, the others are let be. -/
structure KU (C : Consts Ideal) (b : Nat) (own : Fin 32 → Int) (u : Fin 4) (s s' : St Ideal) : Prop extends KW s s' where
  good : Good C b own s.x6 s.x14 s.x5 u s'.x7 s'.x8 s'.x9 s'.x10
  keep : ∀ v, v ≠ u → Good C b own s.x6 s.x14 s.x5 v s.x7 s.x8 s.x9 s.x10 → Good C b own s.x6 s.x14 s.x5 v s'.x7 s'.x8 s'.x9 s'.x10

theorem dq_lo (dq : FVec Ideal (M 256 640) .f32) (h : (M 256 640).Slices ![0, 0] (M 256 512)) (j : Fin 256) (d : Fin 512) :
    extractStridedSlice (M 256 512) ![0, 0] dq h (jx j d) = dq (jx j (⟨d.val, lt_kv d⟩ : Fin 640)) := by
  refine extractStridedSlice_apply _ _ _ _ (jx j (⟨d.val, lt_kv d⟩ : Fin 640)) fun a => ?_
  match a with
  | ⟨0, _⟩ => show j.val = 0 + j.val; omega
  | ⟨1, _⟩ => show d.val = 0 + d.val; omega

theorem dq_hi (dq : FVec Ideal (M 256 640) .f32) (h : (M 256 640).Slices ![0, 512] (M 256 64)) (j : Fin 256) (e : Fin 64) :
    extractStridedSlice (M 256 64) ![0, 512] dq h (jx j e) = dq (jx j (⟨512 + e.val, lt_e1 e⟩ : Fin 640)) := by
  refine extractStridedSlice_apply _ _ _ _ (jx j (⟨512 + e.val, lt_e1 e⟩ : Fin 640)) fun a => ?_
  match a with
  | ⟨0, _⟩ => show j.val = 0 + j.val; omega
  | ⟨1, _⟩ => rfl

/-- What a quarter's stores leave. -/
structure Put (u : Fin 4) (s s' : St Ideal) (o : FVec Ideal (M 256 512) .bf16) (l : FVec Ideal (M 1 256) .f32) (dq : FVec Ideal (M 256 640) .f32) : Prop where
  e7 : s'.x7 = VecWindow.put (s := M 1024 512) s.x7 ![256 * u.val, 0] (M 256 512).size o
  e8 : s'.x8 = VecWindow.put (s := ⟨3, ![1, 4, 256]⟩) s.x8 ![0, u.val, 0] ![1, 1, 256] (shapeCast ⟨3, ![1, 1, 256]⟩ l (by decide))
  e9 : s'.x9 = VecWindow.put (s := M 1024 512) s.x9 ![256 * u.val, 0] (M 256 512).size (extractStridedSlice (M 256 512) ![0, 0] dq (by decide))
  e10 : s'.x10 = VecWindow.put (s := M 1024 64) s.x10 ![256 * u.val, 0] (M 256 64).size (extractStridedSlice (M 256 64) ![0, 512] dq (by decide))

/-- A quarter's results put in their blocks. -/
theorem good_put {C : Consts Ideal} {b : Nat} {own : Fin 32 → Int} (u : Fin 4) (s s' : St Ideal)
    (o : FVec Ideal (M 256 512) .bf16) (l : FVec Ideal (M 1 256) .f32) (dq : FVec Ideal (M 256 640) .f32) (hk : KW s s') (hp : Put u s s' o l dq)
    (ho : ∀ (j : Fin 256) (d : Fin 512), o (jx j d) = oo s.x6 (sc s.x6 s.x14 b own ⟨256 * u.val + j.val, lt_row u j⟩) d)
    (hl : ∀ j : Fin 256, l (jx (0 : Fin 1) j) = ll C (sc s.x6 s.x14 b own ⟨256 * u.val + j.val, lt_row u j⟩))
    (hd : ∀ (j : Fin 256) (i : Fin 640), dq (jx j i) = dqR s.x6 s.x14 s.x5 b own u j i) : KU C b own u s s' := by
  obtain ⟨e7, e8, e9, e10⟩ := hp
  refine ⟨hk, ?_, fun v hv g => ?_⟩
  · rw [e7, e8, e9, e10]
    refine ⟨fun j d => ?_, fun j => ?_, fun j d => ?_, fun j e => ?_⟩
    · exact (put_hit2 s.x7 _ _ o j d _ d rfl (by omega)).trans (ho j d)
    · exact (put_hit3 s.x8 u _ j).trans ((row3 l _ j).trans (hl j))
    · exact (put_hit2 s.x9 _ _ _ j d _ d rfl (by omega)).trans ((dq_lo dq _ j d).trans (hd j _))
    · exact (put_hit2 s.x10 _ _ _ j e _ e rfl (by omega)).trans ((dq_hi dq _ j e).trans (hd j _))
  · have hne : v.val ≠ u.val := fun h => hv (Fin.ext h)
    have hr : ∀ j : Fin 256, 256 * v.val + j.val < 256 * u.val ∨ 256 * u.val + 256 ≤ 256 * v.val + j.val := fun j => by omega
    rw [e7, e8, e9, e10]
    refine ⟨fun j d => ?_, fun j => ?_, fun j d => ?_, fun j e => ?_⟩
    · exact (put_miss2 s.x7 _ _ o _ d (hr j)).trans (g.o j d)
    · exact (put_miss3 s.x8 u v hv _ j).trans (g.l j)
    · exact (put_miss2 s.x9 _ _ _ _ d (hr j)).trans (g.n j d)
    · exact (put_miss2 s.x10 _ _ _ _ e (hr j)).trans (g.r j e)

theorem key_window {n k0 : Nat} (X : Vec Ideal (M 2560 640) .bf16) (hle : k0 + n ≤ 2560) (okv : Fin 2 → Nat) (hkv : okv = ![k0, 0])
    (ikv : ∀ a, okv a + (M n 512).size a ≤ (M 2560 640).size a) (y : Fin n) (e : Fin 512) :
    VecWindow.window (s := M 2560 640) X okv (M n 512).size ikv (jx y e) = X (jx (⟨k0 + y.val, lt_key hle y⟩ : Fin 2560) (⟨e.val, lt_kv e⟩ : Fin 640)) :=
  (window2 X okv k0 0 hkv ikv y e (by omega) (by omega)).trans (congrArg X (congrArg (jx _) (Fin.ext (Nat.zero_add _))))

theorem query_window (Q : Vec Ideal (M 1024 768) .bf16) (u : Fin 4) (inb : ∀ a, (![256 * u.val, 0] : Fin 2 → Nat) a + (M 256 512).size a ≤ (M 1024 768).size a) (j : Fin 256) (e : Fin 512) :
    VecWindow.window (s := M 1024 768) Q ![256 * u.val, 0] (M 256 512).size inb (jx j e) = Q (jx (⟨256 * u.val + j.val, lt_row u j⟩ : Fin 1024) (⟨e.val, lt_q e⟩ : Fin 768)) :=
  (window2 Q _ (256 * u.val) 0 rfl inb j e (by omega) (by omega)).trans (congrArg Q (congrArg (jx _) (Fin.ext (Nat.zero_add _))))

section
variable {n k0 b : Nat} (W : WF n) (C : Consts Ideal) (hm : C.mask = (⊥ : EReal)) (own : Fin 32 → Int)
  (st qp : IVec (M 1 128) 32) (hS : MaskW b own st qp) (kw : BitVec 32) (hk : ∀ y : Fin n, (kw + BitVec.ofNat 32 y.val).toInt = (k0 + y.val : Nat))
  (hle : k0 + n ≤ 2560) (hlo : ∀ l, (k0 : Int) ≤ own l) (hhi : 32 * b + 32 ≤ k0 + n)
  (X : Vec Ideal (M 2560 640) .bf16) (Q : Vec Ideal (M 1024 768) .bf16) (hQ : Packed Q)
  (okr : Fin 2 → Nat) (hkr : okr = ![k0, 512]) (ikr : ∀ a, okr a + (M n 128).size a ≤ (M 2560 640).size a)
  (okv : Fin 2 → Nat) (hkv : okv = ![k0, 0]) (ikv : ∀ a, okv a + (M n 512).size a ≤ (M 2560 640).size a) (u : Fin 4)

/-- The scores of a window of keys against a quarter of the rows. -/
def winS : FVec Ideal (M n 256) .f32 :=
  addf (qkDot W (VecWindow.window (s := M 2560 640) X okv (M n 512).size ikv) (VecWindow.window (s := M 1024 768) Q ![256 * u.val, 0] (M 256 512).size (inbR u 768 512 0 (by decide))) : FVec Ideal (M n 256) .f32)
    (qxDot W (ropeKeys W C st qp kw (VecWindow.window (s := M 2560 640) X okr (M n 128).size ikr)) (VecWindow.window (s := M 1024 768) Q ![256 * u.val, 512] (M 256 256).size (inbR u 768 256 512 (by decide))))

include hm hS hk hle hQ hkr hkv in
theorem winS_apply (y : Fin n) (j : Fin 256) : winS W C st qp kw X Q okr ikr okv ikv u (jx y j) = sc X Q b own ⟨256 * u.val + j.val, lt_row u j⟩ ⟨k0 + y.val, lt_key hle y⟩ :=
  score_apply W C hm X Q hQ own st qp hS kw hk hle u
    (VecWindow.window (s := M 2560 640) X okr (M n 128).size ikr) (fun y e => window2 X okr k0 512 hkr ikr y e (by omega) (by omega))
    (VecWindow.window (s := M 2560 640) X okv (M n 512).size ikv) (fun y e => key_window X hle okv hkv ikv y e)
    (VecWindow.window (s := M 1024 768) Q ![256 * u.val, 0] (M 256 512).size (inbR u 768 512 0 (by decide))) (fun j e => query_window Q u _ j e)
    (VecWindow.window (s := M 1024 768) Q ![256 * u.val, 512] (M 256 256).size (inbR u 768 256 512 (by decide)))
    (fun j e => window2 Q _ (256 * u.val) 512 rfl _ j e (by omega) (by omega)) y j

end

/-- The arguments, the packed queries and the results' blocks are as they were. -/
structure K78 {F : FTy → Type} (s s' : St F) : Prop extends KW s s' where
  e7 : s'.x7 = s.x7
  e8 : s'.x8 = s.x8
  e9 : s'.x9 = s.x9
  e10 : s'.x10 = s.x10

theorem K78.rfl {F : FTy → Type} {s : St F} : K78 s s := ⟨KW.rfl, .refl _, .refl _, .refl _, .refl _⟩
theorem K78.trans {F : FTy → Type} {a b c : St F} (h : K78 a b) (g : K78 b c) : K78 a c := ⟨h.toKW.trans g.toKW, g.e7.trans h.e7, g.e8.trans h.e8, g.e9.trans h.e9, g.e10.trans h.e10⟩

section
variable {nD : Nat} {τ : Topo} {sig : RefSig} {Λ : Labels} {F : FTy → Type} [FloatOps F]
variable {Ix : Type} [DecidableEq Ix] {Name : Type} [DecidableEq Name] {U : Type} [URA U] {Lvl : Type}
variable [Preorder Lvl] (defs : Defs nD τ sig (Elt F) Λ) (𝒱 : Variants) (d : Dev nD) (bd : Option 𝒱.V) (E : Set Name) (q : PosShare TreeShare) (A : Args sig)

/-- From any contents the program ends, and leaves `K78`. -/
def Sg {α : Type} (p : Pg nD τ sig Λ F α) : Prop :=
  ∀ s, Tr (Ix := Ix) (Name := Name) (U := U) (Lvl := Lvl) defs 𝒱 d bd E q A p s fun _ s' => K78 s s'

variable {defs 𝒱 d bd E q A}
local notation "SG" => Sg (Ix := Ix) (Name := Name) (U := U) (Lvl := Lvl) defs 𝒱 d bd E q A

theorem Sg.ret {α : Type} {a : α} : SG (pure a) := fun _ => Tr.ret K78.rfl

theorem Sg.bind {α β : Type} {p : Pg nD τ sig Λ F α} {k : α → Pg nD τ sig Λ F β} (h : SG p) (hk : ∀ a, SG (k a)) : SG (p >>= k) :=
  fun s => Tr.bind (h s) fun a s' hs => Tr.mono (hk a s') fun _ _ h' => hs.trans h'

theorem Sg.for {σ : Type} {l : Scf.Loop 32} {hok : l.OK} {init : σ} {body : Fin l.trips → σ → Pg nD τ sig Λ F σ}
    (hb : ∀ k a, SG (body k a)) : SG (Scf.Loop.for l hok init body) :=
  fun s => Tr.for (fun _ _ s' => K78 s s') K78.rfl (fun k a s' h => Tr.mono (hb k a s') fun _ _ h' => h.trans h') fun _ _ h => h

theorem sg_ld5 {sz off : Fin 2 → Nat} {inb : ∀ a, off a + sz a ≤ (M 1024 512 : Shape).size a} {h0 : 0 < Shape.numel ⟨2, sz⟩} :
    SG (ld A.a5 sz off inb h0) := fun _ => Tr.ld lens5 K78.rfl
theorem sg_ld6 {sz off : Fin 2 → Nat} {inb : ∀ a, off a + sz a ≤ (M 2560 640 : Shape).size a} {h0 : 0 < Shape.numel ⟨2, sz⟩} :
    SG (ld A.a6 sz off inb h0) := fun _ => Tr.ld lens6 K78.rfl
theorem sg_ld13 {sz off : Fin 3 → Nat} {inb : ∀ a, off a + sz a ≤ ((⟨3, ![1, 2560, 640]⟩ : Shape)).size a} {h0 : 0 < Shape.numel ⟨3, sz⟩} :
    SG (ld A.a13 sz off inb h0) := fun _ => Tr.ld lens13 K78.rfl
theorem sg_st13 {sz off : Fin 3 → Nat} {inb : ∀ a, off a + sz a ≤ ((⟨3, ![1, 2560, 640]⟩ : Shape)).size a} {h0 : 0 < Shape.numel ⟨3, sz⟩} {v : Vec F ⟨3, sz⟩ .f32}
    {h1 : (A.a13.access (Rect.unit (s := ((⟨3, ![1, 2560, 640]⟩ : Shape))) off sz inb)).Stores Finset.univ} :
    SG (ldst A.a13 sz off inb h0 h1 v) := fun s => Tr.ldst lens13 ⟨⟨⟨.refl _, .refl _, .refl _, .refl _, .refl _, .refl _⟩, .refl _, .refl _⟩, .refl _, .refl _, .refl _, .refl _⟩
theorem sg_ld14 {sz off : Fin 2 → Nat} {inb : ∀ a, off a + sz a ≤ (M 1024 768 : Shape).size a} {h0 : 0 < Shape.numel ⟨2, sz⟩} :
    SG (ld A.a14 sz off inb h0) := fun _ => Tr.ld lens14 K78.rfl
theorem sg_ld15 {sz off : Fin 2 → Nat} {inb : ∀ a, off a + sz a ≤ (M 768 1024 : Shape).size a} {h0 : 0 < Shape.numel ⟨2, sz⟩} :
    SG (ld A.a15 sz off inb h0) := fun _ => Tr.ld lens15 K78.rfl
theorem sg_ld16 {sz off : Fin 2 → Nat} {inb : ∀ a, off a + sz a ≤ (M 768 1024 : Shape).size a} {h0 : 0 < Shape.numel ⟨2, sz⟩} :
    SG (ld A.a16 sz off inb h0) := fun _ => Tr.ld lens16 K78.rfl
theorem sg_ld17 {sz off : Fin 2 → Nat} {inb : ∀ a, off a + sz a ≤ (M 2560 256 : Shape).size a} {h0 : 0 < Shape.numel ⟨2, sz⟩} :
    SG (ld A.a17 sz off inb h0) := fun _ => Tr.ld lens17 K78.rfl
theorem sg_ld18 {sz off : Fin 2 → Nat} {inb : ∀ a, off a + sz a ≤ (M 2560 256 : Shape).size a} {h0 : 0 < Shape.numel ⟨2, sz⟩} :
    SG (ld A.a18 sz off inb h0) := fun _ => Tr.ld lens18 K78.rfl

end

section
variable {nD : Nat} {τ : Topo} {sig : RefSig} {Λ : Labels}
variable {Ix : Type} [DecidableEq Ix] {Name : Type} [DecidableEq Name] {U : Type} [URA U] {Lvl : Type}
variable [Preorder Lvl] {defs : Defs nD τ sig (Elt Ideal) Λ} {𝒱 : Variants} {d : Dev nD} {bd : Option 𝒱.V} {E : Set Name} {q : PosShare TreeShare} {A : Args sig}
local notation "TR" => Tr (Ix := Ix) (Name := Name) (U := U) (Lvl := Lvl) defs 𝒱 d bd E q A

/-- The gradients by the queries stored. -/
theorem tr_stDq (u : Fin 4) (dq : FVec Ideal (M 256 640) .f32) (s : St Ideal) :
    TR (stDq A u dq) s fun _ s' => KW s s' ∧ s'.x7 = s.x7 ∧ s'.x8 = s.x8
      ∧ s'.x9 = VecWindow.put (s := M 1024 512) s.x9 ![256 * u.val, 0] (M 256 512).size (extractStridedSlice (M 256 512) ![0, 0] dq (by decide))
      ∧ s'.x10 = VecWindow.put (s := M 1024 64) s.x10 ![256 * u.val, 0] (M 256 64).size (extractStridedSlice (M 256 64) ![0, 512] dq (by decide)) := by
  unfold stDq
  refine Tr.bind (R := fun _ s' => KW s s' ∧ s'.x7 = s.x7 ∧ s'.x8 = s.x8
      ∧ s'.x9 = VecWindow.put (s := M 1024 512) s.x9 ![256 * u.val, 0] (M 256 512).size (extractStridedSlice (M 256 512) ![0, 0] dq (by decide)) ∧ s'.x10 = s.x10)
    (Tr.ldst lens9 ⟨⟨⟨rfl, rfl, rfl, rfl, rfl, rfl⟩, rfl, rfl⟩, rfl, rfl, rfl, rfl⟩) ?_
  rintro _ s1 ⟨k, h7, h8, h9, h10⟩
  exact Tr.ldst lens10 ⟨⟨⟨k.e1, k.e2, k.e3, k.e4, k.e5, k.e6⟩, k.e11, k.e14⟩, h7, h8, h9, by rw [← h10]⟩

/-- Where a window's keys stand. -/
structure WAt {n : Nat} (O : WOff n) (k0 : Nat) : Prop where
  kr : O.kr = ![k0, 512]
  kv : O.kv = ![k0, 0]
  kx : O.kx = ![k0, 0]

variable {n k0 b : Nat} (W : WF n) (O : WOff n) (hO : WAt O k0) (C : Consts Ideal) (hm : C.mask = (⊥ : EReal)) (own : Fin 32 → Int)
  (st qp : IVec (M 1 128) 32) (hS : MaskW b own st qp) (kw : BitVec 32) (hk : ∀ y : Fin n, (kw + BitVec.ofNat 32 y.val).toInt = (k0 + y.val : Nat))
  (hle : k0 + n ≤ 2560) (hlo : ∀ l, (k0 : Int) ≤ own l) (hhi : 32 * b + 32 ≤ k0 + n)

include hO hm hS hk hle hlo hhi in
/-- One quarter of a window. -/
theorem tr_winStep (u : Fin 4) (s : St Ideal) (hQ : Packed s.x14) (kx : FVec Ideal (M n 256) .bf16)
    (hkx : kx = ropeKeys W C st qp kw (VecWindow.window (s := M 2560 640) s.x6 O.kr (M n 128).size O.ikr)) :
    TR (winStep W O A C kx u) s fun _ s' => KU C b own u s s' := by
  have hs := winS_apply W C hm own st qp hS kw hk hle s.x6 s.x14 hQ O.kr hO.kr O.ikr O.kv hO.kv O.ikv u
  have hout : ∀ (j : Fin 256) (k : Fin 2560), k.val < k0 ∨ k0 + n ≤ k.val → sc s.x6 s.x14 b own ⟨256 * u.val + j.val, lt_row u j⟩ k = ⊥ := fun j k h => sc_out hlo hhi _ k h
  unfold winStep
  refine Tr.bind (R := fun x s' => (∀ (j : Fin 256) (e : Fin 512), x (jx j e) = s.x5 (jx (⟨256 * u.val + j.val, lt_row u j⟩ : Fin 1024) e)) ∧ K78 s s')
    (Tr.ld lens5 ⟨fun j e => (window2 s.x5 _ (256 * u.val) 0 rfl _ j e (by omega) (by omega)).trans (congrArg s.x5 (congrArg (jx _) (Fin.ext (Nat.zero_add _)))), K78.rfl⟩) ?_
  rintro dO s1 ⟨hdO, k⟩
  refine Tr.bind (R := fun x s' => x = VecWindow.window (s := M 2560 640) s.x6 O.kv (M n 512).size O.ikv ∧ K78 s s') (Tr.ld lens6 ⟨by rw [k.e6], k⟩) ?_
  clear k s1
  rintro kv s1 ⟨hkv, k⟩
  refine Tr.bind (R := fun x s' => x = VecWindow.window (s := M 1024 768) s.x14 ![256 * u.val, 0] (M 256 512).size (inbR u 768 512 0 (by decide)) ∧ K78 s s') (Tr.ld lens14 ⟨by rw [k.e14], k⟩) ?_
  clear k s1
  rintro q s1 ⟨hq, k⟩
  refine Tr.bind (R := fun _ s' => (∃ v, s'.x17 = VecWindow.put (s := M 2560 256) v O.ss (M n 256).size (shapeCast (M n 256) (qkDot W kv q) W.sc256)) ∧ K78 s s')
    (Tr.ldst lens17 ⟨⟨_, rfl⟩, ⟨⟨⟨k.e1, k.e2, k.e3, k.e4, k.e5, k.e6⟩, k.e11, k.e14⟩, k.e7, k.e8, k.e9, k.e10⟩⟩) ?_
  clear k s1
  rintro _ s1 ⟨⟨v, hv⟩, k⟩
  refine Tr.bind (R := fun x s' => x = qkDot W kv q ∧ K78 s s') (Tr.ld lens17 ⟨by rw [hv, VecWindow.window_put_same, shapeCast_self], k⟩) ?_
  clear k hv v s1
  rintro s0 s1 ⟨hs0, k⟩
  refine Tr.bind (R := fun x s' => x = VecWindow.window (s := M 1024 768) s.x14 ![256 * u.val, 512] (M 256 256).size (inbR u 768 256 512 (by decide)) ∧ K78 s s') (Tr.ld lens14 ⟨by rw [k.e14], k⟩) ?_
  clear k s1
  rintro qx s1 ⟨hqx, k⟩
  have hSS : addf (s0 : FVec Ideal (M n 256) .f32) (qxDot W kx qx) = winS W C st qp kw s.x6 s.x14 O.kr O.ikr O.kv O.ikv u := by
    subst hs0 hqx hkv hq hkx; rfl
  dsimp only
  rw [hSS]
  clear hSS hqx qx hs0 s0 hq q hkv kv hkx
  generalize winS W C st qp kw s.x6 s.x14 O.kr O.ikr O.kv O.ikv u = S at hs ⊢
  refine Tr.bind (R := fun x s' => x = VecWindow.window (s := M 2560 640) s.x6 O.kv (M n 512).size O.ikv ∧ K78 s s') (Tr.ld lens6 ⟨by rw [k.e6], k⟩) ?_
  clear k s1
  rintro x s1 ⟨hx, k⟩
  have hg : ∀ (y : Fin n) (j : Fin 256), qkDot W x dO (jx y j) = gv s.x6 s.x5 ⟨256 * u.val + j.val, lt_row u j⟩ ⟨k0 + y.val, lt_key hle y⟩ := fun y j => by
    rw [qkDot_apply, hx]
    unfold gv
    exact Finset.sum_congr rfl fun e _ => by rw [key_window s.x6 hle O.kv hO.kv O.ikv y e, hdO]
  clear hx hdO
  generalize qkDot W x dO = dp at hg ⊢
  refine Tr.bind (R := fun _ s' => KW s s' ∧ s'.x7 = s.x7 ∧ s'.x8 = VecWindow.put (s := ⟨3, ![1, 4, 256]⟩) s.x8 ![0, u.val, 0] ![1, 1, 256]
      (shapeCast ⟨3, ![1, 1, 256]⟩ (lseOf C (shiftOf (colMax W S)) (colSum W (expOf W S (shiftOf (colMax W S))))) (by decide)) ∧ s'.x9 = s.x9 ∧ s'.x10 = s.x10)
    (Tr.ldst lens8 ⟨⟨⟨k.e1, k.e2, k.e3, k.e4, k.e5, k.e6⟩, k.e11, k.e14⟩, k.e7, by rw [← k.e8], k.e9, k.e10⟩) ?_
  clear k s1 x
  rintro _ s1 ⟨k, h7, h8, h9, h10⟩
  refine Tr.bind (R := fun _ s' => KW s s' ∧ s'.x7 = s.x7 ∧ s'.x8 = VecWindow.put (s := ⟨3, ![1, 4, 256]⟩) s.x8 ![0, u.val, 0] ![1, 1, 256]
      (shapeCast ⟨3, ![1, 1, 256]⟩ (lseOf C (shiftOf (colMax W S)) (colSum W (expOf W S (shiftOf (colMax W S))))) (by decide)) ∧ s'.x9 = s.x9 ∧ s'.x10 = s.x10)
    (Tr.ldst lens15 ⟨⟨⟨k.e1, k.e2, k.e3, k.e4, k.e5, k.e6⟩, k.e11, k.e14⟩, h7, h8, h9, h10⟩) ?_
  clear k h7 h8 h9 h10 s1
  rintro _ s1 ⟨k, h7, h8, h9, h10⟩
  refine Tr.bind (R := fun _ s' => KW s s' ∧ s'.x7 = s.x7 ∧ s'.x8 = VecWindow.put (s := ⟨3, ![1, 4, 256]⟩) s.x8 ![0, u.val, 0] ![1, 1, 256]
      (shapeCast ⟨3, ![1, 1, 256]⟩ (lseOf C (shiftOf (colMax W S)) (colSum W (expOf W S (shiftOf (colMax W S))))) (by decide)) ∧ s'.x9 = s.x9 ∧ s'.x10 = s.x10)
    (Tr.ldst lens16 ⟨⟨⟨k.e1, k.e2, k.e3, k.e4, k.e5, k.e6⟩, k.e11, k.e14⟩, h7, h8, h9, h10⟩) ?_
  clear k h7 h8 h9 h10 s1
  rintro _ s1 ⟨k, h7, h8, h9, h10⟩
  refine Tr.bind (R := fun x s' => x = VecWindow.window (s := M 2560 640) s.x6 O.kv (M n 512).size O.ikv ∧ s' = s1) (Tr.ld lens6 ⟨by rw [k.e6], rfl⟩) ?_
  rintro kv s1 ⟨hkv, rfl⟩
  refine Tr.bind (R := fun _ s' => KW s s' ∧ s'.x7 = VecWindow.put (s := M 1024 512) s.x7 ![256 * u.val, 0] (M 256 512).size (outOf (pvDot W (truncf .bf16 (expOf W S (shiftOf (colMax W S))) (by decide)) kv) (recip (colSum W (expOf W S (shiftOf (colMax W S))))))
      ∧ s'.x8 = VecWindow.put (s := ⟨3, ![1, 4, 256]⟩) s.x8 ![0, u.val, 0] ![1, 1, 256]
      (shapeCast ⟨3, ![1, 1, 256]⟩ (lseOf C (shiftOf (colMax W S)) (colSum W (expOf W S (shiftOf (colMax W S))))) (by decide)) ∧ s'.x9 = s.x9 ∧ s'.x10 = s.x10)
    (Tr.ldst lens7 ⟨⟨⟨k.e1, k.e2, k.e3, k.e4, k.e5, k.e6⟩, k.e11, k.e14⟩, by rw [← h7], h8, h9, h10⟩) ?_
  clear k h7 h8 h9 h10
  rintro _ s2 ⟨k, h7, h8, h9, h10⟩
  subst hkv
  refine Tr.bind (R := fun x s' => (∀ (y : Fin n) (l : Fin 640), x (jx y l) = s.x6 (jx (⟨k0 + y.val, lt_key hle y⟩ : Fin 2560) l)) ∧ s' = s2) (Tr.ld lens6 ⟨fun y l => ?_, rfl⟩) ?_
  · rw [k.e6]
    exact (window2 s.x6 _ k0 0 hO.kx _ y l (by omega) (by omega)).trans (congrArg s.x6 (congrArg (jx _) (Fin.ext (Nat.zero_add _))))
  rintro kx' s2 ⟨hkx', rfl⟩
  refine Tr.mono (tr_stDq u _ s2) fun _ s' ⟨hk', h7', h8', h9', h10'⟩ => good_put u s s' _ _ _ (k.trans hk') ⟨h7'.trans h7, h8'.trans h8, by rw [h9', h9], by rw [h10', h10]⟩
    (fun j e => win_o W s.x6 hle (sc s.x6 s.x14 b own ⟨256 * u.val + j.val, lt_row u j⟩) (hout j) S j (fun y => hs y j)
      (VecWindow.window (s := M 2560 640) s.x6 O.kv (M n 512).size O.ikv) (fun y e => key_window s.x6 hle O.kv hO.kv O.ikv y e) e)
    (fun j => win_l W C hle (sc s.x6 s.x14 b own ⟨256 * u.val + j.val, lt_row u j⟩) (hout j) S j (fun y => hs y j))
    fun j i => win_dq W s.x6 hle (sc s.x6 s.x14 b own ⟨256 * u.val + j.val, lt_row u j⟩) (gv s.x6 s.x5 ⟨256 * u.val + j.val, lt_row u j⟩) (hout j) S dp j (fun y => hs y j) (fun y => hg y j)
      _ _ (win_dt W hle (sc s.x6 s.x14 b own ⟨256 * u.val + j.val, lt_row u j⟩) (gv s.x6 s.x5 ⟨256 * u.val + j.val, lt_row u j⟩) (hout j) S dp j (fun y => hs y j) (fun y => hg y j))
      (win_wg W hle (sc s.x6 s.x14 b own ⟨256 * u.val + j.val, lt_row u j⟩) (hout j) S dp j (fun y => hs y j) _) kx' hkx' i

theorem KU.step {C : Consts Ideal} {b : Nat} {own : Fin 32 → Int} {u : Fin 4} {X : Vec Ideal (M 2560 640) .bf16} {Q : Vec Ideal (M 1024 768) .bf16} {D : Vec Ideal (M 1024 512) .bf16} {s s' : St Ideal}
    (h : KU C b own u s s') (h6 : s.x6 = X) (h14 : s.x14 = Q) (h5 : s.x5 = D) (v : Fin 4) (hg : v ≠ u → Good C b own X Q D v s.x7 s.x8 s.x9 s.x10) : Good C b own X Q D v s'.x7 s'.x8 s'.x9 s'.x10 := by
  subst h6 h14 h5
  by_cases hv : v = u
  · subst hv; exact h.good
  · exact h.keep v hv (hg hv)

/-- All rows of the step have their results. -/
structure KG (C : Consts Ideal) (b : Nat) (own : Fin 32 → Int) (s s' : St Ideal) : Prop extends KW s s' where
  good : ∀ u, Good C b own s.x6 s.x14 s.x5 u s'.x7 s'.x8 s'.x9 s'.x10

theorem kg_of {C : Consts Ideal} {b : Nat} {own : Fin 32 → Int} {s s1 s2 s3 s4 s' : St Ideal} (h1 : KU C b own 0 s s1) (h2 : KU C b own 1 s1 s2) (h3 : KU C b own 2 s2 s3)
    (h4 : KU C b own 3 s3 s4) (h : K78 s4 s') : KG C b own s s' := by
  refine ⟨(((h1.toKW.trans h2.toKW).trans h3.toKW).trans h4.toKW).trans h.toKW, fun v => ?_⟩
  rw [h.e7, h.e8, h.e9, h.e10]
  have k12 := h1.toKW.trans h2.toKW
  have k13 := k12.trans h3.toKW
  refine h4.step k13.e6 k13.e14 k13.e5 v fun v3 => h3.step k12.e6 k12.e14 k12.e5 v fun v2 => h2.step h1.e6 h1.e14 h1.e5 v fun v1 => h1.step rfl rfl rfl v fun v0 => ?_
  exfalso
  revert v0 v1 v2 v3
  revert v; decide

include hO hm hS hlo hhi hle in
/-- A whole window. -/
theorem tr_window (t0 : BitVec 32) (hk : ∀ y : Fin n, (Scalar.maxsi (Scalar.subi (Scalar.addi t0 32#32) (BitVec.ofNat 32 n)) 0#32 + BitVec.ofNat 32 y.val).toInt = (k0 + y.val : Nat))
    (s : St Ideal) (hQ : Packed s.x14) : TR (window W O A C st qp t0) s fun _ s' => KG C b own s s' := by
  unfold window
  refine Tr.bind (R := fun x s' => x = VecWindow.window (s := M 2560 640) s.x6 O.kr (M n 128).size O.ikr ∧ s' = s) (Tr.ld lens6 ⟨rfl, rfl⟩) ?_
  rintro _ s ⟨rfl, rfl⟩
  refine Tr.bind (tr_winStep W O hO C hm own st qp hS _ hk hle hlo hhi 0 s hQ _ rfl) fun _ s1 h1 => ?_
  refine Tr.bind (tr_winStep W O hO C hm own st qp hS _ hk hle hlo hhi 1 s1 (by rw [h1.e14]; exact hQ) _ (by rw [h1.e6])) fun _ s2 h2 => ?_
  refine Tr.bind (tr_winStep W O hO C hm own st qp hS _ hk hle hlo hhi 2 s2 (by rw [h2.e14, h1.e14]; exact hQ) _ (by rw [h2.e6, h1.e6])) fun _ s3 h3 => ?_
  refine Tr.bind (tr_winStep W O hO C hm own st qp hS _ hk hle hlo hhi 3 s3 (by rw [h3.e14, h2.e14, h1.e14]; exact hQ) _ (by rw [h3.e6, h2.e6, h1.e6])) fun _ s4 h4 => ?_
  refine Tr.mono (Sg.bind sg_ld16 (fun _ => Sg.bind sg_ld14 fun _ => Sg.bind sg_ld15 fun _ => Sg.bind sg_ld5 fun _ =>
    Sg.bind sg_ld13 fun _ => Sg.bind sg_st13 fun _ => Sg.bind sg_ld13 fun _ => Sg.bind sg_st13 fun _ => Sg.ret) s4) fun _ s' h => ?_
  exact kg_of h1 h2 h3 h4 h

end

end Attn

end
-- ==== Proof.Val2.lean ====
module

public import proofs.«01_k».proof.Proof.Val

@[expose] public section

/-! What the tiles of a step that needs more than 768 keys leave in the blocks of its results. -/

noncomputable section

namespace Attn
open Idealize.ShloMosaic Idealize.SL Idealize.SL.Sem
open Idealize.SL.BI (sProp)
open Idealize.SL.RA

local notation "jx" => Idealize.ShloMosaic.ValueIdx.ix2
local notation "jx3" => Idealize.ShloMosaic.ValueIdx.ix3

/-- The greatest of the first `B + 256` keys' scores, tile by tile. -/
theorem sup_cut {B : Nat} (h : B + 256 ≤ 2560) (f : Fin 2560 → EReal) :
    (Finset.univ.sup fun s : Fin 2560 => if s.val < B + 256 then f s else ⊥)
      = max (Finset.univ.sup fun s : Fin 2560 => if s.val < B then f s else ⊥) (Finset.univ.sup fun y : Fin 256 => f ⟨B + y.val, lt_key h y⟩) := by
  have hw := sup_win (n := 256) h (fun s : Fin 2560 => if B ≤ s.val ∧ s.val < B + 256 then f s else ⊥) (fun s hs => if_neg (by omega))
  have hw' : (Finset.univ.sup fun y : Fin 256 => f ⟨B + y.val, lt_key h y⟩) = Finset.univ.sup fun s : Fin 2560 => if B ≤ s.val ∧ s.val < B + 256 then f s else ⊥ := by
    rw [← hw]
    refine Finset.sup_congr rfl fun y _ => ?_
    exact (if_pos ⟨by simp only; omega, by simp only; omega⟩).symm
  rw [hw']
  refine Eq.trans ?_ Finset.sup_sup
  refine Finset.sup_congr rfl fun s _ => ?_
  show _ = max (if s.val < B then f s else ⊥) (if B ≤ s.val ∧ s.val < B + 256 then f s else ⊥)
  by_cases h1 : s.val < B
  · rw [if_pos h1, if_pos (by omega), if_neg (by omega), max_eq_left bot_le]
  · by_cases h2 : s.val < B + 256
    · rw [if_neg h1, if_pos h2, if_pos ⟨by omega, h2⟩, max_eq_right bot_le]
    · rw [if_neg h1, if_neg h2, if_neg (by omega), max_self]

/-- A sum over the first `B + 256` keys, tile by tile. -/
theorem sum_cut {B : Nat} (h : B + 256 ≤ 2560) (f : Fin 2560 → EReal) :
    (∑ s : Fin 2560, if s.val < B + 256 then f s else 0)
      = (∑ s : Fin 2560, if s.val < B then f s else 0) + ∑ y : Fin 256, f ⟨B + y.val, lt_key h y⟩ := by
  have hw := sum_win (n := 256) h (fun s : Fin 2560 => if B ≤ s.val ∧ s.val < B + 256 then f s else 0) (fun s hs => if_neg (by omega))
  have hw' : (∑ y : Fin 256, f ⟨B + y.val, lt_key h y⟩) = ∑ s : Fin 2560, if B ≤ s.val ∧ s.val < B + 256 then f s else 0 := by
    rw [← hw]
    refine Finset.sum_congr rfl fun y _ => ?_
    exact (if_pos ⟨by simp only; omega, by simp only; omega⟩).symm
  rw [hw', ← Finset.sum_add_distrib]
  refine Finset.sum_congr rfl fun s _ => ?_
  by_cases h1 : s.val < B
  · rw [if_pos h1, if_pos (by omega), if_neg (by omega), add_zero]
  · by_cases h2 : s.val < B + 256
    · rw [if_neg h1, if_pos h2, if_pos ⟨by omega, h2⟩, zero_add]
    · rw [if_neg h1, if_neg h2, if_neg (by omega), add_zero]

/-- Where the tiles of the scores' loop stand. -/
structure SAt (L : SLoop) (j0 T : Nat) : Prop where
  trips : L.l.trips = T
  kr : ∀ k, L.kr k = ![256 * (j0 + k.val), 512]
  kv : ∀ k, L.kv k = ![256 * (j0 + k.val), 0]
  ss : ∀ k, L.ss k = ![256 * (j0 + k.val), 0]
  iv : ∀ (k : Fin L.l.trips) (y : Fin 256), (Scalar.muli (Scf.iv L.l.lb 1#32 k) 256#32 + BitVec.ofNat 32 y.val).toInt = (256 * (j0 + k.val) + y.val : Nat)

/-- Where the tiles of the weights' loop stand. -/
structure XAt (L : XLoop) (j0 T : Nat) : Prop where
  trips : L.l.trips = T
  kv : ∀ k, L.kv k = ![256 * (j0 + k.val), 0]
  ss : ∀ k, L.ss k = ![256 * (j0 + k.val), 0]

/-- Where the tiles of the gradients' loop stand. -/
structure GAt (L : GLoop) (j0 T : Nat) : Prop where
  trips : L.l.trips = T
  ss : ∀ k, L.ss k = ![256 * (j0 + k.val), 0]
  kx : ∀ k, L.kx k = ![256 * (j0 + k.val), 0]

/-- The tiles hold `F`. -/
def Tl (j0 T : Nat) (F : Fin 256 → Fin 2560 → EReal) (x : Vec Ideal (M 2560 256) .f32) : Prop :=
  ∀ (r : Fin 2560) (j : Fin 256), 256 * j0 ≤ r.val → r.val < 256 * (j0 + T) → x (jx r j) = F j r

/-- One tile more. -/
theorem tl_put {j0 K : Nat} {F : Fin 256 → Fin 2560 → EReal} {x : Vec Ideal (M 2560 256) .f32} (h : Tl j0 K F x) (hB : 256 * (j0 + K) + 256 ≤ 2560) {off : Fin 2 → Nat}
    (ho : off = ![256 * (j0 + K), 0]) (p : FVec Ideal (M 256 256) .f32) (hp : ∀ y j : Fin 256, p (jx y j) = F j ⟨256 * (j0 + K) + y.val, lt_key hB y⟩) :
    Tl j0 (K + 1) F (VecWindow.put (s := M 2560 256) x off (M 256 256).size (shapeCast (M 256 256) p wf256.sc256)) := by
  intro r j h1 h2
  subst ho
  rw [shapeCast_self]
  by_cases hr : r.val < 256 * (j0 + K)
  · exact (put_miss2 x _ _ p r j (.inl hr)).trans (h r j h1 hr)
  · refine (put_hit2 x _ _ p (⟨r.val - 256 * (j0 + K), by omega⟩ : Fin 256) j r j (by simp only; omega) (by omega)).trans ?_
    refine (hp _ j).trans ?_
    congr 1
    exact Fin.ext (by simp only; omega)

/-- Where a quarter's tiles stand. -/
structure LAt (L : LO) (j0 T : Nat) : Prop where
  s1 : SAt L.s1 j0 T
  x1 : XAt L.x1 j0 T
  s2 : Fin L.s2.l.trips → False
  x2 : Fin L.x2.l.trips → False
  g1 : GAt L.g1 j0 T
  g2 : Fin L.g2.l.trips → False

section
variable {nD : Nat} {τ : Topo} {sig : RefSig} {Λ : Labels}
variable {Ix : Type} [DecidableEq Ix] {Name : Type} [DecidableEq Name] {U : Type} [URA U] {Lvl : Type}
variable [Preorder Lvl] {defs : Defs nD τ sig (Elt Ideal) Λ} {𝒱 : Variants} {d : Dev nD} {bd : Option 𝒱.V} {E : Set Name} {q : PosShare TreeShare} {A : Args sig}
local notation "TR" => Tr (Ix := Ix) (Name := Name) (U := U) (Lvl := Lvl) defs 𝒱 d bd E q A

variable {j0 T b : Nat} (C : Consts Ideal) (hm : C.mask = (⊥ : EReal)) (own : Fin 32 → Int)
  (st qp : IVec (M 1 128) 32) (hS : MaskW b own st qp) (hle : 256 * (j0 + T) ≤ 2560) (hlo : ∀ l, (256 * j0 : Nat) ≤ own l) (hhi : 32 * b + 32 ≤ 256 * (j0 + T))

/-- After `K` tiles of scores. -/
structure IA (j0 : Nat) (f : Fin 256 → Fin 2560 → EReal) (s : St Ideal) (K : Nat) (acc : FVec Ideal (M 1 256) .f32) (s' : St Ideal) : Prop extends K78 s s' where
  mx : ∀ j : Fin 256, acc (jx (0 : Fin 1) j) = Finset.univ.sup fun r : Fin 2560 => if r.val < 256 * (j0 + K) then f j r else ⊥
  sc : ∀ (r : Fin 2560) (j : Fin 256), 256 * j0 ≤ r.val → r.val < 256 * (j0 + K) → s'.x17 (jx r j) = f j r

include hm hS hle in
theorem tr_scoreBody (u : Fin 4) (L : SLoop) (hL : SAt L j0 T) (s : St Ideal) (hQ : Packed s.x14) (k : Fin L.l.trips) (acc : FVec Ideal (M 1 256) .f32) (s1 : St Ideal)
    (hI : IA j0 (fun j => sc s.x6 s.x14 b own ⟨256 * u.val + j.val, lt_row u j⟩) s k.val acc s1) :
    TR (scoreBody A C st qp u L k acc) s1 fun acc' s' => IA j0 (fun j => sc s.x6 s.x14 b own ⟨256 * u.val + j.val, lt_row u j⟩) s (k.val + 1) acc' s' := by
  have hk : k.val < T := lt_of_lt_of_eq k.isLt hL.trips
  have hB : 256 * (j0 + k.val) + 256 ≤ 2560 := by omega
  have hss := hL.ss k
  have hw := winS_apply wf256 C hm own st qp hS (Scalar.muli (Scf.iv L.l.lb 1#32 k) 256#32) (hL.iv k) hB s.x6 s.x14 hQ (L.kr k) (hL.kr k) (L.ikr k) (L.kv k) (hL.kv k) (L.ikv k) u
  obtain ⟨kk, hmx, hsc⟩ := hI
  unfold scoreBody
  refine Tr.bind (R := fun x s' => x = VecWindow.window (s := M 2560 640) s.x6 (L.kr k) (M 256 128).size (L.ikr k) ∧ s' = s1) (Tr.ld lens6 ⟨by rw [kk.e6], rfl⟩) ?_
  rintro kr s1 ⟨hkr, rfl⟩
  refine Tr.bind (R := fun x s' => x = VecWindow.window (s := M 2560 640) s.x6 (L.kv k) (M 256 512).size (L.ikv k) ∧ s' = s1) (Tr.ld lens6 ⟨by rw [kk.e6], rfl⟩) ?_
  rintro kv s1 ⟨hkv, rfl⟩
  refine Tr.bind (R := fun x s' => x = VecWindow.window (s := M 1024 768) s.x14 ![256 * u.val, 0] (M 256 512).size (inbR u 768 512 0 (by decide)) ∧ s' = s1) (Tr.ld lens14 ⟨by rw [kk.e14], rfl⟩) ?_
  rintro qv s1 ⟨hqv, rfl⟩
  refine Tr.bind (R := fun _ s' => s'.x17 = VecWindow.put (s := M 2560 256) s1.x17 (L.ss k) (M 256 256).size (shapeCast (M 256 256) (qkDot wf256 kv qv) wf256.sc256) ∧ K78 s s')
    (Tr.ldst lens17 ⟨rfl, ⟨⟨⟨kk.e1, kk.e2, kk.e3, kk.e4, kk.e5, kk.e6⟩, kk.e11, kk.e14⟩, kk.e7, kk.e8, kk.e9, kk.e10⟩⟩) ?_
  clear kk
  rintro _ s2 ⟨hv, kk⟩
  refine Tr.bind (R := fun x s' => x = qkDot wf256 kv qv ∧ s' = s2) (Tr.ld lens17 ⟨by rw [hv, VecWindow.window_put_same, shapeCast_self], rfl⟩) ?_
  rintro s0 s2 ⟨hs0, rfl⟩
  refine Tr.bind (R := fun x s' => x = VecWindow.window (s := M 1024 768) s.x14 ![256 * u.val, 512] (M 256 256).size (inbR u 768 256 512 (by decide)) ∧ s' = s2) (Tr.ld lens14 ⟨by rw [kk.e14], rfl⟩) ?_
  rintro qx s2 ⟨hqx, rfl⟩
  have hSS : addf (s0 : FVec Ideal (M 256 256) .f32) (qxDot wf256 (ropeKeys wf256 C st qp (Scalar.muli (Scf.iv L.l.lb 1#32 k) 256#32) kr) qx)
      = winS wf256 C st qp (Scalar.muli (Scf.iv L.l.lb 1#32 k) 256#32) s.x6 s.x14 (L.kr k) (L.ikr k) (L.kv k) (L.ikv k) u := by
    subst hs0 hqx hkv hqv hkr; rfl
  dsimp only
  rw [hSS]
  clear hSS hqx qx hs0 s0 hkr kr
  generalize winS wf256 C st qp (Scalar.muli (Scf.iv L.l.lb 1#32 k) 256#32) s.x6 s.x14 (L.kr k) (L.ikr k) (L.kv k) (L.ikv k) u = S at hw ⊢
  refine Tr.bind (R := fun _ s' => s'.x17 = VecWindow.put (s := M 2560 256) s2.x17 (L.ss k) (M 256 256).size (shapeCast (M 256 256) S wf256.sc256) ∧ K78 s s')
    (Tr.ldst lens17 ⟨rfl, ⟨⟨⟨kk.e1, kk.e2, kk.e3, kk.e4, kk.e5, kk.e6⟩, kk.e11, kk.e14⟩, kk.e7, kk.e8, kk.e9, kk.e10⟩⟩) ?_
  clear kk
  rintro _ s3 ⟨hv', kk⟩
  refine Tr.ret ⟨kk, fun j => ?_, fun r j h1 h2 => ?_⟩
  · show max (acc (jx (0 : Fin 1) j)) (colMax wf256 S (jx (0 : Fin 1) j)) = _
    rw [colMax_apply, hmx]
    have := sup_cut hB (sc s.x6 s.x14 b own ⟨256 * u.val + j.val, lt_row u j⟩)
    rw [show 256 * (j0 + (k.val + 1)) = 256 * (j0 + k.val) + 256 from by ring, this]
    congr 1
    exact Finset.sup_congr rfl fun y _ => hw y j
  · rw [hv', hss, shapeCast_self]
    by_cases hr : r.val < 256 * (j0 + k.val)
    · refine (put_miss2 s2.x17 _ _ S r j (.inl hr)).trans ?_
      rw [hv, hss]
      refine (put_miss2 s1.x17 _ _ _ r j (.inl hr)).trans ?_
      exact hsc r j h1 hr
    · refine (put_hit2 s2.x17 _ _ S (⟨r.val - 256 * (j0 + k.val), by omega⟩ : Fin 256) j r j (by simp only; omega) (by omega)).trans ?_
      refine (hw _ j).trans ?_
      congr 1
      exact Fin.ext (by simp only; omega)

/-- After `K` tiles of weights. -/
structure IB (j0 T : Nat) (f g : Fin 256 → Fin 2560 → EReal) (s : St Ideal) (K : Nat) (acc : FVec Ideal (M 1 256) .f32 × FVec Ideal (M 1 256) .f32 × FVec Ideal (M 256 512) .f32) (s' : St Ideal) : Prop extends K78 s s' where
  den : ∀ j : Fin 256, acc.1 (jx (0 : Fin 1) j) = ∑ r : Fin 2560, if r.val < 256 * (j0 + K) then wt (f j) r else 0
  o : ∀ (j : Fin 256) (d : Fin 512), acc.2.2 (jx j d) = ∑ r : Fin 2560, if r.val < 256 * (j0 + K) then wt (f j) r * s.x6 (jx r (⟨d.val, lt_kv d⟩ : Fin 640)) else 0
  sc : ∀ (r : Fin 2560) (j : Fin 256), 256 * (j0 + K) ≤ r.val → r.val < 256 * (j0 + T) → s'.x17 (jx r j) = f j r
  dt : ∀ j : Fin 256, acc.2.1 (jx (0 : Fin 1) j) = ∑ r : Fin 2560, if r.val < 256 * (j0 + K) then wt (f j) r * g j r else 0
  p : Tl j0 K (fun j => wt (f j)) s'.x17
  dp : Tl j0 K g s'.x18

include hle in
theorem tr_softBody (f g : Fin 256 → Fin 2560 → EReal) (m : FVec Ideal (M 1 256) .f32) (hmx : ∀ j : Fin 256, m (jx (0 : Fin 1) j) = shift (mx (f j))) (u : Fin 4) (L : XLoop) (hL : XAt L j0 T) (s : St Ideal)
    (hgv : ∀ j : Fin 256, g j = gv s.x6 s.x5 ⟨256 * u.val + j.val, lt_row u j⟩)
    (k : Fin L.l.trips) (acc : FVec Ideal (M 1 256) .f32 × FVec Ideal (M 1 256) .f32 × FVec Ideal (M 256 512) .f32) (s1 : St Ideal)
    (hI : IB j0 T f g s k.val acc s1) : TR (softBody A m u L k acc) s1 fun acc' s' => IB j0 T f g s (k.val + 1) acc' s' := by
  have hk : k.val < T := lt_of_lt_of_eq k.isLt hL.trips
  have hB : 256 * (j0 + k.val) + 256 ≤ 2560 := by omega
  have hss := hL.ss k
  obtain ⟨kk, hden, ho, hsc, hdt, hpt, hdp⟩ := hI
  unfold softBody
  refine Tr.bind (R := fun x s' => (∀ y j : Fin 256, x (jx y j) = f j ⟨256 * (j0 + k.val) + y.val, lt_key hB y⟩) ∧ s' = s1) (Tr.ld lens17 ⟨fun y j => ?_, rfl⟩) ?_
  · refine (window2 s1.x17 _ _ 0 hss _ y j (by omega) (by omega)).trans ?_
    refine Eq.trans (congrArg s1.x17 (congrArg (jx _) (Fin.ext (Nat.zero_add _)))) (hsc _ j (by simp only; omega) (by simp only; omega))
  rintro S s1 ⟨hS, rfl⟩
  have hp : ∀ y j : Fin 256, expOf wf256 S m (jx y j) = wt (f j) ⟨256 * (j0 + k.val) + y.val, lt_key hB y⟩ := by
    intro y j
    rw [expOf_apply, hS, hmx]; rfl
  dsimp only
  generalize expOf wf256 S m = p at hp ⊢
  refine Tr.bind (R := fun x s' => x = VecWindow.window (s := M 2560 640) s.x6 (L.kv k) (M 256 512).size (L.ikv k) ∧ s' = s1) (Tr.ld lens6 ⟨by rw [kk.e6], rfl⟩) ?_
  rintro kv0 s1 ⟨hkv0, rfl⟩
  refine Tr.bind (R := fun x s' => (∀ (j : Fin 256) (e : Fin 512), x (jx j e) = s.x5 (jx (⟨256 * u.val + j.val, lt_row u j⟩ : Fin 1024) e)) ∧ s' = s1) (Tr.ld lens5 ⟨fun j e => ?_, rfl⟩) ?_
  · rw [kk.e5]
    exact (window2 s.x5 _ (256 * u.val) 0 rfl _ j e (by omega) (by omega)).trans (congrArg s.x5 (congrArg (jx _) (Fin.ext (Nat.zero_add _))))
  rintro dO s1 ⟨hdO, rfl⟩
  have hg : ∀ y j : Fin 256, qkDot wf256 kv0 dO (jx y j) = g j ⟨256 * (j0 + k.val) + y.val, lt_key hB y⟩ := fun y j => by
    rw [qkDot_apply, hkv0, hgv]
    unfold gv
    exact Finset.sum_congr rfl fun e _ => by rw [key_window s.x6 hB (L.kv k) (hL.kv k) (L.ikv k) y e, hdO]
  clear hdO hkv0
  generalize qkDot wf256 kv0 dO = dp at hg ⊢
  refine Tr.bind (R := fun _ s' => s'.x17 = VecWindow.put (s := M 2560 256) s1.x17 (L.ss k) (M 256 256).size (shapeCast (M 256 256) p wf256.sc256) ∧ s'.x18 = s1.x18 ∧ K78 s s')
    (Tr.ldst lens17 ⟨rfl, rfl, ⟨⟨⟨kk.e1, kk.e2, kk.e3, kk.e4, kk.e5, kk.e6⟩, kk.e11, kk.e14⟩, kk.e7, kk.e8, kk.e9, kk.e10⟩⟩) ?_
  clear kk
  rintro _ s2 ⟨hv, hw, kk⟩
  refine Tr.bind (R := fun _ s' => s'.x17 = VecWindow.put (s := M 2560 256) s1.x17 (L.ss k) (M 256 256).size (shapeCast (M 256 256) p wf256.sc256)
      ∧ s'.x18 = VecWindow.put (s := M 2560 256) s1.x18 (L.ss k) (M 256 256).size (shapeCast (M 256 256) dp wf256.sc256) ∧ K78 s s')
    (Tr.ldst lens18 ⟨hv, by rw [← hw], ⟨⟨⟨kk.e1, kk.e2, kk.e3, kk.e4, kk.e5, kk.e6⟩, kk.e11, kk.e14⟩, kk.e7, kk.e8, kk.e9, kk.e10⟩⟩) ?_
  clear kk hv hw s2
  rintro _ s2 ⟨hv, hw, kk⟩
  refine Tr.bind (R := fun x s' => x = VecWindow.window (s := M 2560 640) s.x6 (L.kv k) (M 256 512).size (L.ikv k) ∧ s' = s2) (Tr.ld lens6 ⟨by rw [kk.e6], rfl⟩) ?_
  rintro kv s2 ⟨hkv, rfl⟩
  have e1 : 256 * (j0 + (k.val + 1)) = 256 * (j0 + k.val) + 256 := by ring
  refine Tr.ret ⟨kk, fun j => ?_, fun j e => ?_, fun r j h1 h2 => ?_, fun j => ?_, by rw [hv]; exact tl_put hpt hB hss p hp, by rw [hw]; exact tl_put hdp hB hss dp hg⟩
  · show acc.1 (jx (0 : Fin 1) j) + colSum wf256 p (jx (0 : Fin 1) j) = _
    rw [colSum_apply, hden, e1, sum_cut hB]
    congr 1
    exact Finset.sum_congr rfl fun y _ => hp y j
  · show acc.2.2 (jx j e) + pvDot wf256 (truncf .bf16 p (by decide)) kv (jx j e) = _
    rw [pvDot_apply, ho, e1, sum_cut hB fun r => wt (f j) r * s.x6 (jx r (⟨e.val, lt_kv e⟩ : Fin 640))]
    congr 1
    refine Finset.sum_congr rfl fun y _ => ?_
    rw [hkv, key_window s.x6 hB (L.kv k) (hL.kv k) (L.ikv k) y e]
    exact congrArg (· * _) (hp y j)
  · rw [hv, hss]
    refine (put_miss2 s1.x17 _ _ _ r j (.inr (by omega))).trans ?_
    exact hsc r j (by omega) h2
  · show acc.2.1 (jx (0 : Fin 1) j) + colSum wf256 (mulf (extf .f32 (truncf .bf16 p (by decide) : FVec Ideal (M 256 256) .bf16) (by decide)) dp) (jx (0 : Fin 1) j) = _
    rw [colSum_apply, hdt, e1, sum_cut hB fun r => wt (f j) r * g j r]
    congr 1
    exact Finset.sum_congr rfl fun y _ => congrArg₂ (fun a b : EReal => a * b) (hp y j) (hg y j)

/-- The sums of a quarter's rows. -/
structure IH (j0 T : Nat) (f g : Fin 256 → Fin 2560 → EReal) (s : St Ideal) (r : Sums Ideal) (s' : St Ideal) : Prop extends K78 s s' where
  m : ∀ j : Fin 256, r.m (jx (0 : Fin 1) j) = shift (mx (f j))
  den : ∀ j : Fin 256, r.den (jx (0 : Fin 1) j) = dn (f j)
  o : ∀ (j : Fin 256) (d : Fin 512), r.o (jx j d) = ∑ k : Fin 2560, wt (f j) k * s.x6 (jx k (⟨d.val, lt_kv d⟩ : Fin 640))
  rden : r.rden = recip r.den
  smax : ∀ j : Fin 256, r.smax (jx (0 : Fin 1) j) = mx (f j)
  dt : ∀ j : Fin 256, r.dt (jx (0 : Fin 1) j) = dtv (f j) (g j)
  row : ∀ j : Fin 256, (0 : EReal) ≤ shapeCast (M 1 256) r.row (by decide) (jx (0 : Fin 1) j)
  p : Tl j0 T (fun j => wt (f j)) s'.x17
  dp : Tl j0 T g s'.x18

include hm hS hle hlo hhi in
theorem tr_head {α : Type} (u : Fin 4) (L : LO) (hL : LAt L j0 T) (s : St Ideal) (hQ : Packed s.x14) (K : Sums Ideal → Pg nD τ sig Λ Ideal α) (P : α → St Ideal → Prop)
    (hK : ∀ r s', IH j0 T (fun j => sc s.x6 s.x14 b own ⟨256 * u.val + j.val, lt_row u j⟩) (fun j => gv s.x6 s.x5 ⟨256 * u.val + j.val, lt_row u j⟩) s r s' → TR (K r) s' P) : TR (head A C st qp u L K) s P := by
  have hf0 : ∀ (j : Fin 256) (r : Fin 2560), r.val < 256 * j0 → sc s.x6 s.x14 b own ⟨256 * u.val + j.val, lt_row u j⟩ r = ⊥ :=
    fun j r h => sc_out (n := 256 * T) (k0 := 256 * j0) hlo (by omega) _ r (.inl h)
  have hf1 : ∀ (j : Fin 256) (r : Fin 2560), 256 * (j0 + T) ≤ r.val → sc s.x6 s.x14 b own ⟨256 * u.val + j.val, lt_row u j⟩ r = ⊥ :=
    fun j r h => sc_out (n := 256 * T) (k0 := 256 * j0) hlo (by omega) _ r (.inr (by omega))
  have hb := tr_scoreBody (Ix := Ix) (Name := Name) (U := U) (Lvl := Lvl) (defs := defs) (𝒱 := 𝒱) (d := d) (bd := bd) (E := E) (q := q) (A := A) C hm own st qp hS hle u L.s1 hL.s1 s hQ
  generalize hf : (fun j : Fin 256 => sc s.x6 s.x14 b own ⟨256 * u.val + j.val, lt_row u j⟩) = f at hb hK
  replace hf0 : ∀ (j : Fin 256) (r : Fin 2560), r.val < 256 * j0 → f j r = ⊥ := by subst hf; exact hf0
  replace hf1 : ∀ (j : Fin 256) (r : Fin 2560), 256 * (j0 + T) ≤ r.val → f j r = ⊥ := by subst hf; exact hf1
  clear hf
  have hgv : ∀ j : Fin 256, (fun j : Fin 256 => gv s.x6 s.x5 ⟨256 * u.val + j.val, lt_row u j⟩) j = gv s.x6 s.x5 ⟨256 * u.val + j.val, lt_row u j⟩ := fun j => rfl
  generalize (fun j : Fin 256 => gv s.x6 s.x5 ⟨256 * u.val + j.val, lt_row u j⟩) = g at hgv hK
  unfold head
  refine Tr.bind (Tr.for (Q := fun a s' => IA j0 f s T a s') (fun n a s' => IA j0 f s n a s') ⟨K78.rfl, fun j => ?_, fun r j h1 h2 => absurd h2 (by omega)⟩ (fun k a s' h => hb k a s' h) fun a s' h => by rw [← hL.s1.trips]; exact h) fun smax0 s1 h1 => ?_
  · have hz : (FloatOps.ofBits .f32 0xFF800000#32 : Ideal .f32) = (⊥ : EReal) := by
      show Ideal.ofBits .f32 0xFF800000#32 = _
      simp [Ideal.ofBits, Ideal.ieee]
    refine Eq.trans (show _ = (FloatOps.ofBits .f32 0xFF800000#32 : Ideal .f32) from rfl) (hz.trans ?_)
    symm
    refine (Finset.sup_eq_bot_iff _ _).mpr fun r _ => ?_
    by_cases h : r.val < 256 * (j0 + 0)
    · rw [if_pos h]; exact hf0 j r (by omega)
    · rw [if_neg h]
  refine Tr.bind (Tr.for (Q := fun a s' => IA j0 f s T a s') (fun n a s' => IA j0 f s T a s') h1 (fun k a s' h => (hL.s2 k).elim) fun a s' h => h) fun smax s2 h2 => ?_
  have hsm : ∀ j : Fin 256, smax (jx (0 : Fin 1) j) = mx (f j) := by
    intro j
    rw [h2.mx]
    refine Finset.sup_congr rfl fun r _ => ?_
    by_cases h : r.val < 256 * (j0 + T)
    · rw [if_pos h]
    · rw [if_neg h, hf1 j r (by omega)]
  have hmx : ∀ j : Fin 256, shiftOf smax (jx (0 : Fin 1) j) = shift (mx (f j)) := fun j => (shiftOf_apply smax j).trans (congrArg shift (hsm j))
  have hz : (Scalar.ofBits .f32 0x00000000#32 : Ideal .f32) = (0 : EReal) := Ideal.ofBits_zero_f32
  have hw0 : ∀ (j : Fin 256) (r : Fin 2560), r.val < 256 * j0 → wt (f j) r = 0 := fun j r h => wt_bot (hf0 j r h)
  dsimp only
  refine Tr.bind (Tr.for (Q := fun a s' => IB j0 T f g s T a s') (fun n a s' => IB j0 T f g s n a s') ⟨h2.toK78, fun j => ?_, fun j e => ?_, fun r j h3 h4 => h2.sc r j (by omega) h4, fun j => ?_, fun r j h1 h2 => absurd h2 (by omega), fun r j h1 h2 => absurd h2 (by omega)⟩
    (fun k a s' h => tr_softBody hle f g _ hmx u L.x1 hL.x1 s hgv k a s' h) fun a s' h => by have e := hL.x1.trips; rw [e] at h; exact h) fun r1 s3 h3 => ?_
  · refine Eq.trans (show _ = (Scalar.ofBits .f32 0x00000000#32 : Ideal .f32) from rfl) (hz.trans ?_)
    symm
    refine Finset.sum_eq_zero fun r _ => ?_
    by_cases h : r.val < 256 * (j0 + 0)
    · rw [if_pos h]; exact hw0 j r (by omega)
    · rw [if_neg h]
  · refine Eq.trans (show _ = (Scalar.ofBits .f32 0x00000000#32 : Ideal .f32) from rfl) (hz.trans ?_)
    symm
    refine Finset.sum_eq_zero fun r _ => ?_
    by_cases h : r.val < 256 * (j0 + 0)
    · rw [if_pos h, hw0 j r (by omega), zero_mul]
    · rw [if_neg h]
  · refine Eq.trans (show _ = (Scalar.ofBits .f32 0x00000000#32 : Ideal .f32) from rfl) (hz.trans ?_)
    symm
    refine Finset.sum_eq_zero fun r _ => ?_
    by_cases h : r.val < 256 * (j0 + 0)
    · rw [if_pos h, hw0 j r (by omega), zero_mul]
    · rw [if_neg h]
  refine Tr.bind (Tr.for (Q := fun a s' => IB j0 T f g s T a s') (fun n a s' => IB j0 T f g s T a s') h3 (fun k a s' h => (hL.x2 k).elim) fun a s' h => h) fun r s4 h4 => ?_
  have hden : ∀ j : Fin 256, r.1 (jx (0 : Fin 1) j) = dn (f j) := by
    intro j
    rw [h4.den]
    refine Finset.sum_congr rfl fun r _ => ?_
    by_cases h : r.val < 256 * (j0 + T)
    · rw [if_pos h]
    · rw [if_neg h, wt_bot (hf1 j r (by omega))]
  have ho : ∀ (j : Fin 256) (e : Fin 512), r.2.2 (jx j e) = ∑ k : Fin 2560, wt (f j) k * s.x6 (jx k (⟨e.val, lt_kv e⟩ : Fin 640)) := by
    intro j e
    rw [h4.o]
    refine Finset.sum_congr rfl fun r _ => ?_
    by_cases h : r.val < 256 * (j0 + T)
    · rw [if_pos h]
    · rw [if_neg h, wt_bot (hf1 j r (by omega)), zero_mul]
  have hdt : ∀ j : Fin 256, r.2.1 (jx (0 : Fin 1) j) = ∑ k : Fin 2560, wt (f j) k * g j k := by
    intro j
    rw [h4.dt]
    refine Finset.sum_congr rfl fun r _ => ?_
    by_cases h : r.val < 256 * (j0 + T)
    · rw [if_pos h]
    · rw [if_neg h, wt_bot (hf1 j r (by omega)), zero_mul]
  refine Tr.bind (R := fun _ s' => s' = s4) (Tr.ld lens18 rfl) ?_
  rintro dp s5 rfl
  have key : ∀ row : FVec Ideal ⟨1, ![256]⟩ .f32, (∀ j : Fin 256, (0 : EReal) ≤ shapeCast (M 1 256) row (by decide) (jx (0 : Fin 1) j)) →
      TR (K ⟨smax, shiftOf smax, r.1, r.2.2, recip r.1, mulf r.2.1 (recip r.1), row⟩) s5 P := fun row hrow => by
    refine hK _ _ ⟨h4.toK78, hmx, hden, ho, rfl, hsm, fun j => ?_, hrow, h4.p, h4.dp⟩
    show r.2.1 (jx (0 : Fin 1) j) * recip r.1 (jx (0 : Fin 1) j) = _
    rw [recip_apply, hdt, hden]
    rfl
  exact key _ fun j => scale_nonneg _ _ _ _ j

/-- After `K` tiles of gradients. -/
structure IG (j0 : Nat) (f g : Fin 256 → Fin 2560 → EReal) (s : St Ideal) (K : Nat) (acc : FVec Ideal (M 256 640) .f32) (s' : St Ideal) : Prop extends K78 s s' where
  e17 : s'.x17 = s.x17
  e18 : s'.x18 = s.x18
  dq : ∀ (j : Fin 256) (l : Fin 640), acc (jx j l) = ∑ r : Fin 2560, if r.val < 256 * (j0 + K) then dsv (f j) (g j) r * s.x6 (jx r l) else 0

include hle in
theorem tr_gradBody (f g : Fin 256 → Fin 2560 → EReal) (rden dt wg : FVec Ideal (M 1 256) .f32) (hdt : ∀ j : Fin 256, dt (jx (0 : Fin 1) j) = dtv (f j) (g j))
    (hwg : ∀ j : Fin 256, wg (jx (0 : Fin 1) j) = wgv (f j)) (u : Fin 4) (L : GLoop) (hL : GAt L j0 T) (s : St Ideal) (h17 : Tl j0 T (fun j => wt (f j)) s.x17) (h18 : Tl j0 T g s.x18)
    (k : Fin L.l.trips) (acc : FVec Ideal (M 256 640) .f32) (s1 : St Ideal) (hI : IG j0 f g s k.val acc s1) :
    TR (gradBody A rden dt wg u L k acc) s1 fun acc' s' => IG j0 f g s (k.val + 1) acc' s' := by
  have hk : k.val < T := lt_of_lt_of_eq k.isLt hL.trips
  have hB : 256 * (j0 + k.val) + 256 ≤ 2560 := by omega
  have hss := hL.ss k
  obtain ⟨kk, h1, h2, hdq⟩ := hI
  unfold gradBody
  refine Tr.bind (R := fun x s' => (∀ y j : Fin 256, x (jx y j) = wt (f j) ⟨256 * (j0 + k.val) + y.val, lt_key hB y⟩) ∧ s' = s1) (Tr.ld lens17 ⟨fun y j => ?_, rfl⟩) ?_
  · rw [h1]
    refine (window2 s.x17 _ _ 0 hss _ y j (by omega) (by omega)).trans ?_
    exact Eq.trans (congrArg s.x17 (congrArg (jx _) (Fin.ext (Nat.zero_add _)))) (h17 _ j (by simp only; omega) (by simp only; omega))
  rintro p s1 ⟨hp, rfl⟩
  refine Tr.bind (R := fun x s' => (∀ y j : Fin 256, x (jx y j) = g j ⟨256 * (j0 + k.val) + y.val, lt_key hB y⟩) ∧ s' = s1) (Tr.ld lens18 ⟨fun y j => ?_, rfl⟩) ?_
  · rw [h2]
    refine (window2 s.x18 _ _ 0 hss _ y j (by omega) (by omega)).trans ?_
    exact Eq.trans (congrArg s.x18 (congrArg (jx _) (Fin.ext (Nat.zero_add _)))) (h18 _ j (by simp only; omega) (by simp only; omega))
  rintro dp s1 ⟨hd, rfl⟩
  refine Tr.bind (R := fun _ s' => s' = s1) (Tr.ld lens14 rfl) ?_
  rintro qx s1 rfl
  refine Tr.bind (R := fun _ s' => s' = s1) (Tr.ld lens5 rfl) ?_
  rintro dO s1 rfl
  refine Tr.bind (R := fun _ s' => s' = s1) (Tr.ld lens13 rfl) ?_
  rintro ac s1 rfl
  refine Tr.bind (R := fun _ s' => s'.x17 = s.x17 ∧ s'.x18 = s.x18 ∧ K78 s s')
    (Tr.ldst lens13 ⟨h1, h2, ⟨⟨⟨kk.e1, kk.e2, kk.e3, kk.e4, kk.e5, kk.e6⟩, kk.e11, kk.e14⟩, kk.e7, kk.e8, kk.e9, kk.e10⟩⟩) ?_
  clear kk h1 h2
  rintro _ s2 ⟨h1, h2, kk⟩
  refine Tr.bind (R := fun _ s' => s' = s2) (Tr.ld lens13 rfl) ?_
  rintro ar s2 rfl
  refine Tr.bind (R := fun _ s' => s'.x17 = s.x17 ∧ s'.x18 = s.x18 ∧ K78 s s')
    (Tr.ldst lens13 ⟨h1, h2, ⟨⟨⟨kk.e1, kk.e2, kk.e3, kk.e4, kk.e5, kk.e6⟩, kk.e11, kk.e14⟩, kk.e7, kk.e8, kk.e9, kk.e10⟩⟩) ?_
  clear kk h1 h2
  rintro _ s3 ⟨h1, h2, kk⟩
  refine Tr.bind (R := fun x s' => (∀ (y : Fin 256) (l : Fin 640), x (jx y l) = s.x6 (jx (⟨256 * (j0 + k.val) + y.val, lt_key hB y⟩ : Fin 2560) l)) ∧ s' = s3) (Tr.ld lens6 ⟨fun y l => ?_, rfl⟩) ?_
  · rw [kk.e6]
    exact (window2 s.x6 _ _ 0 (hL.kx k) _ y l (by omega) (by omega)).trans (congrArg s.x6 (congrArg (jx _) (Fin.ext (Nat.zero_add _))))
  rintro kx s3 ⟨hkx, rfl⟩
  refine Tr.ret ⟨kk, h1, h2, fun j l => ?_⟩
  show acc (jx j l) + dsDot wf256 _ kx (jx j l) = _
  rw [dsDot_apply, hdq, show 256 * (j0 + (k.val + 1)) = 256 * (j0 + k.val) + 256 from by ring, sum_cut hB fun r => dsv (f j) (g j) r * s.x6 (jx r l)]
  congr 1
  refine Finset.sum_congr rfl fun y _ => ?_
  rw [hkx]
  refine congrArg (· * _) ?_
  show p (jx y j) * broadcastTo (M 256 256) wg wf256.bc256 (jx y j) * (dp (jx y j) - broadcastTo (M 256 256) dt wf256.bc256 (jx y j)) = _
  rw [bcRow, bcRow, hp, hd, hdt, hwg]
  rfl

include hm hS hle hlo hhi in
/-- One quarter of the rows by tiles, then the rest. -/
theorem tr_quarter {α : Type} (u : Fin 4) (L : LO) (hL : LAt L j0 T) (s : St Ideal) (hQ : Packed s.x14) (K : Pg nD τ sig Λ Ideal α) (P : α → St Ideal → Prop)
    (hK : ∀ s', KU C b own u s s' → TR K s' P) : TR (quarter A C st qp u L K) s P := by
  unfold quarter
  refine tr_head C hm own st qp hS hle hlo hhi u L hL s hQ _ P fun r s1 h => ?_
  have hf0 : ∀ (j : Fin 256) (r : Fin 2560), r.val < 256 * j0 → sc s.x6 s.x14 b own ⟨256 * u.val + j.val, lt_row u j⟩ r = ⊥ :=
    fun j r h => sc_out (n := 256 * T) (k0 := 256 * j0) hlo (by omega) _ r (.inl h)
  have hf1 : ∀ (j : Fin 256) (r : Fin 2560), 256 * (j0 + T) ≤ r.val → sc s.x6 s.x14 b own ⟨256 * u.val + j.val, lt_row u j⟩ r = ⊥ :=
    fun j r h => sc_out (n := 256 * T) (k0 := 256 * j0) hlo (by omega) _ r (.inr (by omega))
  unfold mid
  have hwg : ∀ j : Fin 256, gradWeight r.m r.smax r.den r.rden r.dt (shapeCast (M 1 256) r.row (by decide)) (jx (0 : Fin 1) j) = wgv (sc s.x6 s.x14 b own ⟨256 * u.val + j.val, lt_row u j⟩) := fun j => by
    refine (gradWeight_apply _ _ _ _ _ _ j _ (h.smax j) (h.m j) (h.row j)).trans ?_
    rw [h.rden, recip_apply, h.den]
    rfl
  dsimp only
  generalize gradWeight r.m r.smax r.den r.rden r.dt (shapeCast (M 1 256) r.row (by decide)) = wg at hwg ⊢
  have ho : ∀ (j : Fin 256) (e : Fin 512), outOf r.o r.rden (jx j e) = oo s.x6 (sc s.x6 s.x14 b own ⟨256 * u.val + j.val, lt_row u j⟩) e := fun j e => by
    rw [outOf_apply, h.o, h.rden, recip_apply, h.den]; rfl
  have hl : ∀ j : Fin 256, lseOf C r.m r.den (jx (0 : Fin 1) j) = ll C (sc s.x6 s.x14 b own ⟨256 * u.val + j.val, lt_row u j⟩) := fun j => by
    rw [lseOf_apply, h.m, h.den]; rfl
  have hdt := h.dt
  refine Tr.bind (R := fun _ s' => KW s s' ∧ Tl j0 T (fun j => wt (sc s.x6 s.x14 b own ⟨256 * u.val + j.val, lt_row u j⟩)) s'.x17 ∧ Tl j0 T (fun j => gv s.x6 s.x5 ⟨256 * u.val + j.val, lt_row u j⟩) s'.x18
      ∧ s'.x7 = s.x7 ∧ s'.x8 = VecWindow.put (s := ⟨3, ![1, 4, 256]⟩) s.x8 ![0, u.val, 0] ![1, 1, 256]
      (shapeCast ⟨3, ![1, 1, 256]⟩ (lseOf C r.m r.den) (by decide)) ∧ s'.x9 = s.x9 ∧ s'.x10 = s.x10)
    (Tr.ldst lens8 ⟨⟨⟨h.e1, h.e2, h.e3, h.e4, h.e5, h.e6⟩, h.e11, h.e14⟩, h.p, h.dp, h.e7, by rw [← h.e8], h.e9, h.e10⟩) ?_
  clear h s1
  rintro _ s1 ⟨k, hp, hd, h7, h8, h9, h10⟩
  refine Tr.bind (R := fun _ s' => KW s s' ∧ Tl j0 T (fun j => wt (sc s.x6 s.x14 b own ⟨256 * u.val + j.val, lt_row u j⟩)) s'.x17 ∧ Tl j0 T (fun j => gv s.x6 s.x5 ⟨256 * u.val + j.val, lt_row u j⟩) s'.x18
      ∧ s'.x7 = VecWindow.put (s := M 1024 512) s.x7 ![256 * u.val, 0] (M 256 512).size (outOf r.o r.rden)
      ∧ s'.x8 = VecWindow.put (s := ⟨3, ![1, 4, 256]⟩) s.x8 ![0, u.val, 0] ![1, 1, 256] (shapeCast ⟨3, ![1, 1, 256]⟩ (lseOf C r.m r.den) (by decide)) ∧ s'.x9 = s.x9 ∧ s'.x10 = s.x10)
    (Tr.ldst lens7 ⟨⟨⟨k.e1, k.e2, k.e3, k.e4, k.e5, k.e6⟩, k.e11, k.e14⟩, hp, hd, by rw [← h7], h8, h9, h10⟩) ?_
  clear k hp hd h7 h8 h9 h10 s1
  rintro _ s1 ⟨k, hp, hd, h7, h8, h9, h10⟩
  refine Tr.bind (Tr.for (Q := fun a s' => IG j0 (fun j => sc s.x6 s.x14 b own ⟨256 * u.val + j.val, lt_row u j⟩) (fun j => gv s.x6 s.x5 ⟨256 * u.val + j.val, lt_row u j⟩) s1 T a s')
    (fun n a s' => IG j0 (fun j => sc s.x6 s.x14 b own ⟨256 * u.val + j.val, lt_row u j⟩) (fun j => gv s.x6 s.x5 ⟨256 * u.val + j.val, lt_row u j⟩) s1 n a s') ⟨K78.rfl, rfl, rfl, fun j l => ?_⟩
    (fun k a s' h => tr_gradBody hle _ _ r.rden r.dt wg hdt hwg u L.g1 hL.g1 s1 hp hd k a s' h) fun a s' h => by have e := hL.g1.trips; rw [e] at h; exact h) fun dq s2 h2 => ?_
  · refine Eq.trans (show _ = (Scalar.ofBits .f32 0x00000000#32 : Ideal .f32) from rfl) ((Ideal.ofBits_zero_f32 : (Scalar.ofBits .f32 0x00000000#32 : Ideal .f32) = (0 : EReal)).trans ?_)
    symm
    refine Finset.sum_eq_zero fun r _ => ?_
    by_cases h : r.val < 256 * (j0 + 0)
    · rw [if_pos h, dsv_bot (hf0 j r (by omega)), zero_mul]
    · rw [if_neg h]
  unfold tail
  refine Tr.bind (Tr.for (Q := fun a s' => IG j0 (fun j => sc s.x6 s.x14 b own ⟨256 * u.val + j.val, lt_row u j⟩) (fun j => gv s.x6 s.x5 ⟨256 * u.val + j.val, lt_row u j⟩) s1 T a s')
    (fun n a s' => IG j0 (fun j => sc s.x6 s.x14 b own ⟨256 * u.val + j.val, lt_row u j⟩) (fun j => gv s.x6 s.x5 ⟨256 * u.val + j.val, lt_row u j⟩) s1 T a s') h2 (fun k a s' h => (hL.g2 k).elim) fun a s' h => h) fun dq' s3 h3 => ?_
  clear h2 s2 dq
  refine Tr.bind (tr_stDq u (smul dq') s3) fun _ s4 ⟨k4, h7', h8', h9', h10'⟩ => hK s4 ?_
  refine good_put u s s4 _ _ _ ((k.trans h3.toKW).trans k4) ⟨(h7'.trans h3.e7).trans h7, (h8'.trans h3.e8).trans h8, by rw [h9', h3.e9, h9], by rw [h10', h3.e10, h10]⟩ ho hl fun j i => ?_
  show dq' (jx j i) * smF = _
  rw [h3.dq, k.e6]
  unfold dqR dqv
  refine congrArg (· * smF) (Finset.sum_congr rfl fun r _ => ?_)
  by_cases h : r.val < 256 * (j0 + T)
  · rw [if_pos h]
  · rw [if_neg h, dsv_bot (hf1 j r (by omega)), zero_mul]

include hm hS hle hlo hhi in
/-- A whole step by tiles. -/
theorem tr_long (L : Fin 4 → LO) (hL : ∀ u, LAt (L u) j0 T) (s : St Ideal) (hQ : Packed s.x14) : TR (long A C st qp L) s fun _ s' => KG C b own s s' := by
  unfold long
  refine tr_quarter C hm own st qp hS hle hlo hhi 0 (L 0) (hL 0) s hQ _ _ fun s1 h1 => ?_
  refine tr_quarter C hm own st qp hS hle hlo hhi 1 (L 1) (hL 1) s1 (by rw [h1.e14]; exact hQ) _ _ fun s2 h2 => ?_
  refine tr_quarter C hm own st qp hS hle hlo hhi 2 (L 2) (hL 2) s2 (by rw [h2.e14, h1.e14]; exact hQ) _ _ fun s3 h3 => ?_
  refine tr_quarter C hm own st qp hS hle hlo hhi 3 (L 3) (hL 3) s3 (by rw [h3.e14, h2.e14, h1.e14]; exact hQ) _ _ fun s4 h4 => ?_
  exact Tr.ret (kg_of h1 h2 h3 h4 K78.rfl)

end

end Attn

end
-- ==== Proof.Val3.lean ====
module

public import proofs.«01_k».proof.Proof.Val2
public import proofs.«01_k».proof.Proof.Pro
public import proofs.«01_k».proof.Proof.Tiles

@[expose] public section

/-! What the whole body leaves in the blocks of `o` and `lse`. -/

noncomputable section

namespace Attn
open Idealize.ShloMosaic Idealize.SL Idealize.SL.Sem
open Idealize.SL.BI (sProp)
open Idealize.SL.RA

local notation "jx" => Idealize.ShloMosaic.ValueIdx.ix2

theorem hot_word (x : Fin 1024) :
    Scalar.select (Scalar.andi (Scalar.cmpi .ne (Scalar.subi (Scalar.extui (Scalar.cmpi .sgt (BitVec.ofNat 32 x.val) 0#32) : BitVec 32) (Scalar.extui (Scalar.cmpi .slt (BitVec.ofNat 32 x.val) 0#32) : BitVec 32))
        (Scalar.subi (Scalar.extui (Scalar.cmpi .sgt 32#32 0#32) : BitVec 32) (Scalar.extui (Scalar.cmpi .slt 32#32 0#32) : BitVec 32)))
      (Scalar.cmpi .ne (Scalar.remsi (BitVec.ofNat 32 x.val) 32#32) 0#32))
      (Scalar.subi (Scalar.divsi (BitVec.ofNat 32 x.val) 32#32) 1#32) (Scalar.divsi (BitVec.ofNat 32 x.val) 32#32) = BitVec.ofNat 32 (x.val / 32) := by
  revert x; decide +kernel

theorem oneHot_apply (r : Fin 1024) (l : Fin 128) : oneHot (F := Ideal) (jx r l) = if l.val = r.val / 32 then (1 : EReal) else 0 := by
  have e0 : iota .tc (M 1024 128) 32 [0] (by decide) (jx r l) = BitVec.ofNat 32 r.val := by simp [iota]
  have e1 : iota .tc (M 1024 128) 32 [1] (by decide) (jx r l) = BitVec.ofNat 32 l.val := by simp [iota]
  have h : oneHot (F := Ideal) (jx r l) = (((Scalar.extui (Scalar.cmpi .eq (BitVec.ofNat 32 (r.val / 32)) (BitVec.ofNat 32 l.val)) : BitVec 32).toInt : ℝ) : EReal) := by
    rw [← hot_word r, ← e1, ← e0]; rfl
  rw [h]
  by_cases hl : l.val = r.val / 32
  · rw [if_pos hl, hl, show Scalar.cmpi .eq (BitVec.ofNat 32 (r.val / 32)) (BitVec.ofNat 32 (r.val / 32)) = 1#1 from IntOp.cmpi_eq.mpr rfl]
    norm_num [Scalar.extui]
  · rw [if_neg hl, show Scalar.cmpi .eq (BitVec.ofNat 32 (r.val / 32)) (BitVec.ofNat 32 l.val) = 0#1 from ValueIdx.eq_zero_of_ne_one (fun h => hl ?_)]
    · norm_num [Scalar.extui]
    · have := congrArg BitVec.toNat (IntOp.cmpi_eq.mp h)
      simp only [BitVec.toNat_ofNat] at this
      omega

theorem packed_T14 (C : Consts Ideal) (x3 : Vec Ideal (M 1024 512) .bf16) (x4 : Vec Ideal (M 1024 64) .bf16) : Packed (T14 C x3 x4) := by
  constructor
  · intro r e
    have : T14 C x3 x4 (jx r (⟨576 + e.val, by omega⟩ : Fin 768)) = qrPad x4 (jx r (⟨576 + e.val - 512, by omega⟩ : Fin 128)) := by
      unfold T14
      refine (dif_neg (show ¬ 576 + e.val < 512 by omega)).trans ?_
      exact dif_pos (show 576 + e.val < 640 by omega)
    rw [this]
    refine (cat_hi x4 _ _ r ⟨576 + e.val - 512, by omega⟩ (by simp only; omega) (by simp only; omega)).trans ?_
    show Ideal.ofBits .bf16 0x0000#16 = 0
    simp [Ideal.ofBits, Ideal.ieee]
  · intro r l
    refine (T14_hot C x3 x4 (jx r (⟨640 + l.val, by omega⟩ : Fin 768)) (by show 640 ≤ 640 + l.val; omega)).trans ?_
    refine Eq.trans ?_ (oneHot_apply r l)
    congr 1
    exact congrArg (jx r) (Fin.ext (by show 640 + l.val - 640 = l.val; omega))

/-- Where the body of step `p` finds its operands. -/
structure OAt (O : Offs) (w : BitVec 32) (p b n : Nat) : Prop where
  st : O.st = ![p, 0]
  w3 : WAt O.w3 (32 * b + 32 - 128)
  w4 : WAt O.w4 (32 * b + 32 - 256)
  w5 : WAt O.w5 (32 * b + 32 - 384)
  w6 : WAt O.w6 (32 * b + 32 - 512)
  w7 : WAt O.w7 (32 * b + 32 - 768)
  lo : ∀ (c : O.chk w w) (h : condL w = 1#1) (u : Fin 4), LAt (O.lo w w c h u) ((32 * b + 32 - n) / 256) ((32 * b + 287) / 256 - (32 * b + 32 - n) / 256)

section
variable {g w : BitVec 32} {b n : Nat}
open Affine

theorem isInt_toInt {x : BitVec 32} {e : Int} (h : IsInt x e) : x.toInt = e := by
  unfold IsInt at h; omega

/-- Where a window of `nW` keys begins. -/
theorem isInt_win (h : Step g w b n) (nW : Nat) (hW : nW ≤ 768) :
    IsInt (Scalar.maxsi (Scalar.subi (Scalar.addi (Scalar.muli (Scalar.remsi g 80#32) 32#32) 32#32) (BitVec.ofNat 32 nW)) 0#32) ((32 * b + 32 - nW : Nat) : Int) := by
  obtain ⟨hb, hg, hw, hn⟩ := h
  refine Affine.maxsi (Affine.subi (ea := ((32 * b + 32 : Nat) : Int)) (eb := nW) (e := ((32 * b + 32 : Nat) : Int) - nW) (Affine.addi (ea := ((32 * b : Nat) : Int)) (Affine.muli hg (Affine.ofNat 32 ⟨rfl, by decide⟩) ?_) (Affine.ofNat 32 ⟨rfl, by decide⟩) ?_)
    (Affine.ofNat nW ⟨rfl, by omega⟩) ?_) (Affine.ofNat 0 ⟨rfl, by decide⟩) ?_
  · refine ⟨by push_cast; omega, by omega, by omega⟩
  · refine ⟨by push_cast; omega, by omega, by omega⟩
  · refine ⟨by push_cast; omega, by omega, by omega⟩
  · omega

theorem win_key (h : Step g w b n) (nW : Nat) (hW : nW ≤ 768) (y : Fin nW) :
    (Scalar.maxsi (Scalar.subi (Scalar.addi (Scalar.muli (stepB g) 32#32) 32#32) (BitVec.ofNat 32 nW)) 0#32 + BitVec.ofNat 32 y.val).toInt = ((32 * b + 32 - nW + y.val : Nat) : Int) := by
  have hb := h.hb
  have hy := y.isLt
  exact isInt_toInt (Affine.addi (isInt_win h nW hW) (Affine.ofNat y.val ⟨rfl, by omega⟩) ⟨by push_cast; omega, by omega, by omega⟩)

theorem win_off (h : Step g w b n) (nW : Nat) (hW : nW ≤ 768) :
    (Scalar.indexCast (Scalar.maxsi (Scalar.subi (Scalar.addi (Scalar.muli (Scalar.remsi g 80#32) 32#32) 32#32) (BitVec.ofNat 32 nW)) 0#32) : Index).toNat = 32 * b + 32 - nW := by
  have := Affine.toNat_of (Affine.indexCast (isInt_win h nW hW)) (Int.natCast_nonneg _)
  exact_mod_cast this

theorem tile_key (h : Step g w b n) (k : Fin (LA g w).trips) (y : Fin 256) :
    (Scalar.muli (Scf.iv (tlo g w) 1#32 k) 256#32 + BitVec.ofNat 32 y.val).toInt = ((256 * ((32 * b + 32 - n) / 256 + k.val) + y.val : Nat) : Int) := by
  have hb := h.hb
  have hy := y.isLt
  have hk : k.val < (32 * b + 287) / 256 - (32 * b + 32 - n) / 256 := lt_of_lt_of_eq k.isLt (trips_A h)
  have hi := isInt_tile h k
  generalize k.val = m at hi hk ⊢
  exact isInt_toInt (Affine.addi hi (Affine.ofNat y.val ⟨rfl, by omega⟩) ⟨by push_cast; omega, by omega, by omega⟩)

/-- The tokens' positions. -/
theorem qp_word (h : Step g w b n) (l : Fin 128) :
    ((addi (broadcast (M 1 128) (Scalar.muli (stepB g) 32#32)) (iota .tc (M 1 128) 32 [1] (by decide)) : IVec (M 1 128) 32) (jx (0 : Fin 1) l)).toInt = ((32 * b + l.val : Nat) : Int) := by
  obtain ⟨hb, hg, hw, hn⟩ := h
  have e : iota .tc (M 1 128) 32 [1] (by decide) (jx (0 : Fin 1) l) = BitVec.ofNat 32 l.val := by simp [iota]
  show (Scalar.muli (Scalar.remsi g 80#32) 32#32 + iota .tc (M 1 128) 32 [1] (by decide) (jx (0 : Fin 1) l)).toInt = _
  rw [e]
  exact isInt_toInt (Affine.addi (ea := ((32 * b : Nat) : Int)) (Affine.muli hg (Affine.ofNat 32 ⟨rfl, by decide⟩) ⟨by push_cast; omega, by omega, by omega⟩)
    (Affine.ofNat l.val ⟨rfl, by omega⟩) ⟨by push_cast; omega, by omega, by omega⟩)

theorem condOf_iff (c : BitVec 1) : condOf c = 1#1 ↔ c = 1#1 := by
  revert c; decide

theorem condW_iff (hw : IsInt w n) (lo hi : Nat) (hlo : lo ≤ 768) (hhi : hi ≤ 768) : condW (BitVec.ofNat 32 lo) (BitVec.ofNat 32 hi) w = 1#1 ↔ lo < n ∧ n ≤ hi := by
  unfold condW
  have h1 := isInt_toInt hw
  have h2 := isInt_toInt (Affine.ofNat lo ⟨rfl, by omega⟩)
  have h3 := isInt_toInt (Affine.ofNat hi ⟨rfl, by omega⟩)
  rw [condOf_iff]
  show IntOp.andi _ _ = 1#1 ↔ _
  rw [IntOp.andi_eq_one, show (Scalar.cmpi .sgt w (BitVec.ofNat 32 lo) = 1#1 ↔ _) from IntOp.cmpi_sgt, show (Scalar.cmpi .sle w (BitVec.ofNat 32 hi) = 1#1 ↔ _) from IntOp.cmpi_sle]
  omega

theorem condL_iff (hw : IsInt w n) : condL w = 1#1 ↔ 768 < n := by
  unfold condL
  have h1 := isInt_toInt hw
  rw [condOf_iff, show (Scalar.cmpi .sgt w 768#32 = 1#1 ↔ _) from IntOp.cmpi_sgt]
  have : (768#32 : BitVec 32).toInt = 768 := by decide
  omega

end

/-- When the step needs at most `hi` keys, its results are in place. -/
structure KD (C : Consts Ideal) (b n : Nat) (own : Fin 32 → Int) (hi : Nat) (s s' : St Ideal) : Prop extends KW s s' where
  good : n ≤ hi → ∀ u, Good C b own s.x6 s.x14 s.x5 u s'.x7 s'.x8 s'.x9 s'.x10

section
variable {nD : Nat} {τ : Topo} {sig : RefSig} {Λ : Labels}
variable {Ix : Type} [DecidableEq Ix] {Name : Type} [DecidableEq Name] {U : Type} [URA U] {Lvl : Type}
variable [Preorder Lvl] {defs : Defs nD τ sig (Elt Ideal) Λ} {𝒱 : Variants} {d : Dev nD} {bd : Option 𝒱.V} {E : Set Name} {q : PosShare TreeShare} {A : Args sig}
local notation "TR" => Tr (Ix := Ix) (Name := Name) (U := U) (Lvl := Lvl) defs 𝒱 d bd E q A

variable {g w : BitVec 32} {b n : Nat} (C : Consts Ideal) (hm : C.mask = (⊥ : EReal)) (own : Fin 32 → Int)
  (st qp : IVec (M 1 128) 32) (hS : MaskW b own st qp) (hst : Step g w b n) (hown : ∀ l, 32 * (b : Int) + 32 - n ≤ own l) (hpos : 0 < n)

include hm hS hst hown in
/-- One of the windows, when it is this step's. -/
theorem tr_cond (s : St Ideal) (hQ : Packed s.x14) {nW : Nat} (W : WF nW) (O : WOff nW) (hW : nW ≤ 768) (hO : WAt O (32 * b + 32 - nW)) (lo : Nat) (c : BitVec 1)
    (hc : c = 1#1 ↔ lo < n ∧ n ≤ nW) (s1 : St Ideal) (h : KD C b n own lo s s1) :
    TR (if _ : c = 1#1 then window W O A C st qp (Scalar.muli (stepB g) 32#32) else pure ⟨⟩) s1 fun _ s' => KD C b n own nW s s' := by
  have hb := hst.hb
  have hn := hst.hn
  refine Tr.dite (fun h1 => ?_) fun h1 => Tr.ret ⟨h.toKW, fun hn => h.good (by by_contra hh; exact h1 (hc.mpr ⟨by omega, hn⟩))⟩
  have hcc := hc.mp h1
  refine Tr.mono (tr_window W O hO C hm own st qp hS (by omega) (fun l => ?_) (by omega) _ (win_key hst nW hW) s1 (by rw [h.e14]; exact hQ)) fun _ s' h' => ⟨h.toKW.trans h'.toKW, fun _ u => ?_⟩
  · have := hown l
    omega
  · have := h'.good u
    rw [h.e6, h.e14, h.e5] at this
    exact this

include hm hS hst hown hpos in
/-- The windows and the tiles. -/
theorem tr_windows_val {p : Nat} (O : Offs) (hO : OAt O w p b n) (s : St Ideal) (hQ : Packed s.x14)
    (hw : VecWindow.window (s := ⟨1, ![160]⟩) s.x1 O.nd ![1] O.ind zix = w) (hchk : condL w = 1#1 → O.chk w w) :
    TR (windows A C O st (Scalar.muli (stepB g) 32#32) qp w) s fun _ s' => KG C b own s s' := by
  have hb := hst.hb
  have hn := hst.hn
  have hi := hst.hw
  unfold windows
  refine Tr.bind (tr_cond C hm own st qp hS hst hown s hQ wf128 O.w3 (by decide) hO.w3 0 _ (condW_iff hi 0 128 (by decide) (by decide)) s ⟨KW.rfl, fun h => absurd h (by omega)⟩) fun _ s1 h1 => ?_
  refine Tr.bind (tr_cond C hm own st qp hS hst hown s hQ wf256 O.w4 (by decide) hO.w4 128 _ (condW_iff hi 128 256 (by decide) (by decide)) s1 h1) fun _ s2 h2 => ?_
  refine Tr.bind (tr_cond C hm own st qp hS hst hown s hQ wf384 O.w5 (by decide) hO.w5 256 _ (condW_iff hi 256 384 (by decide) (by decide)) s2 h2) fun _ s3 h3 => ?_
  refine Tr.bind (tr_cond C hm own st qp hS hst hown s hQ wf512 O.w6 (by decide) hO.w6 384 _ (condW_iff hi 384 512 (by decide) (by decide)) s3 h3) fun _ s4 h4 => ?_
  refine Tr.bind (tr_cond C hm own st qp hS hst hown s hQ wf768 O.w7 (by decide) hO.w7 512 _ (condW_iff hi 512 768 (by decide) (by decide)) s4 h4) fun _ s5 h5 => ?_
  refine Tr.dite (fun hc => ?_) fun hc => Tr.ret ⟨h5.toKW, h5.good (by by_contra hh; exact hc ((condL_iff hi).mpr (by omega)))⟩
  refine Tr.bind (R := fun x s' => x = w ∧ s' = s5) (Tr.smem ⟨by rw [h5.e1]; exact hw, rfl⟩) ?_
  rintro _ _ ⟨rfl, rfl⟩
  refine Tr.bind (R := fun _ s' => s' = _) (Tr.assume (hchk hc) rfl) ?_
  rintro c _ rfl
  refine Tr.mono (tr_long C hm own st qp hS (by omega) (fun l => ?_) (by omega) _ (fun u => hO.lo c.down hc u) _ (by rw [h5.e14]; exact hQ)) fun _ s' h' => ⟨h5.toKW.trans h'.toKW, fun u => ?_⟩
  · have := hown l
    omega
  · have := h'.good u
    rw [h5.e6, h5.e14, h5.e5] at this
    exact this

end

section
variable {nD : Nat} {τ : Topo} {sig : RefSig} {Λ : Labels}
variable {Ix : Type} [DecidableEq Ix] {Name : Type} [DecidableEq Name] {U : Type} [URA U] {Lvl : Type}
variable [Preorder Lvl] {defs : Defs nD τ sig (Elt Ideal) Λ} {𝒱 : Variants} {d : Dev nD} {bd : Option 𝒱.V} {E : Set Name} {q : PosShare TreeShare} {A : Args sig}
local notation "TR" => Tr (Ix := Ix) (Name := Name) (U := U) (Lvl := Lvl) defs 𝒱 d bd E q A

/-- What the body leaves at a step. -/
theorem tr_value {g w : BitVec 32} {b n : Nat} (p : Fin 160) (C : Consts Ideal) (hm : C.mask = (⊥ : EReal)) (O : Offs) (s : St Ideal)
    (h : condOf (Scalar.cmpi .eq g 0#32) = 1#1 ∨ Hot s.x14) (hst : Step g w b n) (hO : OAt O w p.val b n) (hpos : 0 < n)
    (hown : ∀ l : Fin 32, 32 * (b : Int) + 32 - n ≤ (s.x2 (jx p (⟨l.val, by omega⟩ : Fin 128)) : BitVec 32).toInt)
    (hw : VecWindow.window (s := ⟨1, ![160]⟩) s.x1 O.nd ![1] O.ind zix = w) (hchk : condL w = 1#1 → O.chk w w) :
    TR (body A C g O) s fun _ s' => KS C s s' ∧ ∀ u, Good C b (fun l => (s.x2 (jx p (⟨l.val, by omega⟩ : Fin 128)) : BitVec 32).toInt) s.x6 (T14 C s.x3 s.x4) s.x5 u s'.x7 s'.x8 s'.x9 s'.x10 := by
  refine tr_start C g O s h fun s' ks => ?_
  rw [hw]
  have hS : MaskW b (fun l => (s.x2 (jx p (⟨l.val, by omega⟩ : Fin 128)) : BitVec 32).toInt) (VecWindow.window (s := M 160 128) s.x2 O.st (M 1 128).size O.ist)
      (addi (broadcast (M 1 128) (Scalar.muli (stepB g) 32#32)) (iota .tc (M 1 128) 32 [1] (by decide))) := by
    refine ⟨fun l => ?_, fun l => qp_word hst ⟨l.val, by omega⟩⟩
    have e := window2 s.x2 O.st p.val 0 hO.st O.ist (0 : Fin 1) (⟨l.val, by omega⟩ : Fin 128) (by have := p.isLt; simp only [Fin.val_zero]; omega) (by simp only; omega)
    refine congrArg BitVec.toInt (e.trans (congrArg s.x2 ?_))
    exact congrArg₂ jx (Fin.ext rfl) (Fin.ext (Nat.zero_add _))
  refine Tr.mono (tr_windows_val C hm _ _ _ hS hst hown hpos O hO s' (by rw [ks.t14]; exact packed_T14 C s.x3 s.x4) (by rw [ks.e1]; exact hw) hchk) fun _ s'' k => ⟨⟨ks.toKI.trans k.toKI, k.e11.trans ks.t11, k.e14.trans ks.t14⟩, fun u => ?_⟩
  have := k.good u
  rw [ks.e6, ks.t14, ks.e5] at this
  exact this

end

end Attn

end
-- ==== Proof.Pre.lean ====
module

public import proofs.«01_k».proof.Pre_pre
public import proofs.«01_k».proof.Proof.Gen.Pre_pre
public import proofs.«01_k».proof.Pre_finite
public import proofs.«01_k».proof.Proof.Gen.Pre_finite
public import proofs.«01_k».proof.Proof.Tiles
public import Idealize.ShloMosaic.Lib.ReduceAll
public import Idealize.ShloMosaic.Lib.KernelVsHost

@[expose] public section

/-! What the precondition says of the tables: how many keys a step needs, and that its documents begin no earlier than its first. -/

noncomputable section

namespace Attn
open Idealize.ShloMosaic Idealize.SL.Sem ValueIdx

/-- What the tables say of step `p`. -/
structure Tab (need : IVec ⟨1, ![160]⟩ 32) (starts : IVec (M 160 128) 32) (p : Fin 160) : Prop where
  eq : (need (ix1 p)).toInt = 32 * (p.val % 80 : Nat) + 32 - (starts (ix2 p (0 : Fin 128))).toInt
  pos : 0 < (need (ix1 p)).toInt
  first : 0 ≤ (starts (ix2 p (0 : Fin 128))).toInt
  le : ∀ k : Fin 32, (starts (ix2 p (0 : Fin 128))).toInt ≤ (starts (ix2 p (⟨k.val, by omega⟩ : Fin 128))).toInt

theorem rem_words (p : Fin 160) : Cert.Pre_pre.fn_remainder (F := Ideal) (iotaInDim Cert.Pre_pre.S160 32 0) (constantI Cert.Pre_pre.S_ 32 80#32) (ix1 p) = BitVec.ofNat 32 (p.val % 80) := by
  have key : ∀ x : Fin 160, (let r := IntOp.remsi .host (BitVec.ofNat 32 x.val) 80#32
      Scalar.select (Scalar.andi (Scalar.cmpi .ne (Scalar.cmpi .slt r 0#32) (Scalar.cmpi .slt 80#32 0#32)) (Scalar.cmpi .ne r 0#32)) (Scalar.addi r 80#32) r) = BitVec.ofNat 32 (x.val % 80) := by decide +kernel
  exact key p

theorem tab_of {F : FTy → Type} [FloatOps F] (need : IVec ⟨1, ![160]⟩ 32) (starts : IVec (M 160 128) 32) (q : FVec F (M 163840 512) .bf16) (r : FVec F (M 163840 64) .bf16)
    (o : FVec F (M 163840 512) .bf16) (k : FVec F (M 5120 640) .bf16)
    (h : Cert.Pre_pre.fn (F := F) need starts q r o k = fun _ => 1#1) (p : Fin 160) : Tab need starts p := by
  haveI : Subsingleton Cert.Pre_pre.S_.Idx := ⟨fun a b => funext fun x => x.elim0⟩
  have h0 := congrFun h (fun x => x.elim0)
  obtain ⟨h1, h4⟩ := IntOp.andi_eq_one.mp h0
  obtain ⟨h1, h3⟩ := IntOp.andi_eq_one.mp h1
  obtain ⟨h1, h2⟩ := IntOp.andi_eq_one.mp h1
  have e1 := IntOp.cmpi_eq.mp (Host.reduce_andi_all _ _ _ _ _ h1 (ix1 p))
  have e2 := IntOp.cmpi_sgt.mp (Host.reduce_andi_all _ _ _ _ _ h2 (ix1 p))
  have e3 := IntOp.cmpi_sge.mp (Host.reduce_andi_all _ _ _ _ _ h3 (ix1 p))
  have e4 := fun k : Fin 32 => IntOp.cmpi_sge.mp (Host.reduce_andi_all _ _ _ _ _ h4 (ix2 p k))
  clear h h0 h1 h2 h3 h4
  beta_reduce at e1 e2 e3 e4
  have hc : ∀ y : IVec (M 160 128) 32, shapeCast Cert.Pre_pre.S160 (extractStridedSlice Cert.Pre_pre.S160x1 ![0, 0] (extractStridedSlice Cert.Pre_pre.S160x32 ![0, 0] y Cert.Pre_pre.Facts.slices_S160x128_S160x32_0_0) Cert.Pre_pre.Facts.slices_S160x32_S160x1_0_0) Cert.Pre_pre.Facts.shapeCasts_S160x1_S160 (ix1 p)
      = y (ix2 p (0 : Fin 128)) := by
    intro y
    rw [shapeCast_apply _ _ (ix1 p) (ix2 p (0 : Fin 1)) (by
      rw [Shape.rowMajor_val_two, Shape.rowMajor_val_one]; show p.val * 1 + 0 = p.val; omega)]
    rw [extractStridedSlice_apply _ _ _ (ix2 p (0 : Fin 1)) (ix2 p (0 : Fin 32)) (by intro a; fin_cases a <;> simp [ix2])]
    rw [extractStridedSlice_apply _ _ _ (ix2 p (0 : Fin 32)) (ix2 p (0 : Fin 128)) (by intro a; fin_cases a <;> simp [ix2])]
  have f3 : (0 : Int) ≤ (starts (ix2 p (0 : Fin 128))).toInt := by
    have := e3
    rw [hc] at this
    exact this
  have f1 : need (ix1 p) = 32#32 * BitVec.ofNat 32 (p.val % 80) + 32#32 - starts (ix2 p (0 : Fin 128)) := by
    have h' := e1
    rw [← hc starts, ← rem_words p]
    exact h'
  refine ⟨?_, e2, f3, fun k => ?_⟩
  · rw [f1]
    have hp : p.val % 80 < 80 := Nat.mod_lt _ (by decide)
    have hb : (BitVec.ofNat 32 (p.val % 80)).toInt = (p.val % 80 : Nat) := by
      rw [BitVec.toInt_ofNat']
      exact Int.bmod_eq_of_le (by omega) (by omega)
    have hs := Affine.word_range (starts (ix2 p (0 : Fin 128)))
    rw [BitVec.toInt_sub, BitVec.toInt_add, BitVec.toInt_mul, hb]
    have : (32#32 : BitVec 32).toInt = 32 := by decide
    rw [this]
    rw [Int.bmod_eq_of_le (n := 32 * ((p.val % 80 : Nat) : Int)) (by omega) (by omega), Int.bmod_eq_of_le (n := 32 * ((p.val % 80 : Nat) : Int) + 32) (by omega) (by omega)]
    exact Int.bmod_eq_of_le (by omega) (by omega)
  · have := e4 k
    rw [extractStridedSlice_apply _ _ _ (ix2 p k) (ix2 p (⟨k.val, by omega⟩ : Fin 128)) (by intro a; fin_cases a <;> simp [ix2])] at this
    rw [broadcastInDim_apply _ _ _ (ix2 p k) (ix2 p (0 : Fin 1)) (by intro a; fin_cases a <;> simp [ix2])] at this
    rw [extractStridedSlice_apply _ _ _ (ix2 p (0 : Fin 1)) (ix2 p (0 : Fin 32)) (by intro a; fin_cases a <;> simp [ix2])] at this
    rw [extractStridedSlice_apply _ _ _ (ix2 p (0 : Fin 32)) (ix2 p (0 : Fin 128)) (by intro a; fin_cases a <;> simp [ix2])] at this
    exact this

/-- The stronger precondition says what the weaker one says, and that the incoming gradient and the keys' values have no infinite entry. -/
theorem fin_parts {F : FTy → Type} [FloatOps F] (need : IVec ⟨1, ![160]⟩ 32) (starts : IVec (M 160 128) 32) (q : FVec F (M 163840 512) .bf16) (r : FVec F (M 163840 64) .bf16)
    (o : FVec F (M 163840 512) .bf16) (k : FVec F (M 5120 640) .bf16) (h : Cert.Pre_finite.fn (F := F) need starts q r o k = fun _ => 1#1) :
    Cert.Pre_pre.fn (F := F) need starts q r o k = (fun _ => 1#1)
      ∧ (∀ i, cmpf .olt (Host.absf o) (broadcastInDim Cert.Pre_finite.S163840x512 ![] Cert.Pre_finite.Facts.bcast_S_S163840x512 (constant (F := F) Cert.Pre_finite.S_ .bf16 0x7F80#16)) i = 1#1)
      ∧ ∀ i, cmpf .olt (Host.absf (extractStridedSlice Cert.Pre_finite.S5120x512 ![0, 0] k Cert.Pre_finite.Facts.slices_S5120x640_S5120x512_0_0)) (broadcastInDim Cert.Pre_finite.S5120x512 ![] Cert.Pre_finite.Facts.bcast_S_S5120x512 (constant (F := F) Cert.Pre_finite.S_ .bf16 0x7F80#16)) i = 1#1 := by
  haveI : Subsingleton Cert.Pre_finite.S_.Idx := ⟨fun a b => funext fun x => x.elim0⟩
  have h0 := congrFun h (fun x => x.elim0)
  obtain ⟨h1, h3⟩ := IntOp.andi_eq_one.mp h0
  obtain ⟨h1, h2⟩ := IntOp.andi_eq_one.mp h1
  refine ⟨funext fun i => ?_, fun i => Host.reduce_andi_all _ _ _ _ _ h2 i, fun i => Host.reduce_andi_all _ _ _ _ _ h3 i⟩
  have ei : i = fun x => x.elim0 := funext fun x => x.elim0
  rw [ei]
  exact h1

/-- A magnitude below infinity is a number's. -/
theorem num_of (x : EReal) (h : Ideal.cmp .olt (max x (-x)) (Ideal.ofBits .bf16 0x7F80#16) = 1#1) : ∃ v : ℝ, x = (v : EReal) := by
  have hb : Ideal.ofBits .bf16 0x7F80#16 = (⊤ : EReal) := by simp [Ideal.ofBits, Ideal.ieee]
  rw [hb] at h
  have hl : max x (-x) < ⊤ := by
    by_contra hc
    simp [Ideal.cmp, hc] at h
  induction x using EReal.rec with
  | bot => simp at hl
  | top => simp at hl
  | coe a => exact ⟨a, rfl⟩

theorem nums_of (need : IVec ⟨1, ![160]⟩ 32) (starts : IVec (M 160 128) 32) (q : FVec Ideal (M 163840 512) .bf16) (r : FVec Ideal (M 163840 64) .bf16)
    (o : FVec Ideal (M 163840 512) .bf16) (k : FVec Ideal (M 5120 640) .bf16) (h : Cert.Pre_finite.fn (F := Ideal) need starts q r o k = fun _ => 1#1) :
    (∀ (a : Fin 5120) (b : Fin 512), ∃ v : ℝ, k (ix2 a (⟨b.val, by omega⟩ : Fin 640)) = (v : EReal)) ∧ ∀ (a : Fin 163840) (b : Fin 512), ∃ v : ℝ, o (ix2 a b) = (v : EReal) := by
  obtain ⟨-, h2, h3⟩ := fin_parts need starts q r o k h
  have e : ∀ (a : Fin 5120) (b : Fin 512), extractStridedSlice Cert.Pre_finite.S5120x512 ![0, 0] k Cert.Pre_finite.Facts.slices_S5120x640_S5120x512_0_0 (ix2 a b) = k (ix2 a (⟨b.val, by omega⟩ : Fin 640)) := fun a b =>
    extractStridedSlice_apply _ _ _ (ix2 a b) (ix2 a (⟨b.val, by omega⟩ : Fin 640)) (by intro x; fin_cases x <;> simp [ix2])
  exact ⟨fun a b => (e a b) ▸ num_of _ (h3 (ix2 a b)), fun a b => num_of _ (h2 (ix2 a b))⟩

theorem rem_iv (p : Fin 160) : Affine.IsInt (Scalar.remsi (BitVec.ofNat 32 p.val) 80#32) ((p.val % 80 : Nat) : Int) := by
  have key : ∀ x : Fin 160, Scalar.remsi (BitVec.ofNat 32 x.val) 80#32 = BitVec.ofNat 32 (x.val % 80) := by decide +kernel
  rw [key p]
  exact Affine.ofNat _ ⟨rfl, by omega⟩

/-- The facts of step `p` in the form that the tiles take. -/
theorem Tab.step {need : IVec ⟨1, ![160]⟩ 32} {starts : IVec (M 160 128) 32} {p : Fin 160} (T : Tab need starts p) :
    Step (BitVec.ofNat 32 p.val) (need (ix1 p)) (p.val % 80) (need (ix1 p)).toInt.toNat := by
  have h1 := T.eq; have h2 := T.pos; have h3 := T.first
  refine ⟨by omega, rem_iv p, ?_, by omega⟩
  unfold Affine.IsInt
  omega

end Attn

end
-- ==== Proof.VIdeal.lean ====
module

public import proofs.«01_k».proof.Proof.RunIdeal
public import proofs.«01_k».proof.Proof.Val3
public import proofs.«01_k».proof.Proof.Pre

@[expose] public section

/-! The values of `KernelIdeal`'s results over the extended reals: where its loads stand, what one step leaves, and what the arrays hold at the end. -/

noncomputable section

namespace Cert.KernelIdeal.Run
open Cert.KernelIdeal Cert.KernelIdeal.Gen
open Idealize.ShloMosaic Idealize.ShloMosaic.TcCoe Idealize.SL Idealize.SL.Sem Attn
open Idealize.ShloMosaic.Pipeline (RDat)
local notation "jx" => Idealize.ShloMosaic.ValueIdx.ix2
local notation "jx1" => Idealize.ShloMosaic.ValueIdx.ix1
local notation "jx3" => Idealize.ShloMosaic.ValueIdx.ix3

/-- The constants of the body over the extended reals. -/
theorem mask_bot : (Eq.consts (F := Ideal)).mask = (⊥ : EReal) := rfl
theorem lg_eq : (Eq.consts (F := Ideal)).lg = (((Real.log 2)⁻¹ : ℝ) : EReal) := rfl
theorem ln_eq : (Eq.consts (F := Ideal)).ln = ((Real.log 2 : ℝ) : EReal) := rfl

/-- The loads of the body stand where the table says. -/
theorem oat (i : grid0.Coords) {w : BitVec 32} {b n : Nat} (h : Step (BitVec.ofNat 32 (i 0).val) w b n) : OAt (Eq.offs i) w (i 0).val b n where
  st := by
    have h : (i 0).val < 160 := (i 0).isLt
    show ![(BitVec.ofNat 32 (i 0).val).toNat, 0] = _
    rw [BitVec.toNat_ofNat, Nat.mod_eq_of_lt (by omega)]
  w3 := ⟨congrArg (fun x => ![x, 512]) (win_off h 128 (by decide)), congrArg (fun x => ![x, 0]) (win_off h 128 (by decide)), congrArg (fun x => ![x, 0]) (win_off h 128 (by decide))⟩
  w4 := ⟨congrArg (fun x => ![x, 512]) (win_off h 256 (by decide)), congrArg (fun x => ![x, 0]) (win_off h 256 (by decide)), congrArg (fun x => ![x, 0]) (win_off h 256 (by decide))⟩
  w5 := ⟨congrArg (fun x => ![x, 512]) (win_off h 384 (by decide)), congrArg (fun x => ![x, 0]) (win_off h 384 (by decide)), congrArg (fun x => ![x, 0]) (win_off h 384 (by decide))⟩
  w6 := ⟨congrArg (fun x => ![x, 512]) (win_off h 512 (by decide)), congrArg (fun x => ![x, 0]) (win_off h 512 (by decide)), congrArg (fun x => ![x, 0]) (win_off h 512 (by decide))⟩
  w7 := ⟨congrArg (fun x => ![x, 512]) (win_off h 768 (by decide)), congrArg (fun x => ![x, 0]) (win_off h 768 (by decide)), congrArg (fun x => ![x, 0]) (win_off h 768 (by decide))⟩
  lo := fun c hl u => match u with
    | 0 => ⟨⟨trips_A h, fun k => congrArg (fun x => ![x, 512]) (tileA h k), fun k => congrArg (fun x => ![x, 0]) (tileA h k), fun k => congrArg (fun x => ![x, 0]) (tileA h k), tile_key h⟩,
        ⟨trips_A h, fun k => congrArg (fun x => ![x, 0]) (tileA h k), fun k => congrArg (fun x => ![x, 0]) (tileA h k)⟩, noB _ _, noB _ _,
        ⟨trips_A h, fun k => congrArg (fun x => ![x, 0]) (tileA h k), fun k => congrArg (fun x => ![x, 0]) (tileA h k)⟩, noB _ _⟩
    | 1 => ⟨⟨trips_A h, fun k => congrArg (fun x => ![x, 512]) (tileA h k), fun k => congrArg (fun x => ![x, 0]) (tileA h k), fun k => congrArg (fun x => ![x, 0]) (tileA h k), tile_key h⟩,
        ⟨trips_A h, fun k => congrArg (fun x => ![x, 0]) (tileA h k), fun k => congrArg (fun x => ![x, 0]) (tileA h k)⟩, noB _ _, noB _ _,
        ⟨trips_A h, fun k => congrArg (fun x => ![x, 0]) (tileA h k), fun k => congrArg (fun x => ![x, 0]) (tileA h k)⟩, noB _ _⟩
    | 2 => ⟨⟨trips_A h, fun k => congrArg (fun x => ![x, 512]) (tileA h k), fun k => congrArg (fun x => ![x, 0]) (tileA h k), fun k => congrArg (fun x => ![x, 0]) (tileA h k), tile_key h⟩,
        ⟨trips_A h, fun k => congrArg (fun x => ![x, 0]) (tileA h k), fun k => congrArg (fun x => ![x, 0]) (tileA h k)⟩, noB _ _, noB _ _,
        ⟨trips_A h, fun k => congrArg (fun x => ![x, 0]) (tileA h k), fun k => congrArg (fun x => ![x, 0]) (tileA h k)⟩, noB _ _⟩
    | 3 => ⟨⟨trips_A h, fun k => congrArg (fun x => ![x, 512]) (tileA h k), fun k => congrArg (fun x => ![x, 0]) (tileA h k), fun k => congrArg (fun x => ![x, 0]) (tileA h k), tile_key h⟩,
        ⟨trips_A h, fun k => congrArg (fun x => ![x, 0]) (tileA h k), fun k => congrArg (fun x => ![x, 0]) (tileA h k)⟩, noB _ _, noB _ _,
        ⟨trips_A h, fun k => congrArg (fun x => ![x, 0]) (tileA h k), fun k => congrArg (fun x => ![x, 0]) (tileA h k)⟩, noB _ _⟩

/-- The keys of step `p`'s batch. -/
def keysOf (k : Vec Ideal (M 5120 640) .bf16) (p : Fin 160) : Vec Ideal (M 2560 640) .bf16 :=
  fun y => k (jx (⟨2560 * (p.val / 80) + (y 0).val, by have : (y 0).val < 2560 := (y 0).isLt; omega⟩ : Fin 5120) (y 1 : Fin 640))

/-- The rows of step `p`. -/
def rowsOf {n : Nat} (q : Vec Ideal (M 163840 n) .bf16) (p : Fin 160) : Vec Ideal (M 1024 n) .bf16 :=
  fun y => q (jx (⟨1024 * p.val + (y 0).val, by have : (y 0).val < 1024 := (y 0).isLt; omega⟩ : Fin 163840) (y 1 : Fin n))

/-- The first keys of step `p`'s tokens. -/
def ownOf (s : IVec (M 160 128) 32) (p : Fin 160) (l : Fin 32) : Int := (s (jx p (⟨l.val, by omega⟩ : Fin 128))).toInt

/-- The scores of row `r` of step `p`. -/
def fK (s : IVec (M 160 128) 32) (q : Vec Ideal (M 163840 512) .bf16) (qr : Vec Ideal (M 163840 64) .bf16) (k : Vec Ideal (M 5120 640) .bf16)
    (p : Fin 160) (r : Fin 1024) : Fin 2560 → EReal :=
  sc (keysOf k p) (T14 Eq.consts (rowsOf q p) (rowsOf qr p)) (p.val % 80) (ownOf s p) r

/-- The first result. -/
def oK (s : IVec (M 160 128) 32) (q : Vec Ideal (M 163840 512) .bf16) (qr : Vec Ideal (M 163840 64) .bf16) (k : Vec Ideal (M 5120 640) .bf16) :
    Vec Ideal (M 163840 512) .bf16 := fun i =>
  let p : Fin 160 := ⟨(i 0).val / 1024, by have : (i 0).val < 163840 := (i 0).isLt; omega⟩
  oo (keysOf k p) (fK s q qr k p ⟨(i 0).val % 1024, Nat.mod_lt _ (by decide)⟩) (i 1)

/-- The second result. -/
def lK (s : IVec (M 160 128) 32) (q : Vec Ideal (M 163840 512) .bf16) (qr : Vec Ideal (M 163840 64) .bf16) (k : Vec Ideal (M 5120 640) .bf16) :
    Vec Ideal ⟨3, ![160, 4, 256]⟩ .f32 := fun i =>
  ll Eq.consts (fK s q qr k (i 0) ⟨256 * (i 1).val + (i 2).val, by have : (i 1).val < 4 := (i 1).isLt; have : (i 2).val < 256 := (i 2).isLt; omega⟩)

theorem rows_oK (s : IVec (M 160 128) 32) (q : Vec Ideal (M 163840 512) .bf16) (qr : Vec Ideal (M 163840 64) .bf16) (k : Vec Ideal (M 5120 640) .bf16)
    (p : Fin 160) (r : Fin 1024) (d : Fin 512) : rowsOf (oK s q qr k) p (jx r d) = oo (keysOf k p) (fK s q qr k p r) d := by
  have e : ∀ (p' : Fin 160) (r' : Fin 1024), p' = p → r' = r → oo (keysOf k p') (fK s q qr k p' r') d = oo (keysOf k p) (fK s q qr k p r) d := by
    rintro _ _ rfl rfl; rfl
  exact e ⟨(1024 * p.val + r.val) / 1024, by omega⟩ ⟨(1024 * p.val + r.val) % 1024, by omega⟩ (Fin.ext (by show (1024 * p.val + r.val) / 1024 = p.val; omega))
    (Fin.ext (by show (1024 * p.val + r.val) % 1024 = r.val; omega))

/-- The gradient by a lane of row `r` of step `p`. -/
def gK (s : IVec (M 160 128) 32) (q : Vec Ideal (M 163840 512) .bf16) (qr : Vec Ideal (M 163840 64) .bf16) (k : Vec Ideal (M 5120 640) .bf16) (o : Vec Ideal (M 163840 512) .bf16)
    (p : Fin 160) (r : Fin 1024) (l : Fin 640) : EReal := dqv (keysOf k p) (fK s q qr k p r) (gv (keysOf k p) (rowsOf o p) r) l

/-- The third result. -/
def nK (s : IVec (M 160 128) 32) (q : Vec Ideal (M 163840 512) .bf16) (qr : Vec Ideal (M 163840 64) .bf16) (k : Vec Ideal (M 5120 640) .bf16) (o : Vec Ideal (M 163840 512) .bf16) :
    Vec Ideal (M 163840 512) .f32 := fun i =>
  gK s q qr k o ⟨(i 0).val / 1024, by have : (i 0).val < 163840 := (i 0).isLt; omega⟩ ⟨(i 0).val % 1024, Nat.mod_lt _ (by decide)⟩ ⟨(i 1).val, by have : (i 1).val < 512 := (i 1).isLt; omega⟩

/-- The fourth result. -/
def rK (s : IVec (M 160 128) 32) (q : Vec Ideal (M 163840 512) .bf16) (qr : Vec Ideal (M 163840 64) .bf16) (k : Vec Ideal (M 5120 640) .bf16) (o : Vec Ideal (M 163840 512) .bf16) :
    Vec Ideal (M 163840 64) .f32 := fun i =>
  gK s q qr k o ⟨(i 0).val / 1024, by have : (i 0).val < 163840 := (i 0).isLt; omega⟩ ⟨(i 0).val % 1024, Nat.mod_lt _ (by decide)⟩ ⟨512 + (i 1).val, by have : (i 1).val < 64 := (i 1).isLt; omega⟩

/-- The seventh result. -/
def cK (q : Vec Ideal (M 163840 512) .bf16) : Vec Ideal (M 163840 512) .fp8e4m3 := fun i =>
  T11 Eq.consts (rowsOf q ⟨(i 0).val / 1024, by have : (i 0).val < 163840 := (i 0).isLt; omega⟩) (jx (⟨(i 0).val % 1024, Nat.mod_lt _ (by decide)⟩ : Fin 1024) (i 1 : Fin 512))

theorem row_ix {α : Type} (f : Fin 160 → Fin 1024 → α) (p : Fin 160) (r : Fin 1024) :
    f ⟨(1024 * p.val + r.val) / 1024, by omega⟩ ⟨(1024 * p.val + r.val) % 1024, by omega⟩ = f p r :=
  congrArg₂ f (Fin.ext (by show (1024 * p.val + r.val) / 1024 = p.val; omega)) (Fin.ext (by show (1024 * p.val + r.val) % 1024 = r.val; omega))

theorem rows_nK (s : IVec (M 160 128) 32) (q : Vec Ideal (M 163840 512) .bf16) (qr : Vec Ideal (M 163840 64) .bf16) (k : Vec Ideal (M 5120 640) .bf16) (o : Vec Ideal (M 163840 512) .bf16)
    (p : Fin 160) (r : Fin 1024) (d : Fin 512) : rowsOf (nK s q qr k o) p (jx r d) = gK s q qr k o p r ⟨d.val, lt_kv d⟩ :=
  row_ix (fun p r => gK s q qr k o p r ⟨d.val, lt_kv d⟩) p r

theorem rows_rK (s : IVec (M 160 128) 32) (q : Vec Ideal (M 163840 512) .bf16) (qr : Vec Ideal (M 163840 64) .bf16) (k : Vec Ideal (M 5120 640) .bf16) (o : Vec Ideal (M 163840 512) .bf16)
    (p : Fin 160) (r : Fin 1024) (d : Fin 64) : rowsOf (rK s q qr k o) p (jx r d) = gK s q qr k o p r ⟨512 + d.val, lt_e1 d⟩ :=
  row_ix (fun p r => gK s q qr k o p r ⟨512 + d.val, lt_e1 d⟩) p r

theorem rows_cK (q : Vec Ideal (M 163840 512) .bf16) (p : Fin 160) (r : Fin 1024) (d : Fin 512) : rowsOf (cK q) p (jx r d) = T11 Eq.consts (rowsOf q p) (jx r d) :=
  row_ix (fun p r => T11 Eq.consts (rowsOf q p) (jx r d)) p r

/-- A block whose quarters are a result's rows is a block of the result. -/
theorem block_rows {n : Nat} (x : Vec Ideal (M 1024 n) .bf16) (R : Vec Ideal (M 163840 n) .bf16) (p : Fin 160)
    (h : ∀ (u : Fin 4) (j : Fin 256) (d : Fin n), x (jx (⟨256 * u.val + j.val, lt_row u j⟩ : Fin 1024) d) = rowsOf R p (jx (⟨256 * u.val + j.val, lt_row u j⟩ : Fin 1024) d)) : x = rowsOf R p := by
  funext y
  have hy : (y 0).val < 1024 := (y 0).isLt
  have h' := h ⟨(y 0).val / 256, by omega⟩ ⟨(y 0).val % 256, Nat.mod_lt _ (by decide)⟩ (y 1)
  have er : (⟨256 * ((y 0).val / 256) + (y 0).val % 256, by omega⟩ : Fin 1024) = y 0 := Fin.ext (Nat.div_add_mod _ _)
  have ey : (jx (⟨256 * ((y 0).val / 256) + (y 0).val % 256, by omega⟩ : Fin 1024) (y 1 : Fin n) : (M 1024 n).Idx) = y := by
    rw [er]; exact (ValueIdx.eq_ix2 y).symm
  exact (congrArg x ey.symm).trans (h'.trans (congrArg (rowsOf R p) ey))

variable (m : (ℓ : Loc nD τ sig) → Buf (Elt Ideal) ℓ) (ρ : Dev nD → PrngReg)

/-- The step of a point of the grid. -/
def stepOf (t : Fin (cfgA m).N) : Fin 160 := ⟨t.val, by have := t.isLt; have h : (cfgA m).N = 160 := N_0; omega⟩

abbrev OK (c : Dev nD) : Vec Ideal (M 163840 512) .bf16 := oK (V m c main_arg1) (V m c main_arg2) (V m c main_arg3) (V m c main_arg5)
abbrev LK (c : Dev nD) : Vec Ideal ⟨3, ![160, 4, 256]⟩ .f32 := lK (V m c main_arg1) (V m c main_arg2) (V m c main_arg3) (V m c main_arg5)

abbrev NK (c : Dev nD) : Vec Ideal (M 163840 512) .f32 := nK (V m c main_arg1) (V m c main_arg2) (V m c main_arg3) (V m c main_arg5) (V m c main_arg4)
abbrev RK (c : Dev nD) : Vec Ideal (M 163840 64) .f32 := rK (V m c main_arg1) (V m c main_arg2) (V m c main_arg3) (V m c main_arg5) (V m c main_arg4)
abbrev CK (c : Dev nD) : Vec Ideal (M 163840 512) .fp8e4m3 := cK (V m c main_arg2)

/-- What a step leaves in the first result's block. -/
def RO (c : Dev nD) (t : Fin (cfgA m).N) (x : Vec Ideal (M 1024 512) .bf16) : Prop := x = rowsOf (OK m c) (stepOf m t)

/-- What a step leaves in the second result's block. -/
def RL (c : Dev nD) (t : Fin (cfgA m).N) (x : Vec Ideal ⟨3, ![1, 4, 256]⟩ .f32) : Prop := ∀ u j, x (jx3 (0 : Fin 1) u j) = LK m c (jx3 (stepOf m t) u j)

/-- What a step leaves in the five blocks. -/
def RA : Rs m := ⟨RO m, RL m, fun c t x => x = rowsOf (NK m c) (stepOf m t), fun c t x => x = rowsOf (RK m c) (stepOf m t), fun c t x => x = rowsOf (CK m c) (stepOf m t)⟩

theorem idx0 (t : Fin (cfgA m).N) : ((cfgA m).win (0 : Fin 12)).index t = ![0, 0] := rfl
theorem small (t : Fin (cfgA m).N) : (BitVec.ofNat 32 (grid0.coords t 0).val).toNat = (stepOf m t).val := by
  rw [coord_val m t, BitVec.toNat_ofNat, Nat.mod_eq_of_lt (by have := (stepOf m t).isLt; show t.val < _; have : (stepOf m t).val = t.val := rfl; omega)]; rfl
theorem idx1 (t : Fin (cfgA m).N) : ((cfgA m).win (1 : Fin 12)).index t = ![(stepOf m t).val, 0] := congrArg (fun x => ![x, 0]) (small m t)
theorem idx2 (t : Fin (cfgA m).N) : ((cfgA m).win (2 : Fin 12)).index t = ![(stepOf m t).val, 0] := congrArg (fun x => ![x, 0]) (small m t)
theorem idx5 (t : Fin (cfgA m).N) : ((cfgA m).win (5 : Fin 12)).index t = ![(stepOf m t).val, 0] := congrArg (fun x => ![x, 0]) (small m t)
theorem idx3 (t : Fin (cfgA m).N) : ((cfgA m).win (3 : Fin 12)).index t = ![(stepOf m t).val, 0] := congrArg (fun x => ![x, 0]) (small m t)
theorem idx7 (t : Fin (cfgA m).N) : ((cfgA m).win (7 : Fin 12)).index t = ![(stepOf m t).val, 0] := congrArg (fun x => ![x, 0]) (small m t)
theorem idx8 (t : Fin (cfgA m).N) : ((cfgA m).win (8 : Fin 12)).index t = ![(stepOf m t).val, 0] := congrArg (fun x => ![x, 0]) (small m t)
theorem idx9 (t : Fin (cfgA m).N) : ((cfgA m).win (9 : Fin 12)).index t = ![(stepOf m t).val, 0] := congrArg (fun x => ![x, 0]) (small m t)
theorem idx6 (t : Fin (cfgA m).N) : ((cfgA m).win (6 : Fin 12)).index t = ![(stepOf m t).val, 0, 0] := congrArg (fun x => ![x, 0, 0]) (small m t)
theorem idx4' : ∀ i : grid0.Coords, cc0_transform_4 i = ![(i 0).val / 80, 0] := by
  have h : ∀ x : Fin 160, cc0_transform_4 (fun | 0 => x) = ![x.val / 80, 0] := by decide +kernel
  intro i
  have e : i = fun | 0 => (i 0 : Fin 160) := funext fun a => by fin_cases a; rfl
  exact (congrArg cc0_transform_4 e).trans (h (i 0))
theorem idx4 (t : Fin (cfgA m).N) : ((cfgA m).win (4 : Fin 12)).index t = ![(stepOf m t).val / 80, 0] := by
  refine (idx4' (grid0.coords t)).trans ?_
  rw [coord_val m t]; rfl

/-- What the fetches bring: the rows and keys of the step. -/
theorem fetched1 (c : Dev nD) (t : Fin (cfgA m).N) (d) : fetched m c (1 : Fin 12) t d = rowsOf (V m c main_arg2) (stepOf m t) := by
  funext y
  refine (Pipeline.Window.fill_xinj ((cfgA m).win (1 : Fin 12)) ((cfgA m).grid.coords t) d _ y).trans ?_
  refine congrArg (V m c main_arg2) (funext fun a => Fin.ext ?_)
  refine (Pipeline.Window.rect_emb_val ((cfgA m).win (1 : Fin 12)) t y a).trans ?_
  rw [idx1]
  fin_cases a
  · exact congrArg (· + (y 0).val) (Nat.mul_comm _ _)
  · exact Nat.zero_add _
theorem fetched2 (c : Dev nD) (t : Fin (cfgA m).N) (d) : fetched m c (2 : Fin 12) t d = rowsOf (V m c main_arg3) (stepOf m t) := by
  funext y
  refine (Pipeline.Window.fill_xinj ((cfgA m).win (2 : Fin 12)) ((cfgA m).grid.coords t) d _ y).trans ?_
  refine congrArg (V m c main_arg3) (funext fun a => Fin.ext ?_)
  refine (Pipeline.Window.rect_emb_val ((cfgA m).win (2 : Fin 12)) t y a).trans ?_
  rw [idx2]
  fin_cases a
  · exact congrArg (· + (y 0).val) (Nat.mul_comm _ _)
  · exact Nat.zero_add _
theorem fetched3 (c : Dev nD) (t : Fin (cfgA m).N) (d) : fetched m c (3 : Fin 12) t d = rowsOf (V m c main_arg4) (stepOf m t) := by
  funext y
  refine (Pipeline.Window.fill_xinj ((cfgA m).win (3 : Fin 12)) ((cfgA m).grid.coords t) d _ y).trans ?_
  refine congrArg (V m c main_arg4) (funext fun a => Fin.ext ?_)
  refine (Pipeline.Window.rect_emb_val ((cfgA m).win (3 : Fin 12)) t y a).trans ?_
  rw [idx3]
  fin_cases a
  · exact congrArg (· + (y 0).val) (Nat.mul_comm _ _)
  · exact Nat.zero_add _
theorem fetched4 (c : Dev nD) (t : Fin (cfgA m).N) (d) : fetched m c (4 : Fin 12) t d = keysOf (V m c main_arg5) (stepOf m t) := by
  funext y
  refine (Pipeline.Window.fill_xinj ((cfgA m).win (4 : Fin 12)) ((cfgA m).grid.coords t) d _ y).trans ?_
  refine congrArg (V m c main_arg5) (funext fun a => Fin.ext ?_)
  refine (Pipeline.Window.rect_emb_val ((cfgA m).win (4 : Fin 12)) t y a).trans ?_
  rw [idx4]
  fin_cases a
  · exact congrArg (· + (y 0).val) (Nat.mul_comm _ _)
  · exact Nat.zero_add _
theorem fetched0 (c : Dev nD) (t : Fin (cfgA m).N) (d) : fetched m c (0 : Fin 12) t d = V m c main_arg1 := by
  funext y
  refine (Pipeline.Window.fill_xinj ((cfgA m).win (0 : Fin 12)) ((cfgA m).grid.coords t) d _ y).trans ?_
  refine congrArg (V m c main_arg1) (funext fun a => Fin.ext ?_)
  refine (Pipeline.Window.rect_emb_val ((cfgA m).win (0 : Fin 12)) t y a).trans ?_
  rw [idx0]
  fin_cases a
  · exact Nat.zero_add _
  · exact Nat.zero_add _

/-- The body does its work at every point: what it leaves is the blocks of the results. -/
theorem works_val (hT : ∀ (c : Dev nD) (p : Fin 160), Tab (tab m c) (V m c main_arg1) p) : Works m (RA m) := by
  intro c t s hs
  have hp : grid0.coords t 0 = stepOf m t := Fin.ext (coord_val m t)
  have T := hT c (stepOf m t)
  have hst := T.step
  obtain ⟨d2, e2⟩ := hs.h2; obtain ⟨d3, e3⟩ := hs.h3; obtain ⟨d4, e4⟩ := hs.h4; obtain ⟨d5, e5⟩ := hs.h5; obtain ⟨d6, e6⟩ := hs.h6
  rw [fetched0] at e2; rw [fetched1] at e3; rw [fetched2] at e4; rw [fetched3] at e5; rw [fetched4] at e6
  have hst' : Step (BitVec.ofNat 32 (grid0.coords t 0).val) (tab m c (jx1 (stepOf m t))) ((stepOf m t).val % 80) (tab m c (jx1 (stepOf m t))).toInt.toNat := by
    rw [coord_val m t]; exact hst
  have h1 := T.eq; have h2 := T.pos; have h3 := T.first
  refine Tr.mono (tr_value (stepOf m t) Eq.consts mask_bot (Eq.offs (grid0.coords t)) s hs.hot hst' ?_ (by omega) ?_ ?_ fun _ => Eq.chk_of _ _ _ _ _ hst') fun _ s' k => ?_
  · have := oat (grid0.coords t) hst'
    rw [coord_val m t] at this; exact this
  · intro l
    have := T.le l
    rw [e2]
    have h5 : (V m c main_arg1 (jx (stepOf m t) (0 : Fin 128))).toInt = (32 * ((stepOf m t).val % 80 : Nat) + 32 - (tab m c (jx1 (stepOf m t))).toInt : Int) := by omega
    refine le_trans (le_of_eq ?_) this
    rw [h5]; omega
  · rw [need_at, hs.h1, hp]
  · obtain ⟨ks, hg⟩ := k
    refine ⟨ks.toKI, ?_, ?_, ?_, ?_, ?_, ?_⟩
    · refine block_rows _ _ _ fun u j d => ((hg u).o j d).trans ?_
      rw [e2, e3, e4, e6]
      exact (rows_oK _ _ _ _ (stepOf m t) _ d).symm
    · intro u j
      refine ((hg u).l j).trans ?_
      rw [e2, e3, e4, e6]; rfl
    · refine block_rows _ _ _ fun u j d => ((hg u).n j d).trans ?_
      rw [e2, e3, e4, e5, e6]
      exact (rows_nK _ _ _ _ _ (stepOf m t) _ d).symm
    · refine block_rows _ _ _ fun u j d => ((hg u).r j d).trans ?_
      rw [e2, e3, e4, e5, e6]
      exact (rows_rK _ _ _ _ _ (stepOf m t) _ d).symm
    · refine block_rows _ _ _ fun u j d => ?_
      rw [ks.t11, e3]
      exact (rows_cK _ (stepOf m t) _ d).symm
    · rw [ks.t14]; exact T14_hot _ _ _

/-- Some memory, to state what does not depend on it. -/
def m₀ : (ℓ : Loc nD τ sig) → Buf (Elt Ideal) ℓ := fun _ _ => Classical.arbitrary _

/-- The blocks written back cover the arrays. -/
theorem cov5 : ((cfgA m₀).win (5 : Fin 12)).Covers := by decide +kernel
theorem cov6 : ((cfgA m₀).win (6 : Fin 12)).Covers := by decide +kernel
theorem cov7 : ((cfgA m₀).win (7 : Fin 12)).Covers := by decide +kernel
theorem cov8 : ((cfgA m₀).win (8 : Fin 12)).Covers := by decide +kernel
theorem cov9 : ((cfgA m₀).win (9 : Fin 12)).Covers := by decide +kernel

/-- The program runs to the results. -/
theorem run_val (hT : ∀ (c : Dev nD) (p : Fin 160), Tab (tab m c) (V m c main_arg1) p) :
    θ_run defs (onTc (τ := τ) (main (F := Ideal))) (s₀ m ρ) (fun r => ∀ c : Dev nD,
      r.2.mem ((c.tc : Thread nD τ).loc main_v0_0) = OK m c ∧ r.2.mem ((c.tc : Thread nD τ).loc main_v0_1) = LK m c
      ∧ r.2.mem ((c.tc : Thread nD τ).loc main_v0_2) = NK m c ∧ r.2.mem ((c.tc : Thread nD τ).loc main_v0_3) = RK m c ∧ r.2.mem ((c.tc : Thread nD τ).loc main_v0_4) = CK m c
      ∧ RDat.FramePost (cfgA m) (rdat m (RA m)) (V m) r) := by
  refine (θ_run defs _ _).mono (fun r h c => ?_) (run m ρ _ (works_val m hT))
  obtain ⟨after, ha, hmem⟩ := RDat.FramePost.exists_exact h.1 c
  refine ⟨(hmem (5 : Fin 12)).trans ?_, (hmem (6 : Fin 12)).trans ?_, (hmem (7 : Fin 12)).trans ?_, (hmem (8 : Fin 12)).trans ?_, (hmem (9 : Fin 12)).trans ?_, h.1⟩
  · refine ((rdat m (RA m) c).withAfter after).arrAt_eq_of_covers (5 : Fin 12) (OK m c) cov5 fun t hf y => ?_
    obtain ⟨Y, -, hY⟩ := ha (5 : Fin 12) t hf
    have e : after (5 : Fin 12) t = rowsOf (OK m c) (stepOf m t) := hY.2.1 _ rfl HEq.rfl
    refine (congrFun e y).trans ?_
    refine congrArg (OK m c) (funext fun a => Fin.ext ?_)
    refine Eq.trans ?_ (Pipeline.Window.rect_emb_val ((cfgA m).win (5 : Fin 12)) t y a).symm
    rw [idx5]
    fin_cases a
    · exact congrArg (· + (y 0).val) (Nat.mul_comm _ _)
    · exact (Nat.zero_add _).symm
  · refine ((rdat m (RA m) c).withAfter after).arrAt_eq_of_covers (6 : Fin 12) (LK m c) cov6 fun t hf y => ?_
    obtain ⟨Y, -, hY⟩ := ha (6 : Fin 12) t hf
    have e : RL m c t (after (6 : Fin 12) t) := hY.2.2.1 _ rfl HEq.rfl
    have hy0 : (y 0).val = 0 := by have : (y 0).val < 1 := (y 0).isLt; omega
    have ey : (jx3 (0 : Fin 1) (y 1 : Fin 4) (y 2 : Fin 256) : (⟨3, ![1, 4, 256]⟩ : Shape).Idx) = y := by
      refine funext fun a => Fin.ext ?_
      fin_cases a
      · exact hy0.symm
      · rfl
      · rfl
    refine (congrArg (after (6 : Fin 12) t) ey.symm).trans ((e (y 1) (y 2)).trans ?_)
    refine congrArg (LK m c) (funext fun a => Fin.ext ?_)
    refine Eq.trans ?_ (Pipeline.Window.rect_emb_val ((cfgA m).win (6 : Fin 12)) t y a).symm
    rw [idx6]
    fin_cases a
    · show (stepOf m t).val = (stepOf m t).val * 1 + (y 0).val; omega
    · exact (Nat.zero_add _).symm
    · exact (Nat.zero_add _).symm
  · refine ((rdat m (RA m) c).withAfter after).arrAt_eq_of_covers (7 : Fin 12) (NK m c) cov7 fun t hf y => ?_
    obtain ⟨Y, -, hY⟩ := ha (7 : Fin 12) t hf
    have e : after (7 : Fin 12) t = rowsOf (NK m c) (stepOf m t) := hY.2.2.2.1 _ rfl HEq.rfl
    refine (congrFun e y).trans ?_
    refine congrArg (NK m c) (funext fun a => Fin.ext ?_)
    refine Eq.trans ?_ (Pipeline.Window.rect_emb_val ((cfgA m).win (7 : Fin 12)) t y a).symm
    rw [idx7]
    fin_cases a
    · exact congrArg (· + (y 0).val) (Nat.mul_comm _ _)
    · exact (Nat.zero_add _).symm
  · refine ((rdat m (RA m) c).withAfter after).arrAt_eq_of_covers (8 : Fin 12) (RK m c) cov8 fun t hf y => ?_
    obtain ⟨Y, -, hY⟩ := ha (8 : Fin 12) t hf
    have e : after (8 : Fin 12) t = rowsOf (RK m c) (stepOf m t) := hY.2.2.2.2.1 _ rfl HEq.rfl
    refine (congrFun e y).trans ?_
    refine congrArg (RK m c) (funext fun a => Fin.ext ?_)
    refine Eq.trans ?_ (Pipeline.Window.rect_emb_val ((cfgA m).win (8 : Fin 12)) t y a).symm
    rw [idx8]
    fin_cases a
    · exact congrArg (· + (y 0).val) (Nat.mul_comm _ _)
    · exact (Nat.zero_add _).symm
  · refine ((rdat m (RA m) c).withAfter after).arrAt_eq_of_covers (9 : Fin 12) (CK m c) cov9 fun t hf y => ?_
    obtain ⟨Y, -, hY⟩ := ha (9 : Fin 12) t hf
    have e : after (9 : Fin 12) t = rowsOf (CK m c) (stepOf m t) := hY.2.2.2.2.2 _ rfl HEq.rfl
    refine (congrFun e y).trans ?_
    refine congrArg (CK m c) (funext fun a => Fin.ext ?_)
    refine Eq.trans ?_ (Pipeline.Window.rect_emb_val ((cfgA m).win (9 : Fin 12)) t y a).symm
    rw [idx9]
    fin_cases a
    · exact congrArg (· + (y 0).val) (Nat.mul_comm _ _)
    · exact (Nat.zero_add _).symm

end Cert.KernelIdeal.Run
end
-- ==== Proof.RMath.lean ====
module

public import proofs.«01_k».proof.Proof.VIdeal

@[expose] public section

/-! Facts about the extended reals that join the kernel's way of writing the attention to the reference's: the quantiser of a row, the exponential in base two, the greatest score. -/

noncomputable section

namespace Attn
open Idealize.ShloMosaic Idealize.SL.Sem
open scoped BigOperators
local notation "jx" => Idealize.ShloMosaic.ValueIdx.ix2
local notation "jx1" => Idealize.ShloMosaic.ValueIdx.ix1

/-! ### Constants -/

/-- The reciprocal of the largest fp8 value. -/
def cQ : EReal := Ideal.ofBits .f32 0x3B124925#32

theorem cQ_pos : ∃ c : ℝ, 0 < c ∧ cQ = (c : EReal) := by
  refine ⟨_, ?_, by unfold cQ; simp [Ideal.ofBits, Ideal.ieee]; rfl⟩
  norm_num

theorem bits_bot : Ideal.ofBits .f32 0xFF800000#32 = (⊥ : EReal) := by
  simp [Ideal.ofBits, Ideal.ieee]

theorem bits_one : Ideal.ofBits .f32 0x3F800000#32 = (1 : EReal) := Ideal.ofBits_one_f32
theorem bits_neg : Ideal.ofBits .f32 0xBF800000#32 = (-1 : EReal) := by
  rw [show (-1 : EReal) = ((-1 : ℝ) : EReal) from by rw [EReal.coe_neg]; rfl]
  simp [Ideal.ofBits, Ideal.ieee, -EReal.coe_mul]; norm_num

theorem bits_two : Ideal.ofBits .f32 0x40000000#32 = ((2 : ℝ) : EReal) := by
  simp [Ideal.ofBits, Ideal.ieee, -EReal.coe_mul]
  norm_num

/-- The natural logarithm of two. -/
theorem log_two : Ideal.log (Ideal.ofBits .f32 0x40000000#32) = ((Real.log 2 : ℝ) : EReal) := by
  rw [bits_two]
  show (if (2 : ℝ) ≤ 0 then ⊥ else ((Real.log 2 : ℝ) : EReal)) = _
  rw [if_neg (by norm_num)]

/-! ### The exponential in base two -/

theorem log2_pos : (0 : ℝ) < Real.log 2 := Real.log_pos (by norm_num)

/-- The exponential of a multiple of the logarithm of two. -/
theorem exp_log_two (x : EReal) : Ideal.exp (x * ((Real.log 2 : ℝ) : EReal)) = Ideal.exp2 x := by
  induction x using EReal.rec with
  | bot => rw [EReal.bot_mul_coe_of_pos log2_pos]; rfl
  | top => rw [EReal.top_mul_coe_of_pos log2_pos]; rfl
  | coe r =>
    rw [← EReal.coe_mul]
    show ((Real.exp (r * Real.log 2) : ℝ) : EReal) = ((Real.rpow 2 r : ℝ) : EReal)
    congr 1
    rw [mul_comm]
    exact (Real.rpow_def_of_pos (by norm_num) r).symm

/-- Dividing by the logarithm of two. -/
theorem div_log_two (x : EReal) : Ideal.div x ((Real.log 2 : ℝ) : EReal) = x * (((Real.log 2)⁻¹ : ℝ) : EReal) := by
  unfold Ideal.div
  rw [if_neg (by intro h; exact log2_pos.ne' (EReal.coe_eq_zero.1 h)), EReal.coe_inv]

/-! ### The greatest score -/

/-- The greatest of the multiples is the multiple of the greatest. -/
theorem sup_cF (f : Fin 2560 → EReal) : (Finset.univ.sup fun s => f s * cF) = mx f * cF := by
  have hm : Monotone fun x : EReal => x * cF := fun a b h => by
    obtain ⟨r, hr, e⟩ := cF_pos
    exact mul_le_mul_of_nonneg_right h (by rw [e]; exact_mod_cast hr.le)
  exact (Finset.comp_sup_eq_sup_comp (s := Finset.univ) (f := f) (fun x : EReal => x * cF) (fun a b => hm.map_sup a b) bot_cF).symm

/-! ### The quantiser -/

/-- The greatest magnitude of a row. -/
def am (g : Fin 128 → EReal) : EReal := Finset.univ.sup fun l => max (g l) (-(g l))

/-- A row's exponent plus one. -/
def ex (lg a : EReal) : EReal := if a = 0 then 0 else Ideal.liftRound Int.floor (Ideal.log (a * cQ) * lg) + 1

/-- A quantised value, multiplied out again: `a` is the row's greatest magnitude. -/
def qs (lg a x : EReal) : EReal :=
  min (Ideal.ofBits .f32 0x43E00000#32) (max (Ideal.ofBits .f32 0xC3E00000#32) (x * Ideal.exp2 (0 - ex lg a))) * Ideal.exp2 (ex lg a)

/-- The kernel's exponent. -/
def exK (lg a : EReal) : EReal := if a * cQ = 0 then -1 else Ideal.liftRound Int.floor (Ideal.log (a * cQ) * lg)

theorem cQ_zero (a : EReal) : a * cQ = 0 ↔ a = 0 := by
  obtain ⟨r, hr, e⟩ := cQ_pos
  rw [e, mul_eq_zero]
  exact ⟨fun h => h.resolve_right fun h => hr.ne' (EReal.coe_eq_zero.1 h), Or.inl⟩

theorem exK_add (lg a : EReal) : exK lg a + 1 = ex lg a := by
  unfold exK ex
  by_cases h : a = 0
  · rw [if_pos ((cQ_zero a).2 h), if_pos h]
    show ((-1 : ℝ) : EReal) + ((1 : ℝ) : EReal) = ((0 : ℝ) : EReal)
    rw [← EReal.coe_add]; norm_num
  · rw [if_neg (mt (cQ_zero a).1 h), if_neg h]

theorem neg_add_one (f : EReal) : (-1 : EReal) - f = 0 - (f + 1) := by
  induction f using EReal.rec with
  | bot => rfl
  | top => rfl
  | coe r =>
    show ((-1 : ℝ) : EReal) - ((r : ℝ) : EReal) = ((0 : ℝ) : EReal) - (((r : ℝ) : EReal) + ((1 : ℝ) : EReal))
    rw [← EReal.coe_add, ← EReal.coe_sub, ← EReal.coe_sub]
    congr 1; ring

theorem exK_sub (lg a : EReal) : (-1 : EReal) - exK lg a = 0 - ex lg a := by
  rw [← exK_add, neg_add_one]

/-- A comparison with zero, over the extended reals. -/
theorem sel_zero (a x y : EReal) : (Scalar.select (FloatOps.cmpf (F := Ideal) (φ := .f32) .oeq a (Ideal.ofBits .f32 0x00000000#32)) x y : EReal) = if a = 0 then x else y := by
  rw [Ideal.ofBits_zero_f32]
  show Scalar.select (Ideal.cmp .oeq a 0) x y = _
  by_cases h : a = 0
  · subst h; rw [if_pos rfl]; simp [Scalar.select, Ideal.cmp]
  · rw [if_neg h]; simp [Scalar.select, Ideal.cmp, h]

/-! ### Columns, rows and their greatest magnitude -/

theorem bcCol {α : Type} {n w : Nat} (hn : n ≠ 1) (x : (M n 1).Idx → α) (h : (M n 1).Broadcasts (M n w)) (y : Fin n) (j : Fin w) :
    broadcastTo (M n w) x h (jx y j) = x (jx y (0 : Fin 1)) := by
  refine broadcastTo_apply x h _ _ ?_
  intro a
  match a with
  | ⟨0, _⟩ => exact (if_neg hn).symm
  | ⟨1, _⟩ => rfl

theorem col1 {α : Type} {n : Nat} (x : (⟨1, ![n]⟩ : Shape).Idx → α) (h : Shape.ShapeCasts ⟨1, ![n]⟩ (M n 1)) (j : Fin n) :
    shapeCast (M n 1) x h (jx j (0 : Fin 1)) = x (jx1 j) := by
  refine shapeCast_apply x h _ _ ?_
  rw [Shape.rowMajor_val_two, Shape.rowMajor_val_one]
  show j.val = j.val * 1 + 0
  omega

theorem lift1 {n w : Nat} (h : (M n w).Reduces [1] ⟨1, ![n]⟩) (j : Fin n) (k : Fin w) : h.lift (jx1 j) k = jx j k := by
  funext a
  apply Fin.ext
  match a with
  | ⟨0, _⟩ => rfl
  | ⟨1, _⟩ => rfl

/-- The greatest magnitude of each row, at an index. -/
theorem rowMax {n : Nat} (x : FVec Ideal (M n 128) .f32) (h : (M n 128).Reduces [1] ⟨1, ![n]⟩) (hf : FKind.Formats .f32)
    (ha : (0xFF800000#32 : BitVec FTy.f32.bits) = FKind.maximumf.neutral .f32 hf) (j : Fin n) :
    multiReduction (F := Ideal) .maximumf [1] ⟨1, ![n]⟩ (absf x) 0xFF800000#32 h hf ha (jx1 j) = am fun l => x (jx j l) := by
  refine (Ideal.multiReduction_maximumf_single (absf x) _ h _ _ (jx1 j)).trans ?_
  have : (absf x ∘ h.lift (jx1 j)) = fun l : Fin 128 => max (x (jx j l)) (-(x (jx j l))) := funext fun l => congrArg (absf x) (lift1 h j l)
  rw [this]
  have hb : (FloatOps.ofBits .f32 0xFF800000#32 : Ideal .f32) = (⊥ : EReal) := bits_bot
  rw [hb]
  rfl

/-- The kernel's dequantised block at an index. -/
theorem qDeq_apply (C : Consts Ideal) (x : Vec Ideal (M 32 128) .bf16) (y : Fin 32) (l : Fin 128) :
    qDeq C x (jx y l) = qs C.lg (am fun k => x (jx y k)) (x (jx y l)) := by
  have hA : qAmax x (jx y (0 : Fin 1)) = am (fun k => x (jx y k)) * cQ := by
    unfold qAmax
    exact congrArg (· * cQ) ((col1 _ _ y).trans (rowMax _ _ _ _ y))
  have hE : qExp C x (jx y (0 : Fin 1)) = exK C.lg (am fun k => x (jx y k)) := by
    unfold qExp
    refine (sel_zero (qAmax x (jx y (0 : Fin 1))) (Ideal.ofBits .f32 0xBF800000#32) (Ideal.liftRound Int.floor (Ideal.log (qAmax x (jx y (0 : Fin 1))) * C.lg))).trans ?_
    rw [hA, bits_neg]; rfl
  unfold qDeq qCodes qScale
  show min _ (max _ (x (jx y l) * broadcastTo (M 32 128) _ _ (jx y l))) * broadcastTo (M 32 128) _ _ (jx y l) = _
  rw [bcCol (by decide), bcCol (by decide)]
  show min _ (max _ (x (jx y l) * Ideal.exp2 (Ideal.ofBits .f32 0xBF800000#32 - qExp C x (jx y (0 : Fin 1))))) * Ideal.exp2 (qExp C x (jx y (0 : Fin 1)) + Ideal.ofBits .f32 0x3F800000#32) = _
  rw [hE, bits_neg, bits_one, exK_add, exK_sub]
  rfl

/-! ### The rows a step reads -/

theorem T14_lo (C : Consts Ideal) (x3 : Vec Ideal (M 1024 512) .bf16) (x4 : Vec Ideal (M 1024 64) .bf16) (r : Fin 1024) (d : Fin 512) :
    T14 C x3 x4 (jx r (⟨d.val, by omega⟩ : Fin 768))
      = qs C.lg (am fun k => x3 (jx r (⟨128 * (d.val / 128) + k.val, by omega⟩ : Fin 512))) (x3 (jx r d)) := by
  have hw : ∀ k : Fin 128, qWin x3 (⟨r.val / 32, by omega⟩ : Fin 32) (⟨d.val / 128, by omega⟩ : Fin 4) (jx (⟨r.val % 32, by omega⟩ : Fin 32) k)
      = x3 (jx r (⟨128 * (d.val / 128) + k.val, by omega⟩ : Fin 512)) := fun k => by
    refine (window2 x3 _ (32 * (r.val / 32)) (128 * (d.val / 128)) rfl _ _ k (by omega) (by omega)).trans ?_
    exact congrArg x3 (congrArg₂ jx (Fin.ext (by show 32 * (r.val / 32) + r.val % 32 = r.val; omega)) rfl)
  unfold T14
  refine (dif_pos (show d.val < 512 from d.isLt)).trans ?_
  refine (qDeq_apply C _ (⟨r.val % 32, by omega⟩ : Fin 32) (⟨d.val % 128, by omega⟩ : Fin 128)).trans ?_
  refine congrArg₂ (qs C.lg) (congrArg am (funext fun k => hw k)) ((hw _).trans ?_)
  exact congrArg x3 (congrArg₂ jx rfl (Fin.ext (by show 128 * (d.val / 128) + d.val % 128 = d.val; omega)))

theorem T14_hi (C : Consts Ideal) (x3 : Vec Ideal (M 1024 512) .bf16) (x4 : Vec Ideal (M 1024 64) .bf16) (r : Fin 1024) (e : Fin 64) :
    T14 C x3 x4 (jx r (⟨512 + e.val, by omega⟩ : Fin 768)) = x4 (jx r e) := by
  unfold T14
  refine (dif_neg (show ¬ 512 + e.val < 512 by omega)).trans ?_
  refine (dif_pos (show 512 + e.val < 640 by omega)).trans ?_
  unfold qrPad
  refine (cat_lo x4 _ _ r (⟨512 + e.val - 512, by omega⟩ : Fin 128) (by show 512 + e.val - 512 < 64; omega)).trans ?_
  exact congrArg x4 (congrArg₂ jx rfl (Fin.ext (by show 512 + e.val - 512 = e.val; omega)))

/-- A quantised value: `a` is the row's greatest magnitude. -/
def qc (lg a x : EReal) : EReal := min (Ideal.ofBits .f32 0x43E00000#32) (max (Ideal.ofBits .f32 0xC3E00000#32) (x * Ideal.exp2 (0 - ex lg a)))

/-- The kernel's codes of a block at an index. -/
theorem qCodes_apply (C : Consts Ideal) (x : Vec Ideal (M 32 128) .bf16) (y : Fin 32) (l : Fin 128) :
    qCodes C x (jx y l) = qc C.lg (am fun k => x (jx y k)) (x (jx y l)) := by
  have hA : qAmax x (jx y (0 : Fin 1)) = am (fun k => x (jx y k)) * cQ := by
    unfold qAmax
    exact congrArg (· * cQ) ((col1 _ _ y).trans (rowMax _ _ _ _ y))
  have hE : qExp C x (jx y (0 : Fin 1)) = exK C.lg (am fun k => x (jx y k)) := by
    unfold qExp
    refine (sel_zero (qAmax x (jx y (0 : Fin 1))) (Ideal.ofBits .f32 0xBF800000#32) (Ideal.liftRound Int.floor (Ideal.log (qAmax x (jx y (0 : Fin 1))) * C.lg))).trans ?_
    rw [hA, bits_neg]; rfl
  unfold qCodes
  show min _ (max _ (x (jx y l) * broadcastTo (M 32 128) _ _ (jx y l))) = _
  rw [bcCol (by decide)]
  show min _ (max _ (x (jx y l) * Ideal.exp2 (Ideal.ofBits .f32 0xBF800000#32 - qExp C x (jx y (0 : Fin 1))))) = _
  rw [hE, bits_neg, exK_sub]
  rfl

/-- The codes of a step at an index. -/
theorem T11_apply (C : Consts Ideal) (x3 : Vec Ideal (M 1024 512) .bf16) (r : Fin 1024) (d : Fin 512) :
    T11 C x3 (jx r d) = qc C.lg (am fun k => x3 (jx r (⟨128 * (d.val / 128) + k.val, by omega⟩ : Fin 512))) (x3 (jx r d)) := by
  have hw : ∀ k : Fin 128, qWin x3 (⟨r.val / 32, by omega⟩ : Fin 32) (⟨d.val / 128, by omega⟩ : Fin 4) (jx (⟨r.val % 32, by omega⟩ : Fin 32) k)
      = x3 (jx r (⟨128 * (d.val / 128) + k.val, by omega⟩ : Fin 512)) := fun k => by
    refine (window2 x3 _ (32 * (r.val / 32)) (128 * (d.val / 128)) rfl _ _ k (by omega) (by omega)).trans ?_
    exact congrArg x3 (congrArg₂ jx (Fin.ext (by show 32 * (r.val / 32) + r.val % 32 = r.val; omega)) rfl)
  unfold T11
  refine (qCodes_apply C _ (⟨r.val % 32, by omega⟩ : Fin 32) (⟨d.val % 128, by omega⟩ : Fin 128)).trans ?_
  refine congrArg₂ (qc C.lg) (congrArg am (funext fun k => hw k)) ((hw _).trans ?_)
  exact congrArg x3 (congrArg₂ jx rfl (Fin.ext (by show 128 * (d.val / 128) + d.val % 128 = d.val; omega)))

end Attn

end
-- ==== Proof.RReg.lean ====
module

public import proofs.«01_k».proof.Proof.RMath
public import proofs.«01_k».proof.Proof.Gen.ReferenceIdeal.Run

@[expose] public section

/-! The reference's quantiser: what its call leaves in its array, at an index. -/

noncomputable section

namespace Cert.ReferenceIdeal.Value
open Cert.ReferenceIdeal Cert.ReferenceIdeal.Gen
open Idealize.ShloMosaic Idealize.ShloMosaic.TcCoe Idealize.SL Idealize.SL.Sem Attn
local notation "jx" => Idealize.ShloMosaic.ValueIdx.ix2
local notation "jx1" => Idealize.ShloMosaic.ValueIdx.ix1

section Rows
variable {n : Nat} (hn : n ≠ 1) (hr : (M n 128).Reduces [1] ⟨1, ![n]⟩) (hc : Shape.ShapeCasts ⟨1, ![n]⟩ (M n 1)) (hb : (M n 1).Broadcasts (M n 128))
  (lg : EReal) (x : FVec Ideal (M n 128) .bf16)

/-- The greatest magnitudes of the rows. -/
def rA : FVec Ideal (M n 1) .f32 :=
  shapeCast (M n 1) (multiReduction .maximumf [1] ⟨1, ![n]⟩ (absf (extf (φ := .bf16) .f32 x (by decide))) 0xFF800000#32 hr (.inl rfl) rfl) hc

/-- The exponents of the rows. -/
def rE : FVec Ideal (M n 1) .f32 :=
  select (cmpf .oeq (rA hr hc x) (broadcast (M n 1) (Scalar.ofBits .f32 0x00000000#32))) (broadcast (M n 1) (Scalar.ofBits .f32 0x00000000#32))
    (addf (floor (mulf (log (mulf (rA hr hc x) (broadcast (M n 1) (Scalar.ofBits .f32 0x3B124925#32)))) (broadcast (M n 1) (lg : Ideal .f32)))) (broadcast (M n 1) (Scalar.ofBits .f32 0x3F800000#32)))

/-- The rows quantised. -/
def rC : FVec Ideal (M n 128) .fp8e4m3 :=
  truncf (φ := .f32) .fp8e4m3 (minimumf (broadcast (M n 128) (Scalar.ofBits .f32 0x43E00000#32)) (maximumf (broadcast (M n 128) (Scalar.ofBits .f32 0xC3E00000#32))
    (mulf (extf (φ := .bf16) .f32 x (by decide)) (broadcastTo (M n 128) (exp2 (subf (broadcast (M n 1) (Scalar.ofBits .f32 0x00000000#32)) (rE hr hc lg x))) hb)))) (by decide)

/-- The rows quantised and multiplied out again. -/
def rD : FVec Ideal (M n 128) .bf16 :=
  mulf (extf (φ := .fp8e4m3) .bf16 (truncf (φ := .f32) .fp8e4m3 (minimumf (broadcast (M n 128) (Scalar.ofBits .f32 0x43E00000#32)) (maximumf (broadcast (M n 128) (Scalar.ofBits .f32 0xC3E00000#32))
    (mulf (extf (φ := .bf16) .f32 x (by decide)) (broadcastTo (M n 128) (exp2 (subf (broadcast (M n 1) (Scalar.ofBits .f32 0x00000000#32)) (rE hr hc lg x))) hb)))) (by decide)) (by decide))
    (broadcastTo (M n 128) (truncf (φ := .f32) .bf16 (exp2 (rE hr hc lg x)) (by decide)) hb)

theorem rA_apply (R : Fin n) : rA hr hc x (jx R (0 : Fin 1)) = am fun k => x (jx R k) :=
  (col1 _ _ R).trans (rowMax _ _ _ _ R)

theorem rE_apply (R : Fin n) : rE hr hc lg x (jx R (0 : Fin 1)) = ex lg (am fun k => x (jx R k)) := by
  refine (sel_zero (rA hr hc x (jx R (0 : Fin 1))) (Ideal.ofBits .f32 0x00000000#32)
    (Ideal.liftRound Int.floor (Ideal.log (rA hr hc x (jx R (0 : Fin 1)) * cQ) * lg) + Ideal.ofBits .f32 0x3F800000#32)).trans ?_
  rw [rA_apply, Ideal.ofBits_zero_f32, bits_one]; rfl

include hn in
/-- A quantised row, at a lane. -/
theorem rD_apply (R : Fin n) (l : Fin 128) : rD hr hc hb lg x (jx R l) = qs lg (am fun k => x (jx R k)) (x (jx R l)) := by
  have h22 := bcCol hn (exp2 (subf (broadcast (M n 1) (Scalar.ofBits .f32 0x00000000#32)) (rE hr hc lg x))) hb R l
  have h31 := bcCol hn (truncf (φ := .f32) .bf16 (exp2 (rE hr hc lg x)) (by decide : FTy.bits .bf16 < FTy.bits .f32)) hb R l
  have e22 : Ideal.exp2 (Ideal.ofBits .f32 0x00000000#32 - rE hr hc lg x (jx R (0 : Fin 1))) = Ideal.exp2 (0 - ex lg (am fun k => x (jx R k))) := by
    rw [rE_apply, Ideal.ofBits_zero_f32]
  exact congrArg₂ (fun a b : EReal => min (Ideal.ofBits .f32 0x43E00000#32) (max (Ideal.ofBits .f32 0xC3E00000#32) (x (jx R l) * a)) * b) (h22.trans e22) (h31.trans (congrArg Ideal.exp2 (rE_apply hr hc lg x R)))

include hn in
/-- The codes of a row, at a lane. -/
theorem rC_apply (R : Fin n) (l : Fin 128) : rC hr hc hb lg x (jx R l) = qc lg (am fun k => x (jx R k)) (x (jx R l)) := by
  have h22 := bcCol hn (exp2 (subf (broadcast (M n 1) (Scalar.ofBits .f32 0x00000000#32)) (rE hr hc lg x))) hb R l
  have e22 : Ideal.exp2 (Ideal.ofBits .f32 0x00000000#32 - rE hr hc lg x (jx R (0 : Fin 1))) = Ideal.exp2 (0 - ex lg (am fun k => x (jx R k))) := by
    rw [rE_apply, Ideal.ofBits_zero_f32]
  exact congrArg (fun a : EReal => min (Ideal.ofBits .f32 0x43E00000#32) (max (Ideal.ofBits .f32 0xC3E00000#32) (x (jx R l) * a))) (h22.trans e22)

end Rows

theorem pay1_eq (x : Vec Ideal S655360x128 .bf16) : k0_pay1 (F := Ideal) x = extf (φ := .bf16) .f32 x bitsLt_bf16_f32 := by
  unfold k0_pay1
  rw [shapeCast_self]

theorem pay2_eq (x : Vec Ideal S655360x128 .bf16) :
    k0_pay2 (F := Ideal) x = rE (n := 655360) reduces_S655360x128_S655360 shapeCasts_S655360_S655360x1 (Cert.KernelIdeal.Eq.consts (F := Ideal)).lg x := by
  unfold k0_pay2
  rw [pay1_eq]
  rfl

theorem pay3_eq (x : Vec Ideal S655360x128 .bf16) :
    k0_pay3 (F := Ideal) x = rC (n := 655360) reduces_S655360x128_S655360 shapeCasts_S655360_S655360x1 broadcasts_S655360x1_S655360x128 (Cert.KernelIdeal.Eq.consts (F := Ideal)).lg x := by
  unfold k0_pay3
  rw [pay2_eq, pay1_eq]
  rfl

theorem pay_eq (x : Vec Ideal S655360x128 .bf16) :
    k0_pay5 (F := Ideal) x = rD (n := 655360) reduces_S655360x128_S655360 shapeCasts_S655360_S655360x1 broadcasts_S655360x1_S655360x128 (Cert.KernelIdeal.Eq.consts (F := Ideal)).lg x := by
  unfold k0_pay5
  rw [pay3_eq, pay2_eq]
  rfl

/-- What the call computes of a row, at a lane. -/
theorem pay_apply (x : Vec Ideal S655360x128 .bf16) (R : Fin 655360) (l : Fin 128) :
    k0_pay5 (F := Ideal) x (jx R l) = qs (Cert.KernelIdeal.Eq.consts (F := Ideal)).lg (am fun k => x (jx R k)) (x (jx R l)) :=
  (congrFun (pay_eq x) (jx R l)).trans (rD_apply (n := 655360) (by omega) _ _ _ _ x R l)

/-- The codes of a row, at a lane. -/
theorem code_apply (x : Vec Ideal S655360x128 .bf16) (R : Fin 655360) (l : Fin 128) :
    k0_pay3 (F := Ideal) x (jx R l) = qc (Cert.KernelIdeal.Eq.consts (F := Ideal)).lg (am fun k => x (jx R k)) (x (jx R l)) :=
  (congrFun (pay3_eq x) (jx R l)).trans (rC_apply (n := 655360) (by omega) _ _ _ _ x R l)

variable (m : (ℓ : Loc nD τ sig) → Buf (Elt Ideal) ℓ)

/-- The one block of either result of the call covers its array. -/
theorem cov1 : (cfg0.win 1).Covers := by decide +kernel
theorem cov2 : (cfg0.win 2).Covers := by decide +kernel

/-- The call's argument: the queries, 128 lanes to a row. -/
theorem arr_v0 (c : Dev nD) : V m c main_v0 = (shapeCast S655360x128 (m ((c.tc : Thread nD τ).loc main_arg2)) shapeCasts_S163840x512_S655360x128 : Vec Ideal S655360x128 .bf16) := by
  show StableHlo.after [StableHlo.reshape main_arg2 main_v0 (rfl : (.bf16 : EltTy) = .bf16) shapeCasts_S163840x512_S655360x128] (fun b => m (c, b)) (Proc.devRef .tc main_v0) = _
  after_results
  rfl

/-- The call's second result: the values. -/
theorem reg_eq (c : Dev nD) : reg_main_v1_1 m c = k0_pay5 (F := Ideal) (V m c main_v0) := by
  refine (dats m 0 c).arrAt_eq_of_covers (2 : Fin 3) (k0_pay5 (F := Ideal) (V m c main_v0)) cov2 fun t hf y => ?_
  have h0 : ∀ (y : ((cfg0.win 0).xblock (cfg0.grid.coords t)).Idx) a, (((cfg0.win 0).rect t).emb y a).val = (y a).val := by
    intro y a
    refine (Pipeline.Window.rect_emb_val (cfg0.win 0) t y a).trans ?_
    have e : (cfg0.win 0).index t a = 0 := by fin_cases a <;> rfl
    rw [e, Nat.zero_mul, Nat.zero_add]
  have h1 : ∀ (y : ((cfg0.win 2).xblock (cfg0.grid.coords t)).Idx) a, (((cfg0.win 2).rect t).emb y a).val = (y a).val := by
    intro y a
    refine (Pipeline.Window.rect_emb_val (cfg0.win 2) t y a).trans ?_
    have e : (cfg0.win 2).index t a = 0 := by fin_cases a <;> rfl
    rw [e, Nat.zero_mul, Nat.zero_add]
  have hb : iblk m c 0 t = V m c main_v0 := by
    funext y
    exact congrArg (V m c main_v0) (funext fun a => Fin.ext (h0 y a))
  rw [after0_2, hb]
  unfold out0_2
  rw [View.canon_unit_zero (S := S655360x128) (by decide), View.ld_unit_zero (S := S655360x128) (by decide)]
  exact congrArg (k0_pay5 (F := Ideal) (V m c main_v0)) (funext fun a => Fin.ext (h1 y a).symm)

/-- The call's first result: the codes. -/
theorem reg_codes (c : Dev nD) : reg_main_v1_0 m c = k0_pay4 (F := Ideal) (V m c main_v0) := by
  refine (dats m 0 c).arrAt_eq_of_covers (1 : Fin 3) (k0_pay4 (F := Ideal) (V m c main_v0)) cov1 fun t hf y => ?_
  have h0 : ∀ (y : ((cfg0.win 0).xblock (cfg0.grid.coords t)).Idx) a, (((cfg0.win 0).rect t).emb y a).val = (y a).val := by
    intro y a
    refine (Pipeline.Window.rect_emb_val (cfg0.win 0) t y a).trans ?_
    have e : (cfg0.win 0).index t a = 0 := by fin_cases a <;> rfl
    rw [e, Nat.zero_mul, Nat.zero_add]
  have h1 : ∀ (y : ((cfg0.win 1).xblock (cfg0.grid.coords t)).Idx) a, (((cfg0.win 1).rect t).emb y a).val = (y a).val := by
    intro y a
    refine (Pipeline.Window.rect_emb_val (cfg0.win 1) t y a).trans ?_
    have e : (cfg0.win 1).index t a = 0 := by fin_cases a <;> rfl
    rw [e, Nat.zero_mul, Nat.zero_add]
  have hb : iblk m c 0 t = V m c main_v0 := by
    funext y
    exact congrArg (V m c main_v0) (funext fun a => Fin.ext (h0 y a))
  rw [after0_1, hb]
  unfold out0_1
  rw [View.canon_unit_zero (S := S163840x512) (by decide), View.ld_unit_zero (S := S655360x128) (by decide)]
  exact congrArg (k0_pay4 (F := Ideal) (V m c main_v0)) (funext fun a => Fin.ext (h1 y a).symm)

end Cert.ReferenceIdeal.Value

end
-- ==== Proof.RVal.lean ====
module

public import proofs.«01_k».proof.Proof.RReg
public import proofs.«01_k».proof.Proof.Gen.ReferenceIdeal.Run
public import proofs.«01_k».proof.Proof.Gen.ReferenceIdeal.Read
public import Idealize.ShloMosaic.Lib.WordCmp

@[expose] public section

/-! The reference's results at an index: they are the values the kernel's arrays hold. Row `r` of step `p` is the query of batch `p / 80`, token `32 * (p % 80) + r / 32` and head `r % 32`. -/

noncomputable section

namespace Cert.ReferenceIdeal.Read
open Cert.ReferenceIdeal Cert.ReferenceIdeal.Gen
open Idealize.ShloMosaic Idealize.ShloMosaic.TcCoe Idealize.SL Idealize.SL.Sem Attn Cert.KernelIdeal.Run
open scoped BigOperators
local notation "jx" => Idealize.ShloMosaic.ValueIdx.ix2
local notation "jx3" => Idealize.ShloMosaic.ValueIdx.ix3
local notation "jx4" => Idealize.ShloMosaic.ValueIdx.ix4

/-! ### Indices -/

/-- The batch, the token and the head of a row of a step. -/
def bI (p : Fin 160) : Fin 2 := ⟨p.val / 80, by omega⟩
def tI (p : Fin 160) (r : Fin 1024) : Fin 2560 := ⟨32 * (p.val % 80) + r.val / 32, by omega⟩
def hI (r : Fin 1024) : Fin 32 := ⟨r.val % 32, by omega⟩

theorem row_val (p : Fin 160) (r : Fin 1024) : ((bI p).val * 2560 + (tI p r).val) * 32 + (hI r).val = 1024 * p.val + r.val := by
  show (p.val / 80 * 2560 + (32 * (p.val % 80) + r.val / 32)) * 32 + r.val % 32 = 1024 * p.val + r.val
  omega

theorem eq2 {n0 n1 : Nat} {i : (⟨2, ![n0, n1]⟩ : Shape).Idx} {a : Fin n0} {b : Fin n1} (h0 : (i 0).val = a.val) (h1 : (i 1).val = b.val) : i = jx a b :=
  funext fun x => Fin.ext (match x with
    | ⟨0, _⟩ => h0
    | ⟨1, _⟩ => h1)

theorem eq3 {n0 n1 n2 : Nat} {i : (⟨3, ![n0, n1, n2]⟩ : Shape).Idx} {a : Fin n0} {b : Fin n1} {c : Fin n2} (h0 : (i 0).val = a.val) (h1 : (i 1).val = b.val)
    (h2 : (i 2).val = c.val) : i = jx3 a b c :=
  funext fun x => Fin.ext (match x with
    | ⟨0, _⟩ => h0
    | ⟨1, _⟩ => h1
    | ⟨2, _⟩ => h2)

theorem eq4 {n0 n1 n2 n3 : Nat} {i : (⟨4, ![n0, n1, n2, n3]⟩ : Shape).Idx} {a : Fin n0} {b : Fin n1} {c : Fin n2} {d : Fin n3} (h0 : (i 0).val = a.val)
    (h1 : (i 1).val = b.val) (h2 : (i 2).val = c.val) (h3 : (i 3).val = d.val) : i = jx4 a b c d :=
  funext fun x => Fin.ext (match x with
    | ⟨0, _⟩ => h0
    | ⟨1, _⟩ => h1
    | ⟨2, _⟩ => h2
    | ⟨3, _⟩ => h3)

/-! ### The operands -/

/-- The queries laid out 128 lanes to a row. -/
theorem lanes_at (q : Vec Ideal (M 163840 512) .bf16) (R : Fin 163840) (k : Fin 4) (l : Fin 128) :
    shapeCast S655360x128 q shapeCasts_S163840x512_S655360x128 (jx (⟨4 * R.val + k.val, by omega⟩ : Fin 655360) l) = q (jx R (⟨128 * k.val + l.val, by omega⟩ : Fin 512)) := by
  refine shapeCast_apply q _ _ _ ?_
  rw [Shape.rowMajor_val_two, Shape.rowMajor_val_two]
  show R.val * 512 + (128 * k.val + l.val) = (4 * R.val + k.val) * 128 + l.val
  omega

section Ops
variable (s : IVec (M 160 128) 32) (q : Vec Ideal (M 163840 512) .bf16) (qr : Vec Ideal (M 163840 64) .bf16) (k : Vec Ideal (M 5120 640) .bf16) (p : Fin 160) (r : Fin 1024)

/-- The quantised queries. -/
abbrev rq : Vec Ideal (M 655360 128) .bf16 := k0_pay5 (F := Ideal) (shapeCast S655360x128 q shapeCasts_S163840x512_S655360x128)

theorem q_at (d : Fin 512) : val_main_v2 (F := Ideal) (rq q) (jx4 (bI p) (tI p r) (hI r) d)
    = T14 Cert.KernelIdeal.Eq.consts (rowsOf q p) (rowsOf qr p) (jx r (⟨d.val, by omega⟩ : Fin 768)) := by
  have hv := row_val p r
  rw [val_main_v2_apply, T14_lo]
  have e : idx_main_v2 (jx4 (bI p) (tI p r) (hI r) d) = jx (⟨4 * (1024 * p.val + r.val) + d.val / 128, by omega⟩ : Fin 655360) (⟨d.val % 128, by omega⟩ : Fin 128) := by
    refine eq2 ?_ ?_
    · show ((((bI p).val * 2560 + (tI p r).val) * 32 + (hI r).val) * 512 + d.val) / 128 = 4 * (1024 * p.val + r.val) + d.val / 128
      rw [hv]; omega
    · show ((((bI p).val * 2560 + (tI p r).val) * 32 + (hI r).val) * 512 + d.val) % 128 = d.val % 128
      rw [hv]; omega
  rw [e]
  refine (Value.pay_apply _ _ _).trans ?_
  have hl := lanes_at q (⟨1024 * p.val + r.val, by omega⟩ : Fin 163840) (⟨d.val / 128, by omega⟩ : Fin 4)
  refine congrArg₂ (qs _) (congrArg am (funext fun l => hl l)) ((hl _).trans ?_)
  exact congrArg q (congrArg₂ jx rfl (Fin.ext (by show 128 * (d.val / 128) + d.val % 128 = d.val; omega)))

theorem qr_at (e : Fin 64) : val_main_v3 (F := Ideal) qr (jx4 (bI p) (tI p r) (hI r) e)
    = T14 Cert.KernelIdeal.Eq.consts (rowsOf q p) (rowsOf qr p) (jx r (⟨512 + e.val, by omega⟩ : Fin 768)) := by
  have hv := row_val p r
  rw [val_main_v3_apply, T14_hi]
  refine congrArg qr (eq2 ?_ ?_)
  · show ((((bI p).val * 2560 + (tI p r).val) * 32 + (hI r).val) * 64 + e.val) / 64 = 1024 * p.val + r.val
    rw [hv]; omega
  · show ((((bI p).val * 2560 + (tI p r).val) * 32 + (hI r).val) * 64 + e.val) % 64 = e.val
    rw [hv]; omega

theorem k_at (y : Fin 2560) (d : Fin 512) : val_main_v6 (F := Ideal) k (jx3 (bI p) y d) = keysOf k p (jx y (⟨d.val, by omega⟩ : Fin 640)) := by
  rw [val_main_v6_apply, val_main_v5_apply]
  refine congrArg k (eq2 ?_ ?_)
  · show ((p.val / 80 * 2560 + y.val) * 640 + d.val) / 640 = 2560 * (p.val / 80) + y.val
    omega
  · show ((p.val / 80 * 2560 + y.val) * 640 + d.val) % 640 = d.val
    omega

theorem kr_at (y : Fin 2560) (e : Fin 64) : val_main_v7 (F := Ideal) k (jx3 (bI p) y e) = keysOf k p (jx y (⟨512 + e.val, by omega⟩ : Fin 640)) := by
  rw [val_main_v7_apply, val_main_v5_apply]
  refine congrArg k (eq2 ?_ ?_)
  · show ((p.val / 80 * 2560 + y.val) * 640 + (512 + e.val)) / 640 = 2560 * (p.val / 80) + y.val
    omega
  · show ((p.val / 80 * 2560 + y.val) * 640 + (512 + e.val)) % 640 = 512 + e.val
    omega

/-! ### The scores -/

theorem dots_at (y : Fin 2560) : val_main_v25 (F := Ideal) qr k (rq q) (jx4 (bI p) (tI p r) (hI r) y)
    = dotA (keysOf k p) (T14 Cert.KernelIdeal.Eq.consts (rowsOf q p) (rowsOf qr p)) r y := by
  rw [val_main_v25_apply, val_main_v23_apply, val_main_v24_apply]
  unfold dotA
  refine congrArg₂ (· + ·) (Finset.sum_congr rfl fun d _ => ?_) (Finset.sum_congr rfl fun e _ => ?_)
  · have el : lidx_main_v23 (jx4 (bI p) (tI p r) (hI r) y) d = jx4 (bI p) (tI p r) (hI r) d := eq4 rfl rfl rfl rfl
    have er : ridx_main_v23 (jx4 (bI p) (tI p r) (hI r) y) d = jx3 (bI p) y d := eq3 rfl rfl rfl
    rw [el, er, q_at q qr, k_at]
    exact mul_comm (G := EReal) _ _
  · have el : lidx_main_v24 (jx4 (bI p) (tI p r) (hI r) y) e = jx4 (bI p) (tI p r) (hI r) e := eq4 rfl rfl rfl rfl
    have er : ridx_main_v24 (jx4 (bI p) (tI p r) (hI r) y) e = jx3 (bI p) y e := eq3 rfl rfl rfl
    rw [el, er, qr_at q qr, kr_at]
    exact mul_comm (G := EReal) _ _

theorem nat_int (y : Fin 2560) : (BitVec.ofNat 32 y.val).toInt = (y.val : Int) := by
  have := y.isLt
  rw [BitVec.toInt_eq_toNat_of_lt (by rw [BitVec.toNat_ofNat]; omega), BitVec.toNat_ofNat, Nat.mod_eq_of_lt (by omega)]

theorem and_bool (a b : Bool) : IntOp.andi (BitVec.ofBool a) (BitVec.ofBool b) = BitVec.ofBool (a && b) := by
  cases a <;> cases b <;> rfl

/-- The mask. -/
theorem vis_at (y : Fin 2560) : val_main_call0_v1 (F := Ideal) s (jx4 (bI p) (tI p r) (hI r) y) = BitVec.ofBool (decide (Vis (p.val % 80) (ownOf s p) r y)) := by
  rw [val_main_call0_v1_apply, val_main_v26_apply, val_main_v22_apply, val_main_v21_apply, val_main_v15_apply, val_main_v20_apply,
    val_main_v13_apply, val_main_v11_apply, val_main_v10_apply, val_main_v14_apply, val_main_v12_apply, val_main_v10_apply,
    val_main_v18_apply, val_main_v16_apply, val_main_v10_apply, val_main_v19_apply, val_main_v17_apply, val_main_v9_apply, val_main_v8_apply]
  have hs : s (idx_main_v8 (idx_main_v9 (idx_main_v17 (idx_main_v19 (idx_main_v26 (idx_main_call0_v1 (jx4 (bI p) (tI p r) (hI r) y)))))))
      = s (jx p (⟨r.val / 32, by omega⟩ : Fin 128)) := by
    refine congrArg s (eq2 ?_ ?_)
    · show (p.val / 80 * 2560 + (32 * (p.val % 80) + r.val / 32)) / 32 = p.val
      omega
    · show (p.val / 80 * 2560 + (32 * (p.val % 80) + r.val / 32)) % 32 = r.val / 32
      omega
  rw [hs, WordCmp.cmpi_sle_eq, WordCmp.cmpi_sge_eq, and_bool]
  show BitVec.ofBool (decide ((BitVec.ofNat 32 y.val).toInt ≤ (BitVec.ofNat 32 (tI p r).val).toInt) && decide ((s (jx p (⟨r.val / 32, by omega⟩ : Fin 128))).toInt ≤ (BitVec.ofNat 32 y.val).toInt)) = _
  rw [nat_int, nat_int, ← Bool.decide_and]
  congr 1
  refine decide_eq_decide.2 ?_
  unfold Vis ownOf
  show ((y.val : Int) ≤ ((32 * (p.val % 80) + r.val / 32 : Nat) : Int) ∧ _) ↔ _
  exact ⟨fun h => ⟨h.2, by exact_mod_cast h.1⟩, fun h => ⟨by exact_mod_cast h.2, h.1⟩⟩

/-- The masked and scaled scores. -/
theorem s2_at (y : Fin 2560) : val_main_v29 (F := Ideal) s qr k (rq q) (jx4 (bI p) (tI p r) (hI r) y) = fK s q qr k p r y * cF := by
  rw [val_main_v29_apply, vis_at, val_main_v28_apply, dots_at, val_main_v27_apply, val_main_cst_apply, val_main_call0_v2_apply, val_main_call0_v0_apply, val_main_cst_0_apply]
  unfold fK sc
  by_cases h : Vis (p.val % 80) (ownOf s p) r y
  · rw [if_pos h, decide_eq_true h]; rfl
  · rw [if_neg h, decide_eq_false h, bot_cF]; exact bits_bot

/-! ### The row's shift, weights and sums -/

theorem max_at : val_main_v30 (F := Ideal) s qr k (rq q) (jx3 (bI p) (tI p r) (hI r)) = mx (fK s q qr k p r) * cF := by
  unfold val_main_v30
  have hR : S2x2560x32x2560.Reduces [3] S2x2560x32 := by decide
  refine (Host.reduce_eq_fold_single (FloatOps.maximumf (F := Ideal) (φ := .f32)) (val_main_v29 (F := Ideal) s qr k (rq q)) (val_main_cst_1 (F := Ideal)) reducesTo_S2x2560x32x2560_S2x2560x32_d3 hR h_S_ _).trans ?_
  have : (val_main_v29 (F := Ideal) s qr k (rq q) ∘ hR.lift (jx3 (bI p) (tI p r) (hI r))) = fun y : Fin 2560 => fK s q qr k p r y * cF := funext fun y =>
    (congrArg (val_main_v29 (F := Ideal) s qr k (rq q)) (eq4 rfl rfl rfl rfl : hR.lift (jx3 (bI p) (tI p r) (hI r)) y = jx4 (bI p) (tI p r) (hI r) y)).trans (s2_at s q qr k p r y)
  rw [this, ← sup_cF]
  have hb : val_main_cst_1 (F := Ideal) (Shape.Idx.first h_S_) = (⊥ : EReal) := bits_bot
  rw [hb]
  rfl

theorem shift_at : val_main_v32 (F := Ideal) s qr k (rq q) (jx4 (bI p) (tI p r) (hI r) (0 : Fin 1)) = shift (mx (fK s q qr k p r)) := by
  rw [val_main_v32_apply, val_main_v31_apply]
  have e : idx_main_v31 (jx4 (bI p) (tI p r) (hI r) (0 : Fin 1)) = jx3 (bI p) (tI p r) (hI r) := eq3 rfl rfl rfl
  rw [e, max_at]
  rfl

theorem log2_at (i : S_.Idx) : val_main_v33 (F := Ideal) i = ((Real.log 2 : ℝ) : EReal) := by
  rw [val_main_v33_apply, val_main_cst_2_apply]; exact log_two

theorem wt_at (y : Fin 2560) : val_main_v38 (F := Ideal) s qr k (rq q) (jx4 (bI p) (tI p r) (hI r) y) = wt (fK s q qr k p r) y := by
  rw [val_main_v38_apply, val_main_v37_apply, val_main_v35_apply, s2_at, val_main_v34_apply, val_main_v36_apply, log2_at]
  have e : idx_main_v34 (jx4 (bI p) (tI p r) (hI r) y) = jx4 (bI p) (tI p r) (hI r) (0 : Fin 1) := eq4 rfl rfl rfl rfl
  rw [e, shift_at]
  exact exp_log_two _

theorem dn_at : val_main_v39 (F := Ideal) s qr k (rq q) (jx3 (bI p) (tI p r) (hI r)) = dn (fK s q qr k p r) := by
  rw [val_main_v39_apply]
  have hb : val_main_cst_3 (F := Ideal) (Shape.Idx.first h_S_) = (0 : EReal) := Ideal.ofBits_zero_f32
  rw [hb, zero_add]
  refine Finset.sum_congr rfl fun y _ => ?_
  have e : idx_main_v39 (jx3 (bI p) (tI p r) (hI r)) y = jx4 (bI p) (tI p r) (hI r) y := eq4 rfl rfl rfl rfl
  rw [e, wt_at]

/-! ### The results -/

theorem of_at (d : Fin 512) : val_main_v46 (F := Ideal) s qr k (rq q) (jx4 (bI p) (tI p r) (hI r) d) = oo (keysOf k p) (fK s q qr k p r) d := by
  rw [val_main_v46_apply, val_main_v41_apply, val_main_v45_apply, val_main_v44_apply, val_main_v43_apply, val_main_v42_apply, val_main_cst_4_apply]
  have e : idx_main_v44 (idx_main_v45 (jx4 (bI p) (tI p r) (hI r) d)) = jx3 (bI p) (tI p r) (hI r) := eq3 rfl rfl rfl
  rw [e, dn_at]
  unfold oo
  refine congrArg (fun x : EReal => x * Ideal.div (Ideal.ofBits .f32 0x3F800000#32) (dn (fK s q qr k p r))) ?_
  refine Finset.sum_congr rfl fun y _ => ?_
  have el : lidx_main_v41 (jx4 (bI p) (tI p r) (hI r) d) y = jx4 (bI p) (tI p r) (hI r) y := eq4 rfl rfl rfl rfl
  have er : ridx_main_v41 (jx4 (bI p) (tI p r) (hI r) d) y = jx3 (bI p) y d := eq3 rfl rfl rfl
  rw [el, er, k_at, val_main_v40_apply, wt_at]
  rfl

theorem l_at : val_main_v53 (F := Ideal) s qr k (rq q) (jx3 (bI p) (tI p r) (hI r)) = ll Cert.KernelIdeal.Eq.consts (fK s q qr k p r) := by
  have hv := row_val p r
  rw [val_main_v53_apply, val_main_v51_apply, val_main_v47_apply, val_main_v50_apply, val_main_v48_apply, dn_at, val_main_v49_apply, val_main_v52_apply, log2_at]
  have e : idx_main_v47 (jx3 (bI p) (tI p r) (hI r)) = jx4 (bI p) (tI p r) (hI r) (0 : Fin 1) := by
    have h0 := (bI p).isLt; have h1 := (tI p r).isLt; have h2 := (hI r).isLt
    generalize bI p = b at *
    generalize tI p r = t at *
    generalize hI r = h at *
    refine eq4 ?_ ?_ ?_ rfl
    · show ((b.val * 2560 + t.val) * 32 + h.val) / 81920 = b.val
      omega
    · show ((b.val * 2560 + t.val) * 32 + h.val) / 32 % 2560 = t.val
      omega
    · show ((b.val * 2560 + t.val) * 32 + h.val) / 1 % 32 = h.val
      omega
  rw [e, shift_at]
  unfold ll
  rw [lg_eq, ln_eq]
  exact congrArg (fun x : EReal => (shift (mx (fK s q qr k p r)) + x) * ((Real.log 2 : ℝ) : EReal)) (div_log_two _)

theorem o_at (d : Fin 512) : val_main_v74 (F := Ideal) s qr k (rq q) (jx4 (bI p) (tI p r) (hI r) d) = oo (keysOf k p) (fK s q qr k p r) d := by
  rw [val_main_v74_apply]
  exact of_at s q qr k p r d

/-! ### The gradient -/

variable (o : Vec Ideal (M 163840 512) .bf16)

theorem do_at (d : Fin 512) : val_main_v4 (F := Ideal) o (jx4 (bI p) (tI p r) (hI r) d) = rowsOf o p (jx r d) := by
  have hv := row_val p r
  rw [val_main_v4_apply]
  refine congrArg o (eq2 ?_ ?_)
  · show ((((bI p).val * 2560 + (tI p r).val) * 32 + (hI r).val) * 512 + d.val) / 512 = 1024 * p.val + r.val
    rw [hv]; omega
  · show ((((bI p).val * 2560 + (tI p r).val) * 32 + (hI r).val) * 512 + d.val) % 512 = d.val
    rw [hv]; omega

/-- The gradient by a weight. -/
theorem dp_at (y : Fin 2560) : val_main_v59 (F := Ideal) o k (jx4 (bI p) (tI p r) (hI r) y) = gv (keysOf k p) (rowsOf o p) r y := by
  rw [val_main_v59_apply]
  unfold gv
  refine Finset.sum_congr rfl fun d _ => ?_
  have el : lidx_main_v59 (jx4 (bI p) (tI p r) (hI r) y) d = jx4 (bI p) (tI p r) (hI r) d := eq4 rfl rfl rfl rfl
  have er : ridx_main_v59 (jx4 (bI p) (tI p r) (hI r) y) d = jx3 (bI p) y d := eq3 rfl rfl rfl
  rw [el, er, do_at, k_at]
  exact mul_comm (G := EReal) _ _

/-- The sum of the incoming gradient times the output. -/
theorem dt_at : val_main_v62 (F := Ideal) s qr o k (rq q) (jx3 (bI p) (tI p r) (hI r)) = ∑ d : Fin 512, rowsOf o p (jx r d) * oo (keysOf k p) (fK s q qr k p r) d := by
  rw [val_main_v62_apply]
  have hb : val_main_cst_6 (F := Ideal) (Shape.Idx.first h_S_) = (0 : EReal) := Ideal.ofBits_zero_f32
  rw [hb, zero_add]
  refine Finset.sum_congr rfl fun d _ => ?_
  have e : idx_main_v62 (jx3 (bI p) (tI p r) (hI r)) d = jx4 (bI p) (tI p r) (hI r) d := eq4 rfl rfl rfl rfl
  rw [e, val_main_v61_apply, val_main_v60_apply, do_at, of_at s q qr k p r d]
  rfl

/-- Every entry of the array is a number. -/
def Num {n w : Nat} (x : Vec Ideal (M n w) .bf16) : Prop := ∀ (a : Fin n) (b : Fin w), ∃ v : ℝ, x (jx a b) = (v : EReal)

/-- Every value of the keys is a number. -/
def NumK (x : Vec Ideal (M 5120 640) .bf16) : Prop := ∀ (a : Fin 5120) (b : Fin 512), ∃ v : ℝ, x (jx a (⟨b.val, lt_kv b⟩ : Fin 640)) = (v : EReal)

/-- The gradient by a score. -/
theorem ds_at (hk : NumK k) (ho : Num o) (y : Fin 2560) : val_main_v67 (F := Ideal) s qr o k (rq q) (jx4 (bI p) (tI p r) (hI r) y)
    = dsv (fK s q qr k p r) (gv (keysOf k p) (rowsOf o p) r) y := by
  rw [val_main_v67_apply, val_main_v66_apply, val_main_v58_apply, val_main_v65_apply, wt_at, dp_at, val_main_v57_apply, val_main_v56_apply, val_main_v55_apply,
    val_main_v54_apply, val_main_cst_5_apply, val_main_v64_apply, val_main_v63_apply]
  have e : idx_main_v56 (idx_main_v57 (jx4 (bI p) (tI p r) (hI r) y)) = jx3 (bI p) (tI p r) (hI r) := eq3 rfl rfl rfl
  have e' : idx_main_v63 (idx_main_v64 (jx4 (bI p) (tI p r) (hI r) y)) = jx3 (bI p) (tI p r) (hI r) := eq3 rfl rfl rfl
  rw [e, e', dn_at, dt_at]
  exact dsv_fin (keysOf k p) (rowsOf o p) r (fK s q qr k p r) (fun s d => hk _ _) (fun d => ho _ _) y

theorem n_at (hk : NumK k) (ho : Num o) (d : Fin 512) : val_main_v70 (F := Ideal) s qr o k (rq q) (jx4 (bI p) (tI p r) (hI r) d) = gK s q qr k o p r ⟨d.val, lt_kv d⟩ := by
  rw [val_main_v70_apply, val_main_v69_apply, val_main_cst_7_apply, val_main_v68_apply]
  unfold gK dqv
  refine (mul_comm (G := EReal) _ _).trans (congrArg (fun x : EReal => x * smF) (Finset.sum_congr rfl fun y _ => ?_))
  have el : lidx_main_v68 (jx4 (bI p) (tI p r) (hI r) d) y = jx4 (bI p) (tI p r) (hI r) y := eq4 rfl rfl rfl rfl
  have er : ridx_main_v68 (jx4 (bI p) (tI p r) (hI r) d) y = jx3 (bI p) y d := eq3 rfl rfl rfl
  rw [el, er, ds_at s q qr k p r o hk ho, k_at]

theorem r_at (hk : NumK k) (ho : Num o) (d : Fin 64) : val_main_v73 (F := Ideal) s qr o k (rq q) (jx4 (bI p) (tI p r) (hI r) d) = gK s q qr k o p r ⟨512 + d.val, lt_e1 d⟩ := by
  rw [val_main_v73_apply, val_main_v72_apply, val_main_cst_8_apply, val_main_v71_apply]
  unfold gK dqv
  refine (mul_comm (G := EReal) _ _).trans (congrArg (fun x : EReal => x * smF) (Finset.sum_congr rfl fun y _ => ?_))
  have el : lidx_main_v71 (jx4 (bI p) (tI p r) (hI r) d) y = jx4 (bI p) (tI p r) (hI r) y := eq4 rfl rfl rfl rfl
  have er : ridx_main_v71 (jx4 (bI p) (tI p r) (hI r) d) y = jx3 (bI p) y d := eq3 rfl rfl rfl
  rw [el, er, ds_at s q qr k p r o hk ho, kr_at]

end Ops

/-- The reference's first result is the kernel's. -/
theorem o_eq (s : IVec (M 160 128) 32) (q : Vec Ideal (M 163840 512) .bf16) (qr : Vec Ideal (M 163840 64) .bf16) (k : Vec Ideal (M 5120 640) .bf16) :
    val_main_v75 (F := Ideal) s qr k (rq q) = oK s q qr k := by
  funext i
  have hi0 : (i 0).val < 163840 := (i 0).isLt
  have hi1 : (i 1).val < 512 := (i 1).isLt
  rw [val_main_v75_apply]
  have e : idx_main_v75 i = jx4 (bI (⟨(i 0).val / 1024, by omega⟩ : Fin 160)) (tI (⟨(i 0).val / 1024, by omega⟩ : Fin 160) (⟨(i 0).val % 1024, by omega⟩ : Fin 1024)) (hI (⟨(i 0).val % 1024, by omega⟩ : Fin 1024)) (i 1 : Fin 512) := by
    refine eq4 ?_ ?_ ?_ ?_
    · show ((i 0).val * 512 + (i 1).val) / 41943040 = (i 0).val / 1024 / 80
      omega
    · show ((i 0).val * 512 + (i 1).val) / 16384 % 2560 = 32 * ((i 0).val / 1024 % 80) + (i 0).val % 1024 / 32
      omega
    · show ((i 0).val * 512 + (i 1).val) / 512 % 32 = (i 0).val % 1024 % 32
      omega
    · show ((i 0).val * 512 + (i 1).val) % 512 = (i 1).val
      omega
  exact (congrArg (val_main_v74 (F := Ideal) s qr k (rq q)) e).trans (o_at s q qr k _ _ _)

/-- The reference's second result is the kernel's. -/
theorem l_eq (s : IVec (M 160 128) 32) (q : Vec Ideal (M 163840 512) .bf16) (qr : Vec Ideal (M 163840 64) .bf16) (k : Vec Ideal (M 5120 640) .bf16) :
    val_main_v76 (F := Ideal) s qr k (rq q) = lK s q qr k := by
  funext i
  have hi0 : (i 0).val < 160 := (i 0).isLt
  have hi1 : (i 1).val < 4 := (i 1).isLt
  have hi2 : (i 2).val < 256 := (i 2).isLt
  rw [val_main_v76_apply]
  have e : idx_main_v76 i = jx3 (bI (i 0 : Fin 160)) (tI (i 0 : Fin 160) (⟨256 * (i 1).val + (i 2).val, by omega⟩ : Fin 1024)) (hI (⟨256 * (i 1).val + (i 2).val, by omega⟩ : Fin 1024)) := by
    refine eq3 ?_ ?_ ?_
    · show (((i 0).val * 4 + (i 1).val) * 256 + (i 2).val) / 81920 = (i 0).val / 80
      omega
    · show (((i 0).val * 4 + (i 1).val) * 256 + (i 2).val) / 32 % 2560 = 32 * ((i 0).val % 80) + (256 * (i 1).val + (i 2).val) / 32
      omega
    · show (((i 0).val * 4 + (i 1).val) * 256 + (i 2).val) % 32 = (256 * (i 1).val + (i 2).val) % 32
      omega
  exact (congrArg (val_main_v53 (F := Ideal) s qr k (rq q)) e).trans (l_at s q qr k _ _)

/-- The reference's third result is the kernel's. -/
theorem n_eq (s : IVec (M 160 128) 32) (q : Vec Ideal (M 163840 512) .bf16) (qr : Vec Ideal (M 163840 64) .bf16) (k : Vec Ideal (M 5120 640) .bf16) (o : Vec Ideal (M 163840 512) .bf16) (hk : NumK k) (ho : Num o) :
    val_main_v77 (F := Ideal) s qr o k (rq q) = nK s q qr k o := by
  funext i
  have hi0 : (i 0).val < 163840 := (i 0).isLt
  have hi1 : (i 1).val < 512 := (i 1).isLt
  rw [val_main_v77_apply]
  have e : idx_main_v77 i = jx4 (bI (⟨(i 0).val / 1024, by omega⟩ : Fin 160)) (tI (⟨(i 0).val / 1024, by omega⟩ : Fin 160) (⟨(i 0).val % 1024, by omega⟩ : Fin 1024)) (hI (⟨(i 0).val % 1024, by omega⟩ : Fin 1024)) (i 1 : Fin 512) := by
    refine eq4 ?_ ?_ ?_ ?_
    · show ((i 0).val * 512 + (i 1).val) / 41943040 = (i 0).val / 1024 / 80
      omega
    · show ((i 0).val * 512 + (i 1).val) / 16384 % 2560 = 32 * ((i 0).val / 1024 % 80) + (i 0).val % 1024 / 32
      omega
    · show ((i 0).val * 512 + (i 1).val) / 512 % 32 = (i 0).val % 1024 % 32
      omega
    · show ((i 0).val * 512 + (i 1).val) % 512 = (i 1).val
      omega
  exact (congrArg (val_main_v70 (F := Ideal) s qr o k (rq q)) e).trans (n_at s q qr k _ _ o hk ho _)

/-- The reference's fourth result is the kernel's. -/
theorem r_eq (s : IVec (M 160 128) 32) (q : Vec Ideal (M 163840 512) .bf16) (qr : Vec Ideal (M 163840 64) .bf16) (k : Vec Ideal (M 5120 640) .bf16) (o : Vec Ideal (M 163840 512) .bf16) (hk : NumK k) (ho : Num o) :
    val_main_v78 (F := Ideal) s qr o k (rq q) = rK s q qr k o := by
  funext i
  have hi0 : (i 0).val < 163840 := (i 0).isLt
  have hi1 : (i 1).val < 64 := (i 1).isLt
  rw [val_main_v78_apply]
  have e : idx_main_v78 i = jx4 (bI (⟨(i 0).val / 1024, by omega⟩ : Fin 160)) (tI (⟨(i 0).val / 1024, by omega⟩ : Fin 160) (⟨(i 0).val % 1024, by omega⟩ : Fin 1024)) (hI (⟨(i 0).val % 1024, by omega⟩ : Fin 1024)) (i 1 : Fin 64) := by
    refine eq4 ?_ ?_ ?_ ?_
    · show ((i 0).val * 64 + (i 1).val) / 5242880 = (i 0).val / 1024 / 80
      omega
    · show ((i 0).val * 64 + (i 1).val) / 2048 % 2560 = 32 * ((i 0).val / 1024 % 80) + (i 0).val % 1024 / 32
      omega
    · show ((i 0).val * 64 + (i 1).val) / 64 % 32 = (i 0).val % 1024 % 32
      omega
    · show ((i 0).val * 64 + (i 1).val) % 64 = (i 1).val
      omega
  exact (congrArg (val_main_v73 (F := Ideal) s qr o k (rq q)) e).trans (r_at s q qr k _ _ o hk ho _)

/-- The reference's codes are the kernel's. -/
theorem c_eq (q : Vec Ideal (M 163840 512) .bf16) : k0_pay4 (F := Ideal) (shapeCast S655360x128 q shapeCasts_S163840x512_S655360x128) = cK q := by
  funext i
  have hi0 : (i 0).val < 163840 := (i 0).isLt
  have hi1 : (i 1).val < 512 := (i 1).isLt
  unfold k0_pay4
  refine (shapeCast_apply _ _ i (jx (⟨4 * (i 0).val + (i 1).val / 128, by omega⟩ : Fin 655360) (⟨(i 1).val % 128, by omega⟩ : Fin 128)) ?_).trans ?_
  · rw [Shape.rowMajor_val_two, Shape.rowMajor_val_two]
    show (4 * (i 0).val + (i 1).val / 128) * 128 + (i 1).val % 128 = (i 0).val * 512 + (i 1).val
    omega
  refine (Value.code_apply _ _ _).trans ?_
  refine Eq.trans ?_ (T11_apply Cert.KernelIdeal.Eq.consts _ _ _).symm
  have hl := lanes_at q (⟨(i 0).val, hi0⟩ : Fin 163840) (⟨(i 1).val / 128, by omega⟩ : Fin 4)
  have hr : ∀ l : Fin 512, q (jx (⟨(i 0).val, hi0⟩ : Fin 163840) l) = rowsOf q (⟨(i 0).val / 1024, by omega⟩ : Fin 160) (jx (⟨(i 0).val % 1024, by omega⟩ : Fin 1024) l) := fun l =>
    congrArg q (congrArg₂ jx (Fin.ext (by show (i 0).val = 1024 * ((i 0).val / 1024) + (i 0).val % 1024; omega)) rfl)
  refine congrArg₂ (qc _) (congrArg am (funext fun l => (hl l).trans (hr _))) ((hl _).trans ((hr _).trans ?_))
  exact congrArg (rowsOf q _) (congrArg₂ jx rfl (Fin.ext (by show 128 * ((i 1).val / 128) + (i 1).val % 128 = (i 1).val; omega)))

variable (m : (ℓ : Loc nD τ sig) → Buf (Elt Ideal) ℓ)

theorem v11_eq (c : Dev nD) : Value.reg_main_v1_1 m c = rq (m ((c.tc : Thread nD τ).loc main_arg2)) := by
  rw [Value.reg_eq, Value.arr_v0]

/-- The reference's first result, of its arguments. -/
theorem out_o (c : Dev nD) :
    val_main_v75 (F := Ideal) (Value.exitV m c (Proc.devRef .tc main_arg1)) (Value.exitV m c (Proc.devRef .tc main_arg3)) (Value.exitV m c (Proc.devRef .tc main_arg5)) (Value.exitV m c (Proc.devRef .tc main_v1_1))
      = oK (m ((c.tc : Thread nD τ).loc main_arg1)) (m ((c.tc : Thread nD τ).loc main_arg2)) (m ((c.tc : Thread nD τ).loc main_arg3)) (m ((c.tc : Thread nD τ).loc main_arg5)) := by
  rw [Value.exit_main_arg1, Value.exit_main_arg3, Value.exit_main_arg5, Value.exit_main_v1_1, v11_eq]
  exact o_eq _ _ _ _

/-- The reference's second result, of its arguments. -/
theorem out_l (c : Dev nD) :
    val_main_v76 (F := Ideal) (Value.exitV m c (Proc.devRef .tc main_arg1)) (Value.exitV m c (Proc.devRef .tc main_arg3)) (Value.exitV m c (Proc.devRef .tc main_arg5)) (Value.exitV m c (Proc.devRef .tc main_v1_1))
      = lK (m ((c.tc : Thread nD τ).loc main_arg1)) (m ((c.tc : Thread nD τ).loc main_arg2)) (m ((c.tc : Thread nD τ).loc main_arg3)) (m ((c.tc : Thread nD τ).loc main_arg5)) := by
  rw [Value.exit_main_arg1, Value.exit_main_arg3, Value.exit_main_arg5, Value.exit_main_v1_1, v11_eq]
  exact l_eq _ _ _ _

/-- The reference's third result, of its arguments. -/
theorem out_n (c : Dev nD) (hk : NumK (m ((c.tc : Thread nD τ).loc main_arg5))) (ho : Num (n := 163840) (w := 512) (m ((c.tc : Thread nD τ).loc main_arg4))) :
    val_main_v77 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_v1_1))
      = nK (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) := by
  rw [Value.exit_main_arg1, Value.exit_main_arg3, Value.exit_main_arg4, Value.exit_main_arg5, Value.exit_main_v1_1, v11_eq]
  exact n_eq _ _ _ _ _ hk ho

/-- The reference's fourth result, of its arguments. -/
theorem out_r (c : Dev nD) (hk : NumK (m ((c.tc : Thread nD τ).loc main_arg5))) (ho : Num (n := 163840) (w := 512) (m ((c.tc : Thread nD τ).loc main_arg4))) :
    val_main_v78 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_v1_1))
      = rK (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) := by
  rw [Value.exit_main_arg1, Value.exit_main_arg3, Value.exit_main_arg4, Value.exit_main_arg5, Value.exit_main_v1_1, v11_eq]
  exact r_eq _ _ _ _ _ hk ho

/-- The reference's codes, of its arguments. -/
theorem out_c (c : Dev nD) : Value.reg_main_v1_0 m c = cK (m ((c.tc : Thread nD τ).loc main_arg2)) := by
  rw [Value.reg_codes, Value.arr_v0]
  exact c_eq _

end Cert.ReferenceIdeal.Read

end
-- ==== Proof.Alg.lean ====
module

public import proofs.«01_k».proof.Proof.RVal
public import proofs.«01_k».proof.Defs

@[expose] public section

/-! The value claim: over the extended reals the kernel's results are the reference's. -/

noncomputable section

namespace Cert.Alg
open Idealize.ShloMosaic Idealize.ShloMosaic.TcCoe Idealize.SL.Sem

/-- The kernel and the reference leave the same values in their results. -/
theorem algebraic : @Cert.algebraic_KernelIdeal_ReferenceIdeal_pre_finite Cert.KernelIdeal.Gen.facts Cert.ReferenceIdeal.Gen.facts Cert.Pre_finite.Gen.facts :=
  fun m g m' g' hp hm =>
    ⟨Cert.KernelIdeal.Run.OK m, Cert.KernelIdeal.Run.LK m, Cert.KernelIdeal.Run.NK m, Cert.KernelIdeal.Run.RK m, Cert.KernelIdeal.Run.CK m,
      (θ_run Cert.KernelIdeal.defs _ _).mono (fun r h c =>
          ⟨(h c).1, (h c).2.1, (h c).2.2.1, (h c).2.2.2.1, (h c).2.2.2.2.1, Cert.KernelIdeal.Run.args_kept (h c).2.2.2.2.2 c⟩)
        (Cert.KernelIdeal.Run.run_val m g fun c p => Attn.tab_of _ _ _ _ _ _ (Attn.fin_parts _ _ _ _ _ _ (hp c)).1 p),
      (θ_run Cert.ReferenceIdeal.defs _ _).mono (fun r h c => by
        obtain ⟨h0, h1, h2, h3, h4, h5⟩ := hm c
        obtain ⟨hk, ho⟩ := Attn.nums_of _ _ _ _ _ _ (hp c)
        have hk' : Cert.ReferenceIdeal.Read.NumK (m' ((c.tc : Thread Cert.ReferenceIdeal.nD Cert.ReferenceIdeal.τ).loc Cert.ReferenceIdeal.main_arg5)) := by
          rw [h5]; exact hk
        have ho' : Cert.ReferenceIdeal.Read.Num (n := 163840) (w := 512) (m' ((c.tc : Thread Cert.ReferenceIdeal.nD Cert.ReferenceIdeal.τ).loc Cert.ReferenceIdeal.main_arg4)) := by
          rw [h4]; exact ho
        refine ⟨((h c).1.trans (Cert.ReferenceIdeal.Read.val_main_v75_eq _)).trans ((Cert.ReferenceIdeal.Read.out_o m' c).trans ?_),
          ((h c).2.1.trans (Cert.ReferenceIdeal.Read.val_main_v76_eq _)).trans ((Cert.ReferenceIdeal.Read.out_l m' c).trans ?_),
          ((h c).2.2.1.trans (Cert.ReferenceIdeal.Read.val_main_v77_eq _)).trans ((Cert.ReferenceIdeal.Read.out_n m' c hk' ho').trans ?_),
          ((h c).2.2.2.1.trans (Cert.ReferenceIdeal.Read.val_main_v78_eq _)).trans ((Cert.ReferenceIdeal.Read.out_r m' c hk' ho').trans ?_),
          (h c).2.2.2.2.1.trans ((Cert.ReferenceIdeal.Read.out_c m' c).trans ?_), (h c).2.2.2.2.2⟩
        · rw [h1, h2, h3, h5]
        · rw [h1, h2, h3, h5]
        · rw [h1, h2, h3, h5, h4]
        · rw [h1, h2, h3, h5, h4]
        · rw [h2])
        (Cert.ReferenceIdeal.Value.run m' g')⟩

end Cert.Alg

end
-- ==== Proof.EqKernel.lean ====
module
public import proofs.«01_k».proof.Kernel
public import proofs.«01_k».proof.Proof.Long
@[expose] public section

/-! The printed body of `Kernel` and the written one are the same program. -/

noncomputable section
namespace Cert.Kernel.Eq
open Idealize.ShloMosaic Idealize.SL.Sem Attn
variable {F : FTy → Type} [FloatOps F]
variable [Facts]
open Facts₀ Facts

/-- The constants of the mask and of the change of base. -/
def consts : Consts F := ⟨Scalar.ofBits .f32 0x3FB8AA3B#32, Scalar.ofBits .f32 0x3F317218#32, Scalar.ofBits .f32 0xF1800000#32⟩

/-- The loops of quarter 0. -/
def lo0 (i : grid0.Coords) (v w : BitVec 32) (hw : k0_chk1 i v w) (h8 : k0_cond8 v = 1#1) : LO :=
  ⟨⟨k0_t1_loop i w, k0_t1_ok i v w hw h8, k0_off34 i w, k0_off35 i w, k0_off36 i w, fun k => k0_off34_inb i v w hw k h8, fun k => k0_off35_inb i v w hw k h8, fun k => k0_off36_inb i v w hw k h8⟩,
   ⟨k0_t2_loop i w, k0_t2_ok i v w hw h8, k0_off37 i w, k0_off38 i w, k0_off39 i w, fun k => k0_off37_inb i v w hw k h8, fun k => k0_off38_inb i v w hw k h8, fun k => k0_off39_inb i v w hw k h8⟩,
   ⟨k0_t3_loop i w, k0_t3_ok i v w hw h8, k0_off40 i w, k0_off41 i w, fun k => k0_off40_inb i v w hw k h8, fun k => k0_off41_inb i v w hw k h8⟩,
   ⟨k0_t4_loop i w, k0_t4_ok i v w hw h8, k0_off42 i w, k0_off43 i w, fun k => k0_off42_inb i v w hw k h8, fun k => k0_off43_inb i v w hw k h8⟩,
   ⟨k0_t5_loop i w, k0_t5_ok i v w hw h8, k0_off45 i w, k0_off46 i w, k0_off47 i w, k0_off48 i w, fun k => k0_off45_inb i v w hw k h8, fun k => k0_off46_inb i v w hw k h8, fun k => k0_off47_inb i v w hw k h8, fun k => k0_off48_inb i v w hw k h8⟩,
   ⟨k0_t6_loop i w, k0_t6_ok i v w hw h8, k0_off49 i w, k0_off50 i w, k0_off51 i w, k0_off52 i w, fun k => k0_off49_inb i v w hw k h8, fun k => k0_off50_inb i v w hw k h8, fun k => k0_off51_inb i v w hw k h8, fun k => k0_off52_inb i v w hw k h8⟩,
   k0_off44 i, k0_off44_inb i⟩

/-- The loops of quarter 1. -/
def lo1 (i : grid0.Coords) (v w : BitVec 32) (hw : k0_chk1 i v w) (h8 : k0_cond8 v = 1#1) : LO :=
  ⟨⟨k0_t7_loop i w, k0_t7_ok i v w hw h8, k0_off53 i w, k0_off54 i w, k0_off55 i w, fun k => k0_off53_inb i v w hw k h8, fun k => k0_off54_inb i v w hw k h8, fun k => k0_off55_inb i v w hw k h8⟩,
   ⟨k0_t8_loop i w, k0_t8_ok i v w hw h8, k0_off56 i w, k0_off57 i w, k0_off58 i w, fun k => k0_off56_inb i v w hw k h8, fun k => k0_off57_inb i v w hw k h8, fun k => k0_off58_inb i v w hw k h8⟩,
   ⟨k0_t9_loop i w, k0_t9_ok i v w hw h8, k0_off59 i w, k0_off60 i w, fun k => k0_off59_inb i v w hw k h8, fun k => k0_off60_inb i v w hw k h8⟩,
   ⟨k0_t10_loop i w, k0_t10_ok i v w hw h8, k0_off61 i w, k0_off62 i w, fun k => k0_off61_inb i v w hw k h8, fun k => k0_off62_inb i v w hw k h8⟩,
   ⟨k0_t11_loop i w, k0_t11_ok i v w hw h8, k0_off63 i w, k0_off64 i w, k0_off65 i w, k0_off66 i w, fun k => k0_off63_inb i v w hw k h8, fun k => k0_off64_inb i v w hw k h8, fun k => k0_off65_inb i v w hw k h8, fun k => k0_off66_inb i v w hw k h8⟩,
   ⟨k0_t12_loop i w, k0_t12_ok i v w hw h8, k0_off67 i w, k0_off68 i w, k0_off69 i w, k0_off70 i w, fun k => k0_off67_inb i v w hw k h8, fun k => k0_off68_inb i v w hw k h8, fun k => k0_off69_inb i v w hw k h8, fun k => k0_off70_inb i v w hw k h8⟩,
   k0_off44 i, k0_off44_inb i⟩

/-- The loops of quarter 2. -/
def lo2 (i : grid0.Coords) (v w : BitVec 32) (hw : k0_chk1 i v w) (h8 : k0_cond8 v = 1#1) : LO :=
  ⟨⟨k0_t13_loop i w, k0_t13_ok i v w hw h8, k0_off71 i w, k0_off72 i w, k0_off73 i w, fun k => k0_off71_inb i v w hw k h8, fun k => k0_off72_inb i v w hw k h8, fun k => k0_off73_inb i v w hw k h8⟩,
   ⟨k0_t14_loop i w, k0_t14_ok i v w hw h8, k0_off74 i w, k0_off75 i w, k0_off76 i w, fun k => k0_off74_inb i v w hw k h8, fun k => k0_off75_inb i v w hw k h8, fun k => k0_off76_inb i v w hw k h8⟩,
   ⟨k0_t15_loop i w, k0_t15_ok i v w hw h8, k0_off77 i w, k0_off78 i w, fun k => k0_off77_inb i v w hw k h8, fun k => k0_off78_inb i v w hw k h8⟩,
   ⟨k0_t16_loop i w, k0_t16_ok i v w hw h8, k0_off79 i w, k0_off80 i w, fun k => k0_off79_inb i v w hw k h8, fun k => k0_off80_inb i v w hw k h8⟩,
   ⟨k0_t17_loop i w, k0_t17_ok i v w hw h8, k0_off81 i w, k0_off82 i w, k0_off83 i w, k0_off84 i w, fun k => k0_off81_inb i v w hw k h8, fun k => k0_off82_inb i v w hw k h8, fun k => k0_off83_inb i v w hw k h8, fun k => k0_off84_inb i v w hw k h8⟩,
   ⟨k0_t18_loop i w, k0_t18_ok i v w hw h8, k0_off85 i w, k0_off86 i w, k0_off87 i w, k0_off88 i w, fun k => k0_off85_inb i v w hw k h8, fun k => k0_off86_inb i v w hw k h8, fun k => k0_off87_inb i v w hw k h8, fun k => k0_off88_inb i v w hw k h8⟩,
   k0_off44 i, k0_off44_inb i⟩

/-- The loops of quarter 3. -/
def lo3 (i : grid0.Coords) (v w : BitVec 32) (hw : k0_chk1 i v w) (h8 : k0_cond8 v = 1#1) : LO :=
  ⟨⟨k0_t19_loop i w, k0_t19_ok i v w hw h8, k0_off89 i w, k0_off90 i w, k0_off91 i w, fun k => k0_off89_inb i v w hw k h8, fun k => k0_off90_inb i v w hw k h8, fun k => k0_off91_inb i v w hw k h8⟩,
   ⟨k0_t20_loop i w, k0_t20_ok i v w hw h8, k0_off92 i w, k0_off93 i w, k0_off94 i w, fun k => k0_off92_inb i v w hw k h8, fun k => k0_off93_inb i v w hw k h8, fun k => k0_off94_inb i v w hw k h8⟩,
   ⟨k0_t21_loop i w, k0_t21_ok i v w hw h8, k0_off95 i w, k0_off96 i w, fun k => k0_off95_inb i v w hw k h8, fun k => k0_off96_inb i v w hw k h8⟩,
   ⟨k0_t22_loop i w, k0_t22_ok i v w hw h8, k0_off97 i w, k0_off98 i w, fun k => k0_off97_inb i v w hw k h8, fun k => k0_off98_inb i v w hw k h8⟩,
   ⟨k0_t23_loop i w, k0_t23_ok i v w hw h8, k0_off99 i w, k0_off100 i w, k0_off101 i w, k0_off102 i w, fun k => k0_off99_inb i v w hw k h8, fun k => k0_off100_inb i v w hw k h8, fun k => k0_off101_inb i v w hw k h8, fun k => k0_off102_inb i v w hw k h8⟩,
   ⟨k0_t24_loop i w, k0_t24_ok i v w hw h8, k0_off103 i w, k0_off104 i w, k0_off105 i w, k0_off106 i w, fun k => k0_off103_inb i v w hw k h8, fun k => k0_off104_inb i v w hw k h8, fun k => k0_off105_inb i v w hw k h8, fun k => k0_off106_inb i v w hw k h8⟩,
   k0_off44 i, k0_off44_inb i⟩

/-- Where the body finds its operands at a step. -/
def offs (i : grid0.Coords) : Offs :=
  ⟨k0_off1 i, k0_off1_inb i, k0_off2 i, k0_off2_inb i,
   ⟨k0_off3 i, k0_off4 i, k0_off5 i, k0_off6 i, k0_off7 i, k0_off8 i, k0_off3_inb i, k0_off4_inb i, k0_off5_inb i, k0_off6_inb i, k0_off7_inb i, k0_off8_inb i⟩,
   ⟨k0_off9 i, k0_off10 i, k0_off11 i, k0_off12 i, k0_off13 i, k0_off14 i, k0_off9_inb i, k0_off10_inb i, k0_off11_inb i, k0_off12_inb i, k0_off13_inb i, k0_off14_inb i⟩,
   ⟨k0_off15 i, k0_off16 i, k0_off17 i, k0_off18 i, k0_off19 i, k0_off20 i, k0_off15_inb i, k0_off16_inb i, k0_off17_inb i, k0_off18_inb i, k0_off19_inb i, k0_off20_inb i⟩,
   ⟨k0_off21 i, k0_off22 i, k0_off23 i, k0_off24 i, k0_off25 i, k0_off26 i, k0_off21_inb i, k0_off22_inb i, k0_off23_inb i, k0_off24_inb i, k0_off25_inb i, k0_off26_inb i⟩,
   ⟨k0_off27 i, k0_off28 i, k0_off29 i, k0_off30 i, k0_off31 i, k0_off32 i, k0_off27_inb i, k0_off28_inb i, k0_off29_inb i, k0_off30_inb i, k0_off31_inb i, k0_off32_inb i⟩,
   k0_chk1 i, k0_chk1.dec i, fun v w hw h8 => ![lo0 i v w hw h8, lo1 i v w hw h8, lo2 i v w hw h8, lo3 i v w hw h8]⟩

/-- The first tile of a step. -/
def tileLo (i : grid0.Coords) (w : BitVec 32) : BitVec 32 := (k0_t1_loop i w).lb

/-- The tile after the last. -/
def tileHi (i : grid0.Coords) : BitVec 32 := Scalar.divsi (Scalar.subi (Scalar.addi (Scalar.addi (Scalar.muli (stepB (BitVec.ofNat 32 (i 0).val)) 32#32) 32#32) 256#32) 1#32) 256#32

/-- What the first part stores after its two conditional stores, and what it hands on. -/
def rest72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    Prog (TpuEff nD τ sig (Elt F) Λ₀ .tc) (Σ' (arg0 : BitVec 32) (v0 : BitVec 32) (v7 : IVec S32x128 32) (v9 : BitVec 32) (v11 : BitVec 1) (v15 : FVec F S32x128 .f32) (v17 : FVec F S32x128 .f32) (v30 : FVec F S32x1 .f32) (v33 : FVec F S32x1 .f32), F .f32) := do
  let arg0 : BitVec 32 := BitVec.ofNat 32 (i 0).val
  let c80_i32 : BitVec 32 := 80#32
  let v0 : BitVec 32 := Scalar.remsi arg0 c80_i32
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  have v7 : IVec S32x128 32 := iota .tc S32x128 32 [1] iota_S32x128_d1_w32
  let c4_i32 : BitVec 32 := 4#32
  let v8 : BitVec 32 := Scalar.remsi v0 c4_i32
  let c32_i32 : BitVec 32 := 32#32
  let v9 : BitVec 32 := Scalar.muli v8 c32_i32
  let c4_i32_3 : BitVec 32 := 4#32
  let v10 : BitVec 32 := Scalar.remsi v0 c4_i32_3
  let c0_i32_4 : BitVec 32 := 0#32
  let v11 : BitVec 1 := Scalar.cmpi .eq v10 c0_i32_4
  let c0 : Index := 0#32
  let c0_5 : Index := 0#32
  let c0_6 : Index := 0#32
  let c0_7 : Index := 0#32
  let v12 : Vec F S1x32x1x128 .f32 ← Prog.lift (.load arg12 (Rect.unit (s := S1x32x4x128) ![0, 0, 0, 0] S1x32x1x128.size inb_S1x32x4x128_S1x32x1x128_0_0_0_0).toLoadRect (View.loadsAt_vmem h_S1x32x1x128))
  have v13 : FVec F S32x128 .f32 := shapeCast S32x128 v12 shapeCasts_S1x32x1x128_S32x128
  have cst : F .f32 := Scalar.ofBits .f32 0x00000000#32
  have v14 : FVec F S32x128 .f32 := broadcast S32x128 cst
  have v15 : FVec F S32x128 .f32 := Scalar.select v11 v14 v13
  let c0_8 : Index := 0#32
  let c0_9 : Index := 0#32
  let v16 : Vec F S32x128 .bf16 ← Prog.lift (.load arg3 (Rect.unit (s := S1024x512) ![0, 0] S32x128.size inb_S1024x512_S32x128_0_0).toLoadRect (View.loadsAt_vmem h_S32x128))
  have v17 : FVec F S32x128 .f32 := extf .f32 v16 bitsLt_bf16_f32
  have v18 : FVec F S32x128 .f32 := absf v17
  have cst_10 : FVec F S32 .f32 := constant S32 .f32 0xFF800000#32
  have v19 : FVec F S32 .f32 := multiReduction .maximumf [1] S32 v18 0xFF800000#32 reduces_S32x128_S32 (.inl rfl) rfl
  have v20 : FVec F S32x1 .f32 := shapeCast S32x1 v19 shapeCasts_S32_S32x1
  have cst_11 : F .f32 := Scalar.ofBits .f32 0x3B124925#32
  have v21 : FVec F S32x1 .f32 := broadcast S32x1 cst_11
  have v22 : FVec F S32x1 .f32 := mulf v20 v21
  have v23 : FVec F S32x1 .f32 := log v22
  have cst_12 : F .f32 := Scalar.ofBits .f32 0x3FB8AA3B#32
  have v24 : FVec F S32x1 .f32 := broadcast S32x1 cst_12
  have v25 : FVec F S32x1 .f32 := mulf v23 v24
  have v26 : FVec F S32x1 .f32 := floor v25
  have cst_13 : F .f32 := Scalar.ofBits .f32 0x00000000#32
  have v27 : FVec F S32x1 .f32 := broadcast S32x1 cst_13
  have v28 : IVec S32x1 1 := cmpf .oeq v22 v27
  have cst_14 : F .f32 := Scalar.ofBits .f32 0xBF800000#32
  have v29 : FVec F S32x1 .f32 := broadcast S32x1 cst_14
  have v30 : FVec F S32x1 .f32 := select v28 v29 v26
  have cst_15 : F .f32 := Scalar.ofBits .f32 0x3F800000#32
  have v31 : FVec F S32x1 .f32 := broadcast S32x1 cst_15
  have v32 : FVec F S32x1 .f32 := addf v30 v31
  have v33 : FVec F S32x1 .f32 := exp2 v32
  have cst_16 : F .f32 := Scalar.ofBits .f32 0xBF800000#32
  pure ⟨arg0, v0, v7, v9, v11, v15, v17, v30, v33, cst_16⟩

/-- The second conditional store and the rest. -/
def acc72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    Prog (TpuEff nD τ sig (Elt F) Λ₀ .tc) (Σ' (arg0 : BitVec 32) (v0 : BitVec 32) (v7 : IVec S32x128 32) (v9 : BitVec 32) (v11 : BitVec 1) (v15 : FVec F S32x128 .f32) (v17 : FVec F S32x128 .f32) (v30 : FVec F S32x1 .f32) (v33 : FVec F S32x1 .f32), F .f32) :=
  if h : condOf (Scalar.cmpi .eq (stepB (BitVec.ofNat 32 (i 0).val)) 0#32) = 1#1 then
    (ldst arg13 ![1, 2560, 640] ![0, 0, 0] (by decide) (by decide)
      (View.stores_vmem_bits_univ (show 0 < Shape.numel ⟨3, ![1, 2560, 640]⟩ by decide) rfl) (broadcast ⟨3, ![1, 2560, 640]⟩ (Scalar.ofBits .f32 0x00000000#32))) >>= fun _ => rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  else rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

/-- The tiles as printed. -/
def tiles (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5424 : BitVec 32) (v5427 : IVec S1x128 32) (v5429 : BitVec 32) (k0_h8 : k0_cond8 v5429 = 1#1) :
    Prog (TpuEff nD τ sig (Elt F) Λ₀ .tc) PUnit := do
  let arg0 : BitVec 32 := BitVec.ofNat 32 (i 0).val
  let ⟨v5461, v5463, k0_hw1, v5465, v5473, v5476, v5485_0, v5485_2, v5487, v5488, v5496⟩ : Σ' (v5461 : BitVec 32) (v5463 : Elt F .i32) (k0_hw1 : k0_chk1 i v5429 v5463) (v5465 : BitVec 32) (v5473 : FVec F S1x256 .f32) (v5476 : FVec F S1x256 .f32) (v5485_0 : FVec F S1x256 .f32) (v5485_2 : FVec F S256x512 .f32) (v5487 : FVec F S1x256 .f32) (v5488 : FVec F S1x256 .f32), FVec F S256 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v5423 v5424 v5427 v5429 k0_h8
  let ⟨v5516, v5539, v5540, c1_i32_2075⟩ : Σ' (v5516 : FVec F S1x256 .f32) (v5539 : BitVec 32) (v5540 : FVec F S256x640 .f32), BitVec 32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5473 v5476 v5485_0 v5485_2 v5487 v5488 v5496
  let ⟨v5555, v5558, v5567_0, v5567_2, v5569, v5570, v5578⟩ : Σ' (v5555 : FVec F S1x256 .f32) (v5558 : FVec F S1x256 .f32) (v5567_0 : FVec F S1x256 .f32) (v5567_2 : FVec F S256x512 .f32) (v5569 : FVec F S1x256 .f32) (v5570 : FVec F S1x256 .f32), FVec F S256 .f32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5487 v5488 v5516 v5539 v5540 c1_i32_2075
  let ⟨v5598, v5621, v5622, c1_i32_2109⟩ : Σ' (v5598 : FVec F S1x256 .f32) (v5621 : BitVec 32) (v5622 : FVec F S256x640 .f32), BitVec 32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5555 v5558 v5567_0 v5567_2 v5569 v5570 v5578
  let ⟨v5637, v5640, v5649_0, v5649_2, v5651, v5652, v5660⟩ : Σ' (v5637 : FVec F S1x256 .f32) (v5640 : FVec F S1x256 .f32) (v5649_0 : FVec F S1x256 .f32) (v5649_2 : FVec F S256x512 .f32) (v5651 : FVec F S1x256 .f32) (v5652 : FVec F S1x256 .f32), FVec F S256 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5569 v5570 v5598 v5621 v5622 c1_i32_2109
  let ⟨v5680, v5703, v5704, c1_i32_2143⟩ : Σ' (v5680 : FVec F S1x256 .f32) (v5703 : BitVec 32) (v5704 : FVec F S256x640 .f32), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5637 v5640 v5649_0 v5649_2 v5651 v5652 v5660
  let ⟨v5719, v5722, v5731_0, v5731_2, v5733, v5734, v5742⟩ : Σ' (v5719 : FVec F S1x256 .f32) (v5722 : FVec F S1x256 .f32) (v5731_0 : FVec F S1x256 .f32) (v5731_2 : FVec F S256x512 .f32) (v5733 : FVec F S1x256 .f32) (v5734 : FVec F S1x256 .f32), FVec F S256 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v5429 k0_h8 v5461 v5463 k0_hw1 v5465 v5651 v5652 v5680 v5703 v5704 c1_i32_2143
  let ⟨v5762, v5785, v5786, c1_i32_2177⟩ : Σ' (v5762 : FVec F S1x256 .f32) (v5785 : BitVec 32) (v5786 : FVec F S256x640 .f32), BitVec 32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5461 v5463 k0_hw1 v5465 v5719 v5722 v5731_0 v5731_2 v5733 v5734 v5742
  let v5787 : FVec F S256x640 .f32 ← Scf.Loop.for (k0_t24_loop i v5463) (k0_t24_ok i v5429 v5463 k0_hw1 k0_h8) v5786 fun k0_t24 arg20 => do
    let ⟨v5795, v5805, v5831⟩ : Σ' (v5795 : BitVec 32) (v5805 : FVec F S256x256 .bf16), FVec F S256x128 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5429 k0_h8 v5463 k0_hw1 v5733 v5734 v5762 v5785 c1_i32_2177 k0_t24
    let v5833 : Vec F S1x256x128 .f32 ← Prog.lift (.load arg13 (Rect.unit (s := S1x2560x640) (k0_off105 i v5463 k0_t24) S1x256x128.size (k0_off105_inb i v5429 v5463 k0_hw1 k0_t24 k0_h8)).toLoadRect (View.loadsAt_vmem h_S1x256x128))
    have v5834 : FVec F S256x128 .f32 := shapeCast S256x128 v5833 shapeCasts_S1x256x128_S256x128
    have v5835 : FVec F S1x256x128 .f32 := shapeCast S1x256x128 v5831 shapeCasts_S256x128_S1x256x128
    Prog.lift (.store arg13 (Rect.unit (s := S1x2560x640) (k0_off105 i v5463 k0_t24) S1x256x128.size (k0_off105_inb i v5429 v5463 k0_hw1 k0_t24 k0_h8)) v5835 Finset.univ (View.stores_vmem_bits_univ h_S1x256x128 rfl) (.inl rfl))
    let v5836 : Index := Scalar.indexCast v5795
    let c0_2202 : Index := 0#32
    let v5837 : Vec F S256x640 .bf16 ← Prog.lift (.load arg6 (Rect.unit (s := S2560x640) (k0_off106 i v5463 k0_t24) S256x640.size (k0_off106_inb i v5429 v5463 k0_hw1 k0_t24 k0_h8)).toLoadRect (View.loadsAt_vmem h_S256x640))
    have cst_2203 : FVec F S256x640 .f32 := constant S256x640 .f32 0x00000000#32
    have v5838 : FVec F S256x640 .f32 := matmul dot_S256x256_S256x640_S256x640_0_0_1_1_n_n none v5805 v5837 cst_2203
    have v5839 : FVec F S256x640 .f32 := addf arg20 v5838
    pure v5839
  have cst_2178 : F .f32 := Scalar.ofBits .f32 0x3D93CD3A#32
  have v5788 : FVec F S256x640 .f32 := broadcast S256x640 cst_2178
  have v5789 : FVec F S256x640 .f32 := mulf v5787 v5788
  have v5790 : FVec F S256x512 .f32 := extractStridedSlice S256x512 ![0, 0] v5789 slices_S256x640_o0_0_S256x512
  let c768_2179 : Index := 768#32
  let c0_2180 : Index := 0#32
  let v5791 : Vec F S256x512 .f32 ← Prog.lift (.load arg9 (Rect.unit (s := S1024x512) ![768, 0] S256x512.size inb_S1024x512_S256x512_768_0).toLoadRect (View.loadsAt_vmem h_S256x512))
  Prog.lift (.store arg9 (Rect.unit (s := S1024x512) ![768, 0] S256x512.size inb_S1024x512_S256x512_768_0) v5790 Finset.univ (View.stores_vmem_bits_univ h_S256x512 rfl) (.inl rfl))
  have v5792 : FVec F S256x64 .f32 := extractStridedSlice S256x64 ![0, 512] v5789 slices_S256x640_o0_512_S256x64
  let c768_2181 : Index := 768#32
  let c0_2182 : Index := 0#32
  let v5793 : Vec F S256x64 .f32 ← Prog.lift (.load arg10 (Rect.unit (s := S1024x64) ![768, 0] S256x64.size inb_S1024x64_S256x64_768_0).toLoadRect (View.loadsAt_vmem h_S256x64))
  Prog.lift (.store arg10 (Rect.unit (s := S1024x64) ![768, 0] S256x64.size inb_S1024x64_S256x64_768_0) v5792 Finset.univ (View.stores_vmem_bits_univ h_S256x64 rfl) (.inl rfl))
  pure ⟨⟩

set_option maxRecDepth 65536 in
theorem h72' (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    if h : condOf (Scalar.cmpi .eq (BitVec.ofNat 32 (i 0).val) 0#32) = 1#1 then
      (ldst arg14 (M 1024 128).size ![0, 640] (by decide) (by decide)
        (View.stores_vmem (show 0 < (M 1024 128).numel by decide) (harg14.storeExact_slice rfl _ (by decide)) (fun _ => rfl)) (shapeCast (M 1024 128) oneHot rfl)) >>= fun _ => acc72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    else acc72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  sl_kernel_rfl

set_option maxRecDepth 65536 in
theorem h72 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (proHot ⟨arg1, arg2, arg3, arg4, arg5, arg6, arg7, arg8, arg9, arg10, arg11, arg12, arg13, arg14, arg15, arg16, arg17, arg18, harg7, harg11, harg14, harg15, harg16⟩ (BitVec.ofNat 32 (i 0).val) >>= fun _ => proAcc ⟨arg1, arg2, arg3, arg4, arg5, arg6, arg7, arg8, arg9, arg10, arg11, arg12, arg13, arg14, arg15, arg16, arg17, arg18, harg7, harg11, harg14, harg15, harg16⟩ (BitVec.ofNat 32 (i 0).val) >>= fun _ => rest72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  refine (h72' i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18).trans ?_
  unfold proHot proAcc acc72
  simp only [dite_then]
  rfl

set_option maxRecDepth 65536 in
theorem h64 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) :
    k0_part64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v5423 (Scalar.muli (stepB (BitVec.ofNat 32 (i 0).val)) 32#32) v5427 v h8 =
    (smemLoad (Val := Elt F) (e := .i32) arg1 (Rect.unit (s := ⟨1, ![160]⟩) (k0_off2 i) ![1] (k0_off2_inb i)) (show Shape.numel ⟨1, ![1]⟩ = 1 by decide) rfl >>= fun w =>
      Prog.lift (TpuEff.assume (k0_chk1 i v w) (k0_chk1.dec i v w)) >>= fun c =>
      head ⟨arg1, arg2, arg3, arg4, arg5, arg6, arg7, arg8, arg9, arg10, arg11, arg12, arg13, arg14, arg15, arg16, arg17, arg18, harg7, harg11, harg14, harg15, harg16⟩ consts v5423 v5427 0 (lo0 i v w c.down h8) fun r => pure ⟨tileHi i, w, c.down, tileLo i w, r.smax, r.m, r.den, r.o, r.rden, r.dt, r.row⟩) := by
  sl_kernel_rfl

set_option maxRecDepth 65536 in
theorem h65 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 0 (lo0 i v w hw h8) r fun wg dq => pure ⟨wg, (k0_t6_loop i w).lb, dq, 1#32⟩ := by
  sl_kernel_rfl

set_option maxRecDepth 65536 in
theorem h66 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 0 (lo0 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 1 (lo1 i v w hw h8) fun r => pure ⟨r.smax, r.m, r.den, r.o, r.rden, r.dt, r.row⟩) := by
  sl_kernel_rfl

set_option maxRecDepth 65536 in
theorem h67 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 1 (lo1 i v w hw h8) r fun wg dq => pure ⟨wg, (k0_t6_loop i w).lb, dq, 1#32⟩ := by
  sl_kernel_rfl

set_option maxRecDepth 65536 in
theorem h68 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 1 (lo1 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 2 (lo2 i v w hw h8) fun r => pure ⟨r.smax, r.m, r.den, r.o, r.rden, r.dt, r.row⟩) := by
  sl_kernel_rfl

set_option maxRecDepth 65536 in
theorem h69 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 2 (lo2 i v w hw h8) r fun wg dq => pure ⟨wg, (k0_t6_loop i w).lb, dq, 1#32⟩ := by
  sl_kernel_rfl

set_option maxRecDepth 65536 in
theorem h70 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) (wg : FVec F S1x256 .f32) (dq : FVec F S256x640 .f32) :
    k0_part70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 (tileHi i) w hw (tileLo i w) r.rden r.dt wg (k0_t6_loop i w).lb dq 1#32 =
    tail ⟨arg1, arg2, arg3, arg4, arg5, arg6, arg7, arg8, arg9, arg10, arg11, arg12, arg13, arg14, arg15, arg16, arg17, arg18, harg7, harg11, harg14, harg15, harg16⟩ 2 (lo2 i v w hw h8) r.rden r.dt wg dq (head ⟨arg1, arg2, arg3, arg4, arg5, arg6, arg7, arg8, arg9, arg10, arg11, arg12, arg13, arg14, arg15, arg16, arg17, arg18, harg7, harg11, harg14, harg15, harg16⟩ consts v5423 v5427 3 (lo3 i v w hw h8) fun r => pure ⟨r.smax, r.m, r.den, r.o, r.rden, r.dt, r.row⟩) := by
  sl_kernel_rfl

set_option maxRecDepth 65536 in
theorem h71 (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) (w : BitVec 32) (hw : k0_chk1 i v w) (r : Sums F) :
    k0_part71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v h8 (tileHi i) w hw (tileLo i w) r.smax r.m r.den r.o r.rden r.dt r.row =
    mid ⟨arg1, arg2, arg3, arg4, arg5, arg6, arg7, arg8, arg9, arg10, arg11, arg12, arg13, arg14, arg15, arg16, arg17, arg18, harg7, harg11, harg14, harg15, harg16⟩ consts 3 (lo3 i v w hw h8) r fun wg dq => pure ⟨wg, (k0_t6_loop i w).lb, dq, 1#32⟩ := by
  sl_kernel_rfl

set_option maxRecDepth 65536 in
theorem tiles_eq (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) (v5423 : Vec F S1x128 .i32) (v5427 : IVec S1x128 32) (v : BitVec 32) (h8 : k0_cond8 v = 1#1) :
    tiles (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 (Scalar.muli (stepB (BitVec.ofNat 32 (i 0).val)) 32#32) v5427 v h8 =
    (smemLoad (Val := Elt F) (e := .i32) arg1 (Rect.unit (s := ⟨1, ![160]⟩) (k0_off2 i) ![1] (k0_off2_inb i)) (show Shape.numel ⟨1, ![1]⟩ = 1 by decide) rfl >>= fun w =>
      Prog.lift (TpuEff.assume (k0_chk1 i v w) (k0_chk1.dec i v w)) >>= fun c =>
      long ⟨arg1, arg2, arg3, arg4, arg5, arg6, arg7, arg8, arg9, arg10, arg11, arg12, arg13, arg14, arg15, arg16, arg17, arg18, harg7, harg11, harg14, harg15, harg16⟩ consts v5423 v5427 ((offs i).lo v w c.down h8)) := by
  unfold tiles long quarter
  refine (congrArg (fun p => p >>= _) (h64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8)).trans ?_
  refine (Prog.bind_assoc _ _ _).trans ?_
  refine congrArg (Bind.bind _) (funext fun w => ?_)
  refine (Prog.bind_assoc _ _ _).trans ?_
  refine congrArg (Bind.bind _) (funext fun c => ?_)
  refine (head_bind _ _ _ _ _ _ _ _).trans ?_
  refine congrArg (head (F := F) _ _ _ _ 0 (lo0 i v w c.down h8)) (funext fun r0 => ?_)
  refine (congrArg (fun p => p >>= _) (h65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r0)).trans ?_
  refine (mid_bind _ _ _ _ _ _ _).trans ?_
  refine congrArg (mid (F := F) _ _ 0 (lo0 i v w c.down h8) _) (funext fun wg => funext fun dq => ?_)
  refine (congrArg (fun p => p >>= _) (h66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r0 wg dq)).trans ?_
  refine (tail_bind _ _ _ _ _ _ _ _ _).trans ?_
  refine congrArg (tail (F := F) _ 0 (lo0 i v w c.down h8) _ _ _ _) ?_
  refine (head_bind _ _ _ _ _ _ _ _).trans ?_
  refine congrArg (head (F := F) _ _ _ _ 1 (lo1 i v w c.down h8)) (funext fun r1 => ?_)
  refine (congrArg (fun p => p >>= _) (h67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r1)).trans ?_
  refine (mid_bind _ _ _ _ _ _ _).trans ?_
  refine congrArg (mid (F := F) _ _ 1 (lo1 i v w c.down h8) _) (funext fun wg => funext fun dq => ?_)
  refine (congrArg (fun p => p >>= _) (h68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r1 wg dq)).trans ?_
  refine (tail_bind _ _ _ _ _ _ _ _ _).trans ?_
  refine congrArg (tail (F := F) _ 1 (lo1 i v w c.down h8) _ _ _ _) ?_
  refine (head_bind _ _ _ _ _ _ _ _).trans ?_
  refine congrArg (head (F := F) _ _ _ _ 2 (lo2 i v w c.down h8)) (funext fun r2 => ?_)
  refine (congrArg (fun p => p >>= _) (h69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r2)).trans ?_
  refine (mid_bind _ _ _ _ _ _ _).trans ?_
  refine congrArg (mid (F := F) _ _ 2 (lo2 i v w c.down h8) _) (funext fun wg => funext fun dq => ?_)
  refine (congrArg (fun p => p >>= _) (h70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r2 wg dq)).trans ?_
  refine (tail_bind _ _ _ _ _ _ _ _ _).trans ?_
  refine congrArg (tail (F := F) _ 2 (lo2 i v w c.down h8) _ _ _ _) ?_
  refine (head_bind _ _ _ _ _ _ _ _).trans ?_
  refine congrArg (head (F := F) _ _ _ _ 3 (lo3 i v w c.down h8)) (funext fun r3 => ?_)
  refine (congrArg (fun p => p >>= _) (h71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5423 v5427 v h8 w c.down r3)).trans ?_
  refine (mid_bind _ _ _ _ _ _ _).trans ?_
  refine congrArg (mid (F := F) _ _ 3 (lo3 i v w c.down h8) _) (funext fun wg => funext fun dq => ?_)
  sl_kernel_rfl

theorem rot {E : Type → Type} {α β γ : Type} (a b : Prog E PUnit) (c : Prog E α) (f : α → Prog E β) (g : β → Prog E γ) :
    (((a >>= fun _ => b >>= fun _ => c) >>= f) >>= g) = (a >>= fun _ => b >>= fun _ => (c >>= f) >>= g) := by
  simp only [Prog.bind_assoc]

set_option maxRecDepth 65536 in
/-- The printed body is the written one. -/
theorem body_eq (i : grid0.Coords) (arg1 : Memref sig .tc .smem S160 .i32) (harg1 : arg1.IsWhole) (arg2 : Memref sig .tc .vmem S160x128 .i32) (harg2 : arg2.IsWhole) (arg3 : Memref sig .tc .vmem S1024x512 .bf16) (harg3 : arg3.IsWhole) (arg4 : Memref sig .tc .vmem S1024x64 .bf16) (harg4 : arg4.IsWhole) (arg5 : Memref sig .tc .vmem S1024x512 .bf16) (harg5 : arg5.IsWhole) (arg6 : Memref sig .tc .vmem S2560x640 .bf16) (harg6 : arg6.IsWhole) (arg7 : Memref sig .tc .vmem S1024x512 .bf16) (harg7 : arg7.IsWhole) (arg8 : Memref sig .tc .vmem S1x4x256 .f32) (harg8 : arg8.IsWhole) (arg9 : Memref sig .tc .vmem S1024x512 .f32) (harg9 : arg9.IsWhole) (arg10 : Memref sig .tc .vmem S1024x64 .f32) (harg10 : arg10.IsWhole) (arg11 : Memref sig .tc .vmem S1024x512 .fp8e4m3) (harg11 : arg11.IsWhole) (arg12 : Memref sig .tc .vmem S1x32x4x128 .f32) (harg12 : arg12.IsWhole) (arg13 : Memref sig .tc .vmem S1x2560x640 .f32) (harg13 : arg13.IsWhole) (arg14 : Memref sig .tc .vmem S1024x768 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S2560x256 .f32) (harg17 : arg17.IsWhole) (arg18 : Memref sig .tc .vmem S2560x256 .f32) (harg18 : arg18.IsWhole) :
    cc0_mla_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = body ⟨arg1, arg2, arg3, arg4, arg5, arg6, arg7, arg8, arg9, arg10, arg11, arg12, arg13, arg14, arg15, arg16, arg17, arg18, harg7, harg11, harg14, harg15, harg16⟩ consts (BitVec.ofNat 32 (i 0).val) (offs i) := by
  refine (congrArg (fun p => (p >>= _) >>= _) (h72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)).trans ?_
  refine (rot _ _ _ _ _).trans ?_
  refine congrArg (Bind.bind _) (funext fun _ => ?_)
  refine congrArg (Bind.bind _) (funext fun _ => ?_)
  refine Eq.trans (b := (pro ⟨arg1, arg2, arg3, arg4, arg5, arg6, arg7, arg8, arg9, arg10, arg11, arg12, arg13, arg14, arg15, arg16, arg17, arg18, harg7, harg11, harg14, harg15, harg16⟩ consts (BitVec.ofNat 32 (i 0).val) >>= fun _ => do
    let starts ← ld arg2 (M 1 128).size (offs i).st (offs i).ist (by decide)
    let need ← smemLoad (Val := Elt F) (e := .i32) arg1 (Rect.unit (s := ⟨1, ![160]⟩) (offs i).nd ![1] (offs i).ind) (show Shape.numel ⟨1, ![1]⟩ = 1 by decide) rfl
    let t0 : BitVec 32 := (Scalar.muli (stepB (BitVec.ofNat 32 (i 0).val)) 32#32)
    let qpos : IVec (M 1 128) 32 := addi (broadcast (M 1 128) t0) (iota .tc (M 1 128) 32 [1] (by decide))
    if h : condW 0#32 128#32 need = 1#1 then window wf128 (offs i).w3 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 128#32 256#32 need = 1#1 then window wf256 (offs i).w4 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 256#32 384#32 need = 1#1 then window wf384 (offs i).w5 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 384#32 512#32 need = 1#1 then window wf512 (offs i).w6 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : condW 512#32 768#32 need = 1#1 then window wf768 (offs i).w7 ⟨arg1, arg2, arg3, arg4, arg5, arg6, arg7, arg8, arg9, arg10, arg11, arg12, arg13, arg14, arg15, arg16, arg17, arg18, harg7, harg11, harg14, harg15, harg16⟩ consts starts qpos t0 else pure ⟨⟩
    if h : k0_cond8 need = 1#1 then tiles i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 starts t0 qpos need h else pure ⟨⟩)) (by sl_kernel_rfl) ?_
  simp only [tiles_eq, windows, dite_then]
  rfl

end Cert.Kernel.Eq
end
-- ==== Proof.ChkKernel.lean ====
module
public import proofs.«01_k».proof.Kernel
public import proofs.«01_k».proof.Proof.Tiles
@[expose] public section

/-! What `Kernel`'s tiles assume of a step holds of a step that needs no more keys than there are. -/

noncomputable section
namespace Cert.Kernel.Eq
open Idealize.ShloMosaic Idealize.SL.Sem Attn

theorem k0_chk1_0_of (i : grid0.Coords) (v w : BitVec 32) (b n : Nat) (h : Step (BitVec.ofNat 32 (i 0).val) w b n) : k0_chk1_0 i v w :=
  ⟨fun _ => okA h,
   fun k _ => dvdA h k,
   fun k _ => inb2 (tileA_le h k) (by decide),
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k⟩

theorem k0_chk1_1_of (i : grid0.Coords) (v w : BitVec 32) (b n : Nat) (h : Step (BitVec.ofNat 32 (i 0).val) w b n) : k0_chk1_1 i v w :=
  ⟨fun k _ => inb2 (tileA_le h k) (by decide),
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide)⟩

theorem k0_chk1_2_of (i : grid0.Coords) (v w : BitVec 32) (b n : Nat) (h : Step (BitVec.ofNat 32 (i 0).val) w b n) : k0_chk1_2 i v w :=
  ⟨fun k _ => inb2 (tileA_le h k) (by decide),
   fun _ => okB _ _,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun k _ => inb2 (tileA_le h k) (by decide),
   fun _ => okB _ _⟩

theorem k0_chk1_3_of (i : grid0.Coords) (v w : BitVec 32) (b n : Nat) (h : Step (BitVec.ofNat 32 (i 0).val) w b n) : k0_chk1_3 i v w :=
  ⟨fun k _ => (noB _ _ k).elim,
   fun k _ => (noB _ _ k).elim,
   fun k _ => (noB _ _ k).elim,
   fun k _ => (noB _ _ k).elim,
   fun _ => okA h,
   fun k _ => dvdA h k,
   fun k _ => inb2 (tileA_le h k) (by decide),
   fun k _ => inb2 (tileA_le h k) (by decide),
   fun _ => okB _ _,
   fun k _ => (noB _ _ k).elim,
   fun k _ => (noB _ _ k).elim,
   fun k _ => (noB _ _ k).elim,
   fun _ => okA h,
   fun k _ => dvdA h k,
   fun k _ => inb2 (tileA_le h k) (by decide),
   fun k _ => inb3 (tileA_le h k) (by decide),
   fun k _ => inb3 (tileA_le h k) (by decide),
   fun k _ => inb2 (tileA_le h k) (by decide),
   fun _ => okB _ _,
   fun k _ => (noB _ _ k).elim,
   fun k _ => (noB _ _ k).elim,
   fun k _ => (noB _ _ k).elim,
   fun k _ => (noB _ _ k).elim,
   fun k _ => (noB _ _ k).elim⟩

/-- The whole assumption. -/
theorem chk_of (i : grid0.Coords) (v w : BitVec 32) (b n : Nat) (h : Step (BitVec.ofNat 32 (i 0).val) w b n) : k0_chk1 i v w :=
  ⟨k0_chk1_0_of i v w b n h, k0_chk1_1_of i v w b n h, k0_chk1_2_of i v w b n h, k0_chk1_3_of i v w b n h⟩

end Cert.Kernel.Eq
end
-- ==== Proof.RunKernel.lean ====
module
public import proofs.«01_k».proof.Proof.Gen.Kernel.Launch
public import proofs.«01_k».proof.Proof.EqKernel
public import proofs.«01_k».proof.Proof.Pro
public import proofs.«01_k».proof.Proof.ChkKernel
public import Idealize.ShloMosaic.Lib.Pipeline.FrameBody
public import Idealize.ShloMosaic.Lib.Pipeline.ArrRel
@[expose] public section

/-! The run of `Kernel`: from a proof that the body does its work at each point of the grid to what the arrays hold at the end. -/

noncomputable section
namespace Cert.Kernel.Run
open Cert.Kernel Cert.Kernel.Gen
open Idealize.ShloMosaic Idealize.ShloMosaic.TcCoe Idealize.SL Idealize.SL.Sem Attn ValueIdx
open Idealize.SL.BI (sProp)
open scoped Idealize.SL.BI
open Idealize.SL.BI.BIBase Idealize.SL.BI.Laws Idealize.SL.ProofMode
open Idealize.SL.RA
open Idealize.ShloMosaic.Pipeline (RDat)
open Idealize.ShloMosaic

variable {F : FTy → Type} [FloatOps F] [∀ e, Nonempty (Elt F e)]
local notation "𝕄" => MT nD τ sig Unit (Elt F) ℕ (UR sig nD τ) ℕ
variable (m : (ℓ : Loc nD τ sig) → Buf (Elt F) ℓ) (ρ : Dev nD → PrngReg)

/-- What the region finds in the arrays. -/
abbrev V (c : Dev nD) (b : Ref sig .tc) : Buf (Elt F) ((c.tc : Thread nD τ).loc b) := m ((c.tc : Thread nD τ).loc b)

/-- The table of the steps' key counts, as the pipeline is pinned at it. -/
def adm : (p : Fin 1) → (pcfgs (F := F) p).Adm := fun _ => ⟨fun k => m (((0 : Dev nD).tc : Thread nD τ).loc (pre0.ref k)), trivial⟩

abbrev cfgA : Pipeline.Cfg sig Λ₀ := cfg0 (adm m 0)

/-- The table on core `c`. -/
def tab (c : Dev nD) : Vec F ⟨1, ![160]⟩ .i32 := m ((c.tc : Thread nD τ).loc main_arg0)

/-- The buffers at staging slots `s`. -/
def argsAt (s : (w : Fin 12) → Fin (spec0 w).nbuf) : Args sig :=
  ⟨Memref.whole main_arg0, spec0_0.stage (s 0), spec0_1.stage (s 1), spec0_2.stage (s 2), spec0_3.stage (s 3), spec0_4.stage (s 4), spec0_5.stage (s 5), spec0_6.stage (s 6), spec0_7.stage (s 7), spec0_8.stage (s 8), spec0_9.stage (s 9), spec0_10.stage (s 10), spec0_11.stage (s 11), Memref.whole cc0_scratch0, Memref.whole cc0_scratch1, Memref.whole cc0_scratch2, Memref.whole cc0_scratch3, Memref.whole cc0_scratch4,
   hstage0_5 ((s 5).cast nbuf0_5), hstage0_9 ((s 9).cast nbuf0_9), Memref.isWhole_whole _, Memref.isWhole_whole _, Memref.isWhole_whole _⟩

/-- The body's row of the table is the written body. -/
theorem row (t : Fin (cfgA m).N) : defs₀ (F := F) .tc (cfgA m).body ((cfgA m).bodyArgs t ((cfgA m).slots t))
    = body (argsAt ((cfgA m).slots t)) Eq.consts (BitVec.ofNat 32 (grid0.coords t 0).val) (Eq.offs (grid0.coords t)) := by
  unfold defs₀; rw [Defs.onTc_tc]
  exact Eq.body_eq _ _ _ _ _ _ _ _ _ _ _ _ _ _ _ _ _ _ _ _ _ _ _ _ _ _ _ _ _ _ _ _ _ _ _ _ _

/-- What a fetch puts in an input's buffer that held `d`. -/
def fetched (c : Dev nD) (w : Fin (cfgA m).W) (t : Fin (cfgA m).N) (d : ((cfgA m).win w).block.Idx → Elt F ((cfgA m).win w).elt) :
    ((cfgA m).win w).block.Idx → Elt F ((cfgA m).win w).elt :=
  ((cfgA m).win w).fill ((cfgA m).grid.coords t) d ((((cfgA m).win w).blk t).view.read (Elt F) (V m c (Pipeline.arrRef spec0 w)))

/-- The state holds the table and the inputs' blocks of point `t`. -/
structure Inp (c : Dev nD) (t : Fin (cfgA m).N) (s : St F) : Prop where
  h1 : s.x1 = tab m c
  h2 : ∃ d, s.x2 = fetched m c (0 : Fin 12) t d
  h3 : ∃ d, s.x3 = fetched m c (1 : Fin 12) t d
  h4 : ∃ d, s.x4 = fetched m c (2 : Fin 12) t d
  h5 : ∃ d, s.x5 = fetched m c (3 : Fin 12) t d
  h6 : ∃ d, s.x6 = fetched m c (4 : Fin 12) t d
  hot : condOf (Scalar.cmpi .eq (BitVec.ofNat 32 (grid0.coords t 0).val) 0#32) = 1#1 ∨ Hot s.x14

/-- What the body leaves: its inputs, and in the outputs what `RO` and `RL` say. -/
structure Out (RO : Fin (cfgA m).N → Vec F (M 1024 512) .bf16 → Prop) (RL : Fin (cfgA m).N → Vec F ⟨3, ![1, 4, 256]⟩ .f32 → Prop)
    (t : Fin (cfgA m).N) (s s' : St F) : Prop where
  ki : KI s s'
  ro : RO t s'.x7
  rl : RL t s'.x8
  hot : Hot s'.x14

variable (RO : Dev nD → Fin (cfgA m).N → Vec F (M 1024 512) .bf16 → Prop) (RL : Dev nD → Fin (cfgA m).N → Vec F ⟨3, ![1, 4, 256]⟩ .f32 → Prop)

/-- The body does its work at every point. -/
def Works : Prop := ∀ (c : Dev nD) (t : Fin (cfgA m).N) (s : St F), Inp m c t s →
  Tr (Ix := Unit) (Name := ℕ) (U := UR sig nD τ) (Lvl := ℕ) (defs₀ (F := F)) Variants.none c none Set.univ fullShare.right (argsAt ((cfgA m).slots t))
    (body (argsAt ((cfgA m).slots t)) Eq.consts (BitVec.ofNat 32 (grid0.coords t 0).val) (Eq.offs (grid0.coords t))) s
    fun _ s' => Out m (RO c) (RL c) t s s'

/-- What is held between two points: the table, and the scratch at some contents. -/
def Φ (c : Dev nD) (t : Nat) : sProp 𝕄 :=
  iprop((∃ d, ⌜0 < t → Hot d⌝ ∗ owns (c.tc : Thread nD τ) (Memref.whole cc0_scratch0) fullShare d)
    ∗ (∃ d, owns (c.tc : Thread nD τ) (Memref.whole cc0_scratch1) fullShare d) ∗ (∃ d, owns (c.tc : Thread nD τ) (Memref.whole cc0_scratch2) fullShare d)
    ∗ (∃ d, owns (c.tc : Thread nD τ) (Memref.whole cc0_scratch3) fullShare d) ∗ (∃ d, owns (c.tc : Thread nD τ) (Memref.whole cc0_scratch4) fullShare d)
    ∗ owns (c.tc : Thread nD τ) (Memref.whole main_arg0) fullShare.right (tab m c) ∗ ∃ r, prngReg c r)

/-- The data of the run. -/
def rdat (c : Dev nD) : RDat τ (Elt F) Unit ℕ (UR sig nD τ) ℕ (cfgA m) c where
  A w := V m c (Pipeline.arrRef spec0 w)
  after w t Y X := (w.val < 5 → X = Y) ∧ (∀ Z, w = (5 : Fin 12) → HEq X Z → RO c t Z) ∧ (∀ Z, w = (6 : Fin 12) → HEq X Z → RL c t Z)
  Φ t := Φ m c t.val
  q _ := fullShare
  owed _ := 0

theorem finds_in (c : Dev nD) (w : Fin 12) (hw : w.val < 5) (hout : ((cfgA m).win w).isOut = false) (t : Fin (cfgA m).N) (Y) (h : (rdat m RO RL c).Finds w t Y) :
    ∃ d, Y = fetched m c w t d :=
  RDat.finds_in_eq_fetched (rdat m RO RL c) w hout (fun _ _ _ => rfl) (fun t Y X h => h.1 hw) t Y h

theorem coord_val (t : Fin (cfgA m).N) : (grid0.coords t 0).val = t.val := by
  rw [Pipeline.Grid.coords_val (G := grid0) t 0 (S := 1) (B := 160) (by decide) rfl, Nat.div_one]
  exact Nat.mod_eq_of_lt (by have := t.isLt; have h : (cfgA m).N = 160 := N_0; omega)

theorem first (t : Fin (cfgA m).N) (h : t.val = 0) : condOf (Scalar.cmpi .eq (BitVec.ofNat 32 (grid0.coords t 0).val) 0#32) = 1#1 := by
  rw [coord_val, h]; decide

theorem obligation (hW : Works m RO RL) (c : Dev nD) :
    (rdat m RO RL c).BodyObligation (defs₀ (F := F)) Variants.none () Set.univ := by
  intro t Y hY
  rw [row]
  rw [bigSep_W0]
  show iprop(Φ m c t.val ∗ (rdat m RO RL c).owesAt () t.castSucc ∗ _) ⊢ _
  unfold Φ
  iintro ⟨⟨⟨%d0, %h0, S0⟩, ⟨%d1, S1⟩, ⟨%d2, S2⟩, ⟨%d3, S3⟩, ⟨%d4, S4⟩, HT, Hg⟩, HO, W0, W1, W2, W3, W4, W5, W6, W7, W8, W9, W10, W11⟩
  have hw := hW c t ⟨tab m c, Y ((0 : Fin 12)), Y ((1 : Fin 12)), Y ((2 : Fin 12)), Y ((3 : Fin 12)), Y ((4 : Fin 12)), Y ((5 : Fin 12)), Y ((6 : Fin 12)), Y ((7 : Fin 12)), Y ((8 : Fin 12)), Y ((9 : Fin 12)), Y ((10 : Fin 12)), Y ((11 : Fin 12)), d0, d1, d2, d3, d4⟩
    ⟨rfl, finds_in m RO RL c 0 (by decide) rfl t _ (hY _), finds_in m RO RL c 1 (by decide) rfl t _ (hY _), finds_in m RO RL c 2 (by decide) rfl t _ (hY _),
     finds_in m RO RL c 3 (by decide) rfl t _ (hY _), finds_in m RO RL c 4 (by decide) rfl t _ (hY _),
     (Nat.eq_zero_or_pos t.val).imp (first m t) h0⟩
  iapply (wp_wand_r _ _ _ (Q := fun a => iprop(∃ s', ⌜Out m (RO c) (RL c) t _ s'⌝ ∗ Own c fullShare.right (argsAt ((cfgA m).slots t)) s')))
  isplitl [HT W0 W1 W2 W3 W4 W5 W6 W7 W8 W9 W10 W11 S0 S1 S2 S3 S4]
  · iapply hw.out
    unfold Own
    isplitl [HT]; · iexact HT
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [S0]; · iexact S0
    isplitl [S1]; · iexact S1
    isplitl [S2]; · iexact S2
    isplitl [S3]; · iexact S3
    iexact S4
  iintro %a ⟨%s', %hs, H⟩
  unfold Own
  icases H with ⟨T', W0', W1', W2', W3', W4', W5', W6', W7', W8', W9', W10', W11', S0', S1', S2', S3', S4'⟩
  obtain ⟨ki, ro, rl, hot⟩ := hs
  isplitl [T' S0' S1' S2' S3' S4' Hg]
  · rw [show (rdat m RO RL c).Φ t.succ = Φ m c (t.val + 1) from rfl]
    unfold Φ
    isplitl [S0']
    · iexists _; isplitr; swap; · iexact S0'
      ipureintro; exact fun _ => hot
    isplitl [S1']; · iexists _; iexact S1'
    isplitl [S2']; · iexists _; iexact S2'
    isplitl [S3']; · iexists _; iexact S3'
    isplitl [S4']; · iexists _; iexact S4'
    isplitl [T']
    · rw [show s'.x1 = tab m c from ki.e1]; iexact T'
    iexact Hg
  isplitl [HO]; · iexact HO
  rw [bigSep_W0]
  isplitl [W0']
  · iexists _; isplitr; swap; · iexact W0'
    ipureintro; exact ⟨fun _ => ki.e2, fun _ h => absurd (show (0 : Fin 12) = 5 from h) (by decide), fun _ h => absurd (show (0 : Fin 12) = 6 from h) (by decide)⟩
  isplitl [W1']
  · iexists _; isplitr; swap; · iexact W1'
    ipureintro; exact ⟨fun _ => ki.e3, fun _ h => absurd (show (1 : Fin 12) = 5 from h) (by decide), fun _ h => absurd (show (1 : Fin 12) = 6 from h) (by decide)⟩
  isplitl [W2']
  · iexists _; isplitr; swap; · iexact W2'
    ipureintro; exact ⟨fun _ => ki.e4, fun _ h => absurd (show (2 : Fin 12) = 5 from h) (by decide), fun _ h => absurd (show (2 : Fin 12) = 6 from h) (by decide)⟩
  isplitl [W3']
  · iexists _; isplitr; swap; · iexact W3'
    ipureintro; exact ⟨fun _ => ki.e5, fun _ h => absurd (show (3 : Fin 12) = 5 from h) (by decide), fun _ h => absurd (show (3 : Fin 12) = 6 from h) (by decide)⟩
  isplitl [W4']
  · iexists _; isplitr; swap; · iexact W4'
    ipureintro; exact ⟨fun _ => ki.e6, fun _ h => absurd (show (4 : Fin 12) = 5 from h) (by decide), fun _ h => absurd (show (4 : Fin 12) = 6 from h) (by decide)⟩
  isplitl [W5']
  · iexists _; isplitr; swap; · iexact W5'
    ipureintro; exact ⟨fun h => absurd (show (5 : Nat) < 5 from h) (by decide), fun _ _ hz => eq_of_heq hz ▸ ro, fun _ h => absurd (show (5 : Fin 12) = 6 from h) (by decide)⟩
  isplitl [W6']
  · iexists _; isplitr; swap; · iexact W6'
    ipureintro; exact ⟨fun h => absurd (show (6 : Nat) < 5 from h) (by decide), fun _ h => absurd (show (6 : Fin 12) = 5 from h) (by decide), fun _ _ hz => eq_of_heq hz ▸ rl⟩
  isplitl [W7']
  · iexists _; isplitr; swap; · iexact W7'
    ipureintro; exact ⟨fun h => absurd (show (7 : Nat) < 5 from h) (by decide), fun _ h => absurd (show (7 : Fin 12) = 5 from h) (by decide), fun _ h => absurd (show (7 : Fin 12) = 6 from h) (by decide)⟩
  isplitl [W8']
  · iexists _; isplitr; swap; · iexact W8'
    ipureintro; exact ⟨fun h => absurd (show (8 : Nat) < 5 from h) (by decide), fun _ h => absurd (show (8 : Fin 12) = 5 from h) (by decide), fun _ h => absurd (show (8 : Fin 12) = 6 from h) (by decide)⟩
  isplitl [W9']
  · iexists _; isplitr; swap; · iexact W9'
    ipureintro; exact ⟨fun h => absurd (show (9 : Nat) < 5 from h) (by decide), fun _ h => absurd (show (9 : Fin 12) = 5 from h) (by decide), fun _ h => absurd (show (9 : Fin 12) = 6 from h) (by decide)⟩
  isplitl [W10']
  · iexists _; isplitr; swap; · iexact W10'
    ipureintro; exact ⟨fun h => absurd (show (10 : Nat) < 5 from h) (by decide), fun _ h => absurd (show (10 : Fin 12) = 5 from h) (by decide), fun _ h => absurd (show (10 : Fin 12) = 6 from h) (by decide)⟩
  iexists _; isplitr; swap; · iexact W11'
  ipureintro; exact ⟨fun h => absurd (show (11 : Nat) < 5 from h) (by decide), fun _ h => absurd (show (11 : Fin 12) = 5 from h) (by decide), fun _ h => absurd (show (11 : Fin 12) = 6 from h) (by decide)⟩

theorem hin (c : Dev nD) : iprop(Pipeline.ΦA (cfgA m).spec c ∗ Pipeline.ΦT pre0 (adm m 0).1 c) ⊢ (rdat m RO RL c).Φ 0 := by
  show _ ⊢ Φ m c 0
  have hc : c = 0 := Subsingleton.elim _ _
  subst hc
  unfold Pipeline.ΦA Pipeline.ΦT Pipeline.prefHeld Φ
  rw [show ((cfgA m).spec) = spec0 from rfl, scopedRest0_eq, BI.bigSep_univ_eq_bigSepL [(0 : Fin 1)] (by decide) (by decide), BI.bigSepL_singleton]
  show iprop(_ ∗ (((0 : Dev nD).tc : Thread nD τ).loc main_arg0 ↦{fullShare.right} tab m 0)) ⊢ _
  simp only [owns_whole]
  iintro ⟨⟨⟨⟨%d0, S0⟩, S1, S2, S3, S4⟩, Hg⟩, HT⟩
  isplitl [S0]
  · iexists d0; isplitr; swap; · iexact S0
    ipureintro; exact fun h => absurd h (by decide)
  isplitl [S1]; · iexact S1
  isplitl [S2]; · iexact S2
  isplitl [S3]; · iexact S3
  isplitl [S4]; · iexact S4
  isplitl [HT]; · iexact HT
  iexact Hg

theorem hout (c : Dev nD) : (rdat m RO RL c).Φ (Fin.last (cfgA m).N) ⊢ Pipeline.ΦA (cfgA m).spec c := by
  show Φ m c (cfgA m).N ⊢ _
  unfold Pipeline.ΦA Φ
  rw [show ((cfgA m).spec) = spec0 from rfl, scopedRest0_eq]
  simp only [owns_whole]
  iintro ⟨⟨%d0, -, S0⟩, S1, S2, S3, S4, -, Hg⟩
  isplitr [Hg]; swap; · iexact Hg
  isplitl [S0]; · iexists _; iexact S0
  isplitl [S1]; · iexact S1
  isplitl [S2]; · iexact S2
  isplitl [S3]; · iexact S3
  iexact S4

set_option backward.isDefEq.respectTransparency.types false in
/-- The program runs to what the data say, and its semaphores end at zero. -/
theorem run (hW : Works m RO RL) : θ_run defs (onTc (τ := τ) (main (F := F))) (s₀ m ρ)
    (fun r => RDat.FramePost (cfgA m) (rdat m RO RL) (V m) r ∧ r.2.sem = fun _ => 0) :=
  RDat.θ_run_frameP_track (Q' := _) pcfgs (adm m) (0 : Fin 1) launch0 defs₀ Variants.none (rdat m RO RL) m ρ main
    (hbody := obligation m RO RL hW) (hshare := fun c => (rdat m RO RL c).share_full fun _ => rfl) (howed := fun _ _ => rfl) (V := V m)
    (hmain := Pipeline.hmainP_region pcfgs (0 : Fin 1) defs₀ Variants.none m main fun c => (main_chain c).trans rfl)
    (hA := fun _ _ => rfl) (hpf := fun c k => by have hc : c = 0 := Subsingleton.elim _ _; subst hc; rfl)
    (hin := hin m RO RL) (hout := hout m RO RL)

variable {m RO RL}

/-- An input window's array ends as it began. -/
theorem arr_in {r : PUnit × MemSt nD τ sig (Elt F)} (h : RDat.FramePost (cfgA m) (rdat m RO RL) (V m) r) (c : Dev nD) (w : Fin 12)
    (hw : ((cfgA m).win w).isOut = false) :
    r.2.mem (((cfgA m).spec w).arr.view.loc (c.tc : Thread nD τ)) = V m c (Pipeline.arrRef spec0 w) := by
  exact (congrFun (RDat.ArrAt_in (rdat m RO RL c) w hw (cfgA m).N) _).mp ((h c).1 w)

/-- The arguments end as they began. -/
theorem args_kept {r : PUnit × MemSt nD τ sig (Elt F)} (h : RDat.FramePost (cfgA m) (rdat m RO RL) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (Pipeline.mem_restRefs_of (win := spec0) main_arg0 (by decide) (by decide)),
   arr_in h c 0 rfl, arr_in h c 1 rfl, arr_in h c 2 rfl, arr_in h c 3 rfl, arr_in h c 4 rfl⟩

/-- The word that the body reads of the table is its point's. -/
theorem need_at (x : Vec F ⟨1, ![160]⟩ .i32) (i : grid0.Coords) :
    VecWindow.window (s := ⟨1, ![160]⟩) x (Eq.offs i).nd ![1] (Eq.offs i).ind zix = x (ix1 (i 0 : Fin 160)) := by
  refine congrArg x (funext fun a => Fin.ext ?_)
  have h : (i 0).val < 160 := (i 0).isLt
  fin_cases a
  show (BitVec.ofNat 32 (i 0).val).toNat + 1 * 0 = (i 0).val
  simp only [BitVec.toNat_ofNat]; omega

/-- The body keeps its inputs at every point of which the tables say what they should. -/
theorem works_any (h : ∀ (c : Dev nD) (i : Fin 160), ∃ b n, Step (BitVec.ofNat 32 i.val) (tab m c (ix1 i)) b n) :
    Works m (fun _ _ _ => True) (fun _ _ _ => True) := by
  intro c t s hs
  obtain ⟨b, n, hst⟩ := h c (grid0.coords t 0)
  refine Tr.mono (tr_body Eq.consts _ (Eq.offs (grid0.coords t)) s hs.hot fun _ => ?_) fun _ s' k => ⟨k.toKI, trivial, trivial, ?_⟩
  · rw [need_at, hs.h1]
    exact Eq.chk_of _ _ _ b n hst
  · rw [k.t14]; exact T14_hot _ _ _

end Cert.Kernel.Run
end
-- ==== Proof.lean ====
module

public import proofs.«01_k».proof.Proof.Alg
public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_pre
public import proofs.«01_k».proof.Proof.Gen.Pre_finite
public import proofs.«01_k».proof.Proof.RunKernel
public import proofs.«01_k».proof.Proof.RunIdeal
public import proofs.«01_k».proof.Proof.Pre
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_pre.Gen.facts, Cert.Pre_finite.Gen.facts,
  fun m ρ h => (θ_run Cert.Kernel.defs _ _).mono (fun _ h => ⟨fun c => Cert.Kernel.Run.args_kept h.1 c, h.2⟩)
    (Cert.Kernel.Run.run m ρ _ _ (Cert.Kernel.Run.works_any fun c i => ⟨_, _, (Attn.tab_of _ _ _ _ _ _ (h c) i).step⟩)),
  fun m ρ h => (θ_run Cert.KernelIdeal.defs _ _).mono (fun _ h => ⟨fun c => Cert.KernelIdeal.Run.args_kept h.1 c, h.2⟩)
    (Cert.KernelIdeal.Run.run m ρ _ (Cert.KernelIdeal.Run.works_any fun c i => ⟨_, _, (Attn.tab_of _ _ _ _ _ _ (h c) i).step⟩)),
  fun m ρ h => (θ_run Cert.KernelIdeal.defs _ _).mono (fun _ h => ⟨fun c => Cert.KernelIdeal.Run.args_kept h.1 c, h.2⟩)
    (Cert.KernelIdeal.Run.run m ρ _ (Cert.KernelIdeal.Run.works_any fun c i => ⟨_, _, (Attn.tab_of _ _ _ _ _ _ (Attn.fin_parts _ _ _ _ _ _ (h c)).1 i).step⟩)),
  fun m ρ _ => Cert.ReferenceIdeal.Gen.frame m ρ,
  fun m ρ _ => Cert.ReferenceIdeal.Gen.frame m ρ,
  fun m ρ _ => Cert.Reference.Gen.frame m ρ,
  ⟨IdealRules.named_const.statement _ _ _ _ _ rfl, IdealRules.named_const.statement _ _ _ _ _ rfl, IdealRules.named_const.statement _ _ _ _ _ rfl⟩,
  IdealRules.named_const.statement _ _ _ _ _ rfl,
  Cert.Alg.algebraic⟩

end Cert.Proof

end
